-- ==== Defs.lean ====
def Pre_ConvBwd (m : (ℓ : Loc Cert.ConvBwd.nD Cert.ConvBwd.τ Cert.ConvBwd.sig) → Buf (Elt Bits) ℓ) : Prop :=
  True

def Pre_ConvBwdIdeal (m : (ℓ : Loc Cert.ConvBwdIdeal.nD Cert.ConvBwdIdeal.τ Cert.ConvBwdIdeal.sig) → Buf (Elt Ideal) ℓ) : Prop :=
  True

def Pre_ConvBwdIdeal_finite [hPre_finite : Cert.Pre_finite.Facts] (m : (ℓ : Loc Cert.ConvBwdIdeal.nD Cert.ConvBwdIdeal.τ Cert.ConvBwdIdeal.sig) → Buf (Elt Ideal) ℓ) : Prop :=
  ∀ c : Dev Cert.ConvBwdIdeal.nD,
    (Cert.Pre_finite.fn (F := Ideal) (m ((c.tc : Thread Cert.ConvBwdIdeal.nD Cert.ConvBwdIdeal.τ).loc Cert.ConvBwdIdeal.main_arg0)) (m ((c.tc : Thread Cert.ConvBwdIdeal.nD Cert.ConvBwdIdeal.τ).loc Cert.ConvBwdIdeal.main_arg1)) (m ((c.tc : Thread Cert.ConvBwdIdeal.nD Cert.ConvBwdIdeal.τ).loc Cert.ConvBwdIdeal.main_arg2))).1 = (fun _ => 1#1)
    ∧ (Cert.Pre_finite.fn (F := Ideal) (m ((c.tc : Thread Cert.ConvBwdIdeal.nD Cert.ConvBwdIdeal.τ).loc Cert.ConvBwdIdeal.main_arg0)) (m ((c.tc : Thread Cert.ConvBwdIdeal.nD Cert.ConvBwdIdeal.τ).loc Cert.ConvBwdIdeal.main_arg1)) (m ((c.tc : Thread Cert.ConvBwdIdeal.nD Cert.ConvBwdIdeal.τ).loc Cert.ConvBwdIdeal.main_arg2))).2.1 = (fun _ => 1#1)
    ∧ (Cert.Pre_finite.fn (F := Ideal) (m ((c.tc : Thread Cert.ConvBwdIdeal.nD Cert.ConvBwdIdeal.τ).loc Cert.ConvBwdIdeal.main_arg0)) (m ((c.tc : Thread Cert.ConvBwdIdeal.nD Cert.ConvBwdIdeal.τ).loc Cert.ConvBwdIdeal.main_arg1)) (m ((c.tc : Thread Cert.ConvBwdIdeal.nD Cert.ConvBwdIdeal.τ).loc Cert.ConvBwdIdeal.main_arg2))).2.2 = (fun _ => 1#1)

def Pre_ConvBwdRefIdeal (m : (ℓ : Loc Cert.ConvBwdRefIdeal.nD Cert.ConvBwdRefIdeal.τ Cert.ConvBwdRefIdeal.sig) → Buf (Elt Ideal) ℓ) : Prop :=
  True

def Pre_ConvBwdRefIdeal_finite [hPre_finite : Cert.Pre_finite.Facts] (m : (ℓ : Loc Cert.ConvBwdRefIdeal.nD Cert.ConvBwdRefIdeal.τ Cert.ConvBwdRefIdeal.sig) → Buf (Elt Ideal) ℓ) : Prop :=
  ∀ c : Dev Cert.ConvBwdRefIdeal.nD,
    (Cert.Pre_finite.fn (F := Ideal) (m ((c.tc : Thread Cert.ConvBwdRefIdeal.nD Cert.ConvBwdRefIdeal.τ).loc Cert.ConvBwdRefIdeal.main_arg0)) (m ((c.tc : Thread Cert.ConvBwdRefIdeal.nD Cert.ConvBwdRefIdeal.τ).loc Cert.ConvBwdRefIdeal.main_arg1)) (m ((c.tc : Thread Cert.ConvBwdRefIdeal.nD Cert.ConvBwdRefIdeal.τ).loc Cert.ConvBwdRefIdeal.main_arg2))).1 = (fun _ => 1#1)
    ∧ (Cert.Pre_finite.fn (F := Ideal) (m ((c.tc : Thread Cert.ConvBwdRefIdeal.nD Cert.ConvBwdRefIdeal.τ).loc Cert.ConvBwdRefIdeal.main_arg0)) (m ((c.tc : Thread Cert.ConvBwdRefIdeal.nD Cert.ConvBwdRefIdeal.τ).loc Cert.ConvBwdRefIdeal.main_arg1)) (m ((c.tc : Thread Cert.ConvBwdRefIdeal.nD Cert.ConvBwdRefIdeal.τ).loc Cert.ConvBwdRefIdeal.main_arg2))).2.1 = (fun _ => 1#1)
    ∧ (Cert.Pre_finite.fn (F := Ideal) (m ((c.tc : Thread Cert.ConvBwdRefIdeal.nD Cert.ConvBwdRefIdeal.τ).loc Cert.ConvBwdRefIdeal.main_arg0)) (m ((c.tc : Thread Cert.ConvBwdRefIdeal.nD Cert.ConvBwdRefIdeal.τ).loc Cert.ConvBwdRefIdeal.main_arg1)) (m ((c.tc : Thread Cert.ConvBwdRefIdeal.nD Cert.ConvBwdRefIdeal.τ).loc Cert.ConvBwdRefIdeal.main_arg2))).2.2 = (fun _ => 1#1)

def Pre_NormBwd (m : (ℓ : Loc Cert.NormBwd.nD Cert.NormBwd.τ Cert.NormBwd.sig) → Buf (Elt Bits) ℓ) : Prop :=
  True

def Pre_NormBwdIdeal (m : (ℓ : Loc Cert.NormBwdIdeal.nD Cert.NormBwdIdeal.τ Cert.NormBwdIdeal.sig) → Buf (Elt Ideal) ℓ) : Prop :=
  True

def Pre_NormBwdIdeal_finite_norm [hPre_finite_norm : Cert.Pre_finite_norm.Facts] (m : (ℓ : Loc Cert.NormBwdIdeal.nD Cert.NormBwdIdeal.τ Cert.NormBwdIdeal.sig) → Buf (Elt Ideal) ℓ) : Prop :=
  ∀ c : Dev Cert.NormBwdIdeal.nD,
    (Cert.Pre_finite_norm.fn (F := Ideal) (m ((c.tc : Thread Cert.NormBwdIdeal.nD Cert.NormBwdIdeal.τ).loc Cert.NormBwdIdeal.main_arg0)) (m ((c.tc : Thread Cert.NormBwdIdeal.nD Cert.NormBwdIdeal.τ).loc Cert.NormBwdIdeal.main_arg1)) (m ((c.tc : Thread Cert.NormBwdIdeal.nD Cert.NormBwdIdeal.τ).loc Cert.NormBwdIdeal.main_arg2)) (m ((c.tc : Thread Cert.NormBwdIdeal.nD Cert.NormBwdIdeal.τ).loc Cert.NormBwdIdeal.main_arg3)) (m ((c.tc : Thread Cert.NormBwdIdeal.nD Cert.NormBwdIdeal.τ).loc Cert.NormBwdIdeal.main_arg4)) (m ((c.tc : Thread Cert.NormBwdIdeal.nD Cert.NormBwdIdeal.τ).loc Cert.NormBwdIdeal.main_arg5)) (m ((c.tc : Thread Cert.NormBwdIdeal.nD Cert.NormBwdIdeal.τ).loc Cert.NormBwdIdeal.main_arg6))).1 = (fun _ => 1#1)
    ∧ (Cert.Pre_finite_norm.fn (F := Ideal) (m ((c.tc : Thread Cert.NormBwdIdeal.nD Cert.NormBwdIdeal.τ).loc Cert.NormBwdIdeal.main_arg0)) (m ((c.tc : Thread Cert.NormBwdIdeal.nD Cert.NormBwdIdeal.τ).loc Cert.NormBwdIdeal.main_arg1)) (m ((c.tc : Thread Cert.NormBwdIdeal.nD Cert.NormBwdIdeal.τ).loc Cert.NormBwdIdeal.main_arg2)) (m ((c.tc : Thread Cert.NormBwdIdeal.nD Cert.NormBwdIdeal.τ).loc Cert.NormBwdIdeal.main_arg3)) (m ((c.tc : Thread Cert.NormBwdIdeal.nD Cert.NormBwdIdeal.τ).loc Cert.NormBwdIdeal.main_arg4)) (m ((c.tc : Thread Cert.NormBwdIdeal.nD Cert.NormBwdIdeal.τ).loc Cert.NormBwdIdeal.main_arg5)) (m ((c.tc : Thread Cert.NormBwdIdeal.nD Cert.NormBwdIdeal.τ).loc Cert.NormBwdIdeal.main_arg6))).2.1 = (fun _ => 1#1)
    ∧ (Cert.Pre_finite_norm.fn (F := Ideal) (m ((c.tc : Thread Cert.NormBwdIdeal.nD Cert.NormBwdIdeal.τ).loc Cert.NormBwdIdeal.main_arg0)) (m ((c.tc : Thread Cert.NormBwdIdeal.nD Cert.NormBwdIdeal.τ).loc Cert.NormBwdIdeal.main_arg1)) (m ((c.tc : Thread Cert.NormBwdIdeal.nD Cert.NormBwdIdeal.τ).loc Cert.NormBwdIdeal.main_arg2)) (m ((c.tc : Thread Cert.NormBwdIdeal.nD Cert.NormBwdIdeal.τ).loc Cert.NormBwdIdeal.main_arg3)) (m ((c.tc : Thread Cert.NormBwdIdeal.nD Cert.NormBwdIdeal.τ).loc Cert.NormBwdIdeal.main_arg4)) (m ((c.tc : Thread Cert.NormBwdIdeal.nD Cert.NormBwdIdeal.τ).loc Cert.NormBwdIdeal.main_arg5)) (m ((c.tc : Thread Cert.NormBwdIdeal.nD Cert.NormBwdIdeal.τ).loc Cert.NormBwdIdeal.main_arg6))).2.2.1 = (fun _ => 1#1)
    ∧ (Cert.Pre_finite_norm.fn (F := Ideal) (m ((c.tc : Thread Cert.NormBwdIdeal.nD Cert.NormBwdIdeal.τ).loc Cert.NormBwdIdeal.main_arg0)) (m ((c.tc : Thread Cert.NormBwdIdeal.nD Cert.NormBwdIdeal.τ).loc Cert.NormBwdIdeal.main_arg1)) (m ((c.tc : Thread Cert.NormBwdIdeal.nD Cert.NormBwdIdeal.τ).loc Cert.NormBwdIdeal.main_arg2)) (m ((c.tc : Thread Cert.NormBwdIdeal.nD Cert.NormBwdIdeal.τ).loc Cert.NormBwdIdeal.main_arg3)) (m ((c.tc : Thread Cert.NormBwdIdeal.nD Cert.NormBwdIdeal.τ).loc Cert.NormBwdIdeal.main_arg4)) (m ((c.tc : Thread Cert.NormBwdIdeal.nD Cert.NormBwdIdeal.τ).loc Cert.NormBwdIdeal.main_arg5)) (m ((c.tc : Thread Cert.NormBwdIdeal.nD Cert.NormBwdIdeal.τ).loc Cert.NormBwdIdeal.main_arg6))).2.2.2.1 = (fun _ => 1#1)
    ∧ (Cert.Pre_finite_norm.fn (F := Ideal) (m ((c.tc : Thread Cert.NormBwdIdeal.nD Cert.NormBwdIdeal.τ).loc Cert.NormBwdIdeal.main_arg0)) (m ((c.tc : Thread Cert.NormBwdIdeal.nD Cert.NormBwdIdeal.τ).loc Cert.NormBwdIdeal.main_arg1)) (m ((c.tc : Thread Cert.NormBwdIdeal.nD Cert.NormBwdIdeal.τ).loc Cert.NormBwdIdeal.main_arg2)) (m ((c.tc : Thread Cert.NormBwdIdeal.nD Cert.NormBwdIdeal.τ).loc Cert.NormBwdIdeal.main_arg3)) (m ((c.tc : Thread Cert.NormBwdIdeal.nD Cert.NormBwdIdeal.τ).loc Cert.NormBwdIdeal.main_arg4)) (m ((c.tc : Thread Cert.NormBwdIdeal.nD Cert.NormBwdIdeal.τ).loc Cert.NormBwdIdeal.main_arg5)) (m ((c.tc : Thread Cert.NormBwdIdeal.nD Cert.NormBwdIdeal.τ).loc Cert.NormBwdIdeal.main_arg6))).2.2.2.2.1 = (fun _ => 1#1)
    ∧ (Cert.Pre_finite_norm.fn (F := Ideal) (m ((c.tc : Thread Cert.NormBwdIdeal.nD Cert.NormBwdIdeal.τ).loc Cert.NormBwdIdeal.main_arg0)) (m ((c.tc : Thread Cert.NormBwdIdeal.nD Cert.NormBwdIdeal.τ).loc Cert.NormBwdIdeal.main_arg1)) (m ((c.tc : Thread Cert.NormBwdIdeal.nD Cert.NormBwdIdeal.τ).loc Cert.NormBwdIdeal.main_arg2)) (m ((c.tc : Thread Cert.NormBwdIdeal.nD Cert.NormBwdIdeal.τ).loc Cert.NormBwdIdeal.main_arg3)) (m ((c.tc : Thread Cert.NormBwdIdeal.nD Cert.NormBwdIdeal.τ).loc Cert.NormBwdIdeal.main_arg4)) (m ((c.tc : Thread Cert.NormBwdIdeal.nD Cert.NormBwdIdeal.τ).loc Cert.NormBwdIdeal.main_arg5)) (m ((c.tc : Thread Cert.NormBwdIdeal.nD Cert.NormBwdIdeal.τ).loc Cert.NormBwdIdeal.main_arg6))).2.2.2.2.2 = (fun _ => 1#1)

def Pre_NormBwdRefIdeal (m : (ℓ : Loc Cert.NormBwdRefIdeal.nD Cert.NormBwdRefIdeal.τ Cert.NormBwdRefIdeal.sig) → Buf (Elt Ideal) ℓ) : Prop :=
  True

def Pre_NormBwdRefIdeal_finite_norm [hPre_finite_norm : Cert.Pre_finite_norm.Facts] (m : (ℓ : Loc Cert.NormBwdRefIdeal.nD Cert.NormBwdRefIdeal.τ Cert.NormBwdRefIdeal.sig) → Buf (Elt Ideal) ℓ) : Prop :=
  ∀ c : Dev Cert.NormBwdRefIdeal.nD,
    (Cert.Pre_finite_norm.fn (F := Ideal) (m ((c.tc : Thread Cert.NormBwdRefIdeal.nD Cert.NormBwdRefIdeal.τ).loc Cert.NormBwdRefIdeal.main_arg0)) (m ((c.tc : Thread Cert.NormBwdRefIdeal.nD Cert.NormBwdRefIdeal.τ).loc Cert.NormBwdRefIdeal.main_arg1)) (m ((c.tc : Thread Cert.NormBwdRefIdeal.nD Cert.NormBwdRefIdeal.τ).loc Cert.NormBwdRefIdeal.main_arg2)) (m ((c.tc : Thread Cert.NormBwdRefIdeal.nD Cert.NormBwdRefIdeal.τ).loc Cert.NormBwdRefIdeal.main_arg3)) (m ((c.tc : Thread Cert.NormBwdRefIdeal.nD Cert.NormBwdRefIdeal.τ).loc Cert.NormBwdRefIdeal.main_arg4)) (m ((c.tc : Thread Cert.NormBwdRefIdeal.nD Cert.NormBwdRefIdeal.τ).loc Cert.NormBwdRefIdeal.main_arg5)) (m ((c.tc : Thread Cert.NormBwdRefIdeal.nD Cert.NormBwdRefIdeal.τ).loc Cert.NormBwdRefIdeal.main_arg6))).1 = (fun _ => 1#1)
    ∧ (Cert.Pre_finite_norm.fn (F := Ideal) (m ((c.tc : Thread Cert.NormBwdRefIdeal.nD Cert.NormBwdRefIdeal.τ).loc Cert.NormBwdRefIdeal.main_arg0)) (m ((c.tc : Thread Cert.NormBwdRefIdeal.nD Cert.NormBwdRefIdeal.τ).loc Cert.NormBwdRefIdeal.main_arg1)) (m ((c.tc : Thread Cert.NormBwdRefIdeal.nD Cert.NormBwdRefIdeal.τ).loc Cert.NormBwdRefIdeal.main_arg2)) (m ((c.tc : Thread Cert.NormBwdRefIdeal.nD Cert.NormBwdRefIdeal.τ).loc Cert.NormBwdRefIdeal.main_arg3)) (m ((c.tc : Thread Cert.NormBwdRefIdeal.nD Cert.NormBwdRefIdeal.τ).loc Cert.NormBwdRefIdeal.main_arg4)) (m ((c.tc : Thread Cert.NormBwdRefIdeal.nD Cert.NormBwdRefIdeal.τ).loc Cert.NormBwdRefIdeal.main_arg5)) (m ((c.tc : Thread Cert.NormBwdRefIdeal.nD Cert.NormBwdRefIdeal.τ).loc Cert.NormBwdRefIdeal.main_arg6))).2.1 = (fun _ => 1#1)
    ∧ (Cert.Pre_finite_norm.fn (F := Ideal) (m ((c.tc : Thread Cert.NormBwdRefIdeal.nD Cert.NormBwdRefIdeal.τ).loc Cert.NormBwdRefIdeal.main_arg0)) (m ((c.tc : Thread Cert.NormBwdRefIdeal.nD Cert.NormBwdRefIdeal.τ).loc Cert.NormBwdRefIdeal.main_arg1)) (m ((c.tc : Thread Cert.NormBwdRefIdeal.nD Cert.NormBwdRefIdeal.τ).loc Cert.NormBwdRefIdeal.main_arg2)) (m ((c.tc : Thread Cert.NormBwdRefIdeal.nD Cert.NormBwdRefIdeal.τ).loc Cert.NormBwdRefIdeal.main_arg3)) (m ((c.tc : Thread Cert.NormBwdRefIdeal.nD Cert.NormBwdRefIdeal.τ).loc Cert.NormBwdRefIdeal.main_arg4)) (m ((c.tc : Thread Cert.NormBwdRefIdeal.nD Cert.NormBwdRefIdeal.τ).loc Cert.NormBwdRefIdeal.main_arg5)) (m ((c.tc : Thread Cert.NormBwdRefIdeal.nD Cert.NormBwdRefIdeal.τ).loc Cert.NormBwdRefIdeal.main_arg6))).2.2.1 = (fun _ => 1#1)
    ∧ (Cert.Pre_finite_norm.fn (F := Ideal) (m ((c.tc : Thread Cert.NormBwdRefIdeal.nD Cert.NormBwdRefIdeal.τ).loc Cert.NormBwdRefIdeal.main_arg0)) (m ((c.tc : Thread Cert.NormBwdRefIdeal.nD Cert.NormBwdRefIdeal.τ).loc Cert.NormBwdRefIdeal.main_arg1)) (m ((c.tc : Thread Cert.NormBwdRefIdeal.nD Cert.NormBwdRefIdeal.τ).loc Cert.NormBwdRefIdeal.main_arg2)) (m ((c.tc : Thread Cert.NormBwdRefIdeal.nD Cert.NormBwdRefIdeal.τ).loc Cert.NormBwdRefIdeal.main_arg3)) (m ((c.tc : Thread Cert.NormBwdRefIdeal.nD Cert.NormBwdRefIdeal.τ).loc Cert.NormBwdRefIdeal.main_arg4)) (m ((c.tc : Thread Cert.NormBwdRefIdeal.nD Cert.NormBwdRefIdeal.τ).loc Cert.NormBwdRefIdeal.main_arg5)) (m ((c.tc : Thread Cert.NormBwdRefIdeal.nD Cert.NormBwdRefIdeal.τ).loc Cert.NormBwdRefIdeal.main_arg6))).2.2.2.1 = (fun _ => 1#1)
    ∧ (Cert.Pre_finite_norm.fn (F := Ideal) (m ((c.tc : Thread Cert.NormBwdRefIdeal.nD Cert.NormBwdRefIdeal.τ).loc Cert.NormBwdRefIdeal.main_arg0)) (m ((c.tc : Thread Cert.NormBwdRefIdeal.nD Cert.NormBwdRefIdeal.τ).loc Cert.NormBwdRefIdeal.main_arg1)) (m ((c.tc : Thread Cert.NormBwdRefIdeal.nD Cert.NormBwdRefIdeal.τ).loc Cert.NormBwdRefIdeal.main_arg2)) (m ((c.tc : Thread Cert.NormBwdRefIdeal.nD Cert.NormBwdRefIdeal.τ).loc Cert.NormBwdRefIdeal.main_arg3)) (m ((c.tc : Thread Cert.NormBwdRefIdeal.nD Cert.NormBwdRefIdeal.τ).loc Cert.NormBwdRefIdeal.main_arg4)) (m ((c.tc : Thread Cert.NormBwdRefIdeal.nD Cert.NormBwdRefIdeal.τ).loc Cert.NormBwdRefIdeal.main_arg5)) (m ((c.tc : Thread Cert.NormBwdRefIdeal.nD Cert.NormBwdRefIdeal.τ).loc Cert.NormBwdRefIdeal.main_arg6))).2.2.2.2.1 = (fun _ => 1#1)
    ∧ (Cert.Pre_finite_norm.fn (F := Ideal) (m ((c.tc : Thread Cert.NormBwdRefIdeal.nD Cert.NormBwdRefIdeal.τ).loc Cert.NormBwdRefIdeal.main_arg0)) (m ((c.tc : Thread Cert.NormBwdRefIdeal.nD Cert.NormBwdRefIdeal.τ).loc Cert.NormBwdRefIdeal.main_arg1)) (m ((c.tc : Thread Cert.NormBwdRefIdeal.nD Cert.NormBwdRefIdeal.τ).loc Cert.NormBwdRefIdeal.main_arg2)) (m ((c.tc : Thread Cert.NormBwdRefIdeal.nD Cert.NormBwdRefIdeal.τ).loc Cert.NormBwdRefIdeal.main_arg3)) (m ((c.tc : Thread Cert.NormBwdRefIdeal.nD Cert.NormBwdRefIdeal.τ).loc Cert.NormBwdRefIdeal.main_arg4)) (m ((c.tc : Thread Cert.NormBwdRefIdeal.nD Cert.NormBwdRefIdeal.τ).loc Cert.NormBwdRefIdeal.main_arg5)) (m ((c.tc : Thread Cert.NormBwdRefIdeal.nD Cert.NormBwdRefIdeal.τ).loc Cert.NormBwdRefIdeal.main_arg6))).2.2.2.2.2 = (fun _ => 1#1)

def Pre_Mid (m : (ℓ : Loc Cert.Mid.nD Cert.Mid.τ Cert.Mid.sig) → Buf (Elt Bits) ℓ) : Prop :=
  True

def Pre_MidIdeal (m : (ℓ : Loc Cert.MidIdeal.nD Cert.MidIdeal.τ Cert.MidIdeal.sig) → Buf (Elt Ideal) ℓ) : Prop :=
  True

def Pre_MidIdeal_finite_mid [hPre_finite_mid : Cert.Pre_finite_mid.Facts] (m : (ℓ : Loc Cert.MidIdeal.nD Cert.MidIdeal.τ Cert.MidIdeal.sig) → Buf (Elt Ideal) ℓ) : Prop :=
  ∀ c : Dev Cert.MidIdeal.nD,
    (Cert.Pre_finite_mid.fn (F := Ideal) (m ((c.tc : Thread Cert.MidIdeal.nD Cert.MidIdeal.τ).loc Cert.MidIdeal.main_arg0)) (m ((c.tc : Thread Cert.MidIdeal.nD Cert.MidIdeal.τ).loc Cert.MidIdeal.main_arg1)) (m ((c.tc : Thread Cert.MidIdeal.nD Cert.MidIdeal.τ).loc Cert.MidIdeal.main_arg2)) (m ((c.tc : Thread Cert.MidIdeal.nD Cert.MidIdeal.τ).loc Cert.MidIdeal.main_arg3)) (m ((c.tc : Thread Cert.MidIdeal.nD Cert.MidIdeal.τ).loc Cert.MidIdeal.main_arg4)) (m ((c.tc : Thread Cert.MidIdeal.nD Cert.MidIdeal.τ).loc Cert.MidIdeal.main_arg5)) (m ((c.tc : Thread Cert.MidIdeal.nD Cert.MidIdeal.τ).loc Cert.MidIdeal.main_arg6)) (m ((c.tc : Thread Cert.MidIdeal.nD Cert.MidIdeal.τ).loc Cert.MidIdeal.main_arg7))).1 = (fun _ => 1#1)
    ∧ (Cert.Pre_finite_mid.fn (F := Ideal) (m ((c.tc : Thread Cert.MidIdeal.nD Cert.MidIdeal.τ).loc Cert.MidIdeal.main_arg0)) (m ((c.tc : Thread Cert.MidIdeal.nD Cert.MidIdeal.τ).loc Cert.MidIdeal.main_arg1)) (m ((c.tc : Thread Cert.MidIdeal.nD Cert.MidIdeal.τ).loc Cert.MidIdeal.main_arg2)) (m ((c.tc : Thread Cert.MidIdeal.nD Cert.MidIdeal.τ).loc Cert.MidIdeal.main_arg3)) (m ((c.tc : Thread Cert.MidIdeal.nD Cert.MidIdeal.τ).loc Cert.MidIdeal.main_arg4)) (m ((c.tc : Thread Cert.MidIdeal.nD Cert.MidIdeal.τ).loc Cert.MidIdeal.main_arg5)) (m ((c.tc : Thread Cert.MidIdeal.nD Cert.MidIdeal.τ).loc Cert.MidIdeal.main_arg6)) (m ((c.tc : Thread Cert.MidIdeal.nD Cert.MidIdeal.τ).loc Cert.MidIdeal.main_arg7))).2.1 = (fun _ => 1#1)
    ∧ (Cert.Pre_finite_mid.fn (F := Ideal) (m ((c.tc : Thread Cert.MidIdeal.nD Cert.MidIdeal.τ).loc Cert.MidIdeal.main_arg0)) (m ((c.tc : Thread Cert.MidIdeal.nD Cert.MidIdeal.τ).loc Cert.MidIdeal.main_arg1)) (m ((c.tc : Thread Cert.MidIdeal.nD Cert.MidIdeal.τ).loc Cert.MidIdeal.main_arg2)) (m ((c.tc : Thread Cert.MidIdeal.nD Cert.MidIdeal.τ).loc Cert.MidIdeal.main_arg3)) (m ((c.tc : Thread Cert.MidIdeal.nD Cert.MidIdeal.τ).loc Cert.MidIdeal.main_arg4)) (m ((c.tc : Thread Cert.MidIdeal.nD Cert.MidIdeal.τ).loc Cert.MidIdeal.main_arg5)) (m ((c.tc : Thread Cert.MidIdeal.nD Cert.MidIdeal.τ).loc Cert.MidIdeal.main_arg6)) (m ((c.tc : Thread Cert.MidIdeal.nD Cert.MidIdeal.τ).loc Cert.MidIdeal.main_arg7))).2.2.1 = (fun _ => 1#1)
    ∧ (Cert.Pre_finite_mid.fn (F := Ideal) (m ((c.tc : Thread Cert.MidIdeal.nD Cert.MidIdeal.τ).loc Cert.MidIdeal.main_arg0)) (m ((c.tc : Thread Cert.MidIdeal.nD Cert.MidIdeal.τ).loc Cert.MidIdeal.main_arg1)) (m ((c.tc : Thread Cert.MidIdeal.nD Cert.MidIdeal.τ).loc Cert.MidIdeal.main_arg2)) (m ((c.tc : Thread Cert.MidIdeal.nD Cert.MidIdeal.τ).loc Cert.MidIdeal.main_arg3)) (m ((c.tc : Thread Cert.MidIdeal.nD Cert.MidIdeal.τ).loc Cert.MidIdeal.main_arg4)) (m ((c.tc : Thread Cert.MidIdeal.nD Cert.MidIdeal.τ).loc Cert.MidIdeal.main_arg5)) (m ((c.tc : Thread Cert.MidIdeal.nD Cert.MidIdeal.τ).loc Cert.MidIdeal.main_arg6)) (m ((c.tc : Thread Cert.MidIdeal.nD Cert.MidIdeal.τ).loc Cert.MidIdeal.main_arg7))).2.2.2.1 = (fun _ => 1#1)
    ∧ (Cert.Pre_finite_mid.fn (F := Ideal) (m ((c.tc : Thread Cert.MidIdeal.nD Cert.MidIdeal.τ).loc Cert.MidIdeal.main_arg0)) (m ((c.tc : Thread Cert.MidIdeal.nD Cert.MidIdeal.τ).loc Cert.MidIdeal.main_arg1)) (m ((c.tc : Thread Cert.MidIdeal.nD Cert.MidIdeal.τ).loc Cert.MidIdeal.main_arg2)) (m ((c.tc : Thread Cert.MidIdeal.nD Cert.MidIdeal.τ).loc Cert.MidIdeal.main_arg3)) (m ((c.tc : Thread Cert.MidIdeal.nD Cert.MidIdeal.τ).loc Cert.MidIdeal.main_arg4)) (m ((c.tc : Thread Cert.MidIdeal.nD Cert.MidIdeal.τ).loc Cert.MidIdeal.main_arg5)) (m ((c.tc : Thread Cert.MidIdeal.nD Cert.MidIdeal.τ).loc Cert.MidIdeal.main_arg6)) (m ((c.tc : Thread Cert.MidIdeal.nD Cert.MidIdeal.τ).loc Cert.MidIdeal.main_arg7))).2.2.2.2.1 = (fun _ => 1#1)
    ∧ (Cert.Pre_finite_mid.fn (F := Ideal) (m ((c.tc : Thread Cert.MidIdeal.nD Cert.MidIdeal.τ).loc Cert.MidIdeal.main_arg0)) (m ((c.tc : Thread Cert.MidIdeal.nD Cert.MidIdeal.τ).loc Cert.MidIdeal.main_arg1)) (m ((c.tc : Thread Cert.MidIdeal.nD Cert.MidIdeal.τ).loc Cert.MidIdeal.main_arg2)) (m ((c.tc : Thread Cert.MidIdeal.nD Cert.MidIdeal.τ).loc Cert.MidIdeal.main_arg3)) (m ((c.tc : Thread Cert.MidIdeal.nD Cert.MidIdeal.τ).loc Cert.MidIdeal.main_arg4)) (m ((c.tc : Thread Cert.MidIdeal.nD Cert.MidIdeal.τ).loc Cert.MidIdeal.main_arg5)) (m ((c.tc : Thread Cert.MidIdeal.nD Cert.MidIdeal.τ).loc Cert.MidIdeal.main_arg6)) (m ((c.tc : Thread Cert.MidIdeal.nD Cert.MidIdeal.τ).loc Cert.MidIdeal.main_arg7))).2.2.2.2.2.1 = (fun _ => 1#1)
    ∧ (Cert.Pre_finite_mid.fn (F := Ideal) (m ((c.tc : Thread Cert.MidIdeal.nD Cert.MidIdeal.τ).loc Cert.MidIdeal.main_arg0)) (m ((c.tc : Thread Cert.MidIdeal.nD Cert.MidIdeal.τ).loc Cert.MidIdeal.main_arg1)) (m ((c.tc : Thread Cert.MidIdeal.nD Cert.MidIdeal.τ).loc Cert.MidIdeal.main_arg2)) (m ((c.tc : Thread Cert.MidIdeal.nD Cert.MidIdeal.τ).loc Cert.MidIdeal.main_arg3)) (m ((c.tc : Thread Cert.MidIdeal.nD Cert.MidIdeal.τ).loc Cert.MidIdeal.main_arg4)) (m ((c.tc : Thread Cert.MidIdeal.nD Cert.MidIdeal.τ).loc Cert.MidIdeal.main_arg5)) (m ((c.tc : Thread Cert.MidIdeal.nD Cert.MidIdeal.τ).loc Cert.MidIdeal.main_arg6)) (m ((c.tc : Thread Cert.MidIdeal.nD Cert.MidIdeal.τ).loc Cert.MidIdeal.main_arg7))).2.2.2.2.2.2 = (fun _ => 1#1)

def Pre_MidRefIdeal (m : (ℓ : Loc Cert.MidRefIdeal.nD Cert.MidRefIdeal.τ Cert.MidRefIdeal.sig) → Buf (Elt Ideal) ℓ) : Prop :=
  True

def Pre_MidRefIdeal_finite_mid [hPre_finite_mid : Cert.Pre_finite_mid.Facts] (m : (ℓ : Loc Cert.MidRefIdeal.nD Cert.MidRefIdeal.τ Cert.MidRefIdeal.sig) → Buf (Elt Ideal) ℓ) : Prop :=
  ∀ c : Dev Cert.MidRefIdeal.nD,
    (Cert.Pre_finite_mid.fn (F := Ideal) (m ((c.tc : Thread Cert.MidRefIdeal.nD Cert.MidRefIdeal.τ).loc Cert.MidRefIdeal.main_arg0)) (m ((c.tc : Thread Cert.MidRefIdeal.nD Cert.MidRefIdeal.τ).loc Cert.MidRefIdeal.main_arg1)) (m ((c.tc : Thread Cert.MidRefIdeal.nD Cert.MidRefIdeal.τ).loc Cert.MidRefIdeal.main_arg2)) (m ((c.tc : Thread Cert.MidRefIdeal.nD Cert.MidRefIdeal.τ).loc Cert.MidRefIdeal.main_arg3)) (m ((c.tc : Thread Cert.MidRefIdeal.nD Cert.MidRefIdeal.τ).loc Cert.MidRefIdeal.main_arg4)) (m ((c.tc : Thread Cert.MidRefIdeal.nD Cert.MidRefIdeal.τ).loc Cert.MidRefIdeal.main_arg5)) (m ((c.tc : Thread Cert.MidRefIdeal.nD Cert.MidRefIdeal.τ).loc Cert.MidRefIdeal.main_arg6)) (m ((c.tc : Thread Cert.MidRefIdeal.nD Cert.MidRefIdeal.τ).loc Cert.MidRefIdeal.main_arg7))).1 = (fun _ => 1#1)
    ∧ (Cert.Pre_finite_mid.fn (F := Ideal) (m ((c.tc : Thread Cert.MidRefIdeal.nD Cert.MidRefIdeal.τ).loc Cert.MidRefIdeal.main_arg0)) (m ((c.tc : Thread Cert.MidRefIdeal.nD Cert.MidRefIdeal.τ).loc Cert.MidRefIdeal.main_arg1)) (m ((c.tc : Thread Cert.MidRefIdeal.nD Cert.MidRefIdeal.τ).loc Cert.MidRefIdeal.main_arg2)) (m ((c.tc : Thread Cert.MidRefIdeal.nD Cert.MidRefIdeal.τ).loc Cert.MidRefIdeal.main_arg3)) (m ((c.tc : Thread Cert.MidRefIdeal.nD Cert.MidRefIdeal.τ).loc Cert.MidRefIdeal.main_arg4)) (m ((c.tc : Thread Cert.MidRefIdeal.nD Cert.MidRefIdeal.τ).loc Cert.MidRefIdeal.main_arg5)) (m ((c.tc : Thread Cert.MidRefIdeal.nD Cert.MidRefIdeal.τ).loc Cert.MidRefIdeal.main_arg6)) (m ((c.tc : Thread Cert.MidRefIdeal.nD Cert.MidRefIdeal.τ).loc Cert.MidRefIdeal.main_arg7))).2.1 = (fun _ => 1#1)
    ∧ (Cert.Pre_finite_mid.fn (F := Ideal) (m ((c.tc : Thread Cert.MidRefIdeal.nD Cert.MidRefIdeal.τ).loc Cert.MidRefIdeal.main_arg0)) (m ((c.tc : Thread Cert.MidRefIdeal.nD Cert.MidRefIdeal.τ).loc Cert.MidRefIdeal.main_arg1)) (m ((c.tc : Thread Cert.MidRefIdeal.nD Cert.MidRefIdeal.τ).loc Cert.MidRefIdeal.main_arg2)) (m ((c.tc : Thread Cert.MidRefIdeal.nD Cert.MidRefIdeal.τ).loc Cert.MidRefIdeal.main_arg3)) (m ((c.tc : Thread Cert.MidRefIdeal.nD Cert.MidRefIdeal.τ).loc Cert.MidRefIdeal.main_arg4)) (m ((c.tc : Thread Cert.MidRefIdeal.nD Cert.MidRefIdeal.τ).loc Cert.MidRefIdeal.main_arg5)) (m ((c.tc : Thread Cert.MidRefIdeal.nD Cert.MidRefIdeal.τ).loc Cert.MidRefIdeal.main_arg6)) (m ((c.tc : Thread Cert.MidRefIdeal.nD Cert.MidRefIdeal.τ).loc Cert.MidRefIdeal.main_arg7))).2.2.1 = (fun _ => 1#1)
    ∧ (Cert.Pre_finite_mid.fn (F := Ideal) (m ((c.tc : Thread Cert.MidRefIdeal.nD Cert.MidRefIdeal.τ).loc Cert.MidRefIdeal.main_arg0)) (m ((c.tc : Thread Cert.MidRefIdeal.nD Cert.MidRefIdeal.τ).loc Cert.MidRefIdeal.main_arg1)) (m ((c.tc : Thread Cert.MidRefIdeal.nD Cert.MidRefIdeal.τ).loc Cert.MidRefIdeal.main_arg2)) (m ((c.tc : Thread Cert.MidRefIdeal.nD Cert.MidRefIdeal.τ).loc Cert.MidRefIdeal.main_arg3)) (m ((c.tc : Thread Cert.MidRefIdeal.nD Cert.MidRefIdeal.τ).loc Cert.MidRefIdeal.main_arg4)) (m ((c.tc : Thread Cert.MidRefIdeal.nD Cert.MidRefIdeal.τ).loc Cert.MidRefIdeal.main_arg5)) (m ((c.tc : Thread Cert.MidRefIdeal.nD Cert.MidRefIdeal.τ).loc Cert.MidRefIdeal.main_arg6)) (m ((c.tc : Thread Cert.MidRefIdeal.nD Cert.MidRefIdeal.τ).loc Cert.MidRefIdeal.main_arg7))).2.2.2.1 = (fun _ => 1#1)
    ∧ (Cert.Pre_finite_mid.fn (F := Ideal) (m ((c.tc : Thread Cert.MidRefIdeal.nD Cert.MidRefIdeal.τ).loc Cert.MidRefIdeal.main_arg0)) (m ((c.tc : Thread Cert.MidRefIdeal.nD Cert.MidRefIdeal.τ).loc Cert.MidRefIdeal.main_arg1)) (m ((c.tc : Thread Cert.MidRefIdeal.nD Cert.MidRefIdeal.τ).loc Cert.MidRefIdeal.main_arg2)) (m ((c.tc : Thread Cert.MidRefIdeal.nD Cert.MidRefIdeal.τ).loc Cert.MidRefIdeal.main_arg3)) (m ((c.tc : Thread Cert.MidRefIdeal.nD Cert.MidRefIdeal.τ).loc Cert.MidRefIdeal.main_arg4)) (m ((c.tc : Thread Cert.MidRefIdeal.nD Cert.MidRefIdeal.τ).loc Cert.MidRefIdeal.main_arg5)) (m ((c.tc : Thread Cert.MidRefIdeal.nD Cert.MidRefIdeal.τ).loc Cert.MidRefIdeal.main_arg6)) (m ((c.tc : Thread Cert.MidRefIdeal.nD Cert.MidRefIdeal.τ).loc Cert.MidRefIdeal.main_arg7))).2.2.2.2.1 = (fun _ => 1#1)
    ∧ (Cert.Pre_finite_mid.fn (F := Ideal) (m ((c.tc : Thread Cert.MidRefIdeal.nD Cert.MidRefIdeal.τ).loc Cert.MidRefIdeal.main_arg0)) (m ((c.tc : Thread Cert.MidRefIdeal.nD Cert.MidRefIdeal.τ).loc Cert.MidRefIdeal.main_arg1)) (m ((c.tc : Thread Cert.MidRefIdeal.nD Cert.MidRefIdeal.τ).loc Cert.MidRefIdeal.main_arg2)) (m ((c.tc : Thread Cert.MidRefIdeal.nD Cert.MidRefIdeal.τ).loc Cert.MidRefIdeal.main_arg3)) (m ((c.tc : Thread Cert.MidRefIdeal.nD Cert.MidRefIdeal.τ).loc Cert.MidRefIdeal.main_arg4)) (m ((c.tc : Thread Cert.MidRefIdeal.nD Cert.MidRefIdeal.τ).loc Cert.MidRefIdeal.main_arg5)) (m ((c.tc : Thread Cert.MidRefIdeal.nD Cert.MidRefIdeal.τ).loc Cert.MidRefIdeal.main_arg6)) (m ((c.tc : Thread Cert.MidRefIdeal.nD Cert.MidRefIdeal.τ).loc Cert.MidRefIdeal.main_arg7))).2.2.2.2.2.1 = (fun _ => 1#1)
    ∧ (Cert.Pre_finite_mid.fn (F := Ideal) (m ((c.tc : Thread Cert.MidRefIdeal.nD Cert.MidRefIdeal.τ).loc Cert.MidRefIdeal.main_arg0)) (m ((c.tc : Thread Cert.MidRefIdeal.nD Cert.MidRefIdeal.τ).loc Cert.MidRefIdeal.main_arg1)) (m ((c.tc : Thread Cert.MidRefIdeal.nD Cert.MidRefIdeal.τ).loc Cert.MidRefIdeal.main_arg2)) (m ((c.tc : Thread Cert.MidRefIdeal.nD Cert.MidRefIdeal.τ).loc Cert.MidRefIdeal.main_arg3)) (m ((c.tc : Thread Cert.MidRefIdeal.nD Cert.MidRefIdeal.τ).loc Cert.MidRefIdeal.main_arg4)) (m ((c.tc : Thread Cert.MidRefIdeal.nD Cert.MidRefIdeal.τ).loc Cert.MidRefIdeal.main_arg5)) (m ((c.tc : Thread Cert.MidRefIdeal.nD Cert.MidRefIdeal.τ).loc Cert.MidRefIdeal.main_arg6)) (m ((c.tc : Thread Cert.MidRefIdeal.nD Cert.MidRefIdeal.τ).loc Cert.MidRefIdeal.main_arg7))).2.2.2.2.2.2 = (fun _ => 1#1)

def Pre_WeightGrad (m : (ℓ : Loc Cert.WeightGrad.nD Cert.WeightGrad.τ Cert.WeightGrad.sig) → Buf (Elt Bits) ℓ) : Prop :=
  True

def Pre_WeightGradIdeal (m : (ℓ : Loc Cert.WeightGradIdeal.nD Cert.WeightGradIdeal.τ Cert.WeightGradIdeal.sig) → Buf (Elt Ideal) ℓ) : Prop :=
  True

def Pre_WeightGradRefIdeal (m : (ℓ : Loc Cert.WeightGradRefIdeal.nD Cert.WeightGradRefIdeal.τ Cert.WeightGradRefIdeal.sig) → Buf (Elt Ideal) ℓ) : Prop :=
  True

def Pre_ProjConv (m : (ℓ : Loc Cert.ProjConv.nD Cert.ProjConv.τ Cert.ProjConv.sig) → Buf (Elt Bits) ℓ) : Prop :=
  True

def Pre_ProjConvIdeal (m : (ℓ : Loc Cert.ProjConvIdeal.nD Cert.ProjConvIdeal.τ Cert.ProjConvIdeal.sig) → Buf (Elt Ideal) ℓ) : Prop :=
  True

def Pre_ProjConvRefIdeal (m : (ℓ : Loc Cert.ProjConvRefIdeal.nD Cert.ProjConvRefIdeal.τ Cert.ProjConvRefIdeal.sig) → Buf (Elt Ideal) ℓ) : Prop :=
  True

def Pre_ProjMid (m : (ℓ : Loc Cert.ProjMid.nD Cert.ProjMid.τ Cert.ProjMid.sig) → Buf (Elt Bits) ℓ) : Prop :=
  True

def Pre_ProjMidIdeal (m : (ℓ : Loc Cert.ProjMidIdeal.nD Cert.ProjMidIdeal.τ Cert.ProjMidIdeal.sig) → Buf (Elt Ideal) ℓ) : Prop :=
  True

def Pre_ProjMidRefIdeal (m : (ℓ : Loc Cert.ProjMidRefIdeal.nD Cert.ProjMidRefIdeal.τ Cert.ProjMidRefIdeal.sig) → Buf (Elt Ideal) ℓ) : Prop :=
  True

def Pre_ConvFwd (m : (ℓ : Loc Cert.ConvFwd.nD Cert.ConvFwd.τ Cert.ConvFwd.sig) → Buf (Elt Bits) ℓ) : Prop :=
  True

def Pre_ConvFwdIdeal (m : (ℓ : Loc Cert.ConvFwdIdeal.nD Cert.ConvFwdIdeal.τ Cert.ConvFwdIdeal.sig) → Buf (Elt Ideal) ℓ) : Prop :=
  True

def Pre_ConvFwdRefIdeal (m : (ℓ : Loc Cert.ConvFwdRefIdeal.nD Cert.ConvFwdRefIdeal.τ Cert.ConvFwdRefIdeal.sig) → Buf (Elt Ideal) ℓ) : Prop :=
  True

def Pre_StepIn (m : (ℓ : Loc Cert.StepIn.nD Cert.StepIn.τ Cert.StepIn.sig) → Buf (Elt Bits) ℓ) : Prop :=
  True

def Pre_StepInIdeal (m : (ℓ : Loc Cert.StepInIdeal.nD Cert.StepInIdeal.τ Cert.StepInIdeal.sig) → Buf (Elt Ideal) ℓ) : Prop :=
  True

def Pre_StepInRefIdeal (m : (ℓ : Loc Cert.StepInRefIdeal.nD Cert.StepInRefIdeal.τ Cert.StepInRefIdeal.sig) → Buf (Elt Ideal) ℓ) : Prop :=
  True

def Pre_StepOut (m : (ℓ : Loc Cert.StepOut.nD Cert.StepOut.τ Cert.StepOut.sig) → Buf (Elt Bits) ℓ) : Prop :=
  True

def Pre_StepOutIdeal (m : (ℓ : Loc Cert.StepOutIdeal.nD Cert.StepOutIdeal.τ Cert.StepOutIdeal.sig) → Buf (Elt Ideal) ℓ) : Prop :=
  True

def Pre_StepOutRefIdeal (m : (ℓ : Loc Cert.StepOutRefIdeal.nD Cert.StepOutRefIdeal.τ Cert.StepOutRefIdeal.sig) → Buf (Elt Ideal) ℓ) : Prop :=
  True

def Pre_StepSmall (m : (ℓ : Loc Cert.StepSmall.nD Cert.StepSmall.τ Cert.StepSmall.sig) → Buf (Elt Bits) ℓ) : Prop :=
  True

def Pre_StepSmallIdeal (m : (ℓ : Loc Cert.StepSmallIdeal.nD Cert.StepSmallIdeal.τ Cert.StepSmallIdeal.sig) → Buf (Elt Ideal) ℓ) : Prop :=
  True

def Pre_StepSmallRefIdeal (m : (ℓ : Loc Cert.StepSmallRefIdeal.nD Cert.StepSmallRefIdeal.τ Cert.StepSmallRefIdeal.sig) → Buf (Elt Ideal) ℓ) : Prop :=
  True

def Pre_StepConv (m : (ℓ : Loc Cert.StepConv.nD Cert.StepConv.τ Cert.StepConv.sig) → Buf (Elt Bits) ℓ) : Prop :=
  True

def Pre_StepConvIdeal (m : (ℓ : Loc Cert.StepConvIdeal.nD Cert.StepConvIdeal.τ Cert.StepConvIdeal.sig) → Buf (Elt Ideal) ℓ) : Prop :=
  True

def Pre_StepConvRefIdeal (m : (ℓ : Loc Cert.StepConvRefIdeal.nD Cert.StepConvRefIdeal.τ Cert.StepConvRefIdeal.sig) → Buf (Elt Ideal) ℓ) : Prop :=
  True

def quiescent_ConvBwd [hConvBwd : Cert.ConvBwd.Facts] : Prop :=
  ∀ (m : (ℓ : Loc Cert.ConvBwd.nD Cert.ConvBwd.τ Cert.ConvBwd.sig) → Buf (Elt Bits) ℓ) (g : Dev Cert.ConvBwd.nD → PrngReg), Pre_ConvBwd m →
    θ_run (Cert.ConvBwd.defs (F := Bits)) (onTc (τ := Cert.ConvBwd.τ) (Cert.ConvBwd.main (F := Bits))) ⟨m, fun _ => 0, g⟩ (fun r => (∀ c : Dev Cert.ConvBwd.nD,
      r.2.mem ((c.tc : Thread Cert.ConvBwd.nD Cert.ConvBwd.τ).loc Cert.ConvBwd.main_arg0) = m ((c.tc : Thread Cert.ConvBwd.nD Cert.ConvBwd.τ).loc Cert.ConvBwd.main_arg0)
      ∧ r.2.mem ((c.tc : Thread Cert.ConvBwd.nD Cert.ConvBwd.τ).loc Cert.ConvBwd.main_arg1) = m ((c.tc : Thread Cert.ConvBwd.nD Cert.ConvBwd.τ).loc Cert.ConvBwd.main_arg1)
      ∧ r.2.mem ((c.tc : Thread Cert.ConvBwd.nD Cert.ConvBwd.τ).loc Cert.ConvBwd.main_arg2) = m ((c.tc : Thread Cert.ConvBwd.nD Cert.ConvBwd.τ).loc Cert.ConvBwd.main_arg2))
      ∧ r.2.sem = fun _ => 0)

def quiescent_ConvBwdIdeal [hConvBwdIdeal : Cert.ConvBwdIdeal.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg), Pre_ConvBwdIdeal m →
    θ_run (Cert.ConvBwdIdeal.defs (F := Ideal)) (onTc (τ := Cert.ConvBwdIdeal.τ) (Cert.ConvBwdIdeal.main (F := Ideal))) ⟨m, fun _ => 0, g⟩ (fun r => (∀ c : Dev Cert.ConvBwdIdeal.nD,
      r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
      ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
      ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2))
      ∧ r.2.sem = fun _ => 0)

def quiescent_ConvBwdIdeal_pre_finite [hConvBwdIdeal : Cert.ConvBwdIdeal.Facts] [hPre_finite : Cert.Pre_finite.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg), Pre_ConvBwdIdeal_finite m →
    θ_run (Cert.ConvBwdIdeal.defs (F := Ideal)) (onTc (τ := Cert.ConvBwdIdeal.τ) (Cert.ConvBwdIdeal.main (F := Ideal))) ⟨m, fun _ => 0, g⟩ (fun r => (∀ c : Dev Cert.ConvBwdIdeal.nD,
      r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
      ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
      ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2))
      ∧ r.2.sem = fun _ => 0)

def quiescent_ConvBwdRefIdeal [hConvBwdRefIdeal : Cert.ConvBwdRefIdeal.Facts] : Prop :=
  ∀ (m : (ℓ : Loc Cert.ConvBwdRefIdeal.nD Cert.ConvBwdRefIdeal.τ Cert.ConvBwdRefIdeal.sig) → Buf (Elt Ideal) ℓ) (g : Dev Cert.ConvBwdRefIdeal.nD → PrngReg), Pre_ConvBwdRefIdeal m →
    θ_run (Cert.ConvBwdRefIdeal.defs (F := Ideal)) (onTc (τ := Cert.ConvBwdRefIdeal.τ) (Cert.ConvBwdRefIdeal.main (F := Ideal))) ⟨m, fun _ => 0, g⟩ (fun r => (∀ c : Dev Cert.ConvBwdRefIdeal.nD,
      r.2.mem ((c.tc : Thread Cert.ConvBwdRefIdeal.nD Cert.ConvBwdRefIdeal.τ).loc Cert.ConvBwdRefIdeal.main_arg0) = m ((c.tc : Thread Cert.ConvBwdRefIdeal.nD Cert.ConvBwdRefIdeal.τ).loc Cert.ConvBwdRefIdeal.main_arg0)
      ∧ r.2.mem ((c.tc : Thread Cert.ConvBwdRefIdeal.nD Cert.ConvBwdRefIdeal.τ).loc Cert.ConvBwdRefIdeal.main_arg1) = m ((c.tc : Thread Cert.ConvBwdRefIdeal.nD Cert.ConvBwdRefIdeal.τ).loc Cert.ConvBwdRefIdeal.main_arg1)
      ∧ r.2.mem ((c.tc : Thread Cert.ConvBwdRefIdeal.nD Cert.ConvBwdRefIdeal.τ).loc Cert.ConvBwdRefIdeal.main_arg2) = m ((c.tc : Thread Cert.ConvBwdRefIdeal.nD Cert.ConvBwdRefIdeal.τ).loc Cert.ConvBwdRefIdeal.main_arg2))
      ∧ r.2.sem = fun _ => 0)

def quiescent_ConvBwdRefIdeal_pre_finite [hConvBwdRefIdeal : Cert.ConvBwdRefIdeal.Facts] [hPre_finite : Cert.Pre_finite.Facts] : Prop :=
  ∀ (m : (ℓ : Loc Cert.ConvBwdRefIdeal.nD Cert.ConvBwdRefIdeal.τ Cert.ConvBwdRefIdeal.sig) → Buf (Elt Ideal) ℓ) (g : Dev Cert.ConvBwdRefIdeal.nD → PrngReg), Pre_ConvBwdRefIdeal_finite m →
    θ_run (Cert.ConvBwdRefIdeal.defs (F := Ideal)) (onTc (τ := Cert.ConvBwdRefIdeal.τ) (Cert.ConvBwdRefIdeal.main (F := Ideal))) ⟨m, fun _ => 0, g⟩ (fun r => (∀ c : Dev Cert.ConvBwdRefIdeal.nD,
      r.2.mem ((c.tc : Thread Cert.ConvBwdRefIdeal.nD Cert.ConvBwdRefIdeal.τ).loc Cert.ConvBwdRefIdeal.main_arg0) = m ((c.tc : Thread Cert.ConvBwdRefIdeal.nD Cert.ConvBwdRefIdeal.τ).loc Cert.ConvBwdRefIdeal.main_arg0)
      ∧ r.2.mem ((c.tc : Thread Cert.ConvBwdRefIdeal.nD Cert.ConvBwdRefIdeal.τ).loc Cert.ConvBwdRefIdeal.main_arg1) = m ((c.tc : Thread Cert.ConvBwdRefIdeal.nD Cert.ConvBwdRefIdeal.τ).loc Cert.ConvBwdRefIdeal.main_arg1)
      ∧ r.2.mem ((c.tc : Thread Cert.ConvBwdRefIdeal.nD Cert.ConvBwdRefIdeal.τ).loc Cert.ConvBwdRefIdeal.main_arg2) = m ((c.tc : Thread Cert.ConvBwdRefIdeal.nD Cert.ConvBwdRefIdeal.τ).loc Cert.ConvBwdRefIdeal.main_arg2))
      ∧ r.2.sem = fun _ => 0)

def quiescent_NormBwd [hNormBwd : Cert.NormBwd.Facts] : Prop :=
  ∀ (m : (ℓ : Loc Cert.NormBwd.nD Cert.NormBwd.τ Cert.NormBwd.sig) → Buf (Elt Bits) ℓ) (g : Dev Cert.NormBwd.nD → PrngReg), Pre_NormBwd m →
    θ_run (Cert.NormBwd.defs (F := Bits)) (onTc (τ := Cert.NormBwd.τ) (Cert.NormBwd.main (F := Bits))) ⟨m, fun _ => 0, g⟩ (fun r => (∀ c : Dev Cert.NormBwd.nD,
      r.2.mem ((c.tc : Thread Cert.NormBwd.nD Cert.NormBwd.τ).loc Cert.NormBwd.main_arg0) = m ((c.tc : Thread Cert.NormBwd.nD Cert.NormBwd.τ).loc Cert.NormBwd.main_arg0)
      ∧ r.2.mem ((c.tc : Thread Cert.NormBwd.nD Cert.NormBwd.τ).loc Cert.NormBwd.main_arg1) = m ((c.tc : Thread Cert.NormBwd.nD Cert.NormBwd.τ).loc Cert.NormBwd.main_arg1)
      ∧ r.2.mem ((c.tc : Thread Cert.NormBwd.nD Cert.NormBwd.τ).loc Cert.NormBwd.main_arg2) = m ((c.tc : Thread Cert.NormBwd.nD Cert.NormBwd.τ).loc Cert.NormBwd.main_arg2)
      ∧ r.2.mem ((c.tc : Thread Cert.NormBwd.nD Cert.NormBwd.τ).loc Cert.NormBwd.main_arg3) = m ((c.tc : Thread Cert.NormBwd.nD Cert.NormBwd.τ).loc Cert.NormBwd.main_arg3)
      ∧ r.2.mem ((c.tc : Thread Cert.NormBwd.nD Cert.NormBwd.τ).loc Cert.NormBwd.main_arg4) = m ((c.tc : Thread Cert.NormBwd.nD Cert.NormBwd.τ).loc Cert.NormBwd.main_arg4)
      ∧ r.2.mem ((c.tc : Thread Cert.NormBwd.nD Cert.NormBwd.τ).loc Cert.NormBwd.main_arg5) = m ((c.tc : Thread Cert.NormBwd.nD Cert.NormBwd.τ).loc Cert.NormBwd.main_arg5)
      ∧ r.2.mem ((c.tc : Thread Cert.NormBwd.nD Cert.NormBwd.τ).loc Cert.NormBwd.main_arg6) = m ((c.tc : Thread Cert.NormBwd.nD Cert.NormBwd.τ).loc Cert.NormBwd.main_arg6))
      ∧ r.2.sem = fun _ => 0)

def quiescent_NormBwdIdeal [hNormBwdIdeal : Cert.NormBwdIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3)
      ∧ r.2.mem ((c.tc : Thread Cert.NormBwdIdeal.nD Cert.NormBwdIdeal.τ).loc Cert.NormBwdIdeal.main_arg4) = m ((c.tc : Thread Cert.NormBwdIdeal.nD Cert.NormBwdIdeal.τ).loc Cert.NormBwdIdeal.main_arg4)
      ∧ r.2.mem ((c.tc : Thread Cert.NormBwdIdeal.nD Cert.NormBwdIdeal.τ).loc Cert.NormBwdIdeal.main_arg5) = m ((c.tc : Thread Cert.NormBwdIdeal.nD Cert.NormBwdIdeal.τ).loc Cert.NormBwdIdeal.main_arg5)
      ∧ r.2.mem ((c.tc : Thread Cert.NormBwdIdeal.nD Cert.NormBwdIdeal.τ).loc Cert.NormBwdIdeal.main_arg6) = m ((c.tc : Thread Cert.NormBwdIdeal.nD Cert.NormBwdIdeal.τ).loc Cert.NormBwdIdeal.main_arg6))
      ∧ r.2.sem = fun _ => 0)

def quiescent_NormBwdIdeal_pre_finite_norm [hNormBwdIdeal : Cert.NormBwdIdeal.Facts] [hPre_finite_norm : Cert.Pre_finite_norm.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal_finite_norm m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3)
      ∧ r.2.mem ((c.tc : Thread Cert.NormBwdIdeal.nD Cert.NormBwdIdeal.τ).loc Cert.NormBwdIdeal.main_arg4) = m ((c.tc : Thread Cert.NormBwdIdeal.nD Cert.NormBwdIdeal.τ).loc Cert.NormBwdIdeal.main_arg4)
      ∧ r.2.mem ((c.tc : Thread Cert.NormBwdIdeal.nD Cert.NormBwdIdeal.τ).loc Cert.NormBwdIdeal.main_arg5) = m ((c.tc : Thread Cert.NormBwdIdeal.nD Cert.NormBwdIdeal.τ).loc Cert.NormBwdIdeal.main_arg5)
      ∧ r.2.mem ((c.tc : Thread Cert.NormBwdIdeal.nD Cert.NormBwdIdeal.τ).loc Cert.NormBwdIdeal.main_arg6) = m ((c.tc : Thread Cert.NormBwdIdeal.nD Cert.NormBwdIdeal.τ).loc Cert.NormBwdIdeal.main_arg6))
      ∧ r.2.sem = fun _ => 0)

def quiescent_NormBwdRefIdeal [hNormBwdRefIdeal : Cert.NormBwdRefIdeal.Facts] : Prop :=
  ∀ (m : (ℓ : Loc Cert.NormBwdRefIdeal.nD Cert.NormBwdRefIdeal.τ Cert.NormBwdRefIdeal.sig) → Buf (Elt Ideal) ℓ) (g : Dev Cert.NormBwdRefIdeal.nD → PrngReg), Pre_NormBwdRefIdeal m →
    θ_run (Cert.NormBwdRefIdeal.defs (F := Ideal)) (onTc (τ := Cert.NormBwdRefIdeal.τ) (Cert.NormBwdRefIdeal.main (F := Ideal))) ⟨m, fun _ => 0, g⟩ (fun r => (∀ c : Dev Cert.NormBwdRefIdeal.nD,
      r.2.mem ((c.tc : Thread Cert.NormBwdRefIdeal.nD Cert.NormBwdRefIdeal.τ).loc Cert.NormBwdRefIdeal.main_arg0) = m ((c.tc : Thread Cert.NormBwdRefIdeal.nD Cert.NormBwdRefIdeal.τ).loc Cert.NormBwdRefIdeal.main_arg0)
      ∧ r.2.mem ((c.tc : Thread Cert.NormBwdRefIdeal.nD Cert.NormBwdRefIdeal.τ).loc Cert.NormBwdRefIdeal.main_arg1) = m ((c.tc : Thread Cert.NormBwdRefIdeal.nD Cert.NormBwdRefIdeal.τ).loc Cert.NormBwdRefIdeal.main_arg1)
      ∧ r.2.mem ((c.tc : Thread Cert.NormBwdRefIdeal.nD Cert.NormBwdRefIdeal.τ).loc Cert.NormBwdRefIdeal.main_arg2) = m ((c.tc : Thread Cert.NormBwdRefIdeal.nD Cert.NormBwdRefIdeal.τ).loc Cert.NormBwdRefIdeal.main_arg2)
      ∧ r.2.mem ((c.tc : Thread Cert.NormBwdRefIdeal.nD Cert.NormBwdRefIdeal.τ).loc Cert.NormBwdRefIdeal.main_arg3) = m ((c.tc : Thread Cert.NormBwdRefIdeal.nD Cert.NormBwdRefIdeal.τ).loc Cert.NormBwdRefIdeal.main_arg3)
      ∧ r.2.mem ((c.tc : Thread Cert.NormBwdRefIdeal.nD Cert.NormBwdRefIdeal.τ).loc Cert.NormBwdRefIdeal.main_arg4) = m ((c.tc : Thread Cert.NormBwdRefIdeal.nD Cert.NormBwdRefIdeal.τ).loc Cert.NormBwdRefIdeal.main_arg4)
      ∧ r.2.mem ((c.tc : Thread Cert.NormBwdRefIdeal.nD Cert.NormBwdRefIdeal.τ).loc Cert.NormBwdRefIdeal.main_arg5) = m ((c.tc : Thread Cert.NormBwdRefIdeal.nD Cert.NormBwdRefIdeal.τ).loc Cert.NormBwdRefIdeal.main_arg5)
      ∧ r.2.mem ((c.tc : Thread Cert.NormBwdRefIdeal.nD Cert.NormBwdRefIdeal.τ).loc Cert.NormBwdRefIdeal.main_arg6) = m ((c.tc : Thread Cert.NormBwdRefIdeal.nD Cert.NormBwdRefIdeal.τ).loc Cert.NormBwdRefIdeal.main_arg6))
      ∧ r.2.sem = fun _ => 0)

def quiescent_NormBwdRefIdeal_pre_finite_norm [hNormBwdRefIdeal : Cert.NormBwdRefIdeal.Facts] [hPre_finite_norm : Cert.Pre_finite_norm.Facts] : Prop :=
  ∀ (m : (ℓ : Loc Cert.NormBwdRefIdeal.nD Cert.NormBwdRefIdeal.τ Cert.NormBwdRefIdeal.sig) → Buf (Elt Ideal) ℓ) (g : Dev Cert.NormBwdRefIdeal.nD → PrngReg), Pre_NormBwdRefIdeal_finite_norm m →
    θ_run (Cert.NormBwdRefIdeal.defs (F := Ideal)) (onTc (τ := Cert.NormBwdRefIdeal.τ) (Cert.NormBwdRefIdeal.main (F := Ideal))) ⟨m, fun _ => 0, g⟩ (fun r => (∀ c : Dev Cert.NormBwdRefIdeal.nD,
      r.2.mem ((c.tc : Thread Cert.NormBwdRefIdeal.nD Cert.NormBwdRefIdeal.τ).loc Cert.NormBwdRefIdeal.main_arg0) = m ((c.tc : Thread Cert.NormBwdRefIdeal.nD Cert.NormBwdRefIdeal.τ).loc Cert.NormBwdRefIdeal.main_arg0)
      ∧ r.2.mem ((c.tc : Thread Cert.NormBwdRefIdeal.nD Cert.NormBwdRefIdeal.τ).loc Cert.NormBwdRefIdeal.main_arg1) = m ((c.tc : Thread Cert.NormBwdRefIdeal.nD Cert.NormBwdRefIdeal.τ).loc Cert.NormBwdRefIdeal.main_arg1)
      ∧ r.2.mem ((c.tc : Thread Cert.NormBwdRefIdeal.nD Cert.NormBwdRefIdeal.τ).loc Cert.NormBwdRefIdeal.main_arg2) = m ((c.tc : Thread Cert.NormBwdRefIdeal.nD Cert.NormBwdRefIdeal.τ).loc Cert.NormBwdRefIdeal.main_arg2)
      ∧ r.2.mem ((c.tc : Thread Cert.NormBwdRefIdeal.nD Cert.NormBwdRefIdeal.τ).loc Cert.NormBwdRefIdeal.main_arg3) = m ((c.tc : Thread Cert.NormBwdRefIdeal.nD Cert.NormBwdRefIdeal.τ).loc Cert.NormBwdRefIdeal.main_arg3)
      ∧ r.2.mem ((c.tc : Thread Cert.NormBwdRefIdeal.nD Cert.NormBwdRefIdeal.τ).loc Cert.NormBwdRefIdeal.main_arg4) = m ((c.tc : Thread Cert.NormBwdRefIdeal.nD Cert.NormBwdRefIdeal.τ).loc Cert.NormBwdRefIdeal.main_arg4)
      ∧ r.2.mem ((c.tc : Thread Cert.NormBwdRefIdeal.nD Cert.NormBwdRefIdeal.τ).loc Cert.NormBwdRefIdeal.main_arg5) = m ((c.tc : Thread Cert.NormBwdRefIdeal.nD Cert.NormBwdRefIdeal.τ).loc Cert.NormBwdRefIdeal.main_arg5)
      ∧ r.2.mem ((c.tc : Thread Cert.NormBwdRefIdeal.nD Cert.NormBwdRefIdeal.τ).loc Cert.NormBwdRefIdeal.main_arg6) = m ((c.tc : Thread Cert.NormBwdRefIdeal.nD Cert.NormBwdRefIdeal.τ).loc Cert.NormBwdRefIdeal.main_arg6))
      ∧ r.2.sem = fun _ => 0)

def quiescent_Mid [hMid : Cert.Mid.Facts] : Prop :=
  ∀ (m : (ℓ : Loc Cert.Mid.nD Cert.Mid.τ Cert.Mid.sig) → Buf (Elt Bits) ℓ) (g : Dev Cert.Mid.nD → PrngReg), Pre_Mid m →
    θ_run (Cert.Mid.defs (F := Bits)) (onTc (τ := Cert.Mid.τ) (Cert.Mid.main (F := Bits))) ⟨m, fun _ => 0, g⟩ (fun r => (∀ c : Dev Cert.Mid.nD,
      r.2.mem ((c.tc : Thread Cert.Mid.nD Cert.Mid.τ).loc Cert.Mid.main_arg0) = m ((c.tc : Thread Cert.Mid.nD Cert.Mid.τ).loc Cert.Mid.main_arg0)
      ∧ r.2.mem ((c.tc : Thread Cert.Mid.nD Cert.Mid.τ).loc Cert.Mid.main_arg1) = m ((c.tc : Thread Cert.Mid.nD Cert.Mid.τ).loc Cert.Mid.main_arg1)
      ∧ r.2.mem ((c.tc : Thread Cert.Mid.nD Cert.Mid.τ).loc Cert.Mid.main_arg2) = m ((c.tc : Thread Cert.Mid.nD Cert.Mid.τ).loc Cert.Mid.main_arg2)
      ∧ r.2.mem ((c.tc : Thread Cert.Mid.nD Cert.Mid.τ).loc Cert.Mid.main_arg3) = m ((c.tc : Thread Cert.Mid.nD Cert.Mid.τ).loc Cert.Mid.main_arg3)
      ∧ r.2.mem ((c.tc : Thread Cert.Mid.nD Cert.Mid.τ).loc Cert.Mid.main_arg4) = m ((c.tc : Thread Cert.Mid.nD Cert.Mid.τ).loc Cert.Mid.main_arg4)
      ∧ r.2.mem ((c.tc : Thread Cert.Mid.nD Cert.Mid.τ).loc Cert.Mid.main_arg5) = m ((c.tc : Thread Cert.Mid.nD Cert.Mid.τ).loc Cert.Mid.main_arg5)
      ∧ r.2.mem ((c.tc : Thread Cert.Mid.nD Cert.Mid.τ).loc Cert.Mid.main_arg6) = m ((c.tc : Thread Cert.Mid.nD Cert.Mid.τ).loc Cert.Mid.main_arg6)
      ∧ r.2.mem ((c.tc : Thread Cert.Mid.nD Cert.Mid.τ).loc Cert.Mid.main_arg7) = m ((c.tc : Thread Cert.Mid.nD Cert.Mid.τ).loc Cert.Mid.main_arg7))
      ∧ r.2.sem = fun _ => 0)

def quiescent_MidIdeal [hMidIdeal : Cert.MidIdeal.Facts] : Prop :=
  ∀ (m : (ℓ : Loc Cert.MidIdeal.nD Cert.MidIdeal.τ Cert.MidIdeal.sig) → Buf (Elt Ideal) ℓ) (g : Dev Cert.MidIdeal.nD → PrngReg), Pre_MidIdeal m →
    θ_run (Cert.MidIdeal.defs (F := Ideal)) (onTc (τ := Cert.MidIdeal.τ) (Cert.MidIdeal.main (F := Ideal))) ⟨m, fun _ => 0, g⟩ (fun r => (∀ c : Dev Cert.MidIdeal.nD,
      r.2.mem ((c.tc : Thread Cert.MidIdeal.nD Cert.MidIdeal.τ).loc Cert.MidIdeal.main_arg0) = m ((c.tc : Thread Cert.MidIdeal.nD Cert.MidIdeal.τ).loc Cert.MidIdeal.main_arg0)
      ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
      ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
      ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
      ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
      ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
      ∧ r.2.mem ((c.tc : Thread Cert.MidIdeal.nD Cert.MidIdeal.τ).loc Cert.MidIdeal.main_arg6) = m ((c.tc : Thread Cert.MidIdeal.nD Cert.MidIdeal.τ).loc Cert.MidIdeal.main_arg6)
      ∧ r.2.mem ((c.tc : Thread Cert.MidIdeal.nD Cert.MidIdeal.τ).loc Cert.MidIdeal.main_arg7) = m ((c.tc : Thread Cert.MidIdeal.nD Cert.MidIdeal.τ).loc Cert.MidIdeal.main_arg7))
      ∧ r.2.sem = fun _ => 0)

def quiescent_MidIdeal_pre_finite_mid [hMidIdeal : Cert.MidIdeal.Facts] [hPre_finite_mid : Cert.Pre_finite_mid.Facts] : Prop :=
  ∀ (m : (ℓ : Loc Cert.MidIdeal.nD Cert.MidIdeal.τ Cert.MidIdeal.sig) → Buf (Elt Ideal) ℓ) (g : Dev Cert.MidIdeal.nD → PrngReg), Pre_MidIdeal_finite_mid m →
    θ_run (Cert.MidIdeal.defs (F := Ideal)) (onTc (τ := Cert.MidIdeal.τ) (Cert.MidIdeal.main (F := Ideal))) ⟨m, fun _ => 0, g⟩ (fun r => (∀ c : Dev Cert.MidIdeal.nD,
      r.2.mem ((c.tc : Thread Cert.MidIdeal.nD Cert.MidIdeal.τ).loc Cert.MidIdeal.main_arg0) = m ((c.tc : Thread Cert.MidIdeal.nD Cert.MidIdeal.τ).loc Cert.MidIdeal.main_arg0)
      ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
      ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
      ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
      ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
      ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
      ∧ r.2.mem ((c.tc : Thread Cert.MidIdeal.nD Cert.MidIdeal.τ).loc Cert.MidIdeal.main_arg6) = m ((c.tc : Thread Cert.MidIdeal.nD Cert.MidIdeal.τ).loc Cert.MidIdeal.main_arg6)
      ∧ r.2.mem ((c.tc : Thread Cert.MidIdeal.nD Cert.MidIdeal.τ).loc Cert.MidIdeal.main_arg7) = m ((c.tc : Thread Cert.MidIdeal.nD Cert.MidIdeal.τ).loc Cert.MidIdeal.main_arg7))
      ∧ r.2.sem = fun _ => 0)

def quiescent_MidRefIdeal [hMidRefIdeal : Cert.MidRefIdeal.Facts] : Prop :=
  ∀ (m : (ℓ : Loc Cert.MidRefIdeal.nD Cert.MidRefIdeal.τ Cert.MidRefIdeal.sig) → Buf (Elt Ideal) ℓ) (g : Dev Cert.MidRefIdeal.nD → PrngReg), Pre_MidRefIdeal m →
    θ_run (Cert.MidRefIdeal.defs (F := Ideal)) (onTc (τ := Cert.MidRefIdeal.τ) (Cert.MidRefIdeal.main (F := Ideal))) ⟨m, fun _ => 0, g⟩ (fun r => (∀ c : Dev Cert.MidRefIdeal.nD,
      r.2.mem ((c.tc : Thread Cert.MidRefIdeal.nD Cert.MidRefIdeal.τ).loc Cert.MidRefIdeal.main_arg0) = m ((c.tc : Thread Cert.MidRefIdeal.nD Cert.MidRefIdeal.τ).loc Cert.MidRefIdeal.main_arg0)
      ∧ r.2.mem ((c.tc : Thread Cert.MidRefIdeal.nD Cert.MidRefIdeal.τ).loc Cert.MidRefIdeal.main_arg1) = m ((c.tc : Thread Cert.MidRefIdeal.nD Cert.MidRefIdeal.τ).loc Cert.MidRefIdeal.main_arg1)
      ∧ r.2.mem ((c.tc : Thread Cert.MidRefIdeal.nD Cert.MidRefIdeal.τ).loc Cert.MidRefIdeal.main_arg2) = m ((c.tc : Thread Cert.MidRefIdeal.nD Cert.MidRefIdeal.τ).loc Cert.MidRefIdeal.main_arg2)
      ∧ r.2.mem ((c.tc : Thread Cert.MidRefIdeal.nD Cert.MidRefIdeal.τ).loc Cert.MidRefIdeal.main_arg3) = m ((c.tc : Thread Cert.MidRefIdeal.nD Cert.MidRefIdeal.τ).loc Cert.MidRefIdeal.main_arg3)
      ∧ r.2.mem ((c.tc : Thread Cert.MidRefIdeal.nD Cert.MidRefIdeal.τ).loc Cert.MidRefIdeal.main_arg4) = m ((c.tc : Thread Cert.MidRefIdeal.nD Cert.MidRefIdeal.τ).loc Cert.MidRefIdeal.main_arg4)
      ∧ r.2.mem ((c.tc : Thread Cert.MidRefIdeal.nD Cert.MidRefIdeal.τ).loc Cert.MidRefIdeal.main_arg5) = m ((c.tc : Thread Cert.MidRefIdeal.nD Cert.MidRefIdeal.τ).loc Cert.MidRefIdeal.main_arg5)
      ∧ r.2.mem ((c.tc : Thread Cert.MidRefIdeal.nD Cert.MidRefIdeal.τ).loc Cert.MidRefIdeal.main_arg6) = m ((c.tc : Thread Cert.MidRefIdeal.nD Cert.MidRefIdeal.τ).loc Cert.MidRefIdeal.main_arg6)
      ∧ r.2.mem ((c.tc : Thread Cert.MidRefIdeal.nD Cert.MidRefIdeal.τ).loc Cert.MidRefIdeal.main_arg7) = m ((c.tc : Thread Cert.MidRefIdeal.nD Cert.MidRefIdeal.τ).loc Cert.MidRefIdeal.main_arg7))
      ∧ r.2.sem = fun _ => 0)

def quiescent_MidRefIdeal_pre_finite_mid [hMidRefIdeal : Cert.MidRefIdeal.Facts] [hPre_finite_mid : Cert.Pre_finite_mid.Facts] : Prop :=
  ∀ (m : (ℓ : Loc Cert.MidRefIdeal.nD Cert.MidRefIdeal.τ Cert.MidRefIdeal.sig) → Buf (Elt Ideal) ℓ) (g : Dev Cert.MidRefIdeal.nD → PrngReg), Pre_MidRefIdeal_finite_mid m →
    θ_run (Cert.MidRefIdeal.defs (F := Ideal)) (onTc (τ := Cert.MidRefIdeal.τ) (Cert.MidRefIdeal.main (F := Ideal))) ⟨m, fun _ => 0, g⟩ (fun r => (∀ c : Dev Cert.MidRefIdeal.nD,
      r.2.mem ((c.tc : Thread Cert.MidRefIdeal.nD Cert.MidRefIdeal.τ).loc Cert.MidRefIdeal.main_arg0) = m ((c.tc : Thread Cert.MidRefIdeal.nD Cert.MidRefIdeal.τ).loc Cert.MidRefIdeal.main_arg0)
      ∧ r.2.mem ((c.tc : Thread Cert.MidRefIdeal.nD Cert.MidRefIdeal.τ).loc Cert.MidRefIdeal.main_arg1) = m ((c.tc : Thread Cert.MidRefIdeal.nD Cert.MidRefIdeal.τ).loc Cert.MidRefIdeal.main_arg1)
      ∧ r.2.mem ((c.tc : Thread Cert.MidRefIdeal.nD Cert.MidRefIdeal.τ).loc Cert.MidRefIdeal.main_arg2) = m ((c.tc : Thread Cert.MidRefIdeal.nD Cert.MidRefIdeal.τ).loc Cert.MidRefIdeal.main_arg2)
      ∧ r.2.mem ((c.tc : Thread Cert.MidRefIdeal.nD Cert.MidRefIdeal.τ).loc Cert.MidRefIdeal.main_arg3) = m ((c.tc : Thread Cert.MidRefIdeal.nD Cert.MidRefIdeal.τ).loc Cert.MidRefIdeal.main_arg3)
      ∧ r.2.mem ((c.tc : Thread Cert.MidRefIdeal.nD Cert.MidRefIdeal.τ).loc Cert.MidRefIdeal.main_arg4) = m ((c.tc : Thread Cert.MidRefIdeal.nD Cert.MidRefIdeal.τ).loc Cert.MidRefIdeal.main_arg4)
      ∧ r.2.mem ((c.tc : Thread Cert.MidRefIdeal.nD Cert.MidRefIdeal.τ).loc Cert.MidRefIdeal.main_arg5) = m ((c.tc : Thread Cert.MidRefIdeal.nD Cert.MidRefIdeal.τ).loc Cert.MidRefIdeal.main_arg5)
      ∧ r.2.mem ((c.tc : Thread Cert.MidRefIdeal.nD Cert.MidRefIdeal.τ).loc Cert.MidRefIdeal.main_arg6) = m ((c.tc : Thread Cert.MidRefIdeal.nD Cert.MidRefIdeal.τ).loc Cert.MidRefIdeal.main_arg6)
      ∧ r.2.mem ((c.tc : Thread Cert.MidRefIdeal.nD Cert.MidRefIdeal.τ).loc Cert.MidRefIdeal.main_arg7) = m ((c.tc : Thread Cert.MidRefIdeal.nD Cert.MidRefIdeal.τ).loc Cert.MidRefIdeal.main_arg7))
      ∧ r.2.sem = fun _ => 0)

def quiescent_WeightGrad [hWeightGrad : Cert.WeightGrad.Facts] : Prop :=
  ∀ (m : (ℓ : Loc Cert.WeightGrad.nD Cert.WeightGrad.τ Cert.WeightGrad.sig) → Buf (Elt Bits) ℓ) (g : Dev Cert.WeightGrad.nD → PrngReg), Pre_WeightGrad m →
    θ_run (Cert.WeightGrad.defs (F := Bits)) (onTc (τ := Cert.WeightGrad.τ) (Cert.WeightGrad.main (F := Bits))) ⟨m, fun _ => 0, g⟩ (fun r => (∀ c : Dev Cert.WeightGrad.nD,
      r.2.mem ((c.tc : Thread Cert.WeightGrad.nD Cert.WeightGrad.τ).loc Cert.WeightGrad.main_arg0) = m ((c.tc : Thread Cert.WeightGrad.nD Cert.WeightGrad.τ).loc Cert.WeightGrad.main_arg0)
      ∧ r.2.mem ((c.tc : Thread Cert.WeightGrad.nD Cert.WeightGrad.τ).loc Cert.WeightGrad.main_arg1) = m ((c.tc : Thread Cert.WeightGrad.nD Cert.WeightGrad.τ).loc Cert.WeightGrad.main_arg1)
      ∧ r.2.mem ((c.tc : Thread Cert.WeightGrad.nD Cert.WeightGrad.τ).loc Cert.WeightGrad.main_arg2) = m ((c.tc : Thread Cert.WeightGrad.nD Cert.WeightGrad.τ).loc Cert.WeightGrad.main_arg2)
      ∧ r.2.mem ((c.tc : Thread Cert.WeightGrad.nD Cert.WeightGrad.τ).loc Cert.WeightGrad.main_arg3) = m ((c.tc : Thread Cert.WeightGrad.nD Cert.WeightGrad.τ).loc Cert.WeightGrad.main_arg3))
      ∧ r.2.sem = fun _ => 0)

def quiescent_WeightGradIdeal [hWeightGradIdeal : Cert.WeightGradIdeal.Facts] : Prop :=
  ∀ (m : (ℓ : Loc Cert.WeightGradIdeal.nD Cert.WeightGradIdeal.τ Cert.WeightGradIdeal.sig) → Buf (Elt Ideal) ℓ) (g : Dev Cert.WeightGradIdeal.nD → PrngReg), Pre_WeightGradIdeal m →
    θ_run (Cert.WeightGradIdeal.defs (F := Ideal)) (onTc (τ := Cert.WeightGradIdeal.τ) (Cert.WeightGradIdeal.main (F := Ideal))) ⟨m, fun _ => 0, g⟩ (fun r => (∀ c : Dev Cert.WeightGradIdeal.nD,
      r.2.mem ((c.tc : Thread Cert.WeightGradIdeal.nD Cert.WeightGradIdeal.τ).loc Cert.WeightGradIdeal.main_arg0) = m ((c.tc : Thread Cert.WeightGradIdeal.nD Cert.WeightGradIdeal.τ).loc Cert.WeightGradIdeal.main_arg0)
      ∧ r.2.mem ((c.tc : Thread Cert.WeightGradIdeal.nD Cert.WeightGradIdeal.τ).loc Cert.WeightGradIdeal.main_arg1) = m ((c.tc : Thread Cert.WeightGradIdeal.nD Cert.WeightGradIdeal.τ).loc Cert.WeightGradIdeal.main_arg1)
      ∧ r.2.mem ((c.tc : Thread Cert.WeightGradIdeal.nD Cert.WeightGradIdeal.τ).loc Cert.WeightGradIdeal.main_arg2) = m ((c.tc : Thread Cert.WeightGradIdeal.nD Cert.WeightGradIdeal.τ).loc Cert.WeightGradIdeal.main_arg2)
      ∧ r.2.mem ((c.tc : Thread Cert.WeightGradIdeal.nD Cert.WeightGradIdeal.τ).loc Cert.WeightGradIdeal.main_arg3) = m ((c.tc : Thread Cert.WeightGradIdeal.nD Cert.WeightGradIdeal.τ).loc Cert.WeightGradIdeal.main_arg3))
      ∧ r.2.sem = fun _ => 0)

def quiescent_WeightGradRefIdeal [hWeightGradRefIdeal : Cert.WeightGradRefIdeal.Facts] : Prop :=
  ∀ (m : (ℓ : Loc Cert.WeightGradRefIdeal.nD Cert.WeightGradRefIdeal.τ Cert.WeightGradRefIdeal.sig) → Buf (Elt Ideal) ℓ) (g : Dev Cert.WeightGradRefIdeal.nD → PrngReg), Pre_WeightGradRefIdeal m →
    θ_run (Cert.WeightGradRefIdeal.defs (F := Ideal)) (onTc (τ := Cert.WeightGradRefIdeal.τ) (Cert.WeightGradRefIdeal.main (F := Ideal))) ⟨m, fun _ => 0, g⟩ (fun r => (∀ c : Dev Cert.WeightGradRefIdeal.nD,
      r.2.mem ((c.tc : Thread Cert.WeightGradRefIdeal.nD Cert.WeightGradRefIdeal.τ).loc Cert.WeightGradRefIdeal.main_arg0) = m ((c.tc : Thread Cert.WeightGradRefIdeal.nD Cert.WeightGradRefIdeal.τ).loc Cert.WeightGradRefIdeal.main_arg0)
      ∧ r.2.mem ((c.tc : Thread Cert.WeightGradRefIdeal.nD Cert.WeightGradRefIdeal.τ).loc Cert.WeightGradRefIdeal.main_arg1) = m ((c.tc : Thread Cert.WeightGradRefIdeal.nD Cert.WeightGradRefIdeal.τ).loc Cert.WeightGradRefIdeal.main_arg1)
      ∧ r.2.mem ((c.tc : Thread Cert.WeightGradRefIdeal.nD Cert.WeightGradRefIdeal.τ).loc Cert.WeightGradRefIdeal.main_arg2) = m ((c.tc : Thread Cert.WeightGradRefIdeal.nD Cert.WeightGradRefIdeal.τ).loc Cert.WeightGradRefIdeal.main_arg2)
      ∧ r.2.mem ((c.tc : Thread Cert.WeightGradRefIdeal.nD Cert.WeightGradRefIdeal.τ).loc Cert.WeightGradRefIdeal.main_arg3) = m ((c.tc : Thread Cert.WeightGradRefIdeal.nD Cert.WeightGradRefIdeal.τ).loc Cert.WeightGradRefIdeal.main_arg3))
      ∧ r.2.sem = fun _ => 0)

def quiescent_ProjConv [hProjConv : Cert.ProjConv.Facts] : Prop :=
  ∀ (m : (ℓ : Loc Cert.ProjConv.nD Cert.ProjConv.τ Cert.ProjConv.sig) → Buf (Elt Bits) ℓ) (g : Dev Cert.ProjConv.nD → PrngReg), Pre_ProjConv m →
    θ_run (Cert.ProjConv.defs (F := Bits)) (onTc (τ := Cert.ProjConv.τ) (Cert.ProjConv.main (F := Bits))) ⟨m, fun _ => 0, g⟩ (fun r => (∀ c : Dev Cert.ProjConv.nD,
      r.2.mem ((c.tc : Thread Cert.ProjConv.nD Cert.ProjConv.τ).loc Cert.ProjConv.main_arg0) = m ((c.tc : Thread Cert.ProjConv.nD Cert.ProjConv.τ).loc Cert.ProjConv.main_arg0)
      ∧ r.2.mem ((c.tc : Thread Cert.ProjConv.nD Cert.ProjConv.τ).loc Cert.ProjConv.main_arg1) = m ((c.tc : Thread Cert.ProjConv.nD Cert.ProjConv.τ).loc Cert.ProjConv.main_arg1))
      ∧ r.2.sem = fun _ => 0)

def quiescent_ProjConvIdeal [hProjConvIdeal : Cert.ProjConvIdeal.Facts] : Prop :=
  ∀ (m : (ℓ : Loc Cert.ProjConvIdeal.nD Cert.ProjConvIdeal.τ Cert.ProjConvIdeal.sig) → Buf (Elt Ideal) ℓ) (g : Dev Cert.ProjConvIdeal.nD → PrngReg), Pre_ProjConvIdeal m →
    θ_run (Cert.ProjConvIdeal.defs (F := Ideal)) (onTc (τ := Cert.ProjConvIdeal.τ) (Cert.ProjConvIdeal.main (F := Ideal))) ⟨m, fun _ => 0, g⟩ (fun r => (∀ c : Dev Cert.ProjConvIdeal.nD,
      r.2.mem ((c.tc : Thread Cert.ProjConvIdeal.nD Cert.ProjConvIdeal.τ).loc Cert.ProjConvIdeal.main_arg0) = m ((c.tc : Thread Cert.ProjConvIdeal.nD Cert.ProjConvIdeal.τ).loc Cert.ProjConvIdeal.main_arg0)
      ∧ r.2.mem ((c.tc : Thread Cert.ProjConvIdeal.nD Cert.ProjConvIdeal.τ).loc Cert.ProjConvIdeal.main_arg1) = m ((c.tc : Thread Cert.ProjConvIdeal.nD Cert.ProjConvIdeal.τ).loc Cert.ProjConvIdeal.main_arg1))
      ∧ r.2.sem = fun _ => 0)

def quiescent_ProjConvRefIdeal [hProjConvRefIdeal : Cert.ProjConvRefIdeal.Facts] : Prop :=
  ∀ (m : (ℓ : Loc Cert.ProjConvRefIdeal.nD Cert.ProjConvRefIdeal.τ Cert.ProjConvRefIdeal.sig) → Buf (Elt Ideal) ℓ) (g : Dev Cert.ProjConvRefIdeal.nD → PrngReg), Pre_ProjConvRefIdeal m →
    θ_run (Cert.ProjConvRefIdeal.defs (F := Ideal)) (onTc (τ := Cert.ProjConvRefIdeal.τ) (Cert.ProjConvRefIdeal.main (F := Ideal))) ⟨m, fun _ => 0, g⟩ (fun r => (∀ c : Dev Cert.ProjConvRefIdeal.nD,
      r.2.mem ((c.tc : Thread Cert.ProjConvRefIdeal.nD Cert.ProjConvRefIdeal.τ).loc Cert.ProjConvRefIdeal.main_arg0) = m ((c.tc : Thread Cert.ProjConvRefIdeal.nD Cert.ProjConvRefIdeal.τ).loc Cert.ProjConvRefIdeal.main_arg0)
      ∧ r.2.mem ((c.tc : Thread Cert.ProjConvRefIdeal.nD Cert.ProjConvRefIdeal.τ).loc Cert.ProjConvRefIdeal.main_arg1) = m ((c.tc : Thread Cert.ProjConvRefIdeal.nD Cert.ProjConvRefIdeal.τ).loc Cert.ProjConvRefIdeal.main_arg1))
      ∧ r.2.sem = fun _ => 0)

def quiescent_ProjMid [hProjMid : Cert.ProjMid.Facts] : Prop :=
  ∀ (m : (ℓ : Loc Cert.ProjMid.nD Cert.ProjMid.τ Cert.ProjMid.sig) → Buf (Elt Bits) ℓ) (g : Dev Cert.ProjMid.nD → PrngReg), Pre_ProjMid m →
    θ_run (Cert.ProjMid.defs (F := Bits)) (onTc (τ := Cert.ProjMid.τ) (Cert.ProjMid.main (F := Bits))) ⟨m, fun _ => 0, g⟩ (fun r => (∀ c : Dev Cert.ProjMid.nD,
      r.2.mem ((c.tc : Thread Cert.ProjMid.nD Cert.ProjMid.τ).loc Cert.ProjMid.main_arg0) = m ((c.tc : Thread Cert.ProjMid.nD Cert.ProjMid.τ).loc Cert.ProjMid.main_arg0)
      ∧ r.2.mem ((c.tc : Thread Cert.ProjMid.nD Cert.ProjMid.τ).loc Cert.ProjMid.main_arg1) = m ((c.tc : Thread Cert.ProjMid.nD Cert.ProjMid.τ).loc Cert.ProjMid.main_arg1))
      ∧ r.2.sem = fun _ => 0)

def quiescent_ProjMidIdeal [hProjMidIdeal : Cert.ProjMidIdeal.Facts] : Prop :=
  ∀ (m : (ℓ : Loc Cert.ProjMidIdeal.nD Cert.ProjMidIdeal.τ Cert.ProjMidIdeal.sig) → Buf (Elt Ideal) ℓ) (g : Dev Cert.ProjMidIdeal.nD → PrngReg), Pre_ProjMidIdeal m →
    θ_run (Cert.ProjMidIdeal.defs (F := Ideal)) (onTc (τ := Cert.ProjMidIdeal.τ) (Cert.ProjMidIdeal.main (F := Ideal))) ⟨m, fun _ => 0, g⟩ (fun r => (∀ c : Dev Cert.ProjMidIdeal.nD,
      r.2.mem ((c.tc : Thread Cert.ProjMidIdeal.nD Cert.ProjMidIdeal.τ).loc Cert.ProjMidIdeal.main_arg0) = m ((c.tc : Thread Cert.ProjMidIdeal.nD Cert.ProjMidIdeal.τ).loc Cert.ProjMidIdeal.main_arg0)
      ∧ r.2.mem ((c.tc : Thread Cert.ProjMidIdeal.nD Cert.ProjMidIdeal.τ).loc Cert.ProjMidIdeal.main_arg1) = m ((c.tc : Thread Cert.ProjMidIdeal.nD Cert.ProjMidIdeal.τ).loc Cert.ProjMidIdeal.main_arg1))
      ∧ r.2.sem = fun _ => 0)

def quiescent_ProjMidRefIdeal [hProjMidRefIdeal : Cert.ProjMidRefIdeal.Facts] : Prop :=
  ∀ (m : (ℓ : Loc Cert.ProjMidRefIdeal.nD Cert.ProjMidRefIdeal.τ Cert.ProjMidRefIdeal.sig) → Buf (Elt Ideal) ℓ) (g : Dev Cert.ProjMidRefIdeal.nD → PrngReg), Pre_ProjMidRefIdeal m →
    θ_run (Cert.ProjMidRefIdeal.defs (F := Ideal)) (onTc (τ := Cert.ProjMidRefIdeal.τ) (Cert.ProjMidRefIdeal.main (F := Ideal))) ⟨m, fun _ => 0, g⟩ (fun r => (∀ c : Dev Cert.ProjMidRefIdeal.nD,
      r.2.mem ((c.tc : Thread Cert.ProjMidRefIdeal.nD Cert.ProjMidRefIdeal.τ).loc Cert.ProjMidRefIdeal.main_arg0) = m ((c.tc : Thread Cert.ProjMidRefIdeal.nD Cert.ProjMidRefIdeal.τ).loc Cert.ProjMidRefIdeal.main_arg0)
      ∧ r.2.mem ((c.tc : Thread Cert.ProjMidRefIdeal.nD Cert.ProjMidRefIdeal.τ).loc Cert.ProjMidRefIdeal.main_arg1) = m ((c.tc : Thread Cert.ProjMidRefIdeal.nD Cert.ProjMidRefIdeal.τ).loc Cert.ProjMidRefIdeal.main_arg1))
      ∧ r.2.sem = fun _ => 0)

def quiescent_ConvFwd [hConvFwd : Cert.ConvFwd.Facts] : Prop :=
  ∀ (m : (ℓ : Loc Cert.ConvFwd.nD Cert.ConvFwd.τ Cert.ConvFwd.sig) → Buf (Elt Bits) ℓ) (g : Dev Cert.ConvFwd.nD → PrngReg), Pre_ConvFwd m →
    θ_run (Cert.ConvFwd.defs (F := Bits)) (onTc (τ := Cert.ConvFwd.τ) (Cert.ConvFwd.main (F := Bits))) ⟨m, fun _ => 0, g⟩ (fun r => (∀ c : Dev Cert.ConvFwd.nD,
      r.2.mem ((c.tc : Thread Cert.ConvFwd.nD Cert.ConvFwd.τ).loc Cert.ConvFwd.main_arg0) = m ((c.tc : Thread Cert.ConvFwd.nD Cert.ConvFwd.τ).loc Cert.ConvFwd.main_arg0)
      ∧ r.2.mem ((c.tc : Thread Cert.ConvFwd.nD Cert.ConvFwd.τ).loc Cert.ConvFwd.main_arg1) = m ((c.tc : Thread Cert.ConvFwd.nD Cert.ConvFwd.τ).loc Cert.ConvFwd.main_arg1))
      ∧ r.2.sem = fun _ => 0)

def quiescent_ConvFwdIdeal [hConvFwdIdeal : Cert.ConvFwdIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg), Pre_ConvFwdIdeal m →
    θ_run (Cert.ConvFwdIdeal.defs (F := Ideal)) (onTc (τ := Cert.ConvFwdIdeal.τ) (Cert.ConvFwdIdeal.main (F := Ideal))) ⟨m, fun _ => 0, g⟩ (fun r => (∀ c : Dev Cert.ConvFwdIdeal.nD,
      r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
      ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1))
      ∧ r.2.sem = fun _ => 0)

def quiescent_ConvFwdRefIdeal [hConvFwdRefIdeal : Cert.ConvFwdRefIdeal.Facts] : Prop :=
  ∀ (m : (ℓ : Loc Cert.ConvFwdRefIdeal.nD Cert.ConvFwdRefIdeal.τ Cert.ConvFwdRefIdeal.sig) → Buf (Elt Ideal) ℓ) (g : Dev Cert.ConvFwdRefIdeal.nD → PrngReg), Pre_ConvFwdRefIdeal m →
    θ_run (Cert.ConvFwdRefIdeal.defs (F := Ideal)) (onTc (τ := Cert.ConvFwdRefIdeal.τ) (Cert.ConvFwdRefIdeal.main (F := Ideal))) ⟨m, fun _ => 0, g⟩ (fun r => (∀ c : Dev Cert.ConvFwdRefIdeal.nD,
      r.2.mem ((c.tc : Thread Cert.ConvFwdRefIdeal.nD Cert.ConvFwdRefIdeal.τ).loc Cert.ConvFwdRefIdeal.main_arg0) = m ((c.tc : Thread Cert.ConvFwdRefIdeal.nD Cert.ConvFwdRefIdeal.τ).loc Cert.ConvFwdRefIdeal.main_arg0)
      ∧ r.2.mem ((c.tc : Thread Cert.ConvFwdRefIdeal.nD Cert.ConvFwdRefIdeal.τ).loc Cert.ConvFwdRefIdeal.main_arg1) = m ((c.tc : Thread Cert.ConvFwdRefIdeal.nD Cert.ConvFwdRefIdeal.τ).loc Cert.ConvFwdRefIdeal.main_arg1))
      ∧ r.2.sem = fun _ => 0)

def quiescent_StepIn [hStepIn : Cert.StepIn.Facts] : Prop :=
  ∀ (m : (ℓ : Loc Cert.StepIn.nD Cert.StepIn.τ Cert.StepIn.sig) → Buf (Elt Bits) ℓ) (g : Dev Cert.StepIn.nD → PrngReg), Pre_StepIn m →
    θ_run (Cert.StepIn.defs (F := Bits)) (onTc (τ := Cert.StepIn.τ) (Cert.StepIn.main (F := Bits))) ⟨m, fun _ => 0, g⟩ (fun r => (∀ c : Dev Cert.StepIn.nD,
      r.2.mem ((c.tc : Thread Cert.StepIn.nD Cert.StepIn.τ).loc Cert.StepIn.main_arg0) = m ((c.tc : Thread Cert.StepIn.nD Cert.StepIn.τ).loc Cert.StepIn.main_arg0)
      ∧ r.2.mem ((c.tc : Thread Cert.StepIn.nD Cert.StepIn.τ).loc Cert.StepIn.main_arg1) = m ((c.tc : Thread Cert.StepIn.nD Cert.StepIn.τ).loc Cert.StepIn.main_arg1)
      ∧ r.2.mem ((c.tc : Thread Cert.StepIn.nD Cert.StepIn.τ).loc Cert.StepIn.main_arg2) = m ((c.tc : Thread Cert.StepIn.nD Cert.StepIn.τ).loc Cert.StepIn.main_arg2)
      ∧ r.2.mem ((c.tc : Thread Cert.StepIn.nD Cert.StepIn.τ).loc Cert.StepIn.main_arg3) = m ((c.tc : Thread Cert.StepIn.nD Cert.StepIn.τ).loc Cert.StepIn.main_arg3))
      ∧ r.2.sem = fun _ => 0)

def quiescent_StepInIdeal [hStepInIdeal : Cert.StepInIdeal.Facts] : Prop :=
  ∀ (m : (ℓ : Loc Cert.StepInIdeal.nD Cert.StepInIdeal.τ Cert.StepInIdeal.sig) → Buf (Elt Ideal) ℓ) (g : Dev Cert.StepInIdeal.nD → PrngReg), Pre_StepInIdeal m →
    θ_run (Cert.StepInIdeal.defs (F := Ideal)) (onTc (τ := Cert.StepInIdeal.τ) (Cert.StepInIdeal.main (F := Ideal))) ⟨m, fun _ => 0, g⟩ (fun r => (∀ c : Dev Cert.StepInIdeal.nD,
      r.2.mem ((c.tc : Thread Cert.StepInIdeal.nD Cert.StepInIdeal.τ).loc Cert.StepInIdeal.main_arg0) = m ((c.tc : Thread Cert.StepInIdeal.nD Cert.StepInIdeal.τ).loc Cert.StepInIdeal.main_arg0)
      ∧ r.2.mem ((c.tc : Thread Cert.StepInIdeal.nD Cert.StepInIdeal.τ).loc Cert.StepInIdeal.main_arg1) = m ((c.tc : Thread Cert.StepInIdeal.nD Cert.StepInIdeal.τ).loc Cert.StepInIdeal.main_arg1)
      ∧ r.2.mem ((c.tc : Thread Cert.StepInIdeal.nD Cert.StepInIdeal.τ).loc Cert.StepInIdeal.main_arg2) = m ((c.tc : Thread Cert.StepInIdeal.nD Cert.StepInIdeal.τ).loc Cert.StepInIdeal.main_arg2)
      ∧ r.2.mem ((c.tc : Thread Cert.StepInIdeal.nD Cert.StepInIdeal.τ).loc Cert.StepInIdeal.main_arg3) = m ((c.tc : Thread Cert.StepInIdeal.nD Cert.StepInIdeal.τ).loc Cert.StepInIdeal.main_arg3))
      ∧ r.2.sem = fun _ => 0)

def quiescent_StepInRefIdeal [hStepInRefIdeal : Cert.StepInRefIdeal.Facts] : Prop :=
  ∀ (m : (ℓ : Loc Cert.StepInRefIdeal.nD Cert.StepInRefIdeal.τ Cert.StepInRefIdeal.sig) → Buf (Elt Ideal) ℓ) (g : Dev Cert.StepInRefIdeal.nD → PrngReg), Pre_StepInRefIdeal m →
    θ_run (Cert.StepInRefIdeal.defs (F := Ideal)) (onTc (τ := Cert.StepInRefIdeal.τ) (Cert.StepInRefIdeal.main (F := Ideal))) ⟨m, fun _ => 0, g⟩ (fun r => (∀ c : Dev Cert.StepInRefIdeal.nD,
      r.2.mem ((c.tc : Thread Cert.StepInRefIdeal.nD Cert.StepInRefIdeal.τ).loc Cert.StepInRefIdeal.main_arg0) = m ((c.tc : Thread Cert.StepInRefIdeal.nD Cert.StepInRefIdeal.τ).loc Cert.StepInRefIdeal.main_arg0)
      ∧ r.2.mem ((c.tc : Thread Cert.StepInRefIdeal.nD Cert.StepInRefIdeal.τ).loc Cert.StepInRefIdeal.main_arg1) = m ((c.tc : Thread Cert.StepInRefIdeal.nD Cert.StepInRefIdeal.τ).loc Cert.StepInRefIdeal.main_arg1)
      ∧ r.2.mem ((c.tc : Thread Cert.StepInRefIdeal.nD Cert.StepInRefIdeal.τ).loc Cert.StepInRefIdeal.main_arg2) = m ((c.tc : Thread Cert.StepInRefIdeal.nD Cert.StepInRefIdeal.τ).loc Cert.StepInRefIdeal.main_arg2)
      ∧ r.2.mem ((c.tc : Thread Cert.StepInRefIdeal.nD Cert.StepInRefIdeal.τ).loc Cert.StepInRefIdeal.main_arg3) = m ((c.tc : Thread Cert.StepInRefIdeal.nD Cert.StepInRefIdeal.τ).loc Cert.StepInRefIdeal.main_arg3))
      ∧ r.2.sem = fun _ => 0)

def quiescent_StepOut [hStepOut : Cert.StepOut.Facts] : Prop :=
  ∀ (m : (ℓ : Loc Cert.StepOut.nD Cert.StepOut.τ Cert.StepOut.sig) → Buf (Elt Bits) ℓ) (g : Dev Cert.StepOut.nD → PrngReg), Pre_StepOut m →
    θ_run (Cert.StepOut.defs (F := Bits)) (onTc (τ := Cert.StepOut.τ) (Cert.StepOut.main (F := Bits))) ⟨m, fun _ => 0, g⟩ (fun r => (∀ c : Dev Cert.StepOut.nD,
      r.2.mem ((c.tc : Thread Cert.StepOut.nD Cert.StepOut.τ).loc Cert.StepOut.main_arg0) = m ((c.tc : Thread Cert.StepOut.nD Cert.StepOut.τ).loc Cert.StepOut.main_arg0)
      ∧ r.2.mem ((c.tc : Thread Cert.StepOut.nD Cert.StepOut.τ).loc Cert.StepOut.main_arg1) = m ((c.tc : Thread Cert.StepOut.nD Cert.StepOut.τ).loc Cert.StepOut.main_arg1)
      ∧ r.2.mem ((c.tc : Thread Cert.StepOut.nD Cert.StepOut.τ).loc Cert.StepOut.main_arg2) = m ((c.tc : Thread Cert.StepOut.nD Cert.StepOut.τ).loc Cert.StepOut.main_arg2)
      ∧ r.2.mem ((c.tc : Thread Cert.StepOut.nD Cert.StepOut.τ).loc Cert.StepOut.main_arg3) = m ((c.tc : Thread Cert.StepOut.nD Cert.StepOut.τ).loc Cert.StepOut.main_arg3))
      ∧ r.2.sem = fun _ => 0)

def quiescent_StepOutIdeal [hStepOutIdeal : Cert.StepOutIdeal.Facts] : Prop :=
  ∀ (m : (ℓ : Loc Cert.StepOutIdeal.nD Cert.StepOutIdeal.τ Cert.StepOutIdeal.sig) → Buf (Elt Ideal) ℓ) (g : Dev Cert.StepOutIdeal.nD → PrngReg), Pre_StepOutIdeal m →
    θ_run (Cert.StepOutIdeal.defs (F := Ideal)) (onTc (τ := Cert.StepOutIdeal.τ) (Cert.StepOutIdeal.main (F := Ideal))) ⟨m, fun _ => 0, g⟩ (fun r => (∀ c : Dev Cert.StepOutIdeal.nD,
      r.2.mem ((c.tc : Thread Cert.StepOutIdeal.nD Cert.StepOutIdeal.τ).loc Cert.StepOutIdeal.main_arg0) = m ((c.tc : Thread Cert.StepOutIdeal.nD Cert.StepOutIdeal.τ).loc Cert.StepOutIdeal.main_arg0)
      ∧ r.2.mem ((c.tc : Thread Cert.StepOutIdeal.nD Cert.StepOutIdeal.τ).loc Cert.StepOutIdeal.main_arg1) = m ((c.tc : Thread Cert.StepOutIdeal.nD Cert.StepOutIdeal.τ).loc Cert.StepOutIdeal.main_arg1)
      ∧ r.2.mem ((c.tc : Thread Cert.StepOutIdeal.nD Cert.StepOutIdeal.τ).loc Cert.StepOutIdeal.main_arg2) = m ((c.tc : Thread Cert.StepOutIdeal.nD Cert.StepOutIdeal.τ).loc Cert.StepOutIdeal.main_arg2)
      ∧ r.2.mem ((c.tc : Thread Cert.StepOutIdeal.nD Cert.StepOutIdeal.τ).loc Cert.StepOutIdeal.main_arg3) = m ((c.tc : Thread Cert.StepOutIdeal.nD Cert.StepOutIdeal.τ).loc Cert.StepOutIdeal.main_arg3))
      ∧ r.2.sem = fun _ => 0)

def quiescent_StepOutRefIdeal [hStepOutRefIdeal : Cert.StepOutRefIdeal.Facts] : Prop :=
  ∀ (m : (ℓ : Loc Cert.StepOutRefIdeal.nD Cert.StepOutRefIdeal.τ Cert.StepOutRefIdeal.sig) → Buf (Elt Ideal) ℓ) (g : Dev Cert.StepOutRefIdeal.nD → PrngReg), Pre_StepOutRefIdeal m →
    θ_run (Cert.StepOutRefIdeal.defs (F := Ideal)) (onTc (τ := Cert.StepOutRefIdeal.τ) (Cert.StepOutRefIdeal.main (F := Ideal))) ⟨m, fun _ => 0, g⟩ (fun r => (∀ c : Dev Cert.StepOutRefIdeal.nD,
      r.2.mem ((c.tc : Thread Cert.StepOutRefIdeal.nD Cert.StepOutRefIdeal.τ).loc Cert.StepOutRefIdeal.main_arg0) = m ((c.tc : Thread Cert.StepOutRefIdeal.nD Cert.StepOutRefIdeal.τ).loc Cert.StepOutRefIdeal.main_arg0)
      ∧ r.2.mem ((c.tc : Thread Cert.StepOutRefIdeal.nD Cert.StepOutRefIdeal.τ).loc Cert.StepOutRefIdeal.main_arg1) = m ((c.tc : Thread Cert.StepOutRefIdeal.nD Cert.StepOutRefIdeal.τ).loc Cert.StepOutRefIdeal.main_arg1)
      ∧ r.2.mem ((c.tc : Thread Cert.StepOutRefIdeal.nD Cert.StepOutRefIdeal.τ).loc Cert.StepOutRefIdeal.main_arg2) = m ((c.tc : Thread Cert.StepOutRefIdeal.nD Cert.StepOutRefIdeal.τ).loc Cert.StepOutRefIdeal.main_arg2)
      ∧ r.2.mem ((c.tc : Thread Cert.StepOutRefIdeal.nD Cert.StepOutRefIdeal.τ).loc Cert.StepOutRefIdeal.main_arg3) = m ((c.tc : Thread Cert.StepOutRefIdeal.nD Cert.StepOutRefIdeal.τ).loc Cert.StepOutRefIdeal.main_arg3))
      ∧ r.2.sem = fun _ => 0)

def quiescent_StepSmall [hStepSmall : Cert.StepSmall.Facts] : Prop :=
  ∀ (m : (ℓ : Loc Cert.StepSmall.nD Cert.StepSmall.τ Cert.StepSmall.sig) → Buf (Elt Bits) ℓ) (g : Dev Cert.StepSmall.nD → PrngReg), Pre_StepSmall m →
    θ_run (Cert.StepSmall.defs (F := Bits)) (onTc (τ := Cert.StepSmall.τ) (Cert.StepSmall.main (F := Bits))) ⟨m, fun _ => 0, g⟩ (fun r => (∀ c : Dev Cert.StepSmall.nD,
      r.2.mem ((c.tc : Thread Cert.StepSmall.nD Cert.StepSmall.τ).loc Cert.StepSmall.main_arg0) = m ((c.tc : Thread Cert.StepSmall.nD Cert.StepSmall.τ).loc Cert.StepSmall.main_arg0)
      ∧ r.2.mem ((c.tc : Thread Cert.StepSmall.nD Cert.StepSmall.τ).loc Cert.StepSmall.main_arg1) = m ((c.tc : Thread Cert.StepSmall.nD Cert.StepSmall.τ).loc Cert.StepSmall.main_arg1)
      ∧ r.2.mem ((c.tc : Thread Cert.StepSmall.nD Cert.StepSmall.τ).loc Cert.StepSmall.main_arg2) = m ((c.tc : Thread Cert.StepSmall.nD Cert.StepSmall.τ).loc Cert.StepSmall.main_arg2)
      ∧ r.2.mem ((c.tc : Thread Cert.StepSmall.nD Cert.StepSmall.τ).loc Cert.StepSmall.main_arg3) = m ((c.tc : Thread Cert.StepSmall.nD Cert.StepSmall.τ).loc Cert.StepSmall.main_arg3))
      ∧ r.2.sem = fun _ => 0)

def quiescent_StepSmallIdeal [hStepSmallIdeal : Cert.StepSmallIdeal.Facts] : Prop :=
  ∀ (m : (ℓ : Loc Cert.StepSmallIdeal.nD Cert.StepSmallIdeal.τ Cert.StepSmallIdeal.sig) → Buf (Elt Ideal) ℓ) (g : Dev Cert.StepSmallIdeal.nD → PrngReg), Pre_StepSmallIdeal m →
    θ_run (Cert.StepSmallIdeal.defs (F := Ideal)) (onTc (τ := Cert.StepSmallIdeal.τ) (Cert.StepSmallIdeal.main (F := Ideal))) ⟨m, fun _ => 0, g⟩ (fun r => (∀ c : Dev Cert.StepSmallIdeal.nD,
      r.2.mem ((c.tc : Thread Cert.StepSmallIdeal.nD Cert.StepSmallIdeal.τ).loc Cert.StepSmallIdeal.main_arg0) = m ((c.tc : Thread Cert.StepSmallIdeal.nD Cert.StepSmallIdeal.τ).loc Cert.StepSmallIdeal.main_arg0)
      ∧ r.2.mem ((c.tc : Thread Cert.StepSmallIdeal.nD Cert.StepSmallIdeal.τ).loc Cert.StepSmallIdeal.main_arg1) = m ((c.tc : Thread Cert.StepSmallIdeal.nD Cert.StepSmallIdeal.τ).loc Cert.StepSmallIdeal.main_arg1)
      ∧ r.2.mem ((c.tc : Thread Cert.StepSmallIdeal.nD Cert.StepSmallIdeal.τ).loc Cert.StepSmallIdeal.main_arg2) = m ((c.tc : Thread Cert.StepSmallIdeal.nD Cert.StepSmallIdeal.τ).loc Cert.StepSmallIdeal.main_arg2)
      ∧ r.2.mem ((c.tc : Thread Cert.StepSmallIdeal.nD Cert.StepSmallIdeal.τ).loc Cert.StepSmallIdeal.main_arg3) = m ((c.tc : Thread Cert.StepSmallIdeal.nD Cert.StepSmallIdeal.τ).loc Cert.StepSmallIdeal.main_arg3))
      ∧ r.2.sem = fun _ => 0)

def quiescent_StepSmallRefIdeal [hStepSmallRefIdeal : Cert.StepSmallRefIdeal.Facts] : Prop :=
  ∀ (m : (ℓ : Loc Cert.StepSmallRefIdeal.nD Cert.StepSmallRefIdeal.τ Cert.StepSmallRefIdeal.sig) → Buf (Elt Ideal) ℓ) (g : Dev Cert.StepSmallRefIdeal.nD → PrngReg), Pre_StepSmallRefIdeal m →
    θ_run (Cert.StepSmallRefIdeal.defs (F := Ideal)) (onTc (τ := Cert.StepSmallRefIdeal.τ) (Cert.StepSmallRefIdeal.main (F := Ideal))) ⟨m, fun _ => 0, g⟩ (fun r => (∀ c : Dev Cert.StepSmallRefIdeal.nD,
      r.2.mem ((c.tc : Thread Cert.StepSmallRefIdeal.nD Cert.StepSmallRefIdeal.τ).loc Cert.StepSmallRefIdeal.main_arg0) = m ((c.tc : Thread Cert.StepSmallRefIdeal.nD Cert.StepSmallRefIdeal.τ).loc Cert.StepSmallRefIdeal.main_arg0)
      ∧ r.2.mem ((c.tc : Thread Cert.StepSmallRefIdeal.nD Cert.StepSmallRefIdeal.τ).loc Cert.StepSmallRefIdeal.main_arg1) = m ((c.tc : Thread Cert.StepSmallRefIdeal.nD Cert.StepSmallRefIdeal.τ).loc Cert.StepSmallRefIdeal.main_arg1)
      ∧ r.2.mem ((c.tc : Thread Cert.StepSmallRefIdeal.nD Cert.StepSmallRefIdeal.τ).loc Cert.StepSmallRefIdeal.main_arg2) = m ((c.tc : Thread Cert.StepSmallRefIdeal.nD Cert.StepSmallRefIdeal.τ).loc Cert.StepSmallRefIdeal.main_arg2)
      ∧ r.2.mem ((c.tc : Thread Cert.StepSmallRefIdeal.nD Cert.StepSmallRefIdeal.τ).loc Cert.StepSmallRefIdeal.main_arg3) = m ((c.tc : Thread Cert.StepSmallRefIdeal.nD Cert.StepSmallRefIdeal.τ).loc Cert.StepSmallRefIdeal.main_arg3))
      ∧ r.2.sem = fun _ => 0)

def quiescent_StepConv [hStepConv : Cert.StepConv.Facts] : Prop :=
  ∀ (m : (ℓ : Loc Cert.StepConv.nD Cert.StepConv.τ Cert.StepConv.sig) → Buf (Elt Bits) ℓ) (g : Dev Cert.StepConv.nD → PrngReg), Pre_StepConv m →
    θ_run (Cert.StepConv.defs (F := Bits)) (onTc (τ := Cert.StepConv.τ) (Cert.StepConv.main (F := Bits))) ⟨m, fun _ => 0, g⟩ (fun r => (∀ c : Dev Cert.StepConv.nD,
      r.2.mem ((c.tc : Thread Cert.StepConv.nD Cert.StepConv.τ).loc Cert.StepConv.main_arg0) = m ((c.tc : Thread Cert.StepConv.nD Cert.StepConv.τ).loc Cert.StepConv.main_arg0)
      ∧ r.2.mem ((c.tc : Thread Cert.StepConv.nD Cert.StepConv.τ).loc Cert.StepConv.main_arg1) = m ((c.tc : Thread Cert.StepConv.nD Cert.StepConv.τ).loc Cert.StepConv.main_arg1)
      ∧ r.2.mem ((c.tc : Thread Cert.StepConv.nD Cert.StepConv.τ).loc Cert.StepConv.main_arg2) = m ((c.tc : Thread Cert.StepConv.nD Cert.StepConv.τ).loc Cert.StepConv.main_arg2)
      ∧ r.2.mem ((c.tc : Thread Cert.StepConv.nD Cert.StepConv.τ).loc Cert.StepConv.main_arg3) = m ((c.tc : Thread Cert.StepConv.nD Cert.StepConv.τ).loc Cert.StepConv.main_arg3))
      ∧ r.2.sem = fun _ => 0)

def quiescent_StepConvIdeal [hStepConvIdeal : Cert.StepConvIdeal.Facts] : Prop :=
  ∀ (m : (ℓ : Loc Cert.StepConvIdeal.nD Cert.StepConvIdeal.τ Cert.StepConvIdeal.sig) → Buf (Elt Ideal) ℓ) (g : Dev Cert.StepConvIdeal.nD → PrngReg), Pre_StepConvIdeal m →
    θ_run (Cert.StepConvIdeal.defs (F := Ideal)) (onTc (τ := Cert.StepConvIdeal.τ) (Cert.StepConvIdeal.main (F := Ideal))) ⟨m, fun _ => 0, g⟩ (fun r => (∀ c : Dev Cert.StepConvIdeal.nD,
      r.2.mem ((c.tc : Thread Cert.StepConvIdeal.nD Cert.StepConvIdeal.τ).loc Cert.StepConvIdeal.main_arg0) = m ((c.tc : Thread Cert.StepConvIdeal.nD Cert.StepConvIdeal.τ).loc Cert.StepConvIdeal.main_arg0)
      ∧ r.2.mem ((c.tc : Thread Cert.StepConvIdeal.nD Cert.StepConvIdeal.τ).loc Cert.StepConvIdeal.main_arg1) = m ((c.tc : Thread Cert.StepConvIdeal.nD Cert.StepConvIdeal.τ).loc Cert.StepConvIdeal.main_arg1)
      ∧ r.2.mem ((c.tc : Thread Cert.StepConvIdeal.nD Cert.StepConvIdeal.τ).loc Cert.StepConvIdeal.main_arg2) = m ((c.tc : Thread Cert.StepConvIdeal.nD Cert.StepConvIdeal.τ).loc Cert.StepConvIdeal.main_arg2)
      ∧ r.2.mem ((c.tc : Thread Cert.StepConvIdeal.nD Cert.StepConvIdeal.τ).loc Cert.StepConvIdeal.main_arg3) = m ((c.tc : Thread Cert.StepConvIdeal.nD Cert.StepConvIdeal.τ).loc Cert.StepConvIdeal.main_arg3))
      ∧ r.2.sem = fun _ => 0)

def quiescent_StepConvRefIdeal [hStepConvRefIdeal : Cert.StepConvRefIdeal.Facts] : Prop :=
  ∀ (m : (ℓ : Loc Cert.StepConvRefIdeal.nD Cert.StepConvRefIdeal.τ Cert.StepConvRefIdeal.sig) → Buf (Elt Ideal) ℓ) (g : Dev Cert.StepConvRefIdeal.nD → PrngReg), Pre_StepConvRefIdeal m →
    θ_run (Cert.StepConvRefIdeal.defs (F := Ideal)) (onTc (τ := Cert.StepConvRefIdeal.τ) (Cert.StepConvRefIdeal.main (F := Ideal))) ⟨m, fun _ => 0, g⟩ (fun r => (∀ c : Dev Cert.StepConvRefIdeal.nD,
      r.2.mem ((c.tc : Thread Cert.StepConvRefIdeal.nD Cert.StepConvRefIdeal.τ).loc Cert.StepConvRefIdeal.main_arg0) = m ((c.tc : Thread Cert.StepConvRefIdeal.nD Cert.StepConvRefIdeal.τ).loc Cert.StepConvRefIdeal.main_arg0)
      ∧ r.2.mem ((c.tc : Thread Cert.StepConvRefIdeal.nD Cert.StepConvRefIdeal.τ).loc Cert.StepConvRefIdeal.main_arg1) = m ((c.tc : Thread Cert.StepConvRefIdeal.nD Cert.StepConvRefIdeal.τ).loc Cert.StepConvRefIdeal.main_arg1)
      ∧ r.2.mem ((c.tc : Thread Cert.StepConvRefIdeal.nD Cert.StepConvRefIdeal.τ).loc Cert.StepConvRefIdeal.main_arg2) = m ((c.tc : Thread Cert.StepConvRefIdeal.nD Cert.StepConvRefIdeal.τ).loc Cert.StepConvRefIdeal.main_arg2)
      ∧ r.2.mem ((c.tc : Thread Cert.StepConvRefIdeal.nD Cert.StepConvRefIdeal.τ).loc Cert.StepConvRefIdeal.main_arg3) = m ((c.tc : Thread Cert.StepConvRefIdeal.nD Cert.StepConvRefIdeal.τ).loc Cert.StepConvRefIdeal.main_arg3))
      ∧ r.2.sem = fun _ => 0)

def preserves_ConvBwd_ConvBwdIdeal : Prop :=
  True

def algebraic_ConvBwdIdeal_ConvBwdRefIdeal_pre_finite [hConvBwdIdeal : Cert.ConvBwdIdeal.Facts] [hConvBwdRefIdeal : Cert.ConvBwdRefIdeal.Facts] [hPre_finite : Cert.Pre_finite.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg)
    (m' : (ℓ : Loc Cert.ConvBwdRefIdeal.nD Cert.ConvBwdRefIdeal.τ Cert.ConvBwdRefIdeal.sig) → Buf (Elt Ideal) ℓ) (g' : Dev Cert.ConvBwdRefIdeal.nD → PrngReg), Pre_ConvBwdIdeal_finite m →
    (∀ c : Dev Cert.ConvBwdIdeal.nD,
      m' ((c.tc : Thread Cert.ConvBwdRefIdeal.nD Cert.ConvBwdRefIdeal.τ).loc Cert.ConvBwdRefIdeal.main_arg0) = m ((c.tc : Thread Cert.ConvBwdIdeal.nD Cert.ConvBwdIdeal.τ).loc Cert.ConvBwdIdeal.main_arg0)
      ∧ m' ((c.tc : Thread Cert.ConvBwdRefIdeal.nD Cert.ConvBwdRefIdeal.τ).loc Cert.ConvBwdRefIdeal.main_arg1) = m ((c.tc : Thread Cert.ConvBwdIdeal.nD Cert.ConvBwdIdeal.τ).loc Cert.ConvBwdIdeal.main_arg1)
      ∧ m' ((c.tc : Thread Cert.ConvBwdRefIdeal.nD Cert.ConvBwdRefIdeal.τ).loc Cert.ConvBwdRefIdeal.main_arg2) = m ((c.tc : Thread Cert.ConvBwdIdeal.nD Cert.ConvBwdIdeal.τ).loc Cert.ConvBwdIdeal.main_arg2)) →
    ∃ (v0 : (c : Dev Cert.ConvBwdIdeal.nD) → Buf (Elt Ideal) ((c.tc : Thread Cert.ConvBwdIdeal.nD Cert.ConvBwdIdeal.τ).loc Cert.ConvBwdIdeal.main_v2_0)) (v1 : (c : Dev Cert.ConvBwdIdeal.nD) → Buf (Elt Ideal) ((c.tc : Thread Cert.ConvBwdIdeal.nD Cert.ConvBwdIdeal.τ).loc Cert.ConvBwdIdeal.main_v2_1)),
      θ_run (Cert.ConvBwdIdeal.defs (F := Ideal)) (onTc (τ := Cert.ConvBwdIdeal.τ) (Cert.ConvBwdIdeal.main (F := Ideal))) ⟨m, fun _ => 0, g⟩ (fun r => ∀ c : Dev Cert.ConvBwdIdeal.nD,
          r.2.mem ((c.tc : Thread Cert.ConvBwdIdeal.nD Cert.ConvBwdIdeal.τ).loc Cert.ConvBwdIdeal.main_v2_0) = v0 c
          ∧ r.2.mem ((c.tc : Thread Cert.ConvBwdIdeal.nD Cert.ConvBwdIdeal.τ).loc Cert.ConvBwdIdeal.main_v2_1) = v1 c
          ∧ r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
          ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
          ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2))
      ∧ θ_run (Cert.ConvBwdRefIdeal.defs (F := Ideal)) (onTc (τ := Cert.ConvBwdRefIdeal.τ) (Cert.ConvBwdRefIdeal.main (F := Ideal))) ⟨m', fun _ => 0, g'⟩ (fun r => ∀ c : Dev Cert.ConvBwdRefIdeal.nD,
          r.2.mem ((c.tc : Thread Cert.ConvBwdRefIdeal.nD Cert.ConvBwdRefIdeal.τ).loc Cert.ConvBwdRefIdeal.main_v84) = v0 c
          ∧ r.2.mem ((c.tc : Thread Cert.ConvBwdRefIdeal.nD Cert.ConvBwdRefIdeal.τ).loc Cert.ConvBwdRefIdeal.main_v87) = v1 c
          ∧ r.2.mem ((c.tc : Thread Cert.ConvBwdRefIdeal.nD Cert.ConvBwdRefIdeal.τ).loc Cert.ConvBwdRefIdeal.main_arg0) = m' ((c.tc : Thread Cert.ConvBwdRefIdeal.nD Cert.ConvBwdRefIdeal.τ).loc Cert.ConvBwdRefIdeal.main_arg0)
          ∧ r.2.mem ((c.tc : Thread Cert.ConvBwdRefIdeal.nD Cert.ConvBwdRefIdeal.τ).loc Cert.ConvBwdRefIdeal.main_arg1) = m' ((c.tc : Thread Cert.ConvBwdRefIdeal.nD Cert.ConvBwdRefIdeal.τ).loc Cert.ConvBwdRefIdeal.main_arg1)
          ∧ r.2.mem ((c.tc : Thread Cert.ConvBwdRefIdeal.nD Cert.ConvBwdRefIdeal.τ).loc Cert.ConvBwdRefIdeal.main_arg2) = m' ((c.tc : Thread Cert.ConvBwdRefIdeal.nD Cert.ConvBwdRefIdeal.τ).loc Cert.ConvBwdRefIdeal.main_arg2))

def preserves_NormBwd_NormBwdIdeal : Prop :=
  True

def algebraic_NormBwdIdeal_NormBwdRefIdeal_pre_finite_norm [hNormBwdIdeal : Cert.NormBwdIdeal.Facts] [hNormBwdRefIdeal : Cert.NormBwdRefIdeal.Facts] [hPre_finite_norm : Cert.Pre_finite_norm.Facts] : Prop :=
  ∀ (m : (ℓ : Loc Cert.NormBwdIdeal.nD Cert.NormBwdIdeal.τ Cert.NormBwdIdeal.sig) → Buf (Elt Ideal) ℓ) (g : Dev Cert.NormBwdIdeal.nD → PrngReg)
    (m' : (ℓ : Loc Cert.NormBwdRefIdeal.nD Cert.NormBwdRefIdeal.τ Cert.NormBwdRefIdeal.sig) → Buf (Elt Ideal) ℓ) (g' : Dev Cert.NormBwdRefIdeal.nD → PrngReg), Pre_NormBwdIdeal_finite_norm m →
    (∀ c : Dev Cert.NormBwdIdeal.nD,
      m' ((c.tc : Thread Cert.NormBwdRefIdeal.nD Cert.NormBwdRefIdeal.τ).loc Cert.NormBwdRefIdeal.main_arg0) = m ((c.tc : Thread Cert.NormBwdIdeal.nD Cert.NormBwdIdeal.τ).loc Cert.NormBwdIdeal.main_arg0)
      ∧ m' ((c.tc : Thread Cert.NormBwdRefIdeal.nD Cert.NormBwdRefIdeal.τ).loc Cert.NormBwdRefIdeal.main_arg1) = m ((c.tc : Thread Cert.NormBwdIdeal.nD Cert.NormBwdIdeal.τ).loc Cert.NormBwdIdeal.main_arg1)
      ∧ m' ((c.tc : Thread Cert.NormBwdRefIdeal.nD Cert.NormBwdRefIdeal.τ).loc Cert.NormBwdRefIdeal.main_arg2) = m ((c.tc : Thread Cert.NormBwdIdeal.nD Cert.NormBwdIdeal.τ).loc Cert.NormBwdIdeal.main_arg2)
      ∧ m' ((c.tc : Thread Cert.NormBwdRefIdeal.nD Cert.NormBwdRefIdeal.τ).loc Cert.NormBwdRefIdeal.main_arg3) = m ((c.tc : Thread Cert.NormBwdIdeal.nD Cert.NormBwdIdeal.τ).loc Cert.NormBwdIdeal.main_arg3)
      ∧ m' ((c.tc : Thread Cert.NormBwdRefIdeal.nD Cert.NormBwdRefIdeal.τ).loc Cert.NormBwdRefIdeal.main_arg4) = m ((c.tc : Thread Cert.NormBwdIdeal.nD Cert.NormBwdIdeal.τ).loc Cert.NormBwdIdeal.main_arg4)
      ∧ m' ((c.tc : Thread Cert.NormBwdRefIdeal.nD Cert.NormBwdRefIdeal.τ).loc Cert.NormBwdRefIdeal.main_arg5) = m ((c.tc : Thread Cert.NormBwdIdeal.nD Cert.NormBwdIdeal.τ).loc Cert.NormBwdIdeal.main_arg5)
      ∧ m' ((c.tc : Thread Cert.NormBwdRefIdeal.nD Cert.NormBwdRefIdeal.τ).loc Cert.NormBwdRefIdeal.main_arg6) = m ((c.tc : Thread Cert.NormBwdIdeal.nD Cert.NormBwdIdeal.τ).loc Cert.NormBwdIdeal.main_arg6)) →
    ∃ (v0 : (c : Dev Cert.NormBwdIdeal.nD) → Buf (Elt Ideal) ((c.tc : Thread Cert.NormBwdIdeal.nD Cert.NormBwdIdeal.τ).loc Cert.NormBwdIdeal.main_v0_0)) (v1 : (c : Dev Cert.NormBwdIdeal.nD) → Buf (Elt Ideal) ((c.tc : Thread Cert.NormBwdIdeal.nD Cert.NormBwdIdeal.τ).loc Cert.NormBwdIdeal.main_v0_1)),
      θ_run (Cert.NormBwdIdeal.defs (F := Ideal)) (onTc (τ := Cert.NormBwdIdeal.τ) (Cert.NormBwdIdeal.main (F := Ideal))) ⟨m, fun _ => 0, g⟩ (fun r => ∀ c : Dev Cert.NormBwdIdeal.nD,
          r.2.mem ((c.tc : Thread Cert.NormBwdIdeal.nD Cert.NormBwdIdeal.τ).loc Cert.NormBwdIdeal.main_v0_0) = v0 c
          ∧ r.2.mem ((c.tc : Thread Cert.NormBwdIdeal.nD Cert.NormBwdIdeal.τ).loc Cert.NormBwdIdeal.main_v0_1) = v1 c
          ∧ r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
          ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
          ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
          ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3)
          ∧ r.2.mem ((c.tc : Thread Cert.NormBwdIdeal.nD Cert.NormBwdIdeal.τ).loc Cert.NormBwdIdeal.main_arg4) = m ((c.tc : Thread Cert.NormBwdIdeal.nD Cert.NormBwdIdeal.τ).loc Cert.NormBwdIdeal.main_arg4)
          ∧ r.2.mem ((c.tc : Thread Cert.NormBwdIdeal.nD Cert.NormBwdIdeal.τ).loc Cert.NormBwdIdeal.main_arg5) = m ((c.tc : Thread Cert.NormBwdIdeal.nD Cert.NormBwdIdeal.τ).loc Cert.NormBwdIdeal.main_arg5)
          ∧ r.2.mem ((c.tc : Thread Cert.NormBwdIdeal.nD Cert.NormBwdIdeal.τ).loc Cert.NormBwdIdeal.main_arg6) = m ((c.tc : Thread Cert.NormBwdIdeal.nD Cert.NormBwdIdeal.τ).loc Cert.NormBwdIdeal.main_arg6))
      ∧ θ_run (Cert.NormBwdRefIdeal.defs (F := Ideal)) (onTc (τ := Cert.NormBwdRefIdeal.τ) (Cert.NormBwdRefIdeal.main (F := Ideal))) ⟨m', fun _ => 0, g'⟩ (fun r => ∀ c : Dev Cert.NormBwdRefIdeal.nD,
          r.2.mem ((c.tc : Thread Cert.NormBwdRefIdeal.nD Cert.NormBwdRefIdeal.τ).loc Cert.NormBwdRefIdeal.main_v67) = v0 c
          ∧ r.2.mem ((c.tc : Thread Cert.NormBwdRefIdeal.nD Cert.NormBwdRefIdeal.τ).loc Cert.NormBwdRefIdeal.main_v69) = v1 c
          ∧ r.2.mem ((c.tc : Thread Cert.NormBwdRefIdeal.nD Cert.NormBwdRefIdeal.τ).loc Cert.NormBwdRefIdeal.main_arg0) = m' ((c.tc : Thread Cert.NormBwdRefIdeal.nD Cert.NormBwdRefIdeal.τ).loc Cert.NormBwdRefIdeal.main_arg0)
          ∧ r.2.mem ((c.tc : Thread Cert.NormBwdRefIdeal.nD Cert.NormBwdRefIdeal.τ).loc Cert.NormBwdRefIdeal.main_arg1) = m' ((c.tc : Thread Cert.NormBwdRefIdeal.nD Cert.NormBwdRefIdeal.τ).loc Cert.NormBwdRefIdeal.main_arg1)
          ∧ r.2.mem ((c.tc : Thread Cert.NormBwdRefIdeal.nD Cert.NormBwdRefIdeal.τ).loc Cert.NormBwdRefIdeal.main_arg2) = m' ((c.tc : Thread Cert.NormBwdRefIdeal.nD Cert.NormBwdRefIdeal.τ).loc Cert.NormBwdRefIdeal.main_arg2)
          ∧ r.2.mem ((c.tc : Thread Cert.NormBwdRefIdeal.nD Cert.NormBwdRefIdeal.τ).loc Cert.NormBwdRefIdeal.main_arg3) = m' ((c.tc : Thread Cert.NormBwdRefIdeal.nD Cert.NormBwdRefIdeal.τ).loc Cert.NormBwdRefIdeal.main_arg3)
          ∧ r.2.mem ((c.tc : Thread Cert.NormBwdRefIdeal.nD Cert.NormBwdRefIdeal.τ).loc Cert.NormBwdRefIdeal.main_arg4) = m' ((c.tc : Thread Cert.NormBwdRefIdeal.nD Cert.NormBwdRefIdeal.τ).loc Cert.NormBwdRefIdeal.main_arg4)
          ∧ r.2.mem ((c.tc : Thread Cert.NormBwdRefIdeal.nD Cert.NormBwdRefIdeal.τ).loc Cert.NormBwdRefIdeal.main_arg5) = m' ((c.tc : Thread Cert.NormBwdRefIdeal.nD Cert.NormBwdRefIdeal.τ).loc Cert.NormBwdRefIdeal.main_arg5)
          ∧ r.2.mem ((c.tc : Thread Cert.NormBwdRefIdeal.nD Cert.NormBwdRefIdeal.τ).loc Cert.NormBwdRefIdeal.main_arg6) = m' ((c.tc : Thread Cert.NormBwdRefIdeal.nD Cert.NormBwdRefIdeal.τ).loc Cert.NormBwdRefIdeal.main_arg6))

def preserves_Mid_MidIdeal : Prop :=
  True

def algebraic_MidIdeal_MidRefIdeal_pre_finite_mid [hMidIdeal : Cert.MidIdeal.Facts] [hMidRefIdeal : Cert.MidRefIdeal.Facts] [hPre_finite_mid : Cert.Pre_finite_mid.Facts] : Prop :=
  ∀ (m : (ℓ : Loc Cert.MidIdeal.nD Cert.MidIdeal.τ Cert.MidIdeal.sig) → Buf (Elt Ideal) ℓ) (g : Dev Cert.MidIdeal.nD → PrngReg)
    (m' : (ℓ : Loc Cert.MidRefIdeal.nD Cert.MidRefIdeal.τ Cert.MidRefIdeal.sig) → Buf (Elt Ideal) ℓ) (g' : Dev Cert.MidRefIdeal.nD → PrngReg), Pre_MidIdeal_finite_mid m →
    (∀ c : Dev Cert.MidIdeal.nD,
      m' ((c.tc : Thread Cert.MidRefIdeal.nD Cert.MidRefIdeal.τ).loc Cert.MidRefIdeal.main_arg0) = m ((c.tc : Thread Cert.MidIdeal.nD Cert.MidIdeal.τ).loc Cert.MidIdeal.main_arg0)
      ∧ m' ((c.tc : Thread Cert.MidRefIdeal.nD Cert.MidRefIdeal.τ).loc Cert.MidRefIdeal.main_arg1) = m ((c.tc : Thread Cert.MidIdeal.nD Cert.MidIdeal.τ).loc Cert.MidIdeal.main_arg1)
      ∧ m' ((c.tc : Thread Cert.MidRefIdeal.nD Cert.MidRefIdeal.τ).loc Cert.MidRefIdeal.main_arg2) = m ((c.tc : Thread Cert.MidIdeal.nD Cert.MidIdeal.τ).loc Cert.MidIdeal.main_arg2)
      ∧ m' ((c.tc : Thread Cert.MidRefIdeal.nD Cert.MidRefIdeal.τ).loc Cert.MidRefIdeal.main_arg3) = m ((c.tc : Thread Cert.MidIdeal.nD Cert.MidIdeal.τ).loc Cert.MidIdeal.main_arg3)
      ∧ m' ((c.tc : Thread Cert.MidRefIdeal.nD Cert.MidRefIdeal.τ).loc Cert.MidRefIdeal.main_arg4) = m ((c.tc : Thread Cert.MidIdeal.nD Cert.MidIdeal.τ).loc Cert.MidIdeal.main_arg4)
      ∧ m' ((c.tc : Thread Cert.MidRefIdeal.nD Cert.MidRefIdeal.τ).loc Cert.MidRefIdeal.main_arg5) = m ((c.tc : Thread Cert.MidIdeal.nD Cert.MidIdeal.τ).loc Cert.MidIdeal.main_arg5)
      ∧ m' ((c.tc : Thread Cert.MidRefIdeal.nD Cert.MidRefIdeal.τ).loc Cert.MidRefIdeal.main_arg6) = m ((c.tc : Thread Cert.MidIdeal.nD Cert.MidIdeal.τ).loc Cert.MidIdeal.main_arg6)
      ∧ m' ((c.tc : Thread Cert.MidRefIdeal.nD Cert.MidRefIdeal.τ).loc Cert.MidRefIdeal.main_arg7) = m ((c.tc : Thread Cert.MidIdeal.nD Cert.MidIdeal.τ).loc Cert.MidIdeal.main_arg7)) →
    ∃ (v0 : (c : Dev Cert.MidIdeal.nD) → Buf (Elt Ideal) ((c.tc : Thread Cert.MidIdeal.nD Cert.MidIdeal.τ).loc Cert.MidIdeal.main_v0_0)) (v1 : (c : Dev Cert.MidIdeal.nD) → Buf (Elt Ideal) ((c.tc : Thread Cert.MidIdeal.nD Cert.MidIdeal.τ).loc Cert.MidIdeal.main_v0_1)) (v2 : (c : Dev Cert.MidIdeal.nD) → Buf (Elt Ideal) ((c.tc : Thread Cert.MidIdeal.nD Cert.MidIdeal.τ).loc Cert.MidIdeal.main_v0_2)) (v3 : (c : Dev Cert.MidIdeal.nD) → Buf (Elt Ideal) ((c.tc : Thread Cert.MidIdeal.nD Cert.MidIdeal.τ).loc Cert.MidIdeal.main_v0_3)) (v4 : (c : Dev Cert.MidIdeal.nD) → Buf (Elt Ideal) ((c.tc : Thread Cert.MidIdeal.nD Cert.MidIdeal.τ).loc Cert.MidIdeal.main_v0_4)) (v5 : (c : Dev Cert.MidIdeal.nD) → Buf (Elt Ideal) ((c.tc : Thread Cert.MidIdeal.nD Cert.MidIdeal.τ).loc Cert.MidIdeal.main_v0_5)),
      θ_run (Cert.MidIdeal.defs (F := Ideal)) (onTc (τ := Cert.MidIdeal.τ) (Cert.MidIdeal.main (F := Ideal))) ⟨m, fun _ => 0, g⟩ (fun r => ∀ c : Dev Cert.MidIdeal.nD,
          r.2.mem ((c.tc : Thread Cert.MidIdeal.nD Cert.MidIdeal.τ).loc Cert.MidIdeal.main_v0_0) = v0 c
          ∧ r.2.mem ((c.tc : Thread Cert.MidIdeal.nD Cert.MidIdeal.τ).loc Cert.MidIdeal.main_v0_1) = v1 c
          ∧ r.2.mem ((c.tc : Thread Cert.MidIdeal.nD Cert.MidIdeal.τ).loc Cert.MidIdeal.main_v0_2) = v2 c
          ∧ r.2.mem ((c.tc : Thread Cert.MidIdeal.nD Cert.MidIdeal.τ).loc Cert.MidIdeal.main_v0_3) = v3 c
          ∧ r.2.mem ((c.tc : Thread Cert.MidIdeal.nD Cert.MidIdeal.τ).loc Cert.MidIdeal.main_v0_4) = v4 c
          ∧ r.2.mem ((c.tc : Thread Cert.MidIdeal.nD Cert.MidIdeal.τ).loc Cert.MidIdeal.main_v0_5) = v5 c
          ∧ r.2.mem ((c.tc : Thread Cert.MidIdeal.nD Cert.MidIdeal.τ).loc Cert.MidIdeal.main_arg0) = m ((c.tc : Thread Cert.MidIdeal.nD Cert.MidIdeal.τ).loc Cert.MidIdeal.main_arg0)
          ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
          ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
          ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
          ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
          ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
          ∧ r.2.mem ((c.tc : Thread Cert.MidIdeal.nD Cert.MidIdeal.τ).loc Cert.MidIdeal.main_arg6) = m ((c.tc : Thread Cert.MidIdeal.nD Cert.MidIdeal.τ).loc Cert.MidIdeal.main_arg6)
          ∧ r.2.mem ((c.tc : Thread Cert.MidIdeal.nD Cert.MidIdeal.τ).loc Cert.MidIdeal.main_arg7) = m ((c.tc : Thread Cert.MidIdeal.nD Cert.MidIdeal.τ).loc Cert.MidIdeal.main_arg7))
      ∧ θ_run (Cert.MidRefIdeal.defs (F := Ideal)) (onTc (τ := Cert.MidRefIdeal.τ) (Cert.MidRefIdeal.main (F := Ideal))) ⟨m', fun _ => 0, g'⟩ (fun r => ∀ c : Dev Cert.MidRefIdeal.nD,
          r.2.mem ((c.tc : Thread Cert.MidRefIdeal.nD Cert.MidRefIdeal.τ).loc Cert.MidRefIdeal.main_v106) = v0 c
          ∧ r.2.mem ((c.tc : Thread Cert.MidRefIdeal.nD Cert.MidRefIdeal.τ).loc Cert.MidRefIdeal.main_v151) = v1 c
          ∧ r.2.mem ((c.tc : Thread Cert.MidRefIdeal.nD Cert.MidRefIdeal.τ).loc Cert.MidRefIdeal.main_v126) = v2 c
          ∧ r.2.mem ((c.tc : Thread Cert.MidRefIdeal.nD Cert.MidRefIdeal.τ).loc Cert.MidRefIdeal.main_v152) = v3 c
          ∧ r.2.mem ((c.tc : Thread Cert.MidRefIdeal.nD Cert.MidRefIdeal.τ).loc Cert.MidRefIdeal.main_v139) = v4 c
          ∧ r.2.mem ((c.tc : Thread Cert.MidRefIdeal.nD Cert.MidRefIdeal.τ).loc Cert.MidRefIdeal.main_v144) = v5 c
          ∧ r.2.mem ((c.tc : Thread Cert.MidRefIdeal.nD Cert.MidRefIdeal.τ).loc Cert.MidRefIdeal.main_arg0) = m' ((c.tc : Thread Cert.MidRefIdeal.nD Cert.MidRefIdeal.τ).loc Cert.MidRefIdeal.main_arg0)
          ∧ r.2.mem ((c.tc : Thread Cert.MidRefIdeal.nD Cert.MidRefIdeal.τ).loc Cert.MidRefIdeal.main_arg1) = m' ((c.tc : Thread Cert.MidRefIdeal.nD Cert.MidRefIdeal.τ).loc Cert.MidRefIdeal.main_arg1)
          ∧ r.2.mem ((c.tc : Thread Cert.MidRefIdeal.nD Cert.MidRefIdeal.τ).loc Cert.MidRefIdeal.main_arg2) = m' ((c.tc : Thread Cert.MidRefIdeal.nD Cert.MidRefIdeal.τ).loc Cert.MidRefIdeal.main_arg2)
          ∧ r.2.mem ((c.tc : Thread Cert.MidRefIdeal.nD Cert.MidRefIdeal.τ).loc Cert.MidRefIdeal.main_arg3) = m' ((c.tc : Thread Cert.MidRefIdeal.nD Cert.MidRefIdeal.τ).loc Cert.MidRefIdeal.main_arg3)
          ∧ r.2.mem ((c.tc : Thread Cert.MidRefIdeal.nD Cert.MidRefIdeal.τ).loc Cert.MidRefIdeal.main_arg4) = m' ((c.tc : Thread Cert.MidRefIdeal.nD Cert.MidRefIdeal.τ).loc Cert.MidRefIdeal.main_arg4)
          ∧ r.2.mem ((c.tc : Thread Cert.MidRefIdeal.nD Cert.MidRefIdeal.τ).loc Cert.MidRefIdeal.main_arg5) = m' ((c.tc : Thread Cert.MidRefIdeal.nD Cert.MidRefIdeal.τ).loc Cert.MidRefIdeal.main_arg5)
          ∧ r.2.mem ((c.tc : Thread Cert.MidRefIdeal.nD Cert.MidRefIdeal.τ).loc Cert.MidRefIdeal.main_arg6) = m' ((c.tc : Thread Cert.MidRefIdeal.nD Cert.MidRefIdeal.τ).loc Cert.MidRefIdeal.main_arg6)
          ∧ r.2.mem ((c.tc : Thread Cert.MidRefIdeal.nD Cert.MidRefIdeal.τ).loc Cert.MidRefIdeal.main_arg7) = m' ((c.tc : Thread Cert.MidRefIdeal.nD Cert.MidRefIdeal.τ).loc Cert.MidRefIdeal.main_arg7))

def preserves_WeightGrad_WeightGradIdeal : Prop :=
  True

def algebraic_WeightGradIdeal_WeightGradRefIdeal [hWeightGradIdeal : Cert.WeightGradIdeal.Facts] [hWeightGradRefIdeal : Cert.WeightGradRefIdeal.Facts] : Prop :=
  ∀ (m : (ℓ : Loc Cert.WeightGradIdeal.nD Cert.WeightGradIdeal.τ Cert.WeightGradIdeal.sig) → Buf (Elt Ideal) ℓ) (g : Dev Cert.WeightGradIdeal.nD → PrngReg)
    (m' : (ℓ : Loc Cert.WeightGradRefIdeal.nD Cert.WeightGradRefIdeal.τ Cert.WeightGradRefIdeal.sig) → Buf (Elt Ideal) ℓ) (g' : Dev Cert.WeightGradRefIdeal.nD → PrngReg), Pre_WeightGradIdeal m →
    (∀ c : Dev Cert.WeightGradIdeal.nD,
      m' ((c.tc : Thread Cert.WeightGradRefIdeal.nD Cert.WeightGradRefIdeal.τ).loc Cert.WeightGradRefIdeal.main_arg0) = m ((c.tc : Thread Cert.WeightGradIdeal.nD Cert.WeightGradIdeal.τ).loc Cert.WeightGradIdeal.main_arg0)
      ∧ m' ((c.tc : Thread Cert.WeightGradRefIdeal.nD Cert.WeightGradRefIdeal.τ).loc Cert.WeightGradRefIdeal.main_arg1) = m ((c.tc : Thread Cert.WeightGradIdeal.nD Cert.WeightGradIdeal.τ).loc Cert.WeightGradIdeal.main_arg1)
      ∧ m' ((c.tc : Thread Cert.WeightGradRefIdeal.nD Cert.WeightGradRefIdeal.τ).loc Cert.WeightGradRefIdeal.main_arg2) = m ((c.tc : Thread Cert.WeightGradIdeal.nD Cert.WeightGradIdeal.τ).loc Cert.WeightGradIdeal.main_arg2)
      ∧ m' ((c.tc : Thread Cert.WeightGradRefIdeal.nD Cert.WeightGradRefIdeal.τ).loc Cert.WeightGradRefIdeal.main_arg3) = m ((c.tc : Thread Cert.WeightGradIdeal.nD Cert.WeightGradIdeal.τ).loc Cert.WeightGradIdeal.main_arg3)) →
    ∃ (v0 : (c : Dev Cert.WeightGradIdeal.nD) → Buf (Elt Ideal) ((c.tc : Thread Cert.WeightGradIdeal.nD Cert.WeightGradIdeal.τ).loc Cert.WeightGradIdeal.main_v2)),
      θ_run (Cert.WeightGradIdeal.defs (F := Ideal)) (onTc (τ := Cert.WeightGradIdeal.τ) (Cert.WeightGradIdeal.main (F := Ideal))) ⟨m, fun _ => 0, g⟩ (fun r => ∀ c : Dev Cert.WeightGradIdeal.nD,
          r.2.mem ((c.tc : Thread Cert.WeightGradIdeal.nD Cert.WeightGradIdeal.τ).loc Cert.WeightGradIdeal.main_v2) = v0 c
          ∧ r.2.mem ((c.tc : Thread Cert.WeightGradIdeal.nD Cert.WeightGradIdeal.τ).loc Cert.WeightGradIdeal.main_arg0) = m ((c.tc : Thread Cert.WeightGradIdeal.nD Cert.WeightGradIdeal.τ).loc Cert.WeightGradIdeal.main_arg0)
          ∧ r.2.mem ((c.tc : Thread Cert.WeightGradIdeal.nD Cert.WeightGradIdeal.τ).loc Cert.WeightGradIdeal.main_arg1) = m ((c.tc : Thread Cert.WeightGradIdeal.nD Cert.WeightGradIdeal.τ).loc Cert.WeightGradIdeal.main_arg1)
          ∧ r.2.mem ((c.tc : Thread Cert.WeightGradIdeal.nD Cert.WeightGradIdeal.τ).loc Cert.WeightGradIdeal.main_arg2) = m ((c.tc : Thread Cert.WeightGradIdeal.nD Cert.WeightGradIdeal.τ).loc Cert.WeightGradIdeal.main_arg2)
          ∧ r.2.mem ((c.tc : Thread Cert.WeightGradIdeal.nD Cert.WeightGradIdeal.τ).loc Cert.WeightGradIdeal.main_arg3) = m ((c.tc : Thread Cert.WeightGradIdeal.nD Cert.WeightGradIdeal.τ).loc Cert.WeightGradIdeal.main_arg3))
      ∧ θ_run (Cert.WeightGradRefIdeal.defs (F := Ideal)) (onTc (τ := Cert.WeightGradRefIdeal.τ) (Cert.WeightGradRefIdeal.main (F := Ideal))) ⟨m', fun _ => 0, g'⟩ (fun r => ∀ c : Dev Cert.WeightGradRefIdeal.nD,
          r.2.mem ((c.tc : Thread Cert.WeightGradRefIdeal.nD Cert.WeightGradRefIdeal.τ).loc Cert.WeightGradRefIdeal.main_v36) = v0 c
          ∧ r.2.mem ((c.tc : Thread Cert.WeightGradRefIdeal.nD Cert.WeightGradRefIdeal.τ).loc Cert.WeightGradRefIdeal.main_arg0) = m' ((c.tc : Thread Cert.WeightGradRefIdeal.nD Cert.WeightGradRefIdeal.τ).loc Cert.WeightGradRefIdeal.main_arg0)
          ∧ r.2.mem ((c.tc : Thread Cert.WeightGradRefIdeal.nD Cert.WeightGradRefIdeal.τ).loc Cert.WeightGradRefIdeal.main_arg1) = m' ((c.tc : Thread Cert.WeightGradRefIdeal.nD Cert.WeightGradRefIdeal.τ).loc Cert.WeightGradRefIdeal.main_arg1)
          ∧ r.2.mem ((c.tc : Thread Cert.WeightGradRefIdeal.nD Cert.WeightGradRefIdeal.τ).loc Cert.WeightGradRefIdeal.main_arg2) = m' ((c.tc : Thread Cert.WeightGradRefIdeal.nD Cert.WeightGradRefIdeal.τ).loc Cert.WeightGradRefIdeal.main_arg2)
          ∧ r.2.mem ((c.tc : Thread Cert.WeightGradRefIdeal.nD Cert.WeightGradRefIdeal.τ).loc Cert.WeightGradRefIdeal.main_arg3) = m' ((c.tc : Thread Cert.WeightGradRefIdeal.nD Cert.WeightGradRefIdeal.τ).loc Cert.WeightGradRefIdeal.main_arg3))

def preserves_ProjConv_ProjConvIdeal : Prop :=
  True

def algebraic_ProjConvIdeal_ProjConvRefIdeal [hProjConvIdeal : Cert.ProjConvIdeal.Facts] [hProjConvRefIdeal : Cert.ProjConvRefIdeal.Facts] : Prop :=
  ∀ (m : (ℓ : Loc Cert.ProjConvIdeal.nD Cert.ProjConvIdeal.τ Cert.ProjConvIdeal.sig) → Buf (Elt Ideal) ℓ) (g : Dev Cert.ProjConvIdeal.nD → PrngReg)
    (m' : (ℓ : Loc Cert.ProjConvRefIdeal.nD Cert.ProjConvRefIdeal.τ Cert.ProjConvRefIdeal.sig) → Buf (Elt Ideal) ℓ) (g' : Dev Cert.ProjConvRefIdeal.nD → PrngReg), Pre_ProjConvIdeal m →
    (∀ c : Dev Cert.ProjConvIdeal.nD,
      m' ((c.tc : Thread Cert.ProjConvRefIdeal.nD Cert.ProjConvRefIdeal.τ).loc Cert.ProjConvRefIdeal.main_arg0) = m ((c.tc : Thread Cert.ProjConvIdeal.nD Cert.ProjConvIdeal.τ).loc Cert.ProjConvIdeal.main_arg0)
      ∧ m' ((c.tc : Thread Cert.ProjConvRefIdeal.nD Cert.ProjConvRefIdeal.τ).loc Cert.ProjConvRefIdeal.main_arg1) = m ((c.tc : Thread Cert.ProjConvIdeal.nD Cert.ProjConvIdeal.τ).loc Cert.ProjConvIdeal.main_arg1)) →
    ∃ (v0 : (c : Dev Cert.ProjConvIdeal.nD) → Buf (Elt Ideal) ((c.tc : Thread Cert.ProjConvIdeal.nD Cert.ProjConvIdeal.τ).loc Cert.ProjConvIdeal.main_v0)),
      θ_run (Cert.ProjConvIdeal.defs (F := Ideal)) (onTc (τ := Cert.ProjConvIdeal.τ) (Cert.ProjConvIdeal.main (F := Ideal))) ⟨m, fun _ => 0, g⟩ (fun r => ∀ c : Dev Cert.ProjConvIdeal.nD,
          r.2.mem ((c.tc : Thread Cert.ProjConvIdeal.nD Cert.ProjConvIdeal.τ).loc Cert.ProjConvIdeal.main_v0) = v0 c
          ∧ r.2.mem ((c.tc : Thread Cert.ProjConvIdeal.nD Cert.ProjConvIdeal.τ).loc Cert.ProjConvIdeal.main_arg0) = m ((c.tc : Thread Cert.ProjConvIdeal.nD Cert.ProjConvIdeal.τ).loc Cert.ProjConvIdeal.main_arg0)
          ∧ r.2.mem ((c.tc : Thread Cert.ProjConvIdeal.nD Cert.ProjConvIdeal.τ).loc Cert.ProjConvIdeal.main_arg1) = m ((c.tc : Thread Cert.ProjConvIdeal.nD Cert.ProjConvIdeal.τ).loc Cert.ProjConvIdeal.main_arg1))
      ∧ θ_run (Cert.ProjConvRefIdeal.defs (F := Ideal)) (onTc (τ := Cert.ProjConvRefIdeal.τ) (Cert.ProjConvRefIdeal.main (F := Ideal))) ⟨m', fun _ => 0, g'⟩ (fun r => ∀ c : Dev Cert.ProjConvRefIdeal.nD,
          r.2.mem ((c.tc : Thread Cert.ProjConvRefIdeal.nD Cert.ProjConvRefIdeal.τ).loc Cert.ProjConvRefIdeal.main_v6) = v0 c
          ∧ r.2.mem ((c.tc : Thread Cert.ProjConvRefIdeal.nD Cert.ProjConvRefIdeal.τ).loc Cert.ProjConvRefIdeal.main_arg0) = m' ((c.tc : Thread Cert.ProjConvRefIdeal.nD Cert.ProjConvRefIdeal.τ).loc Cert.ProjConvRefIdeal.main_arg0)
          ∧ r.2.mem ((c.tc : Thread Cert.ProjConvRefIdeal.nD Cert.ProjConvRefIdeal.τ).loc Cert.ProjConvRefIdeal.main_arg1) = m' ((c.tc : Thread Cert.ProjConvRefIdeal.nD Cert.ProjConvRefIdeal.τ).loc Cert.ProjConvRefIdeal.main_arg1))

def preserves_ProjMid_ProjMidIdeal : Prop :=
  True

def algebraic_ProjMidIdeal_ProjMidRefIdeal [hProjMidIdeal : Cert.ProjMidIdeal.Facts] [hProjMidRefIdeal : Cert.ProjMidRefIdeal.Facts] : Prop :=
  ∀ (m : (ℓ : Loc Cert.ProjMidIdeal.nD Cert.ProjMidIdeal.τ Cert.ProjMidIdeal.sig) → Buf (Elt Ideal) ℓ) (g : Dev Cert.ProjMidIdeal.nD → PrngReg)
    (m' : (ℓ : Loc Cert.ProjMidRefIdeal.nD Cert.ProjMidRefIdeal.τ Cert.ProjMidRefIdeal.sig) → Buf (Elt Ideal) ℓ) (g' : Dev Cert.ProjMidRefIdeal.nD → PrngReg), Pre_ProjMidIdeal m →
    (∀ c : Dev Cert.ProjMidIdeal.nD,
      m' ((c.tc : Thread Cert.ProjMidRefIdeal.nD Cert.ProjMidRefIdeal.τ).loc Cert.ProjMidRefIdeal.main_arg0) = m ((c.tc : Thread Cert.ProjMidIdeal.nD Cert.ProjMidIdeal.τ).loc Cert.ProjMidIdeal.main_arg0)
      ∧ m' ((c.tc : Thread Cert.ProjMidRefIdeal.nD Cert.ProjMidRefIdeal.τ).loc Cert.ProjMidRefIdeal.main_arg1) = m ((c.tc : Thread Cert.ProjMidIdeal.nD Cert.ProjMidIdeal.τ).loc Cert.ProjMidIdeal.main_arg1)) →
    ∃ (v0 : (c : Dev Cert.ProjMidIdeal.nD) → Buf (Elt Ideal) ((c.tc : Thread Cert.ProjMidIdeal.nD Cert.ProjMidIdeal.τ).loc Cert.ProjMidIdeal.main_v0)),
      θ_run (Cert.ProjMidIdeal.defs (F := Ideal)) (onTc (τ := Cert.ProjMidIdeal.τ) (Cert.ProjMidIdeal.main (F := Ideal))) ⟨m, fun _ => 0, g⟩ (fun r => ∀ c : Dev Cert.ProjMidIdeal.nD,
          r.2.mem ((c.tc : Thread Cert.ProjMidIdeal.nD Cert.ProjMidIdeal.τ).loc Cert.ProjMidIdeal.main_v0) = v0 c
          ∧ r.2.mem ((c.tc : Thread Cert.ProjMidIdeal.nD Cert.ProjMidIdeal.τ).loc Cert.ProjMidIdeal.main_arg0) = m ((c.tc : Thread Cert.ProjMidIdeal.nD Cert.ProjMidIdeal.τ).loc Cert.ProjMidIdeal.main_arg0)
          ∧ r.2.mem ((c.tc : Thread Cert.ProjMidIdeal.nD Cert.ProjMidIdeal.τ).loc Cert.ProjMidIdeal.main_arg1) = m ((c.tc : Thread Cert.ProjMidIdeal.nD Cert.ProjMidIdeal.τ).loc Cert.ProjMidIdeal.main_arg1))
      ∧ θ_run (Cert.ProjMidRefIdeal.defs (F := Ideal)) (onTc (τ := Cert.ProjMidRefIdeal.τ) (Cert.ProjMidRefIdeal.main (F := Ideal))) ⟨m', fun _ => 0, g'⟩ (fun r => ∀ c : Dev Cert.ProjMidRefIdeal.nD,
          r.2.mem ((c.tc : Thread Cert.ProjMidRefIdeal.nD Cert.ProjMidRefIdeal.τ).loc Cert.ProjMidRefIdeal.main_v6) = v0 c
          ∧ r.2.mem ((c.tc : Thread Cert.ProjMidRefIdeal.nD Cert.ProjMidRefIdeal.τ).loc Cert.ProjMidRefIdeal.main_arg0) = m' ((c.tc : Thread Cert.ProjMidRefIdeal.nD Cert.ProjMidRefIdeal.τ).loc Cert.ProjMidRefIdeal.main_arg0)
          ∧ r.2.mem ((c.tc : Thread Cert.ProjMidRefIdeal.nD Cert.ProjMidRefIdeal.τ).loc Cert.ProjMidRefIdeal.main_arg1) = m' ((c.tc : Thread Cert.ProjMidRefIdeal.nD Cert.ProjMidRefIdeal.τ).loc Cert.ProjMidRefIdeal.main_arg1))

def preserves_ConvFwd_ConvFwdIdeal : Prop :=
  True

def algebraic_ConvFwdIdeal_ConvFwdRefIdeal [hConvFwdIdeal : Cert.ConvFwdIdeal.Facts] [hConvFwdRefIdeal : Cert.ConvFwdRefIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg)
    (m' : (ℓ : Loc Cert.ConvFwdRefIdeal.nD Cert.ConvFwdRefIdeal.τ Cert.ConvFwdRefIdeal.sig) → Buf (Elt Ideal) ℓ) (g' : Dev Cert.ConvFwdRefIdeal.nD → PrngReg), Pre_ConvFwdIdeal m →
    (∀ c : Dev Cert.ConvFwdIdeal.nD,
      m' ((c.tc : Thread Cert.ConvFwdRefIdeal.nD Cert.ConvFwdRefIdeal.τ).loc Cert.ConvFwdRefIdeal.main_arg0) = m ((c.tc : Thread Cert.ConvFwdIdeal.nD Cert.ConvFwdIdeal.τ).loc Cert.ConvFwdIdeal.main_arg0)
      ∧ m' ((c.tc : Thread Cert.ConvFwdRefIdeal.nD Cert.ConvFwdRefIdeal.τ).loc Cert.ConvFwdRefIdeal.main_arg1) = m ((c.tc : Thread Cert.ConvFwdIdeal.nD Cert.ConvFwdIdeal.τ).loc Cert.ConvFwdIdeal.main_arg1)) →
    ∃ (v0 : (c : Dev Cert.ConvFwdIdeal.nD) → Buf (Elt Ideal) ((c.tc : Thread Cert.ConvFwdIdeal.nD Cert.ConvFwdIdeal.τ).loc Cert.ConvFwdIdeal.main_v2)),
      θ_run (Cert.ConvFwdIdeal.defs (F := Ideal)) (onTc (τ := Cert.ConvFwdIdeal.τ) (Cert.ConvFwdIdeal.main (F := Ideal))) ⟨m, fun _ => 0, g⟩ (fun r => ∀ c : Dev Cert.ConvFwdIdeal.nD,
          r.2.mem ((c.tc : Thread Cert.ConvFwdIdeal.nD Cert.ConvFwdIdeal.τ).loc Cert.ConvFwdIdeal.main_v2) = v0 c
          ∧ r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
          ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1))
      ∧ θ_run (Cert.ConvFwdRefIdeal.defs (F := Ideal)) (onTc (τ := Cert.ConvFwdRefIdeal.τ) (Cert.ConvFwdRefIdeal.main (F := Ideal))) ⟨m', fun _ => 0, g'⟩ (fun r => ∀ c : Dev Cert.ConvFwdRefIdeal.nD,
          r.2.mem ((c.tc : Thread Cert.ConvFwdRefIdeal.nD Cert.ConvFwdRefIdeal.τ).loc Cert.ConvFwdRefIdeal.main_v34) = v0 c
          ∧ r.2.mem ((c.tc : Thread Cert.ConvFwdRefIdeal.nD Cert.ConvFwdRefIdeal.τ).loc Cert.ConvFwdRefIdeal.main_arg0) = m' ((c.tc : Thread Cert.ConvFwdRefIdeal.nD Cert.ConvFwdRefIdeal.τ).loc Cert.ConvFwdRefIdeal.main_arg0)
          ∧ r.2.mem ((c.tc : Thread Cert.ConvFwdRefIdeal.nD Cert.ConvFwdRefIdeal.τ).loc Cert.ConvFwdRefIdeal.main_arg1) = m' ((c.tc : Thread Cert.ConvFwdRefIdeal.nD Cert.ConvFwdRefIdeal.τ).loc Cert.ConvFwdRefIdeal.main_arg1))

def preserves_StepIn_StepInIdeal : Prop :=
  True

def algebraic_StepInIdeal_StepInRefIdeal [hStepInIdeal : Cert.StepInIdeal.Facts] [hStepInRefIdeal : Cert.StepInRefIdeal.Facts] : Prop :=
  ∀ (m : (ℓ : Loc Cert.StepInIdeal.nD Cert.StepInIdeal.τ Cert.StepInIdeal.sig) → Buf (Elt Ideal) ℓ) (g : Dev Cert.StepInIdeal.nD → PrngReg)
    (m' : (ℓ : Loc Cert.StepInRefIdeal.nD Cert.StepInRefIdeal.τ Cert.StepInRefIdeal.sig) → Buf (Elt Ideal) ℓ) (g' : Dev Cert.StepInRefIdeal.nD → PrngReg), Pre_StepInIdeal m →
    (∀ c : Dev Cert.StepInIdeal.nD,
      m' ((c.tc : Thread Cert.StepInRefIdeal.nD Cert.StepInRefIdeal.τ).loc Cert.StepInRefIdeal.main_arg0) = m ((c.tc : Thread Cert.StepInIdeal.nD Cert.StepInIdeal.τ).loc Cert.StepInIdeal.main_arg0)
      ∧ m' ((c.tc : Thread Cert.StepInRefIdeal.nD Cert.StepInRefIdeal.τ).loc Cert.StepInRefIdeal.main_arg1) = m ((c.tc : Thread Cert.StepInIdeal.nD Cert.StepInIdeal.τ).loc Cert.StepInIdeal.main_arg1)
      ∧ m' ((c.tc : Thread Cert.StepInRefIdeal.nD Cert.StepInRefIdeal.τ).loc Cert.StepInRefIdeal.main_arg2) = m ((c.tc : Thread Cert.StepInIdeal.nD Cert.StepInIdeal.τ).loc Cert.StepInIdeal.main_arg2)
      ∧ m' ((c.tc : Thread Cert.StepInRefIdeal.nD Cert.StepInRefIdeal.τ).loc Cert.StepInRefIdeal.main_arg3) = m ((c.tc : Thread Cert.StepInIdeal.nD Cert.StepInIdeal.τ).loc Cert.StepInIdeal.main_arg3)) →
    ∃ (v0 : (c : Dev Cert.StepInIdeal.nD) → Buf (Elt Ideal) ((c.tc : Thread Cert.StepInIdeal.nD Cert.StepInIdeal.τ).loc Cert.StepInIdeal.main_v0_0)) (v1 : (c : Dev Cert.StepInIdeal.nD) → Buf (Elt Ideal) ((c.tc : Thread Cert.StepInIdeal.nD Cert.StepInIdeal.τ).loc Cert.StepInIdeal.main_v0_1)) (v2 : (c : Dev Cert.StepInIdeal.nD) → Buf (Elt Ideal) ((c.tc : Thread Cert.StepInIdeal.nD Cert.StepInIdeal.τ).loc Cert.StepInIdeal.main_v0_2)) (v3 : (c : Dev Cert.StepInIdeal.nD) → Buf (Elt Ideal) ((c.tc : Thread Cert.StepInIdeal.nD Cert.StepInIdeal.τ).loc Cert.StepInIdeal.main_v0_3)),
      θ_run (Cert.StepInIdeal.defs (F := Ideal)) (onTc (τ := Cert.StepInIdeal.τ) (Cert.StepInIdeal.main (F := Ideal))) ⟨m, fun _ => 0, g⟩ (fun r => ∀ c : Dev Cert.StepInIdeal.nD,
          r.2.mem ((c.tc : Thread Cert.StepInIdeal.nD Cert.StepInIdeal.τ).loc Cert.StepInIdeal.main_v0_0) = v0 c
          ∧ r.2.mem ((c.tc : Thread Cert.StepInIdeal.nD Cert.StepInIdeal.τ).loc Cert.StepInIdeal.main_v0_1) = v1 c
          ∧ r.2.mem ((c.tc : Thread Cert.StepInIdeal.nD Cert.StepInIdeal.τ).loc Cert.StepInIdeal.main_v0_2) = v2 c
          ∧ r.2.mem ((c.tc : Thread Cert.StepInIdeal.nD Cert.StepInIdeal.τ).loc Cert.StepInIdeal.main_v0_3) = v3 c
          ∧ r.2.mem ((c.tc : Thread Cert.StepInIdeal.nD Cert.StepInIdeal.τ).loc Cert.StepInIdeal.main_arg0) = m ((c.tc : Thread Cert.StepInIdeal.nD Cert.StepInIdeal.τ).loc Cert.StepInIdeal.main_arg0)
          ∧ r.2.mem ((c.tc : Thread Cert.StepInIdeal.nD Cert.StepInIdeal.τ).loc Cert.StepInIdeal.main_arg1) = m ((c.tc : Thread Cert.StepInIdeal.nD Cert.StepInIdeal.τ).loc Cert.StepInIdeal.main_arg1)
          ∧ r.2.mem ((c.tc : Thread Cert.StepInIdeal.nD Cert.StepInIdeal.τ).loc Cert.StepInIdeal.main_arg2) = m ((c.tc : Thread Cert.StepInIdeal.nD Cert.StepInIdeal.τ).loc Cert.StepInIdeal.main_arg2)
          ∧ r.2.mem ((c.tc : Thread Cert.StepInIdeal.nD Cert.StepInIdeal.τ).loc Cert.StepInIdeal.main_arg3) = m ((c.tc : Thread Cert.StepInIdeal.nD Cert.StepInIdeal.τ).loc Cert.StepInIdeal.main_arg3))
      ∧ θ_run (Cert.StepInRefIdeal.defs (F := Ideal)) (onTc (τ := Cert.StepInRefIdeal.τ) (Cert.StepInRefIdeal.main (F := Ideal))) ⟨m', fun _ => 0, g'⟩ (fun r => ∀ c : Dev Cert.StepInRefIdeal.nD,
          r.2.mem ((c.tc : Thread Cert.StepInRefIdeal.nD Cert.StepInRefIdeal.τ).loc Cert.StepInRefIdeal.main_v1) = v0 c
          ∧ r.2.mem ((c.tc : Thread Cert.StepInRefIdeal.nD Cert.StepInRefIdeal.τ).loc Cert.StepInRefIdeal.main_v25) = v1 c
          ∧ r.2.mem ((c.tc : Thread Cert.StepInRefIdeal.nD Cert.StepInRefIdeal.τ).loc Cert.StepInRefIdeal.main_v6) = v2 c
          ∧ r.2.mem ((c.tc : Thread Cert.StepInRefIdeal.nD Cert.StepInRefIdeal.τ).loc Cert.StepInRefIdeal.main_v12) = v3 c
          ∧ r.2.mem ((c.tc : Thread Cert.StepInRefIdeal.nD Cert.StepInRefIdeal.τ).loc Cert.StepInRefIdeal.main_arg0) = m' ((c.tc : Thread Cert.StepInRefIdeal.nD Cert.StepInRefIdeal.τ).loc Cert.StepInRefIdeal.main_arg0)
          ∧ r.2.mem ((c.tc : Thread Cert.StepInRefIdeal.nD Cert.StepInRefIdeal.τ).loc Cert.StepInRefIdeal.main_arg1) = m' ((c.tc : Thread Cert.StepInRefIdeal.nD Cert.StepInRefIdeal.τ).loc Cert.StepInRefIdeal.main_arg1)
          ∧ r.2.mem ((c.tc : Thread Cert.StepInRefIdeal.nD Cert.StepInRefIdeal.τ).loc Cert.StepInRefIdeal.main_arg2) = m' ((c.tc : Thread Cert.StepInRefIdeal.nD Cert.StepInRefIdeal.τ).loc Cert.StepInRefIdeal.main_arg2)
          ∧ r.2.mem ((c.tc : Thread Cert.StepInRefIdeal.nD Cert.StepInRefIdeal.τ).loc Cert.StepInRefIdeal.main_arg3) = m' ((c.tc : Thread Cert.StepInRefIdeal.nD Cert.StepInRefIdeal.τ).loc Cert.StepInRefIdeal.main_arg3))

def preserves_StepOut_StepOutIdeal : Prop :=
  True

def algebraic_StepOutIdeal_StepOutRefIdeal [hStepOutIdeal : Cert.StepOutIdeal.Facts] [hStepOutRefIdeal : Cert.StepOutRefIdeal.Facts] : Prop :=
  ∀ (m : (ℓ : Loc Cert.StepOutIdeal.nD Cert.StepOutIdeal.τ Cert.StepOutIdeal.sig) → Buf (Elt Ideal) ℓ) (g : Dev Cert.StepOutIdeal.nD → PrngReg)
    (m' : (ℓ : Loc Cert.StepOutRefIdeal.nD Cert.StepOutRefIdeal.τ Cert.StepOutRefIdeal.sig) → Buf (Elt Ideal) ℓ) (g' : Dev Cert.StepOutRefIdeal.nD → PrngReg), Pre_StepOutIdeal m →
    (∀ c : Dev Cert.StepOutIdeal.nD,
      m' ((c.tc : Thread Cert.StepOutRefIdeal.nD Cert.StepOutRefIdeal.τ).loc Cert.StepOutRefIdeal.main_arg0) = m ((c.tc : Thread Cert.StepOutIdeal.nD Cert.StepOutIdeal.τ).loc Cert.StepOutIdeal.main_arg0)
      ∧ m' ((c.tc : Thread Cert.StepOutRefIdeal.nD Cert.StepOutRefIdeal.τ).loc Cert.StepOutRefIdeal.main_arg1) = m ((c.tc : Thread Cert.StepOutIdeal.nD Cert.StepOutIdeal.τ).loc Cert.StepOutIdeal.main_arg1)
      ∧ m' ((c.tc : Thread Cert.StepOutRefIdeal.nD Cert.StepOutRefIdeal.τ).loc Cert.StepOutRefIdeal.main_arg2) = m ((c.tc : Thread Cert.StepOutIdeal.nD Cert.StepOutIdeal.τ).loc Cert.StepOutIdeal.main_arg2)
      ∧ m' ((c.tc : Thread Cert.StepOutRefIdeal.nD Cert.StepOutRefIdeal.τ).loc Cert.StepOutRefIdeal.main_arg3) = m ((c.tc : Thread Cert.StepOutIdeal.nD Cert.StepOutIdeal.τ).loc Cert.StepOutIdeal.main_arg3)) →
    ∃ (v0 : (c : Dev Cert.StepOutIdeal.nD) → Buf (Elt Ideal) ((c.tc : Thread Cert.StepOutIdeal.nD Cert.StepOutIdeal.τ).loc Cert.StepOutIdeal.main_v0_0)) (v1 : (c : Dev Cert.StepOutIdeal.nD) → Buf (Elt Ideal) ((c.tc : Thread Cert.StepOutIdeal.nD Cert.StepOutIdeal.τ).loc Cert.StepOutIdeal.main_v0_1)) (v2 : (c : Dev Cert.StepOutIdeal.nD) → Buf (Elt Ideal) ((c.tc : Thread Cert.StepOutIdeal.nD Cert.StepOutIdeal.τ).loc Cert.StepOutIdeal.main_v0_2)) (v3 : (c : Dev Cert.StepOutIdeal.nD) → Buf (Elt Ideal) ((c.tc : Thread Cert.StepOutIdeal.nD Cert.StepOutIdeal.τ).loc Cert.StepOutIdeal.main_v0_3)),
      θ_run (Cert.StepOutIdeal.defs (F := Ideal)) (onTc (τ := Cert.StepOutIdeal.τ) (Cert.StepOutIdeal.main (F := Ideal))) ⟨m, fun _ => 0, g⟩ (fun r => ∀ c : Dev Cert.StepOutIdeal.nD,
          r.2.mem ((c.tc : Thread Cert.StepOutIdeal.nD Cert.StepOutIdeal.τ).loc Cert.StepOutIdeal.main_v0_0) = v0 c
          ∧ r.2.mem ((c.tc : Thread Cert.StepOutIdeal.nD Cert.StepOutIdeal.τ).loc Cert.StepOutIdeal.main_v0_1) = v1 c
          ∧ r.2.mem ((c.tc : Thread Cert.StepOutIdeal.nD Cert.StepOutIdeal.τ).loc Cert.StepOutIdeal.main_v0_2) = v2 c
          ∧ r.2.mem ((c.tc : Thread Cert.StepOutIdeal.nD Cert.StepOutIdeal.τ).loc Cert.StepOutIdeal.main_v0_3) = v3 c
          ∧ r.2.mem ((c.tc : Thread Cert.StepOutIdeal.nD Cert.StepOutIdeal.τ).loc Cert.StepOutIdeal.main_arg0) = m ((c.tc : Thread Cert.StepOutIdeal.nD Cert.StepOutIdeal.τ).loc Cert.StepOutIdeal.main_arg0)
          ∧ r.2.mem ((c.tc : Thread Cert.StepOutIdeal.nD Cert.StepOutIdeal.τ).loc Cert.StepOutIdeal.main_arg1) = m ((c.tc : Thread Cert.StepOutIdeal.nD Cert.StepOutIdeal.τ).loc Cert.StepOutIdeal.main_arg1)
          ∧ r.2.mem ((c.tc : Thread Cert.StepOutIdeal.nD Cert.StepOutIdeal.τ).loc Cert.StepOutIdeal.main_arg2) = m ((c.tc : Thread Cert.StepOutIdeal.nD Cert.StepOutIdeal.τ).loc Cert.StepOutIdeal.main_arg2)
          ∧ r.2.mem ((c.tc : Thread Cert.StepOutIdeal.nD Cert.StepOutIdeal.τ).loc Cert.StepOutIdeal.main_arg3) = m ((c.tc : Thread Cert.StepOutIdeal.nD Cert.StepOutIdeal.τ).loc Cert.StepOutIdeal.main_arg3))
      ∧ θ_run (Cert.StepOutRefIdeal.defs (F := Ideal)) (onTc (τ := Cert.StepOutRefIdeal.τ) (Cert.StepOutRefIdeal.main (F := Ideal))) ⟨m', fun _ => 0, g'⟩ (fun r => ∀ c : Dev Cert.StepOutRefIdeal.nD,
          r.2.mem ((c.tc : Thread Cert.StepOutRefIdeal.nD Cert.StepOutRefIdeal.τ).loc Cert.StepOutRefIdeal.main_v1) = v0 c
          ∧ r.2.mem ((c.tc : Thread Cert.StepOutRefIdeal.nD Cert.StepOutRefIdeal.τ).loc Cert.StepOutRefIdeal.main_v25) = v1 c
          ∧ r.2.mem ((c.tc : Thread Cert.StepOutRefIdeal.nD Cert.StepOutRefIdeal.τ).loc Cert.StepOutRefIdeal.main_v6) = v2 c
          ∧ r.2.mem ((c.tc : Thread Cert.StepOutRefIdeal.nD Cert.StepOutRefIdeal.τ).loc Cert.StepOutRefIdeal.main_v12) = v3 c
          ∧ r.2.mem ((c.tc : Thread Cert.StepOutRefIdeal.nD Cert.StepOutRefIdeal.τ).loc Cert.StepOutRefIdeal.main_arg0) = m' ((c.tc : Thread Cert.StepOutRefIdeal.nD Cert.StepOutRefIdeal.τ).loc Cert.StepOutRefIdeal.main_arg0)
          ∧ r.2.mem ((c.tc : Thread Cert.StepOutRefIdeal.nD Cert.StepOutRefIdeal.τ).loc Cert.StepOutRefIdeal.main_arg1) = m' ((c.tc : Thread Cert.StepOutRefIdeal.nD Cert.StepOutRefIdeal.τ).loc Cert.StepOutRefIdeal.main_arg1)
          ∧ r.2.mem ((c.tc : Thread Cert.StepOutRefIdeal.nD Cert.StepOutRefIdeal.τ).loc Cert.StepOutRefIdeal.main_arg2) = m' ((c.tc : Thread Cert.StepOutRefIdeal.nD Cert.StepOutRefIdeal.τ).loc Cert.StepOutRefIdeal.main_arg2)
          ∧ r.2.mem ((c.tc : Thread Cert.StepOutRefIdeal.nD Cert.StepOutRefIdeal.τ).loc Cert.StepOutRefIdeal.main_arg3) = m' ((c.tc : Thread Cert.StepOutRefIdeal.nD Cert.StepOutRefIdeal.τ).loc Cert.StepOutRefIdeal.main_arg3))

def preserves_StepSmall_StepSmallIdeal : Prop :=
  True

def algebraic_StepSmallIdeal_StepSmallRefIdeal [hStepSmallIdeal : Cert.StepSmallIdeal.Facts] [hStepSmallRefIdeal : Cert.StepSmallRefIdeal.Facts] : Prop :=
  ∀ (m : (ℓ : Loc Cert.StepSmallIdeal.nD Cert.StepSmallIdeal.τ Cert.StepSmallIdeal.sig) → Buf (Elt Ideal) ℓ) (g : Dev Cert.StepSmallIdeal.nD → PrngReg)
    (m' : (ℓ : Loc Cert.StepSmallRefIdeal.nD Cert.StepSmallRefIdeal.τ Cert.StepSmallRefIdeal.sig) → Buf (Elt Ideal) ℓ) (g' : Dev Cert.StepSmallRefIdeal.nD → PrngReg), Pre_StepSmallIdeal m →
    (∀ c : Dev Cert.StepSmallIdeal.nD,
      m' ((c.tc : Thread Cert.StepSmallRefIdeal.nD Cert.StepSmallRefIdeal.τ).loc Cert.StepSmallRefIdeal.main_arg0) = m ((c.tc : Thread Cert.StepSmallIdeal.nD Cert.StepSmallIdeal.τ).loc Cert.StepSmallIdeal.main_arg0)
      ∧ m' ((c.tc : Thread Cert.StepSmallRefIdeal.nD Cert.StepSmallRefIdeal.τ).loc Cert.StepSmallRefIdeal.main_arg1) = m ((c.tc : Thread Cert.StepSmallIdeal.nD Cert.StepSmallIdeal.τ).loc Cert.StepSmallIdeal.main_arg1)
      ∧ m' ((c.tc : Thread Cert.StepSmallRefIdeal.nD Cert.StepSmallRefIdeal.τ).loc Cert.StepSmallRefIdeal.main_arg2) = m ((c.tc : Thread Cert.StepSmallIdeal.nD Cert.StepSmallIdeal.τ).loc Cert.StepSmallIdeal.main_arg2)
      ∧ m' ((c.tc : Thread Cert.StepSmallRefIdeal.nD Cert.StepSmallRefIdeal.τ).loc Cert.StepSmallRefIdeal.main_arg3) = m ((c.tc : Thread Cert.StepSmallIdeal.nD Cert.StepSmallIdeal.τ).loc Cert.StepSmallIdeal.main_arg3)) →
    ∃ (v0 : (c : Dev Cert.StepSmallIdeal.nD) → Buf (Elt Ideal) ((c.tc : Thread Cert.StepSmallIdeal.nD Cert.StepSmallIdeal.τ).loc Cert.StepSmallIdeal.main_v0_0)) (v1 : (c : Dev Cert.StepSmallIdeal.nD) → Buf (Elt Ideal) ((c.tc : Thread Cert.StepSmallIdeal.nD Cert.StepSmallIdeal.τ).loc Cert.StepSmallIdeal.main_v0_1)) (v2 : (c : Dev Cert.StepSmallIdeal.nD) → Buf (Elt Ideal) ((c.tc : Thread Cert.StepSmallIdeal.nD Cert.StepSmallIdeal.τ).loc Cert.StepSmallIdeal.main_v0_2)),
      θ_run (Cert.StepSmallIdeal.defs (F := Ideal)) (onTc (τ := Cert.StepSmallIdeal.τ) (Cert.StepSmallIdeal.main (F := Ideal))) ⟨m, fun _ => 0, g⟩ (fun r => ∀ c : Dev Cert.StepSmallIdeal.nD,
          r.2.mem ((c.tc : Thread Cert.StepSmallIdeal.nD Cert.StepSmallIdeal.τ).loc Cert.StepSmallIdeal.main_v0_0) = v0 c
          ∧ r.2.mem ((c.tc : Thread Cert.StepSmallIdeal.nD Cert.StepSmallIdeal.τ).loc Cert.StepSmallIdeal.main_v0_1) = v1 c
          ∧ r.2.mem ((c.tc : Thread Cert.StepSmallIdeal.nD Cert.StepSmallIdeal.τ).loc Cert.StepSmallIdeal.main_v0_2) = v2 c
          ∧ r.2.mem ((c.tc : Thread Cert.StepSmallIdeal.nD Cert.StepSmallIdeal.τ).loc Cert.StepSmallIdeal.main_arg0) = m ((c.tc : Thread Cert.StepSmallIdeal.nD Cert.StepSmallIdeal.τ).loc Cert.StepSmallIdeal.main_arg0)
          ∧ r.2.mem ((c.tc : Thread Cert.StepSmallIdeal.nD Cert.StepSmallIdeal.τ).loc Cert.StepSmallIdeal.main_arg1) = m ((c.tc : Thread Cert.StepSmallIdeal.nD Cert.StepSmallIdeal.τ).loc Cert.StepSmallIdeal.main_arg1)
          ∧ r.2.mem ((c.tc : Thread Cert.StepSmallIdeal.nD Cert.StepSmallIdeal.τ).loc Cert.StepSmallIdeal.main_arg2) = m ((c.tc : Thread Cert.StepSmallIdeal.nD Cert.StepSmallIdeal.τ).loc Cert.StepSmallIdeal.main_arg2)
          ∧ r.2.mem ((c.tc : Thread Cert.StepSmallIdeal.nD Cert.StepSmallIdeal.τ).loc Cert.StepSmallIdeal.main_arg3) = m ((c.tc : Thread Cert.StepSmallIdeal.nD Cert.StepSmallIdeal.τ).loc Cert.StepSmallIdeal.main_arg3))
      ∧ θ_run (Cert.StepSmallRefIdeal.defs (F := Ideal)) (onTc (τ := Cert.StepSmallRefIdeal.τ) (Cert.StepSmallRefIdeal.main (F := Ideal))) ⟨m', fun _ => 0, g'⟩ (fun r => ∀ c : Dev Cert.StepSmallRefIdeal.nD,
          r.2.mem ((c.tc : Thread Cert.StepSmallRefIdeal.nD Cert.StepSmallRefIdeal.τ).loc Cert.StepSmallRefIdeal.main_v23) = v0 c
          ∧ r.2.mem ((c.tc : Thread Cert.StepSmallRefIdeal.nD Cert.StepSmallRefIdeal.τ).loc Cert.StepSmallRefIdeal.main_v4) = v1 c
          ∧ r.2.mem ((c.tc : Thread Cert.StepSmallRefIdeal.nD Cert.StepSmallRefIdeal.τ).loc Cert.StepSmallRefIdeal.main_v10) = v2 c
          ∧ r.2.mem ((c.tc : Thread Cert.StepSmallRefIdeal.nD Cert.StepSmallRefIdeal.τ).loc Cert.StepSmallRefIdeal.main_arg0) = m' ((c.tc : Thread Cert.StepSmallRefIdeal.nD Cert.StepSmallRefIdeal.τ).loc Cert.StepSmallRefIdeal.main_arg0)
          ∧ r.2.mem ((c.tc : Thread Cert.StepSmallRefIdeal.nD Cert.StepSmallRefIdeal.τ).loc Cert.StepSmallRefIdeal.main_arg1) = m' ((c.tc : Thread Cert.StepSmallRefIdeal.nD Cert.StepSmallRefIdeal.τ).loc Cert.StepSmallRefIdeal.main_arg1)
          ∧ r.2.mem ((c.tc : Thread Cert.StepSmallRefIdeal.nD Cert.StepSmallRefIdeal.τ).loc Cert.StepSmallRefIdeal.main_arg2) = m' ((c.tc : Thread Cert.StepSmallRefIdeal.nD Cert.StepSmallRefIdeal.τ).loc Cert.StepSmallRefIdeal.main_arg2)
          ∧ r.2.mem ((c.tc : Thread Cert.StepSmallRefIdeal.nD Cert.StepSmallRefIdeal.τ).loc Cert.StepSmallRefIdeal.main_arg3) = m' ((c.tc : Thread Cert.StepSmallRefIdeal.nD Cert.StepSmallRefIdeal.τ).loc Cert.StepSmallRefIdeal.main_arg3))

def preserves_StepConv_StepConvIdeal : Prop :=
  True

def algebraic_StepConvIdeal_StepConvRefIdeal [hStepConvIdeal : Cert.StepConvIdeal.Facts] [hStepConvRefIdeal : Cert.StepConvRefIdeal.Facts] : Prop :=
  ∀ (m : (ℓ : Loc Cert.StepConvIdeal.nD Cert.StepConvIdeal.τ Cert.StepConvIdeal.sig) → Buf (Elt Ideal) ℓ) (g : Dev Cert.StepConvIdeal.nD → PrngReg)
    (m' : (ℓ : Loc Cert.StepConvRefIdeal.nD Cert.StepConvRefIdeal.τ Cert.StepConvRefIdeal.sig) → Buf (Elt Ideal) ℓ) (g' : Dev Cert.StepConvRefIdeal.nD → PrngReg), Pre_StepConvIdeal m →
    (∀ c : Dev Cert.StepConvIdeal.nD,
      m' ((c.tc : Thread Cert.StepConvRefIdeal.nD Cert.StepConvRefIdeal.τ).loc Cert.StepConvRefIdeal.main_arg0) = m ((c.tc : Thread Cert.StepConvIdeal.nD Cert.StepConvIdeal.τ).loc Cert.StepConvIdeal.main_arg0)
      ∧ m' ((c.tc : Thread Cert.StepConvRefIdeal.nD Cert.StepConvRefIdeal.τ).loc Cert.StepConvRefIdeal.main_arg1) = m ((c.tc : Thread Cert.StepConvIdeal.nD Cert.StepConvIdeal.τ).loc Cert.StepConvIdeal.main_arg1)
      ∧ m' ((c.tc : Thread Cert.StepConvRefIdeal.nD Cert.StepConvRefIdeal.τ).loc Cert.StepConvRefIdeal.main_arg2) = m ((c.tc : Thread Cert.StepConvIdeal.nD Cert.StepConvIdeal.τ).loc Cert.StepConvIdeal.main_arg2)
      ∧ m' ((c.tc : Thread Cert.StepConvRefIdeal.nD Cert.StepConvRefIdeal.τ).loc Cert.StepConvRefIdeal.main_arg3) = m ((c.tc : Thread Cert.StepConvIdeal.nD Cert.StepConvIdeal.τ).loc Cert.StepConvIdeal.main_arg3)) →
    ∃ (v0 : (c : Dev Cert.StepConvIdeal.nD) → Buf (Elt Ideal) ((c.tc : Thread Cert.StepConvIdeal.nD Cert.StepConvIdeal.τ).loc Cert.StepConvIdeal.main_v0_0)) (v1 : (c : Dev Cert.StepConvIdeal.nD) → Buf (Elt Ideal) ((c.tc : Thread Cert.StepConvIdeal.nD Cert.StepConvIdeal.τ).loc Cert.StepConvIdeal.main_v0_1)) (v2 : (c : Dev Cert.StepConvIdeal.nD) → Buf (Elt Ideal) ((c.tc : Thread Cert.StepConvIdeal.nD Cert.StepConvIdeal.τ).loc Cert.StepConvIdeal.main_v0_2)),
      θ_run (Cert.StepConvIdeal.defs (F := Ideal)) (onTc (τ := Cert.StepConvIdeal.τ) (Cert.StepConvIdeal.main (F := Ideal))) ⟨m, fun _ => 0, g⟩ (fun r => ∀ c : Dev Cert.StepConvIdeal.nD,
          r.2.mem ((c.tc : Thread Cert.StepConvIdeal.nD Cert.StepConvIdeal.τ).loc Cert.StepConvIdeal.main_v0_0) = v0 c
          ∧ r.2.mem ((c.tc : Thread Cert.StepConvIdeal.nD Cert.StepConvIdeal.τ).loc Cert.StepConvIdeal.main_v0_1) = v1 c
          ∧ r.2.mem ((c.tc : Thread Cert.StepConvIdeal.nD Cert.StepConvIdeal.τ).loc Cert.StepConvIdeal.main_v0_2) = v2 c
          ∧ r.2.mem ((c.tc : Thread Cert.StepConvIdeal.nD Cert.StepConvIdeal.τ).loc Cert.StepConvIdeal.main_arg0) = m ((c.tc : Thread Cert.StepConvIdeal.nD Cert.StepConvIdeal.τ).loc Cert.StepConvIdeal.main_arg0)
          ∧ r.2.mem ((c.tc : Thread Cert.StepConvIdeal.nD Cert.StepConvIdeal.τ).loc Cert.StepConvIdeal.main_arg1) = m ((c.tc : Thread Cert.StepConvIdeal.nD Cert.StepConvIdeal.τ).loc Cert.StepConvIdeal.main_arg1)
          ∧ r.2.mem ((c.tc : Thread Cert.StepConvIdeal.nD Cert.StepConvIdeal.τ).loc Cert.StepConvIdeal.main_arg2) = m ((c.tc : Thread Cert.StepConvIdeal.nD Cert.StepConvIdeal.τ).loc Cert.StepConvIdeal.main_arg2)
          ∧ r.2.mem ((c.tc : Thread Cert.StepConvIdeal.nD Cert.StepConvIdeal.τ).loc Cert.StepConvIdeal.main_arg3) = m ((c.tc : Thread Cert.StepConvIdeal.nD Cert.StepConvIdeal.τ).loc Cert.StepConvIdeal.main_arg3))
      ∧ θ_run (Cert.StepConvRefIdeal.defs (F := Ideal)) (onTc (τ := Cert.StepConvRefIdeal.τ) (Cert.StepConvRefIdeal.main (F := Ideal))) ⟨m', fun _ => 0, g'⟩ (fun r => ∀ c : Dev Cert.StepConvRefIdeal.nD,
          r.2.mem ((c.tc : Thread Cert.StepConvRefIdeal.nD Cert.StepConvRefIdeal.τ).loc Cert.StepConvRefIdeal.main_v23) = v0 c
          ∧ r.2.mem ((c.tc : Thread Cert.StepConvRefIdeal.nD Cert.StepConvRefIdeal.τ).loc Cert.StepConvRefIdeal.main_v4) = v1 c
          ∧ r.2.mem ((c.tc : Thread Cert.StepConvRefIdeal.nD Cert.StepConvRefIdeal.τ).loc Cert.StepConvRefIdeal.main_v10) = v2 c
          ∧ r.2.mem ((c.tc : Thread Cert.StepConvRefIdeal.nD Cert.StepConvRefIdeal.τ).loc Cert.StepConvRefIdeal.main_arg0) = m' ((c.tc : Thread Cert.StepConvRefIdeal.nD Cert.StepConvRefIdeal.τ).loc Cert.StepConvRefIdeal.main_arg0)
          ∧ r.2.mem ((c.tc : Thread Cert.StepConvRefIdeal.nD Cert.StepConvRefIdeal.τ).loc Cert.StepConvRefIdeal.main_arg1) = m' ((c.tc : Thread Cert.StepConvRefIdeal.nD Cert.StepConvRefIdeal.τ).loc Cert.StepConvRefIdeal.main_arg1)
          ∧ r.2.mem ((c.tc : Thread Cert.StepConvRefIdeal.nD Cert.StepConvRefIdeal.τ).loc Cert.StepConvRefIdeal.main_arg2) = m' ((c.tc : Thread Cert.StepConvRefIdeal.nD Cert.StepConvRefIdeal.τ).loc Cert.StepConvRefIdeal.main_arg2)
          ∧ r.2.mem ((c.tc : Thread Cert.StepConvRefIdeal.nD Cert.StepConvRefIdeal.τ).loc Cert.StepConvRefIdeal.main_arg3) = m' ((c.tc : Thread Cert.StepConvRefIdeal.nD Cert.StepConvRefIdeal.τ).loc Cert.StepConvRefIdeal.main_arg3))

def Claim : Prop :=
  ∃ (hConvBwd : Cert.ConvBwd.Facts) (hConvBwdIdeal : Cert.ConvBwdIdeal.Facts) (hConvBwdRefIdeal : Cert.ConvBwdRefIdeal.Facts) (hNormBwd : Cert.NormBwd.Facts) (hNormBwdIdeal : Cert.NormBwdIdeal.Facts) (hNormBwdRefIdeal : Cert.NormBwdRefIdeal.Facts) (hMid : Cert.Mid.Facts) (hMidIdeal : Cert.MidIdeal.Facts) (hMidRefIdeal : Cert.MidRefIdeal.Facts) (hWeightGrad : Cert.WeightGrad.Facts) (hWeightGradIdeal : Cert.WeightGradIdeal.Facts) (hWeightGradRefIdeal : Cert.WeightGradRefIdeal.Facts) (hProjConv : Cert.ProjConv.Facts) (hProjConvIdeal : Cert.ProjConvIdeal.Facts) (hProjConvRefIdeal : Cert.ProjConvRefIdeal.Facts) (hProjMid : Cert.ProjMid.Facts) (hProjMidIdeal : Cert.ProjMidIdeal.Facts) (hProjMidRefIdeal : Cert.ProjMidRefIdeal.Facts) (hConvFwd : Cert.ConvFwd.Facts) (hConvFwdIdeal : Cert.ConvFwdIdeal.Facts) (hConvFwdRefIdeal : Cert.ConvFwdRefIdeal.Facts) (hStepIn : Cert.StepIn.Facts) (hStepInIdeal : Cert.StepInIdeal.Facts) (hStepInRefIdeal : Cert.StepInRefIdeal.Facts) (hStepOut : Cert.StepOut.Facts) (hStepOutIdeal : Cert.StepOutIdeal.Facts) (hStepOutRefIdeal : Cert.StepOutRefIdeal.Facts) (hStepSmall : Cert.StepSmall.Facts) (hStepSmallIdeal : Cert.StepSmallIdeal.Facts) (hStepSmallRefIdeal : Cert.StepSmallRefIdeal.Facts) (hStepConv : Cert.StepConv.Facts) (hStepConvIdeal : Cert.StepConvIdeal.Facts) (hStepConvRefIdeal : Cert.StepConvRefIdeal.Facts) (hPre_finite : Cert.Pre_finite.Facts) (hPre_finite_norm : Cert.Pre_finite_norm.Facts) (hPre_finite_mid : Cert.Pre_finite_mid.Facts),
    quiescent_ConvBwd (hConvBwd := hConvBwd)
    ∧ quiescent_ConvBwdIdeal (hConvBwdIdeal := hConvBwdIdeal)
    ∧ quiescent_ConvBwdIdeal_pre_finite (hConvBwdIdeal := hConvBwdIdeal) (hPre_finite := hPre_finite)
    ∧ quiescent_ConvBwdRefIdeal (hConvBwdRefIdeal := hConvBwdRefIdeal)
    ∧ quiescent_ConvBwdRefIdeal_pre_finite (hConvBwdRefIdeal := hConvBwdRefIdeal) (hPre_finite := hPre_finite)
    ∧ quiescent_NormBwd (hNormBwd := hNormBwd)
    ∧ quiescent_NormBwdIdeal (hNormBwdIdeal := hNormBwdIdeal)
    ∧ quiescent_NormBwdIdeal_pre_finite_norm (hNormBwdIdeal := hNormBwdIdeal) (hPre_finite_norm := hPre_finite_norm)
    ∧ quiescent_NormBwdRefIdeal (hNormBwdRefIdeal := hNormBwdRefIdeal)
    ∧ quiescent_NormBwdRefIdeal_pre_finite_norm (hNormBwdRefIdeal := hNormBwdRefIdeal) (hPre_finite_norm := hPre_finite_norm)
    ∧ quiescent_Mid (hMid := hMid)
    ∧ quiescent_MidIdeal (hMidIdeal := hMidIdeal)
    ∧ quiescent_MidIdeal_pre_finite_mid (hMidIdeal := hMidIdeal) (hPre_finite_mid := hPre_finite_mid)
    ∧ quiescent_MidRefIdeal (hMidRefIdeal := hMidRefIdeal)
    ∧ quiescent_MidRefIdeal_pre_finite_mid (hMidRefIdeal := hMidRefIdeal) (hPre_finite_mid := hPre_finite_mid)
    ∧ quiescent_WeightGrad (hWeightGrad := hWeightGrad)
    ∧ quiescent_WeightGradIdeal (hWeightGradIdeal := hWeightGradIdeal)
    ∧ quiescent_WeightGradRefIdeal (hWeightGradRefIdeal := hWeightGradRefIdeal)
    ∧ quiescent_ProjConv (hProjConv := hProjConv)
    ∧ quiescent_ProjConvIdeal (hProjConvIdeal := hProjConvIdeal)
    ∧ quiescent_ProjConvRefIdeal (hProjConvRefIdeal := hProjConvRefIdeal)
    ∧ quiescent_ProjMid (hProjMid := hProjMid)
    ∧ quiescent_ProjMidIdeal (hProjMidIdeal := hProjMidIdeal)
    ∧ quiescent_ProjMidRefIdeal (hProjMidRefIdeal := hProjMidRefIdeal)
    ∧ quiescent_ConvFwd (hConvFwd := hConvFwd)
    ∧ quiescent_ConvFwdIdeal (hConvFwdIdeal := hConvFwdIdeal)
    ∧ quiescent_ConvFwdRefIdeal (hConvFwdRefIdeal := hConvFwdRefIdeal)
    ∧ quiescent_StepIn (hStepIn := hStepIn)
    ∧ quiescent_StepInIdeal (hStepInIdeal := hStepInIdeal)
    ∧ quiescent_StepInRefIdeal (hStepInRefIdeal := hStepInRefIdeal)
    ∧ quiescent_StepOut (hStepOut := hStepOut)
    ∧ quiescent_StepOutIdeal (hStepOutIdeal := hStepOutIdeal)
    ∧ quiescent_StepOutRefIdeal (hStepOutRefIdeal := hStepOutRefIdeal)
    ∧ quiescent_StepSmall (hStepSmall := hStepSmall)
    ∧ quiescent_StepSmallIdeal (hStepSmallIdeal := hStepSmallIdeal)
    ∧ quiescent_StepSmallRefIdeal (hStepSmallRefIdeal := hStepSmallRefIdeal)
    ∧ quiescent_StepConv (hStepConv := hStepConv)
    ∧ quiescent_StepConvIdeal (hStepConvIdeal := hStepConvIdeal)
    ∧ quiescent_StepConvRefIdeal (hStepConvRefIdeal := hStepConvRefIdeal)
    ∧ preserves_ConvBwd_ConvBwdIdeal
    ∧ algebraic_ConvBwdIdeal_ConvBwdRefIdeal_pre_finite (hConvBwdIdeal := hConvBwdIdeal) (hConvBwdRefIdeal := hConvBwdRefIdeal) (hPre_finite := hPre_finite)
    ∧ preserves_NormBwd_NormBwdIdeal
    ∧ algebraic_NormBwdIdeal_NormBwdRefIdeal_pre_finite_norm (hNormBwdIdeal := hNormBwdIdeal) (hNormBwdRefIdeal := hNormBwdRefIdeal) (hPre_finite_norm := hPre_finite_norm)
    ∧ preserves_Mid_MidIdeal
    ∧ algebraic_MidIdeal_MidRefIdeal_pre_finite_mid (hMidIdeal := hMidIdeal) (hMidRefIdeal := hMidRefIdeal) (hPre_finite_mid := hPre_finite_mid)
    ∧ preserves_WeightGrad_WeightGradIdeal
    ∧ algebraic_WeightGradIdeal_WeightGradRefIdeal (hWeightGradIdeal := hWeightGradIdeal) (hWeightGradRefIdeal := hWeightGradRefIdeal)
    ∧ preserves_ProjConv_ProjConvIdeal
    ∧ algebraic_ProjConvIdeal_ProjConvRefIdeal (hProjConvIdeal := hProjConvIdeal) (hProjConvRefIdeal := hProjConvRefIdeal)
    ∧ preserves_ProjMid_ProjMidIdeal
    ∧ algebraic_ProjMidIdeal_ProjMidRefIdeal (hProjMidIdeal := hProjMidIdeal) (hProjMidRefIdeal := hProjMidRefIdeal)
    ∧ preserves_ConvFwd_ConvFwdIdeal
    ∧ algebraic_ConvFwdIdeal_ConvFwdRefIdeal (hConvFwdIdeal := hConvFwdIdeal) (hConvFwdRefIdeal := hConvFwdRefIdeal)
    ∧ preserves_StepIn_StepInIdeal
    ∧ algebraic_StepInIdeal_StepInRefIdeal (hStepInIdeal := hStepInIdeal) (hStepInRefIdeal := hStepInRefIdeal)
    ∧ preserves_StepOut_StepOutIdeal
    ∧ algebraic_StepOutIdeal_StepOutRefIdeal (hStepOutIdeal := hStepOutIdeal) (hStepOutRefIdeal := hStepOutRefIdeal)
    ∧ preserves_StepSmall_StepSmallIdeal
    ∧ algebraic_StepSmallIdeal_StepSmallRefIdeal (hStepSmallIdeal := hStepSmallIdeal) (hStepSmallRefIdeal := hStepSmallRefIdeal)
    ∧ preserves_StepConv_StepConvIdeal
    ∧ algebraic_StepConvIdeal_StepConvRefIdeal (hStepConvIdeal := hStepConvIdeal) (hStepConvRefIdeal := hStepConvRefIdeal)
-- ==== Pre_finite.lean ====
abbrev S4096x1024 : Shape := ⟨2, ![4096, 1024]⟩
abbrev S4096x4096 : Shape := ⟨2, ![4096, 4096]⟩
abbrev S3x1024 : Shape := ⟨2, ![3, 1024]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  bcast_S_S4096x4096 : S_.BroadcastsInDim S4096x4096 (![] : Fin 0 → Fin S4096x4096.rank)
  bcast_S_S3x1024 : S_.BroadcastsInDim S3x1024 (![] : Fin 0 → Fin S3x1024.rank)

variable [Facts]

def fn {F : FTy → Type} [FloatOps F] (main_arg0 : FVec F S4096x1024 .bf16) (main_arg1 : FVec F S4096x4096 .bf16) (main_arg2 : FVec F S3x1024 .f32) : IVec S4096x1024 1 × IVec S4096x4096 1 × IVec S3x1024 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_v4 : FVec F S4096x4096 .f32 := (extf .f32 · bitsLt_bf16_f32) main_arg1
  let main_v5 : FVec F S4096x4096 .f32 := Host.absf main_v4
  let main_cst_0 : FVec F S_ .f32 := constant S_ .f32 0x7F800000#32
  let main_v6 : FVec F S4096x4096 .f32 := broadcastInDim S4096x4096 ![] bcast_S_S4096x4096 main_cst_0
  let main_v7 : IVec S4096x4096 1 := cmpf .olt main_v5 main_v6
  let main_v8 : FVec F S3x1024 .f32 := Host.absf main_arg2
  let main_cst_1 : FVec F S_ .f32 := constant S_ .f32 0x7F800000#32
  let main_v9 : FVec F S3x1024 .f32 := broadcastInDim S3x1024 ![] bcast_S_S3x1024 main_cst_1
  let main_v10 : IVec S3x1024 1 := cmpf .olt main_v8 main_v9
  (main_v3, main_v7, main_v10)
-- ==== Pre_finite_mid.lean ====
abbrev S4096x1024 : Shape := ⟨2, ![4096, 1024]⟩
abbrev S4096x3072 : Shape := ⟨2, ![4096, 3072]⟩
abbrev S1x2048 : Shape := ⟨2, ![1, 2048]⟩
abbrev S1x1024 : Shape := ⟨2, ![1, 1024]⟩
abbrev S3x1024x1024 : Shape := ⟨3, ![3, 1024, 1024]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  bcast_S_S4096x3072 : S_.BroadcastsInDim S4096x3072 (![] : Fin 0 → Fin S4096x3072.rank)
  bcast_S_S1x1024 : S_.BroadcastsInDim S1x1024 (![] : Fin 0 → Fin S1x1024.rank)
  bcast_S_S3x1024x1024 : S_.BroadcastsInDim S3x1024x1024 (![] : Fin 0 → Fin S3x1024x1024.rank)

variable [Facts]

def fn_part1 {F : FTy → Type} [FloatOps F] (main_arg7 : FVec F S3x1024x1024 .bf16) (main_v3 : IVec S4096x1024 1) (main_v7 : IVec S4096x3072 1) (main_v10 : IVec S4096x1024 1) (main_v13 : IVec S4096x1024 1) (main_v16 : IVec S4096x1024 1) (main_v17 : FVec F S1x1024 .f32) (main_cst_4 : FVec F S_ .f32) : IVec S4096x1024 1 × IVec S4096x3072 1 × IVec S4096x1024 1 × IVec S4096x1024 1 × IVec S4096x1024 1 × IVec S1x1024 1 × IVec S3x1024x1024 1 :=
  let main_v18 : FVec F S1x1024 .f32 := broadcastInDim S1x1024 ![] bcast_S_S1x1024 main_cst_4
  let main_v19 : IVec S1x1024 1 := cmpf .olt main_v17 main_v18
  let main_v20 : FVec F S3x1024x1024 .f32 := (extf .f32 · bitsLt_bf16_f32) main_arg7
  let main_v21 : FVec F S3x1024x1024 .f32 := Host.absf main_v20
  let main_cst_5 : FVec F S_ .f32 := constant S_ .f32 0x7F800000#32
  let main_v22 : FVec F S3x1024x1024 .f32 := broadcastInDim S3x1024x1024 ![] bcast_S_S3x1024x1024 main_cst_5
  let main_v23 : IVec S3x1024x1024 1 := cmpf .olt main_v21 main_v22
  (main_v3, main_v7, main_v10, main_v13, main_v16, main_v19, main_v23)

def fn {F : FTy → Type} [FloatOps F] (main_arg0 : FVec F S4096x1024 .bf16) (main_arg1 : FVec F S4096x3072 .bf16) (main_arg2 : FVec F S4096x1024 .f32) (main_arg3 : FVec F S4096x1024 .f32) (main_arg4 : FVec F S4096x1024 .f32) (main_arg5 : FVec F S1x2048 .f32) (main_arg6 : FVec F S1x1024 .f32) (main_arg7 : FVec F S3x1024x1024 .bf16) : IVec S4096x1024 1 × IVec S4096x3072 1 × IVec S4096x1024 1 × IVec S4096x1024 1 × IVec S4096x1024 1 × IVec S1x1024 1 × IVec S3x1024x1024 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_v4 : FVec F S4096x3072 .f32 := (extf .f32 · bitsLt_bf16_f32) main_arg1
  let main_v5 : FVec F S4096x3072 .f32 := Host.absf main_v4
  let main_cst_0 : FVec F S_ .f32 := constant S_ .f32 0x7F800000#32
  let main_v6 : FVec F S4096x3072 .f32 := broadcastInDim S4096x3072 ![] bcast_S_S4096x3072 main_cst_0
  let main_v7 : IVec S4096x3072 1 := cmpf .olt main_v5 main_v6
  let main_v8 : FVec F S4096x1024 .f32 := Host.absf main_arg2
  let main_cst_1 : FVec F S_ .f32 := constant S_ .f32 0x7F800000#32
  let main_v9 : FVec F S4096x1024 .f32 := broadcastInDim S4096x1024 ![] bcast_S_S4096x1024 main_cst_1
  let main_v10 : IVec S4096x1024 1 := cmpf .olt main_v8 main_v9
  let main_v11 : FVec F S4096x1024 .f32 := Host.absf main_arg3
  let main_cst_2 : FVec F S_ .f32 := constant S_ .f32 0x7F800000#32
  let main_v12 : FVec F S4096x1024 .f32 := broadcastInDim S4096x1024 ![] bcast_S_S4096x1024 main_cst_2
  let main_v13 : IVec S4096x1024 1 := cmpf .olt main_v11 main_v12
  let main_v14 : FVec F S4096x1024 .f32 := Host.absf main_arg4
  let main_cst_3 : FVec F S_ .f32 := constant S_ .f32 0x7F800000#32
  let main_v15 : FVec F S4096x1024 .f32 := broadcastInDim S4096x1024 ![] bcast_S_S4096x1024 main_cst_3
  let main_v16 : IVec S4096x1024 1 := cmpf .olt main_v14 main_v15
  let main_v17 : FVec F S1x1024 .f32 := Host.absf main_arg6
  let main_cst_4 : FVec F S_ .f32 := constant S_ .f32 0x7F800000#32
  fn_part1 (F := F) main_arg7 main_v3 main_v7 main_v10 main_v13 main_v16 main_v17 main_cst_4
-- ==== Pre_finite_norm.lean ====
abbrev S4x4096x1024 : Shape := ⟨3, ![4, 4096, 1024]⟩
abbrev S3x4096x1024 : Shape := ⟨3, ![3, 4096, 1024]⟩
abbrev S8x1024x1280 : Shape := ⟨3, ![8, 1024, 1280]⟩
abbrev S4096x1024 : Shape := ⟨2, ![4096, 1024]⟩
abbrev S1x1024 : Shape := ⟨2, ![1, 1024]⟩
abbrev S_ : Shape := ⟨0, ![]⟩

class Facts : Prop where
  bitsLt_bf16_f32 : FTy.bits .bf16 < FTy.bits .f32
  bcast_S_S4x4096x1024 : S_.BroadcastsInDim S4x4096x1024 (![] : Fin 0 → Fin S4x4096x1024.rank)
  bcast_S_S3x4096x1024 : S_.BroadcastsInDim S3x4096x1024 (![] : Fin 0 → Fin S3x4096x1024.rank)
  bcast_S_S8x1024x1280 : S_.BroadcastsInDim S8x1024x1280 (![] : Fin 0 → Fin S8x1024x1280.rank)
  bcast_S_S4096x1024 : S_.BroadcastsInDim S4096x1024 (![] : Fin 0 → Fin S4096x1024.rank)
  bcast_S_S1x1024 : S_.BroadcastsInDim S1x1024 (![] : Fin 0 → Fin S1x1024.rank)

variable [Facts]

def fn_part1 {F : FTy → Type} [FloatOps F] (main_v3 : IVec S4x4096x1024 1) (main_v6 : IVec S3x4096x1024 1) (main_v10 : IVec S3x4096x1024 1) (main_v14 : IVec S8x1024x1280 1) (main_v17 : IVec S4096x1024 1) (main_v18 : FVec F S1x1024 .f32) : IVec S4x4096x1024 1 × IVec S3x4096x1024 1 × IVec S3x4096x1024 1 × IVec S8x1024x1280 1 × IVec S4096x1024 1 × IVec S1x1024 1 :=
  let main_cst_4 : FVec F S_ .f32 := constant S_ .f32 0x7F800000#32
  let main_v19 : FVec F S1x1024 .f32 := broadcastInDim S1x1024 ![] bcast_S_S1x1024 main_cst_4
  let main_v20 : IVec S1x1024 1 := cmpf .olt main_v18 main_v19
  (main_v3, main_v6, main_v10, main_v14, main_v17, main_v20)

def fn {F : FTy → Type} [FloatOps F] (main_arg0 : FVec F S4x4096x1024 .bf16) (main_arg1 : FVec F S3x4096x1024 .f32) (main_arg2 : FVec F S3x4096x1024 .bf16) (main_arg3 : FVec F S8x1024x1280 .bf16) (main_arg4 : FVec F S4096x1024 .f32) (main_arg5 : FVec F S4096x1024 .f32) (main_arg6 : FVec F S1x1024 .f32) : IVec S4x4096x1024 1 × IVec S3x4096x1024 1 × IVec S3x4096x1024 1 × IVec S8x1024x1280 1 × IVec S4096x1024 1 × IVec S1x1024 1 :=
  let main_v0 : FVec F S4x4096x1024 .f32 := (extf .f32 · bitsLt_bf16_f32) main_arg0
  let main_v1 : FVec F S4x4096x1024 .f32 := Host.absf main_v0
  let main_cst : FVec F S_ .f32 := constant S_ .f32 0x7F800000#32
  let main_v2 : FVec F S4x4096x1024 .f32 := broadcastInDim S4x4096x1024 ![] bcast_S_S4x4096x1024 main_cst
  let main_v3 : IVec S4x4096x1024 1 := cmpf .olt main_v1 main_v2
  let main_v4 : FVec F S3x4096x1024 .f32 := Host.absf main_arg1
  let main_cst_0 : FVec F S_ .f32 := constant S_ .f32 0x7F800000#32
  let main_v5 : FVec F S3x4096x1024 .f32 := broadcastInDim S3x4096x1024 ![] bcast_S_S3x4096x1024 main_cst_0
  let main_v6 : IVec S3x4096x1024 1 := cmpf .olt main_v4 main_v5
  let main_v7 : FVec F S3x4096x1024 .f32 := (extf .f32 · bitsLt_bf16_f32) main_arg2
  let main_v8 : FVec F S3x4096x1024 .f32 := Host.absf main_v7
  let main_cst_1 : FVec F S_ .f32 := constant S_ .f32 0x7F800000#32
  let main_v9 : FVec F S3x4096x1024 .f32 := broadcastInDim S3x4096x1024 ![] bcast_S_S3x4096x1024 main_cst_1
  let main_v10 : IVec S3x4096x1024 1 := cmpf .olt main_v8 main_v9
  let main_v11 : FVec F S8x1024x1280 .f32 := (extf .f32 · bitsLt_bf16_f32) main_arg3
  let main_v12 : FVec F S8x1024x1280 .f32 := Host.absf main_v11
  let main_cst_2 : FVec F S_ .f32 := constant S_ .f32 0x7F800000#32
  let main_v13 : FVec F S8x1024x1280 .f32 := broadcastInDim S8x1024x1280 ![] bcast_S_S8x1024x1280 main_cst_2
  let main_v14 : IVec S8x1024x1280 1 := cmpf .olt main_v12 main_v13
  let main_v15 : FVec F S4096x1024 .f32 := Host.absf main_arg4
  let main_cst_3 : FVec F S_ .f32 := constant S_ .f32 0x7F800000#32
  let main_v16 : FVec F S4096x1024 .f32 := broadcastInDim S4096x1024 ![] bcast_S_S4096x1024 main_cst_3
  let main_v17 : IVec S4096x1024 1 := cmpf .olt main_v15 main_v16
  let main_v18 : FVec F S1x1024 .f32 := Host.absf main_arg6
  fn_part1 (F := F) main_v3 main_v6 main_v10 main_v14 main_v17 main_v18
-- ==== ConvBwd.lean ====
abbrev S4096x1024 : Shape := ⟨2, ![4096, 1024]⟩
abbrev S4096x4096 : Shape := ⟨2, ![4096, 4096]⟩
abbrev S3x1024 : Shape := ⟨2, ![3, 1024]⟩
abbrev S_ : Shape := ⟨0, ![]⟩
abbrev S5x1024 : Shape := ⟨2, ![5, 1024]⟩
abbrev S8x1024 : Shape := ⟨2, ![8, 1024]⟩
abbrev S4x4096x1024 : Shape := ⟨3, ![4, 4096, 1024]⟩
abbrev S1024x512 : Shape := ⟨2, ![1024, 512]⟩
abbrev S16x512 : Shape := ⟨2, ![16, 512]⟩
abbrev S8x512 : Shape := ⟨2, ![8, 512]⟩
abbrev S4x1024x512 : Shape := ⟨3, ![4, 1024, 512]⟩
abbrev S1x512 : Shape := ⟨2, ![1, 512]⟩
abbrev S1x1024x512 : Shape := ⟨3, ![1, 1024, 512]⟩
abbrev S512 : Shape := ⟨1, ![512]⟩

abbrev nBuf : Space → Nat
  | .hbm => 8
  | .vmem => 26
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S3x1024, .f32⟩
  | .hbm, ⟨3, _⟩ => ⟨S_, .f32⟩
  | .hbm, ⟨4, _⟩ => ⟨S5x1024, .f32⟩
  | .hbm, ⟨5, _⟩ => ⟨S8x1024, .f32⟩
  | .hbm, ⟨6, _⟩ => ⟨S4x4096x1024, .bf16⟩
  | .hbm, ⟨7, _⟩ => ⟨S8x1024, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S16x512, .bf16⟩
  | .local _ .vmem, ⟨11, _⟩ => ⟨S16x512, .bf16⟩
  | .local _ .vmem, ⟨12, _⟩ => ⟨S16x512, .bf16⟩
  | .local _ .vmem, ⟨13, _⟩ => ⟨S16x512, .bf16⟩
  | .local _ .vmem, ⟨14, _⟩ => ⟨S16x512, .bf16⟩
  | .local _ .vmem, ⟨15, _⟩ => ⟨S16x512, .bf16⟩
  | .local _ .vmem, ⟨16, _⟩ => ⟨S16x512, .bf16⟩
  | .local _ .vmem, ⟨17, _⟩ => ⟨S16x512, .bf16⟩
  | .local _ .vmem, ⟨18, _⟩ => ⟨S16x512, .bf16⟩
  | .local _ .vmem, ⟨19, _⟩ => ⟨S16x512, .bf16⟩
  | .local _ .vmem, ⟨20, _⟩ => ⟨S8x512, .f32⟩
  | .local _ .vmem, ⟨21, _⟩ => ⟨S8x512, .f32⟩
  | .local _ .vmem, ⟨22, _⟩ => ⟨S4x1024x512, .bf16⟩
  | .local _ .vmem, ⟨23, _⟩ => ⟨S4x1024x512, .bf16⟩
  | .local _ .vmem, ⟨24, _⟩ => ⟨S8x512, .f32⟩
  | .local _ .vmem, ⟨25, _⟩ => ⟨S8x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg0
  let c0_i32 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let v3 : BitVec 32 := Scalar.addi c0_i32_0 arg0
  let c0_i32_1 : BitVec 32 := 0#32
  ![v2.toNat, v3.toNat]

def cc0_transform_6 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let v3 : BitVec 32 := Scalar.addi c4_i32 arg0
  let c0_i32_0 : BitVec 32 := 0#32
  ![v2.toNat, v3.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c255_i32 : BitVec 32 := 255#32
  let v2 : BitVec 32 := Scalar.minsi v1 c255_i32
  let c0_i32 : BitVec 32 := 0#32
  ![v2.toNat, arg0.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c255_i32 : BitVec 32 := 255#32
  let v2 : BitVec 32 := Scalar.minsi v1 c255_i32
  let c2_i32 : BitVec 32 := 2#32
  let v3 : BitVec 32 := Scalar.addi c2_i32 arg0
  let c0_i32 : BitVec 32 := 0#32
  ![v2.toNat, v3.toNat]

def cc0_transform_9 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c255_i32 : BitVec 32 := 255#32
  let v2 : BitVec 32 := Scalar.minsi v1 c255_i32
  let c6_i32 : BitVec 32 := 6#32
  let v3 : BitVec 32 := Scalar.addi c6_i32 arg0
  let c0_i32 : BitVec 32 := 0#32
  ![v2.toNat, v3.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S16x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S16x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S16x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S16x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S16x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S8x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S4x1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S8x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== ConvBwdRefIdeal.lean ====
abbrev S4096x1024 : Shape := ⟨2, ![4096, 1024]⟩
abbrev S4096x4096 : Shape := ⟨2, ![4096, 4096]⟩
abbrev S3x1024 : Shape := ⟨2, ![3, 1024]⟩
abbrev S_ : Shape := ⟨0, ![]⟩
abbrev S2x1024 : Shape := ⟨2, ![2, 1024]⟩
abbrev S4098x1024 : Shape := ⟨2, ![4098, 1024]⟩
abbrev S1x1024 : Shape := ⟨2, ![1, 1024]⟩
abbrev S1024 : Shape := ⟨1, ![1024]⟩
abbrev S1x4096x1024 : Shape := ⟨3, ![1, 4096, 1024]⟩
abbrev S4x4096x1024 : Shape := ⟨3, ![4, 4096, 1024]⟩
abbrev S4x1024 : Shape := ⟨2, ![4, 1024]⟩
abbrev S8x1024 : Shape := ⟨2, ![8, 1024]⟩

abbrev nBuf : Space → Nat
  | .hbm => 107
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S3x1024, .f32⟩
  | .hbm, ⟨3, _⟩ => ⟨S4096x1024, .bf16⟩
  | .hbm, ⟨4, _⟩ => ⟨S4096x1024, .f32⟩
  | .hbm, ⟨5, _⟩ => ⟨S4096x1024, .bf16⟩
  | .hbm, ⟨6, _⟩ => ⟨S4096x1024, .f32⟩
  | .hbm, ⟨7, _⟩ => ⟨S4096x1024, .bf16⟩
  | .hbm, ⟨8, _⟩ => ⟨S4096x1024, .f32⟩
  | .hbm, ⟨9, _⟩ => ⟨S4096x1024, .bf16⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S2x1024, .f32⟩
  | .hbm, ⟨28, _⟩ => ⟨S4098x1024, .f32⟩
  | .hbm, ⟨29, _⟩ => ⟨S_, .f32⟩
  | .hbm, ⟨30, _⟩ => ⟨S2x1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S1x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S_, .f32⟩
  | .hbm, ⟨56, _⟩ => ⟨S4098x1024, .f32⟩
  | .hbm, ⟨57, _⟩ => ⟨S_, .f32⟩
  | .hbm, ⟨58, _⟩ => ⟨S3x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S_, .f32⟩
  | .hbm, ⟨63, _⟩ => ⟨S1024, .f32⟩
  | .hbm, ⟨64, _⟩ => ⟨S1x1024, .f32⟩
  | .hbm, ⟨65, _⟩ => ⟨S_, .f32⟩
  | .hbm, ⟨66, _⟩ => ⟨S4098x1024, .f32⟩
  | .hbm, ⟨67, _⟩ => ⟨S4098x1024, .f32⟩
  | .hbm, ⟨68, _⟩ => ⟨S_, .f32⟩
  | .hbm, ⟨69, _⟩ => ⟨S3x1024, .f32⟩
  | .hbm, ⟨70, _⟩ => ⟨S3x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S_, .f32⟩
  | .hbm, ⟨75, _⟩ => ⟨S1024, .f32⟩
  | .hbm, ⟨76, _⟩ => ⟨S1x1024, .f32⟩
  | .hbm, ⟨77, _⟩ => ⟨S_, .f32⟩
  | .hbm, ⟨78, _⟩ => ⟨S4098x1024, .f32⟩
  | .hbm, ⟨79, _⟩ => ⟨S4098x1024, .f32⟩
  | .hbm, ⟨80, _⟩ => ⟨S_, .f32⟩
  | .hbm, ⟨81, _⟩ => ⟨S3x1024, .f32⟩
  | .hbm, ⟨82, _⟩ => ⟨S3x1024, .f32⟩
  | .hbm, ⟨83, _⟩ => ⟨S2x1024, .f32⟩
  | .hbm, ⟨84, _⟩ => ⟨S4096x1024, .f32⟩
  | .hbm, ⟨85, _⟩ => ⟨S4096x1024, .f32⟩
  | .hbm, ⟨86, _⟩ => ⟨S4096x1024, .f32⟩
  | .hbm, ⟨87, _⟩ => ⟨S4096x1024, .f32⟩
  | .hbm, ⟨88, _⟩ => ⟨S4096x1024, .f32⟩
  | .hbm, ⟨89, _⟩ => ⟨S4096x1024, .f32⟩
  | .hbm, ⟨90, _⟩ => ⟨S4096x1024, .f32⟩
  | .hbm, ⟨91, _⟩ => ⟨S4096x1024, .f32⟩
  | .hbm, ⟨92, _⟩ => ⟨S4096x1024, .f32⟩
  | .hbm, ⟨93, _⟩ => ⟨S4096x1024, .bf16⟩
  | .hbm, ⟨94, _⟩ => ⟨S1x4096x1024, .bf16⟩
  | .hbm, ⟨95, _⟩ => ⟨S4096x1024, .bf16⟩
  | .hbm, ⟨96, _⟩ => ⟨S1x4096x1024, .bf16⟩
  | .hbm, ⟨97, _⟩ => ⟨S4096x1024, .bf16⟩
  | .hbm, ⟨98, _⟩ => ⟨S1x4096x1024, .bf16⟩
  | .hbm, ⟨99, _⟩ => ⟨S4096x1024, .bf16⟩
  | .hbm, ⟨100, _⟩ => ⟨S1x4096x1024, .bf16⟩
  | .hbm, ⟨101, _⟩ => ⟨S4x4096x1024, .bf16⟩
  | .hbm, ⟨102, _⟩ => ⟨S_, .f32⟩
  | .hbm, ⟨103, _⟩ => ⟨S4x1024, .f32⟩
  | .hbm, ⟨104, _⟩ => ⟨S_, .f32⟩
  | .hbm, ⟨105, _⟩ => ⟨S1x1024, .f32⟩
  | .hbm, ⟨106, _⟩ => ⟨S8x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_cst_4 : Ref sig .tc := ⟨.hbm, 52, rfl⟩
abbrev main_v44 : Ref sig .tc := ⟨.hbm, 53, rfl⟩
abbrev main_v45 : Ref sig .tc := ⟨.hbm, 54, rfl⟩
abbrev main_cst_5 : Ref sig .tc := ⟨.hbm, 55, rfl⟩
abbrev main_v46 : Ref sig .tc := ⟨.hbm, 56, rfl⟩
abbrev main_cst_6 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_cst_7 : Ref sig .tc := ⟨.hbm, 62, rfl⟩
abbrev main_v51 : Ref sig .tc := ⟨.hbm, 63, rfl⟩
abbrev main_v52 : Ref sig .tc := ⟨.hbm, 64, rfl⟩
abbrev main_cst_8 : Ref sig .tc := ⟨.hbm, 65, rfl⟩
abbrev main_v53 : Ref sig .tc := ⟨.hbm, 66, rfl⟩
abbrev main_v54 : Ref sig .tc := ⟨.hbm, 67, rfl⟩
abbrev main_cst_9 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_cst_10 : Ref sig .tc := ⟨.hbm, 74, rfl⟩
abbrev main_v60 : Ref sig .tc := ⟨.hbm, 75, rfl⟩
abbrev main_v61 : Ref sig .tc := ⟨.hbm, 76, rfl⟩
abbrev main_cst_11 : Ref sig .tc := ⟨.hbm, 77, rfl⟩
abbrev main_v62 : Ref sig .tc := ⟨.hbm, 78, rfl⟩
abbrev main_v63 : Ref sig .tc := ⟨.hbm, 79, rfl⟩
abbrev main_cst_12 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_cst_13 : Ref sig .tc := ⟨.hbm, 102, rfl⟩
abbrev main_v85 : Ref sig .tc := ⟨.hbm, 103, rfl⟩
abbrev main_cst_14 : Ref sig .tc := ⟨.hbm, 104, rfl⟩
abbrev main_v86 : Ref sig .tc := ⟨.hbm, 105, rfl⟩
abbrev main_v87 : Ref sig .tc := ⟨.hbm, 106, rfl⟩

abbrev nD : Nat := 1
abbrev τ : Topo := Topo.v7x

variable {F : FTy → Type} [FloatOps F]
-- ==== NormBwd.lean ====
abbrev S4x4096x1024 : Shape := ⟨3, ![4, 4096, 1024]⟩
abbrev S3x4096x1024 : Shape := ⟨3, ![3, 4096, 1024]⟩
abbrev S8x1024x1280 : Shape := ⟨3, ![8, 1024, 1280]⟩
abbrev S4096x1024 : Shape := ⟨2, ![4096, 1024]⟩
abbrev S1x1024 : Shape := ⟨2, ![1, 1024]⟩
abbrev S8x1024 : Shape := ⟨2, ![8, 1024]⟩
abbrev S4x256x1024 : Shape := ⟨3, ![4, 256, 1024]⟩
abbrev S3x256x1024 : Shape := ⟨3, ![3, 256, 1024]⟩
abbrev S256x1024 : Shape := ⟨2, ![256, 1024]⟩
abbrev S1x256x1024 : Shape := ⟨3, ![1, 256, 1024]⟩
abbrev S1x1024x1024 : Shape := ⟨3, ![1, 1024, 1024]⟩
abbrev S1024x1024 : Shape := ⟨2, ![1024, 1024]⟩
abbrev S1x256x256 : Shape := ⟨3, ![1, 256, 256]⟩
abbrev S256x256 : Shape := ⟨2, ![256, 256]⟩
abbrev S1x1024x256 : Shape := ⟨3, ![1, 1024, 256]⟩
abbrev S1024x256 : Shape := ⟨2, ![1024, 256]⟩
abbrev S1x256x768 : Shape := ⟨3, ![1, 256, 768]⟩
abbrev S256x768 : Shape := ⟨2, ![256, 768]⟩
abbrev S1x1024x768 : Shape := ⟨3, ![1, 1024, 768]⟩
abbrev S1024x768 : Shape := ⟨2, ![1024, 768]⟩
abbrev S1x256x512 : Shape := ⟨3, ![1, 256, 512]⟩
abbrev S256x512 : Shape := ⟨2, ![256, 512]⟩
abbrev S1x1024x512 : Shape := ⟨3, ![1, 1024, 512]⟩
abbrev S1024x512 : Shape := ⟨2, ![1024, 512]⟩
abbrev S256 : Shape := ⟨1, ![256]⟩
abbrev S256x1 : Shape := ⟨2, ![256, 1]⟩
abbrev S1024 : Shape := ⟨1, ![1024]⟩

abbrev nBuf : Space → Nat
  | .hbm => 9
  | .vmem => 15
  | .smem => 0
  | _ => 0

abbrev bufTy : (tb : Table) → Fin (tcTables nBuf tb) → BufTy
  | .hbm, ⟨0, _⟩ => ⟨S4x4096x1024, .bf16⟩
  | .hbm, ⟨1, _⟩ => ⟨S3x4096x1024, .f32⟩
  | .hbm, ⟨2, _⟩ => ⟨S3x4096x1024, .bf16⟩
  | .hbm, ⟨3, _⟩ => ⟨S8x1024x1280, .bf16⟩
  | .hbm, ⟨4, _⟩ => ⟨S4096x1024, .f32⟩
  | .hbm, ⟨5, _⟩ => ⟨S4096x1024, .f32⟩
  | .hbm, ⟨6, _⟩ => ⟨S1x1024, .f32⟩
  | .hbm, ⟨7, _⟩ => ⟨S4096x1024, .f32⟩
  | .hbm, ⟨8, _⟩ => ⟨S8x1024, .f32⟩
  | .local _ .vmem, ⟨0, _⟩ => ⟨S4x256x1024, .bf16⟩
  | .local _ .vmem, ⟨1, _⟩ => ⟨S4x256x1024, .bf16⟩
  | .local _ .vmem, ⟨2, _⟩ => ⟨S3x256x1024, .f32⟩
  | .local _ .vmem, ⟨3, _⟩ => ⟨S3x256x1024, .f32⟩
  | .local _ .vmem, ⟨4, _⟩ => ⟨S3x256x1024, .bf16⟩
  | .local _ .vmem, ⟨5, _⟩ => ⟨S3x256x1024, .bf16⟩
  | .local _ .vmem, ⟨6, _⟩ => ⟨S8x1024x1280, .bf16⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S1x1024, .f32⟩
  | .local _ .vmem, ⟨12, _⟩ => ⟨S256x1024, .f32⟩
  | .local _ .vmem, ⟨13, _⟩ => ⟨S256x1024, .f32⟩
  | .local _ .vmem, ⟨14, _⟩ => ⟨S8x1024, .f32⟩
  | _, _ => ⟨S4x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x1024x1280 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== NormBwdRefIdeal.lean ====
abbrev S4x4096x1024 : Shape := ⟨3, ![4, 4096, 1024]⟩
abbrev S3x4096x1024 : Shape := ⟨3, ![3, 4096, 1024]⟩
abbrev S8x1024x1280 : Shape := ⟨3, ![8, 1024, 1280]⟩
abbrev S4096x1024 : Shape := ⟨2, ![4096, 1024]⟩
abbrev S1x1024 : Shape := ⟨2, ![1, 1024]⟩
abbrev S1024x8x1280 : Shape := ⟨3, ![1024, 8, 1280]⟩
abbrev S1024x10240 : Shape := ⟨2, ![1024, 10240]⟩
abbrev S1x4096x1024 : Shape := ⟨3, ![1, 4096, 1024]⟩
abbrev S4096x10240 : Shape := ⟨2, ![4096, 10240]⟩
abbrev S_ : Shape := ⟨0, ![]⟩
abbrev S4096 : Shape := ⟨1, ![4096]⟩
abbrev S4096x1 : Shape := ⟨2, ![4096, 1]⟩
abbrev S1024 : Shape := ⟨1, ![1024]⟩
abbrev S7x1024 : Shape := ⟨2, ![7, 1024]⟩
abbrev S8x1024 : Shape := ⟨2, ![8, 1024]⟩

abbrev nBuf : Space → Nat
  | .hbm => 86
  | .vmem => 0
  | .smem => 0
  | _ => 0

abbrev bufTy : (tb : Table) → Fin (tcTables nBuf tb) → BufTy
  | .hbm, ⟨0, _⟩ => ⟨S4x4096x1024, .bf16⟩
  | .hbm, ⟨1, _⟩ => ⟨S3x4096x1024, .f32⟩
  | .hbm, ⟨2, _⟩ => ⟨S3x4096x1024, .bf16⟩
  | .hbm, ⟨3, _⟩ => ⟨S8x1024x1280, .bf16⟩
  | .hbm, ⟨4, _⟩ => ⟨S4096x1024, .f32⟩
  | .hbm, ⟨5, _⟩ => ⟨S4096x1024, .f32⟩
  | .hbm, ⟨6, _⟩ => ⟨S1x1024, .f32⟩
  | .hbm, ⟨7, _⟩ => ⟨S1024x8x1280, .bf16⟩
  | .hbm, ⟨8, _⟩ => ⟨S1024x10240, .bf16⟩
  | .hbm, ⟨9, _⟩ => ⟨S1024x10240, .f32⟩
  | .hbm, ⟨10, _⟩ => ⟨S1x4096x1024, .bf16⟩
  | .hbm, ⟨11, _⟩ => ⟨S4096x1024, .bf16⟩
  | .hbm, ⟨12, _⟩ => ⟨S4096x1024, .f32⟩
  | .hbm, ⟨13, _⟩ => ⟨S1x4096x1024, .bf16⟩
  | .hbm, ⟨14, _⟩ => ⟨S4096x1024, .bf16⟩
  | .hbm, ⟨15, _⟩ => ⟨S4096x1024, .f32⟩
  | .hbm, ⟨16, _⟩ => ⟨S1x4096x1024, .bf16⟩
  | .hbm, ⟨17, _⟩ => ⟨S4096x1024, .bf16⟩
  | .hbm, ⟨18, _⟩ => ⟨S4096x1024, .f32⟩
  | .hbm, ⟨19, _⟩ => ⟨S1x4096x1024, .bf16⟩
  | .hbm, ⟨20, _⟩ => ⟨S4096x1024, .bf16⟩
  | .hbm, ⟨21, _⟩ => ⟨S4096x1024, .f32⟩
  | .hbm, ⟨22, _⟩ => ⟨S1x4096x1024, .f32⟩
  | .hbm, ⟨23, _⟩ => ⟨S4096x1024, .f32⟩
  | .hbm, ⟨24, _⟩ => ⟨S1x4096x1024, .f32⟩
  | .hbm, ⟨25, _⟩ => ⟨S4096x1024, .f32⟩
  | .hbm, ⟨26, _⟩ => ⟨S1x4096x1024, .f32⟩
  | .hbm, ⟨27, _⟩ => ⟨S4096x1024, .f32⟩
  | .hbm, ⟨28, _⟩ => ⟨S1x4096x1024, .bf16⟩
  | .hbm, ⟨29, _⟩ => ⟨S4096x1024, .bf16⟩
  | .hbm, ⟨30, _⟩ => ⟨S4096x1024, .f32⟩
  | .hbm, ⟨31, _⟩ => ⟨S1x4096x1024, .bf16⟩
  | .hbm, ⟨32, _⟩ => ⟨S4096x1024, .bf16⟩
  | .hbm, ⟨33, _⟩ => ⟨S4096x1024, .f32⟩
  | .hbm, ⟨34, _⟩ => ⟨S1x4096x1024, .bf16⟩
  | .hbm, ⟨35, _⟩ => ⟨S4096x1024, .bf16⟩
  | .hbm, ⟨36, _⟩ => ⟨S4096x1024, .f32⟩
  | .hbm, ⟨37, _⟩ => ⟨S4096x10240, .f32⟩
  | .hbm, ⟨38, _⟩ => ⟨S4096x1024, .f32⟩
  | .hbm, ⟨39, _⟩ => ⟨S_, .f32⟩
  | .hbm, ⟨40, _⟩ => ⟨S4096, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S4096x1, .f32⟩
  | .hbm, ⟨49, _⟩ => ⟨S4096x1, .f32⟩
  | .hbm, ⟨50, _⟩ => ⟨S_, .f32⟩
  | .hbm, ⟨51, _⟩ => ⟨S4096x1, .f32⟩
  | .hbm, ⟨52, _⟩ => ⟨S4096x1, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x10240, .f32⟩
  | .hbm, ⟨58, _⟩ => ⟨S4096x1024, .f32⟩
  | .hbm, ⟨59, _⟩ => ⟨S4096x1024, .f32⟩
  | .hbm, ⟨60, _⟩ => ⟨S_, .f32⟩
  | .hbm, ⟨61, _⟩ => ⟨S1024, .f32⟩
  | .hbm, ⟨62, _⟩ => ⟨S1x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S_, .f32⟩
  | .hbm, ⟨67, _⟩ => ⟨S4096, .f32⟩
  | .hbm, ⟨68, _⟩ => ⟨S4096x1, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1, .f32⟩
  | .hbm, ⟨73, _⟩ => ⟨S_, .f32⟩
  | .hbm, ⟨74, _⟩ => ⟨S4096x1, .f32⟩
  | .hbm, ⟨75, _⟩ => ⟨S4096x1, .f32⟩
  | .hbm, ⟨76, _⟩ => ⟨S_, .f32⟩
  | .hbm, ⟨77, _⟩ => ⟨S4096, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S4096x1024, .f32⟩
  | .hbm, ⟨83, _⟩ => ⟨S_, .f32⟩
  | .hbm, ⟨84, _⟩ => ⟨S7x1024, .f32⟩
  | .hbm, ⟨85, _⟩ => ⟨S8x1024, .f32⟩
  | _, _ => ⟨S4x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_cst : Ref sig .tc := ⟨.hbm, 39, rfl⟩
abbrev main_v32 : Ref sig .tc := ⟨.hbm, 40, rfl⟩
abbrev main_v33 : Ref sig .tc := ⟨.hbm, 41, rfl⟩
abbrev main_cst_0 : Ref sig .tc := ⟨.hbm, 42, rfl⟩
abbrev main_v34 : Ref sig .tc := ⟨.hbm, 43, rfl⟩
abbrev main_v35 : Ref sig .tc := ⟨.hbm, 44, rfl⟩
abbrev main_cst_1 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_cst_2 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_cst_3 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_cst_4 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_cst_5 : Ref sig .tc := ⟨.hbm, 73, rfl⟩
abbrev main_v60 : Ref sig .tc := ⟨.hbm, 74, rfl⟩
abbrev main_v61 : Ref sig .tc := ⟨.hbm, 75, rfl⟩
abbrev main_cst_6 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_cst_7 : Ref sig .tc := ⟨.hbm, 83, rfl⟩
abbrev main_v68 : Ref sig .tc := ⟨.hbm, 84, rfl⟩
abbrev main_v69 : Ref sig .tc := ⟨.hbm, 85, rfl⟩

abbrev nD : Nat := 1
abbrev τ : Topo := Topo.v7x

variable {F : FTy → Type} [FloatOps F]
-- ==== Mid.lean ====
abbrev S4096x1024 : Shape := ⟨2, ![4096, 1024]⟩
abbrev S4096x3072 : Shape := ⟨2, ![4096, 3072]⟩
abbrev S1x2048 : Shape := ⟨2, ![1, 2048]⟩
abbrev S1x1024 : Shape := ⟨2, ![1, 1024]⟩
abbrev S3x1024x1024 : Shape := ⟨3, ![3, 1024, 1024]⟩
abbrev S3x4096x1024 : Shape := ⟨3, ![3, 4096, 1024]⟩
abbrev S8x3x128x1024 : Shape := ⟨4, ![8, 3, 128, 1024]⟩
abbrev S8x1024 : Shape := ⟨2, ![8, 1024]⟩
abbrev S256x1024 : Shape := ⟨2, ![256, 1024]⟩
abbrev S3x256x1024 : Shape := ⟨3, ![3, 256, 1024]⟩
abbrev S2x128x1024 : Shape := ⟨3, ![2, 128, 1024]⟩
abbrev S2 : Shape := ⟨1, ![2]⟩
abbrev S1x1024x1024 : Shape := ⟨3, ![1, 1024, 1024]⟩
abbrev S1024x1024 : Shape := ⟨2, ![1024, 1024]⟩
abbrev S256 : Shape := ⟨1, ![256]⟩
abbrev S256x1 : Shape := ⟨2, ![256, 1]⟩
abbrev S1 : Shape := ⟨1, ![1]⟩
abbrev S1x1 : Shape := ⟨2, ![1, 1]⟩
abbrev S1024 : Shape := ⟨1, ![1024]⟩
abbrev S1024x256 : Shape := ⟨2, ![1024, 256]⟩
abbrev S1x256x1024 : Shape := ⟨3, ![1, 256, 1024]⟩
abbrev S1x128x1024 : Shape := ⟨3, ![1, 128, 1024]⟩
abbrev S128x1024 : Shape := ⟨2, ![128, 1024]⟩
abbrev S_ : Shape := ⟨0, ![]⟩
abbrev S1x1x128x1024 : Shape := ⟨4, ![1, 1, 128, 1024]⟩

abbrev nBuf : Space → Nat
  | .hbm => 14
  | .vmem => 28
  | .smem => 0
  | _ => 0

abbrev bufTy : (tb : Table) → Fin (tcTables nBuf tb) → BufTy
  | .hbm, ⟨0, _⟩ => ⟨S4096x1024, .bf16⟩
  | .hbm, ⟨1, _⟩ => ⟨S4096x3072, .bf16⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S1x2048, .f32⟩
  | .hbm, ⟨6, _⟩ => ⟨S1x1024, .f32⟩
  | .hbm, ⟨7, _⟩ => ⟨S3x1024x1024, .bf16⟩
  | .hbm, ⟨8, _⟩ => ⟨S4096x1024, .f32⟩
  | .hbm, ⟨9, _⟩ => ⟨S3x4096x1024, .bf16⟩
  | .hbm, ⟨10, _⟩ => ⟨S4096x1024, .f32⟩
  | .hbm, ⟨11, _⟩ => ⟨S4096x1024, .bf16⟩
  | .hbm, ⟨12, _⟩ => ⟨S8x3x128x1024, .bf16⟩
  | .hbm, ⟨13, _⟩ => ⟨S8x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S1x2048, .f32⟩
  | .local _ .vmem, ⟨15, _⟩ => ⟨S1x1024, .f32⟩
  | .local _ .vmem, ⟨16, _⟩ => ⟨S3x1024x1024, .bf16⟩
  | .local _ .vmem, ⟨17, _⟩ => ⟨S256x1024, .f32⟩
  | .local _ .vmem, ⟨18, _⟩ => ⟨S256x1024, .f32⟩
  | .local _ .vmem, ⟨19, _⟩ => ⟨S3x256x1024, .bf16⟩
  | .local _ .vmem, ⟨20, _⟩ => ⟨S3x256x1024, .bf16⟩
  | .local _ .vmem, ⟨21, _⟩ => ⟨S256x1024, .f32⟩
  | .local _ .vmem, ⟨22, _⟩ => ⟨S256x1024, .f32⟩
  | .local _ .vmem, ⟨23, _⟩ => ⟨S256x1024, .bf16⟩
  | .local _ .vmem, ⟨24, _⟩ => ⟨S256x1024, .bf16⟩
  | .local _ .vmem, ⟨25, _⟩ => ⟨S8x1024, .f32⟩
  | .local _ .vmem, ⟨26, _⟩ => ⟨S3x1024x1024, .f32⟩
  | .local _ .vmem, ⟨27, _⟩ => ⟨S2x128x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_scratch0 : Ref sig .tc := ⟨.vmem, 26, rfl⟩
abbrev cc0_scratch1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S3x1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S3x256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S8x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== MidRefIdeal.lean ====
abbrev S4096x1024 : Shape := ⟨2, ![4096, 1024]⟩
abbrev S4096x3072 : Shape := ⟨2, ![4096, 3072]⟩
abbrev S1x2048 : Shape := ⟨2, ![1, 2048]⟩
abbrev S1x1024 : Shape := ⟨2, ![1, 1024]⟩
abbrev S3x1024x1024 : Shape := ⟨3, ![3, 1024, 1024]⟩
abbrev S1x1024x1024 : Shape := ⟨3, ![1, 1024, 1024]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S8x1x128x1024 : Shape := ⟨4, ![8, 1, 128, 1024]⟩
abbrev S8x3x128x1024 : Shape := ⟨4, ![8, 3, 128, 1024]⟩
abbrev S2x1024 : Shape := ⟨2, ![2, 1024]⟩
abbrev S3x1024 : Shape := ⟨2, ![3, 1024]⟩
abbrev S8x1024 : Shape := ⟨2, ![8, 1024]⟩
abbrev S1x4096x1024 : Shape := ⟨3, ![1, 4096, 1024]⟩
abbrev S3x4096x1024 : Shape := ⟨3, ![3, 4096, 1024]⟩

abbrev nBuf : Space → Nat
  | .hbm => 192
  | .vmem => 0
  | .smem => 0
  | _ => 0

abbrev hbmTy0_0 (i : Nat) : BufTy := match i % 128 with
  | 0 => ⟨S4096x1024, .bf16⟩
  | 1 => ⟨S4096x3072, .bf16⟩
  | 2 => ⟨S4096x1024, .f32⟩
  | 3 => ⟨S4096x1024, .f32⟩
  | 4 => ⟨S4096x1024, .f32⟩
  | 5 => ⟨S1x2048, .f32⟩
  | 6 => ⟨S1x1024, .f32⟩
  | 7 => ⟨S3x1024x1024, .bf16⟩
  | 8 => ⟨S4096x1024, .bf16⟩
  | 9 => ⟨S4096x1024, .f32⟩
  | 10 => ⟨S4096x1024, .bf16⟩
  | 11 => ⟨S4096x1024, .f32⟩
  | 12 => ⟨S4096x1024, .bf16⟩
  | 13 => ⟨S4096x1024, .f32⟩
  | 14 => ⟨S4096x1024, .f32⟩
  | 15 => ⟨S1x1024x1024, .bf16⟩
  | 16 => ⟨S1024x1024, .bf16⟩
  | 17 => ⟨S1024x1024, .f32⟩
  | 18 => ⟨S1x1024x1024, .bf16⟩
  | 19 => ⟨S1024x1024, .bf16⟩
  | 20 => ⟨S1024x1024, .f32⟩
  | 21 => ⟨S1x1024x1024, .bf16⟩
  | 22 => ⟨S1024x1024, .bf16⟩
  | 23 => ⟨S1024x1024, .f32⟩
  | 24 => ⟨S4096x1024, .f32⟩
  | 25 => ⟨S4096x1024, .f32⟩
  | 26 => ⟨S4096x1024, .f32⟩
  | 27 => ⟨S_, .f32⟩
  | 28 => ⟨S4096x1024, .f32⟩
  | 29 => ⟨S4096x1024, .f32⟩
  | 30 => ⟨S_, .f32⟩
  | 31 => ⟨S4096x1024, .f32⟩
  | 32 => ⟨S4096x1024, .f32⟩
  | 33 => ⟨S_, .f32⟩
  | 34 => ⟨S4096x1024, .f32⟩
  | 35 => ⟨S4096x1024, .f32⟩
  | 36 => ⟨S4096x1024, .f32⟩
  | 37 => ⟨S4096x1024, .f32⟩
  | 38 => ⟨S4096x1024, .f32⟩
  | 39 => ⟨S4096x1024, .f32⟩
  | 40 => ⟨S1x1024, .f32⟩
  | 41 => ⟨S4096x1024, .f32⟩
  | 42 => ⟨S4096x1024, .f32⟩
  | 43 => ⟨S4096x1024, .f32⟩
  | 44 => ⟨S4096x1024, .f32⟩
  | 45 => ⟨S_, .f32⟩
  | 46 => ⟨S4096x1024, .f32⟩
  | 47 => ⟨S4096x1024, .f32⟩
  | 48 => ⟨S_, .f32⟩
  | 49 => ⟨S4096x1024, .f32⟩
  | 50 => ⟨S4096x1024, .f32⟩
  | 51 => ⟨S_, .f32⟩
  | 52 => ⟨S4096x1024, .f32⟩
  | 53 => ⟨S4096x1024, .f32⟩
  | 54 => ⟨S4096x1024, .f32⟩
  | 55 => ⟨S1x1024, .f32⟩
  | 56 => ⟨S4096x1024, .f32⟩
  | 57 => ⟨S4096x1024, .f32⟩
  | 58 => ⟨S4096x1024, .f32⟩
  | 59 => ⟨S4096x1024, .f32⟩
  | 60 => ⟨S_, .f32⟩
  | 61 => ⟨S4096x1024, .f32⟩
  | 62 => ⟨S4096x1024, .f32⟩
  | 63 => ⟨S_, .f32⟩
  | 64 => ⟨S4096x1024, .f32⟩
  | 65 => ⟨S4096x1024, .f32⟩
  | 66 => ⟨S_, .f32⟩
  | 67 => ⟨S4096x1024, .f32⟩
  | 68 => ⟨S4096x1024, .f32⟩
  | 69 => ⟨S4096x1024, .f32⟩
  | 70 => ⟨S4096x1024, .f32⟩
  | 71 => ⟨S4096x1024, .f32⟩
  | 72 => ⟨S4096x1024, .f32⟩
  | 73 => ⟨S4096x1024, .f32⟩
  | 74 => ⟨S4096x1024, .f32⟩
  | 75 => ⟨S4096x1024, .f32⟩
  | 76 => ⟨S_, .f32⟩
  | 77 => ⟨S4096, .f32⟩
  | 78 => ⟨S4096x1, .f32⟩
  | 79 => ⟨S_, .f32⟩
  | 80 => ⟨S4096x1, .f32⟩
  | 81 => ⟨S4096x1, .f32⟩
  | 82 => ⟨S_, .f32⟩
  | 83 => ⟨S4096x1, .f32⟩
  | 84 => ⟨S4096x1, .f32⟩
  | 85 => ⟨S4096x1, .f32⟩
  | 86 => ⟨S4096x1, .f32⟩
  | 87 => ⟨S_, .f32⟩
  | 88 => ⟨S4096x1, .f32⟩
  | 89 => ⟨S4096x1, .f32⟩
  | 90 => ⟨S4096x1024, .f32⟩
  | 91 => ⟨S4096x1024, .f32⟩
  | 92 => ⟨S4096x1024, .f32⟩
  | 93 => ⟨S4096x1024, .f32⟩
  | 94 => ⟨S4096x1024, .f32⟩
  | 95 => ⟨S4096x1024, .f32⟩
  | 96 => ⟨S_, .f32⟩
  | 97 => ⟨S4096x1024, .f32⟩
  | 98 => ⟨S4096x1024, .f32⟩
  | 99 => ⟨S_, .f32⟩
  | 100 => ⟨S4096, .f32⟩
  | 101 => ⟨S_, .f32⟩
  | 102 => ⟨S4096, .f32⟩
  | 103 => ⟨S4096, .f32⟩
  | 104 => ⟨S_, .f32⟩
  | 105 => ⟨S_, .f32⟩
  | 106 => ⟨S_, .f32⟩
  | 107 => ⟨S_, .f32⟩
  | 108 => ⟨S_, .f32⟩
  | 109 => ⟨S_, .f32⟩
  | 110 => ⟨S_, .f32⟩
  | 111 => ⟨S4096, .f32⟩
  | 112 => ⟨S_, .f32⟩
  | 113 => ⟨S4096, .f32⟩
  | 114 => ⟨S4096, .f32⟩
  | 115 => ⟨S4096x1024, .f32⟩
  | 116 => ⟨S4096x1024, .f32⟩
  | 117 => ⟨S4096x1024, .f32⟩
  | 118 => ⟨S_, .f32⟩
  | 119 => ⟨S1024, .f32⟩
  | 120 => ⟨S1x1024, .f32⟩
  | 121 => ⟨S4096x1024, .f32⟩
  | 122 => ⟨S4096x1024, .f32⟩
  | 123 => ⟨S4096x1024, .f32⟩
  | 124 => ⟨S_, .f32⟩
  | 125 => ⟨S4096, .f32⟩
  | 126 => ⟨S4096x1, .f32⟩
  | 127 => ⟨S4096x1024, .f32⟩
  | _ => ⟨S4096x1024, .bf16⟩

abbrev hbmTy0_1 (i : Nat) : BufTy := match i % 128 with
  | 0 => ⟨S4096x1024, .f32⟩
  | 1 => ⟨S4096x1, .f32⟩
  | 2 => ⟨S_, .f32⟩
  | 3 => ⟨S4096x1, .f32⟩
  | 4 => ⟨S4096x1, .f32⟩
  | 5 => ⟨S_, .f32⟩
  | 6 => ⟨S4096, .f32⟩
  | 7 => ⟨S4096x1024, .f32⟩
  | 8 => ⟨S4096x1024, .f32⟩
  | 9 => ⟨S4096x1024, .f32⟩
  | 10 => ⟨S4096x1024, .f32⟩
  | 11 => ⟨S4096x1024, .f32⟩
  | 12 => ⟨S1024x1024, .f32⟩
  | 13 => ⟨S1024x1024, .f32⟩
  | 14 => ⟨S4096x1024, .f32⟩
  | 15 => ⟨S4096x1024, .f32⟩
  | 16 => ⟨S4096x1024, .f32⟩
  | 17 => ⟨S4096x1024, .f32⟩
  | 18 => ⟨S4096x1024, .f32⟩
  | 19 => ⟨S4096x1024, .f32⟩
  | 20 => ⟨S_, .f32⟩
  | 21 => ⟨S1024, .f32⟩
  | 22 => ⟨S1x1024, .f32⟩
  | 23 => ⟨S_, .f32⟩
  | 24 => ⟨S1x2048, .f32⟩
  | 25 => ⟨S4096x1024, .f32⟩
  | 26 => ⟨S_, .f32⟩
  | 27 => ⟨S1024, .f32⟩
  | 28 => ⟨S1x1024, .f32⟩
  | 29 => ⟨S_, .f32⟩
  | 30 => ⟨S1x2048, .f32⟩
  | 31 => ⟨S1x2048, .f32⟩
  | 32 => ⟨S1024x1024, .f32⟩
  | 33 => ⟨S1024x1024, .f32⟩
  | 34 => ⟨S4096x1024, .f32⟩
  | 35 => ⟨S4096x1024, .f32⟩
  | 36 => ⟨S4096x1024, .f32⟩
  | 37 => ⟨S4096x1024, .f32⟩
  | 38 => ⟨S4096x1024, .f32⟩
  | 39 => ⟨S4096x1024, .f32⟩
  | 40 => ⟨S4096x1024, .f32⟩
  | 41 => ⟨S1024x1024, .f32⟩
  | 42 => ⟨S1024x1024, .f32⟩
  | 43 => ⟨S4096x1024, .f32⟩
  | 44 => ⟨S8x1x128x1024, .f32⟩
  | 45 => ⟨S8x1x128x1024, .f32⟩
  | 46 => ⟨S8x1x128x1024, .f32⟩
  | 47 => ⟨S8x3x128x1024, .f32⟩
  | 48 => ⟨S8x3x128x1024, .bf16⟩
  | 49 => ⟨S_, .f32⟩
  | 50 => ⟨S1x1024, .f32⟩
  | 51 => ⟨S2x1024, .f32⟩
  | 52 => ⟨S_, .f32⟩
  | 53 => ⟨S3x1024, .f32⟩
  | 54 => ⟨S1x1024, .f32⟩
  | 55 => ⟨S8x1024, .f32⟩
  | 56 => ⟨S4096x1024, .bf16⟩
  | 57 => ⟨S1x4096x1024, .bf16⟩
  | 58 => ⟨S4096x1024, .bf16⟩
  | 59 => ⟨S1x4096x1024, .bf16⟩
  | 60 => ⟨S4096x1024, .bf16⟩
  | 61 => ⟨S1x4096x1024, .bf16⟩
  | 62 => ⟨S3x4096x1024, .bf16⟩
  | 63 => ⟨S4096x1024, .bf16⟩
  | _ => ⟨S4096x1024, .bf16⟩

abbrev hbmTy (i : Nat) : BufTy := match i / 128 with
  | 0 => hbmTy0_0 i
  | 1 => hbmTy0_1 i
  | _ => ⟨S4096x1024, .bf16⟩

abbrev bufTy : (tb : Table) → Fin (tcTables nBuf tb) → BufTy
  | .hbm, ⟨i, _⟩ => hbmTy i
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst : Ref sig .tc := ⟨.hbm, 27, rfl⟩
abbrev main_v19 : Ref sig .tc := ⟨.hbm, 28, rfl⟩
abbrev main_v20 : Ref sig .tc := ⟨.hbm, 29, rfl⟩
abbrev main_cst_0 : Ref sig .tc := ⟨.hbm, 30, rfl⟩
abbrev main_v21 : Ref sig .tc := ⟨.hbm, 31, rfl⟩
abbrev main_v22 : Ref sig .tc := ⟨.hbm, 32, rfl⟩
abbrev main_cst_1 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_2 : Ref sig .tc := ⟨.hbm, 45, rfl⟩
abbrev main_v34 : Ref sig .tc := ⟨.hbm, 46, rfl⟩
abbrev main_v35 : Ref sig .tc := ⟨.hbm, 47, rfl⟩
abbrev main_cst_3 : Ref sig .tc := ⟨.hbm, 48, rfl⟩
abbrev main_v36 : Ref sig .tc := ⟨.hbm, 49, rfl⟩
abbrev main_v37 : Ref sig .tc := ⟨.hbm, 50, rfl⟩
abbrev main_cst_4 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_5 : Ref sig .tc := ⟨.hbm, 60, rfl⟩
abbrev main_v46 : Ref sig .tc := ⟨.hbm, 61, rfl⟩
abbrev main_v47 : Ref sig .tc := ⟨.hbm, 62, rfl⟩
abbrev main_cst_6 : Ref sig .tc := ⟨.hbm, 63, rfl⟩
abbrev main_v48 : Ref sig .tc := ⟨.hbm, 64, rfl⟩
abbrev main_v49 : Ref sig .tc := ⟨.hbm, 65, rfl⟩
abbrev main_cst_7 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_8 : Ref sig .tc := ⟨.hbm, 76, rfl⟩
abbrev main_v59 : Ref sig .tc := ⟨.hbm, 77, rfl⟩
abbrev main_v60 : Ref sig .tc := ⟨.hbm, 78, rfl⟩
abbrev main_cst_9 : Ref sig .tc := ⟨.hbm, 79, rfl⟩
abbrev main_v61 : Ref sig .tc := ⟨.hbm, 80, rfl⟩
abbrev main_v62 : Ref sig .tc := ⟨.hbm, 81, rfl⟩
abbrev main_cst_10 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_cst_11 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_cst_12 : Ref sig .tc := ⟨.hbm, 96, rfl⟩
abbrev main_v75 : Ref sig .tc := ⟨.hbm, 97, rfl⟩
abbrev main_v76 : Ref sig .tc := ⟨.hbm, 98, rfl⟩
abbrev main_cst_13 : Ref sig .tc := ⟨.hbm, 99, rfl⟩
abbrev main_v77 : Ref sig .tc := ⟨.hbm, 100, rfl⟩
abbrev main_cst_14 : Ref sig .tc := ⟨.hbm, 101, rfl⟩
abbrev main_v78 : Ref sig .tc := ⟨.hbm, 102, rfl⟩
abbrev main_v79 : Ref sig .tc := ⟨.hbm, 103, rfl⟩
abbrev main_cst_15 : Ref sig .tc := ⟨.hbm, 104, rfl⟩
abbrev main_v80 : Ref sig .tc := ⟨.hbm, 105, rfl⟩
abbrev main_cst_16 : Ref sig .tc := ⟨.hbm, 106, rfl⟩
abbrev main_v81 : Ref sig .tc := ⟨.hbm, 107, rfl⟩
abbrev main_cst_17 : Ref sig .tc := ⟨.hbm, 108, rfl⟩
abbrev main_cst_18 : Ref sig .tc := ⟨.hbm, 109, rfl⟩
abbrev main_v82 : Ref sig .tc := ⟨.hbm, 110, rfl⟩
abbrev main_v83 : Ref sig .tc := ⟨.hbm, 111, rfl⟩
abbrev main_cst_19 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_cst_20 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_cst_21 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_cst_22 : Ref sig .tc := ⟨.hbm, 130, rfl⟩
abbrev main_v99 : Ref sig .tc := ⟨.hbm, 131, rfl⟩
abbrev main_v100 : Ref sig .tc := ⟨.hbm, 132, rfl⟩
abbrev main_cst_23 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_cst_24 : Ref sig .tc := ⟨.hbm, 148, rfl⟩
abbrev main_v115 : Ref sig .tc := ⟨.hbm, 149, rfl⟩
abbrev main_v116 : Ref sig .tc := ⟨.hbm, 150, rfl⟩
abbrev main_cst_25 : Ref sig .tc := ⟨.hbm, 151, rfl⟩
abbrev main_v117 : Ref sig .tc := ⟨.hbm, 152, rfl⟩
abbrev main_v118 : Ref sig .tc := ⟨.hbm, 153, rfl⟩
abbrev main_cst_26 : Ref sig .tc := ⟨.hbm, 154, rfl⟩
abbrev main_v119 : Ref sig .tc := ⟨.hbm, 155, rfl⟩
abbrev main_v120 : Ref sig .tc := ⟨.hbm, 156, rfl⟩
abbrev main_cst_27 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_cst_28 : Ref sig .tc := ⟨.hbm, 177, rfl⟩
abbrev main_v140 : Ref sig .tc := ⟨.hbm, 178, rfl⟩
abbrev main_v141 : Ref sig .tc := ⟨.hbm, 179, rfl⟩
abbrev main_cst_29 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_v145 : Ref sig .tc := ⟨.hbm, 184, rfl⟩
abbrev main_v146 : Ref sig .tc := ⟨.hbm, 185, rfl⟩
abbrev main_v147 : Ref sig .tc := ⟨.hbm, 186, rfl⟩
abbrev main_v148 : Ref sig .tc := ⟨.hbm, 187, rfl⟩
abbrev main_v149 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩

abbrev nD : Nat := 1
abbrev τ : Topo := Topo.v7x

variable {F : FTy → Type} [FloatOps F]
-- ==== WeightGrad.lean ====
abbrev S1024x4096 : Shape := ⟨2, ![1024, 4096]⟩
abbrev S3x4096x1024 : Shape := ⟨3, ![3, 4096, 1024]⟩
abbrev S4x4096x1024 : Shape := ⟨3, ![4, 4096, 1024]⟩
abbrev S8x1024x1280 : Shape := ⟨3, ![8, 1024, 1280]⟩
abbrev S1x4096x256 : Shape := ⟨3, ![1, 4096, 256]⟩
abbrev S1x1024x256 : Shape := ⟨3, ![1, 1024, 256]⟩
abbrev S4096x256 : Shape := ⟨2, ![4096, 256]⟩
abbrev S1024x256 : Shape := ⟨2, ![1024, 256]⟩

abbrev nBuf : Space → Nat
  | .hbm => 7
  | .vmem => 15
  | .smem => 0
  | _ => 0

abbrev bufTy : (tb : Table) → Fin (tcTables nBuf tb) → BufTy
  | .hbm, ⟨0, _⟩ => ⟨S1024x4096, .bf16⟩
  | .hbm, ⟨1, _⟩ => ⟨S3x4096x1024, .bf16⟩
  | .hbm, ⟨2, _⟩ => ⟨S4x4096x1024, .bf16⟩
  | .hbm, ⟨3, _⟩ => ⟨S3x4096x1024, .f32⟩
  | .hbm, ⟨4, _⟩ => ⟨S8x1024x1280, .bf16⟩
  | .hbm, ⟨5, _⟩ => ⟨S8x1024x1280, .bf16⟩
  | .hbm, ⟨6, _⟩ => ⟨S8x1024x1280, .bf16⟩
  | .local _ .vmem, ⟨0, _⟩ => ⟨S1024x4096, .bf16⟩
  | .local _ .vmem, ⟨1, _⟩ => ⟨S1x4096x256, .bf16⟩
  | .local _ .vmem, ⟨2, _⟩ => ⟨S1x4096x256, .bf16⟩
  | .local _ .vmem, ⟨3, _⟩ => ⟨S1x1024x256, .bf16⟩
  | .local _ .vmem, ⟨4, _⟩ => ⟨S1x1024x256, .bf16⟩
  | .local _ .vmem, ⟨5, _⟩ => ⟨S1024x4096, .bf16⟩
  | .local _ .vmem, ⟨6, _⟩ => ⟨S1x4096x256, .bf16⟩
  | .local _ .vmem, ⟨7, _⟩ => ⟨S1x4096x256, .bf16⟩
  | .local _ .vmem, ⟨8, _⟩ => ⟨S1x1024x256, .bf16⟩
  | .local _ .vmem, ⟨9, _⟩ => ⟨S1x1024x256, .bf16⟩
  | .local _ .vmem, ⟨10, _⟩ => ⟨S1024x4096, .bf16⟩
  | .local _ .vmem, ⟨11, _⟩ => ⟨S1x4096x256, .f32⟩
  | .local _ .vmem, ⟨12, _⟩ => ⟨S1x4096x256, .f32⟩
  | .local _ .vmem, ⟨13, _⟩ => ⟨S1x1024x256, .bf16⟩
  | .local _ .vmem, ⟨14, _⟩ => ⟨S1x1024x256, .bf16⟩
  | _, _ => ⟨S1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg1_0 : Ref sig .tc := ⟨.vmem, 11, rfl⟩
abbrev cc2_stg1_1 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9
abbrev cc2_sem0_0 : DmaSem sig := 10
abbrev cc2_sem1_0 : DmaSem sig := 11
abbrev cc2_sem1_1 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 3 → Nat :=
  let arg0 : BitVec 32 := BitVec.ofNat 32 (i 0).val
  let c28_i32 : BitVec 32 := 28#32
  let v0 : BitVec 32 := Scalar.addi c28_i32 arg0
  let c5_i32 : BitVec 32 := 5#32
  let v1 : BitVec 32 := Scalar.divsi v0 c5_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c5_i32 c0_i32_1
  let v8 : BitVec 32 := Scalar.extui v7
  let c0_i32_2 : BitVec 32 := 0#32
  let v9 : BitVec 1 := Scalar.cmpi .slt c5_i32 c0_i32_2
  let v10 : BitVec 32 := Scalar.extui v9
  let v11 : BitVec 32 := Scalar.subi v8 v10
  let v12 : BitVec 1 := Scalar.cmpi .ne v6 v11
  let v13 : BitVec 32 := Scalar.remsi v0 c5_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c28_i32_4 : BitVec 32 := 28#32
  let v18 : BitVec 32 := Scalar.addi c28_i32_4 arg0
  let c5_i32_5 : BitVec 32 := 5#32
  let c0_i32_6 : BitVec 32 := 0#32
  let v19 : BitVec 1 := Scalar.cmpi .eq c5_i32_5 c0_i32_6
  let c1_i32_7 : BitVec 32 := 1#32
  let v20 : BitVec 32 := Scalar.select v19 c1_i32_7 c5_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v17.toNat, c0_i32_11.toNat, v28.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc1_transform_3 (i : grid1.Coords) : Fin 3 → Nat :=
  let arg0 : BitVec 32 := BitVec.ofNat 32 (i 0).val
  let c0_i32 : BitVec 32 := 0#32
  let v0 : BitVec 32 := Scalar.addi c0_i32 arg0
  let c5_i32 : BitVec 32 := 5#32
  let v1 : BitVec 32 := Scalar.divsi v0 c5_i32
  let c0_i32_0 : BitVec 32 := 0#32
  let v2 : BitVec 1 := Scalar.cmpi .sgt v0 c0_i32_0
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c5_i32 c0_i32_2
  let v8 : BitVec 32 := Scalar.extui v7
  let c0_i32_3 : BitVec 32 := 0#32
  let v9 : BitVec 1 := Scalar.cmpi .slt c5_i32 c0_i32_3
  let v10 : BitVec 32 := Scalar.extui v9
  let v11 : BitVec 32 := Scalar.subi v8 v10
  let v12 : BitVec 1 := Scalar.cmpi .ne v6 v11
  let v13 : BitVec 32 := Scalar.remsi v0 c5_i32
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c0_i32_5 : BitVec 32 := 0#32
  let v18 : BitVec 32 := Scalar.addi c0_i32_5 arg0
  let c5_i32_6 : BitVec 32 := 5#32
  let c0_i32_7 : BitVec 32 := 0#32
  let v19 : BitVec 1 := Scalar.cmpi .eq c5_i32_6 c0_i32_7
  let c1_i32_8 : BitVec 32 := 1#32
  let v20 : BitVec 32 := Scalar.select v19 c1_i32_8 c5_i32_6
  let v21 : BitVec 32 := Scalar.remsi v18 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![v17.toNat, c0_i32_12.toNat, v28.toNat]

abbrev stage1_0 : Fin 1 → Memref sig .tc .vmem S1024x4096 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S1x4096x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1024x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![12], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc2_transform_3 (i : grid2.Coords) : Fin 3 → Nat :=
  let arg0 : BitVec 32 := BitVec.ofNat 32 (i 0).val
  let c16_i32 : BitVec 32 := 16#32
  let v0 : BitVec 32 := Scalar.addi c16_i32 arg0
  let c5_i32 : BitVec 32 := 5#32
  let v1 : BitVec 32 := Scalar.divsi v0 c5_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c5_i32 c0_i32_1
  let v8 : BitVec 32 := Scalar.extui v7
  let c0_i32_2 : BitVec 32 := 0#32
  let v9 : BitVec 1 := Scalar.cmpi .slt c5_i32 c0_i32_2
  let v10 : BitVec 32 := Scalar.extui v9
  let v11 : BitVec 32 := Scalar.subi v8 v10
  let v12 : BitVec 1 := Scalar.cmpi .ne v6 v11
  let v13 : BitVec 32 := Scalar.remsi v0 c5_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c16_i32_4 : BitVec 32 := 16#32
  let v18 : BitVec 32 := Scalar.addi c16_i32_4 arg0
  let c5_i32_5 : BitVec 32 := 5#32
  let c0_i32_6 : BitVec 32 := 0#32
  let v19 : BitVec 1 := Scalar.cmpi .eq c5_i32_5 c0_i32_6
  let c1_i32_7 : BitVec 32 := 1#32
  let v20 : BitVec 32 := Scalar.select v19 c1_i32_7 c5_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v17.toNat, c0_i32_11.toNat, v28.toNat]

abbrev stage2_0 : Fin 1 → Memref sig .tc .vmem S1024x4096 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S1x4096x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x1024x256 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]
-- ==== WeightGradRefIdeal.lean ====
abbrev S1024x4096 : Shape := ⟨2, ![1024, 4096]⟩
abbrev S3x4096x1024 : Shape := ⟨3, ![3, 4096, 1024]⟩
abbrev S4x4096x1024 : Shape := ⟨3, ![4, 4096, 1024]⟩
abbrev S1x4096x1024 : Shape := ⟨3, ![1, 4096, 1024]⟩
abbrev S4096x1024 : Shape := ⟨2, ![4096, 1024]⟩
abbrev S4096x10240 : Shape := ⟨2, ![4096, 10240]⟩
abbrev S_ : Shape := ⟨0, ![]⟩
abbrev S1024x10240 : Shape := ⟨2, ![1024, 10240]⟩
abbrev S10240x1024 : Shape := ⟨2, ![10240, 1024]⟩
abbrev S1024x8x1280 : Shape := ⟨3, ![1024, 8, 1280]⟩
abbrev S8x1024x1280 : Shape := ⟨3, ![8, 1024, 1280]⟩

abbrev nBuf : Space → Nat
  | .hbm => 42
  | .vmem => 0
  | .smem => 0
  | _ => 0

abbrev bufTy : (tb : Table) → Fin (tcTables nBuf tb) → BufTy
  | .hbm, ⟨0, _⟩ => ⟨S1024x4096, .bf16⟩
  | .hbm, ⟨1, _⟩ => ⟨S3x4096x1024, .bf16⟩
  | .hbm, ⟨2, _⟩ => ⟨S4x4096x1024, .bf16⟩
  | .hbm, ⟨3, _⟩ => ⟨S3x4096x1024, .f32⟩
  | .hbm, ⟨4, _⟩ => ⟨S1x4096x1024, .bf16⟩
  | .hbm, ⟨5, _⟩ => ⟨S4096x1024, .bf16⟩
  | .hbm, ⟨6, _⟩ => ⟨S4096x1024, .f32⟩
  | .hbm, ⟨7, _⟩ => ⟨S1x4096x1024, .bf16⟩
  | .hbm, ⟨8, _⟩ => ⟨S4096x1024, .bf16⟩
  | .hbm, ⟨9, _⟩ => ⟨S4096x1024, .f32⟩
  | .hbm, ⟨10, _⟩ => ⟨S1x4096x1024, .bf16⟩
  | .hbm, ⟨11, _⟩ => ⟨S4096x1024, .bf16⟩
  | .hbm, ⟨12, _⟩ => ⟨S4096x1024, .f32⟩
  | .hbm, ⟨13, _⟩ => ⟨S1x4096x1024, .bf16⟩
  | .hbm, ⟨14, _⟩ => ⟨S4096x1024, .bf16⟩
  | .hbm, ⟨15, _⟩ => ⟨S4096x1024, .f32⟩
  | .hbm, ⟨16, _⟩ => ⟨S1x4096x1024, .f32⟩
  | .hbm, ⟨17, _⟩ => ⟨S4096x1024, .f32⟩
  | .hbm, ⟨18, _⟩ => ⟨S1x4096x1024, .f32⟩
  | .hbm, ⟨19, _⟩ => ⟨S4096x1024, .f32⟩
  | .hbm, ⟨20, _⟩ => ⟨S1x4096x1024, .f32⟩
  | .hbm, ⟨21, _⟩ => ⟨S4096x1024, .f32⟩
  | .hbm, ⟨22, _⟩ => ⟨S1x4096x1024, .bf16⟩
  | .hbm, ⟨23, _⟩ => ⟨S4096x1024, .bf16⟩
  | .hbm, ⟨24, _⟩ => ⟨S4096x1024, .f32⟩
  | .hbm, ⟨25, _⟩ => ⟨S1x4096x1024, .bf16⟩
  | .hbm, ⟨26, _⟩ => ⟨S4096x1024, .bf16⟩
  | .hbm, ⟨27, _⟩ => ⟨S4096x1024, .f32⟩
  | .hbm, ⟨28, _⟩ => ⟨S1x4096x1024, .bf16⟩
  | .hbm, ⟨29, _⟩ => ⟨S4096x1024, .bf16⟩
  | .hbm, ⟨30, _⟩ => ⟨S4096x1024, .f32⟩
  | .hbm, ⟨31, _⟩ => ⟨S4096x10240, .f32⟩
  | .hbm, ⟨32, _⟩ => ⟨S4096x1024, .bf16⟩
  | .hbm, ⟨33, _⟩ => ⟨S4096x1024, .f32⟩
  | .hbm, ⟨34, _⟩ => ⟨S_, .f32⟩
  | .hbm, ⟨35, _⟩ => ⟨S1024x10240, .f32⟩
  | .hbm, ⟨36, _⟩ => ⟨S4096x10240, .f32⟩
  | .hbm, ⟨37, _⟩ => ⟨S10240x1024, .f32⟩
  | .hbm, ⟨38, _⟩ => ⟨S1024x10240, .f32⟩
  | .hbm, ⟨39, _⟩ => ⟨S1024x10240, .bf16⟩
  | .hbm, ⟨40, _⟩ => ⟨S1024x8x1280, .bf16⟩
  | .hbm, ⟨41, _⟩ => ⟨S8x1024x1280, .bf16⟩
  | _, _ => ⟨S1024x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_cst : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩

abbrev nD : Nat := 1
abbrev τ : Topo := Topo.v7x

variable {F : FTy → Type} [FloatOps F]
-- ==== ProjConv.lean ====
abbrev S4096x1024 : Shape := ⟨2, ![4096, 1024]⟩
abbrev S8x1024x1280 : Shape := ⟨3, ![8, 1024, 1280]⟩
abbrev S4096x4096 : Shape := ⟨2, ![4096, 4096]⟩
abbrev S1x1024x256 : Shape := ⟨3, ![1, 1024, 256]⟩
abbrev S4096x256 : Shape := ⟨2, ![4096, 256]⟩
abbrev S1024x256 : Shape := ⟨2, ![1024, 256]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S8x1024x1280, .bf16⟩
  | .hbm, ⟨2, _⟩ => ⟨S4096x4096, .bf16⟩
  | .local _ .vmem, ⟨0, _⟩ => ⟨S4096x1024, .bf16⟩
  | .local _ .vmem, ⟨1, _⟩ => ⟨S1x1024x256, .bf16⟩
  | .local _ .vmem, ⟨2, _⟩ => ⟨S1x1024x256, .bf16⟩
  | .local _ .vmem, ⟨3, _⟩ => ⟨S4096x256, .bf16⟩
  | .local _ .vmem, ⟨4, _⟩ => ⟨S4096x256, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let v0 : BitVec 32 := Scalar.addi c0_i32 arg0
  let c5_i32 : BitVec 32 := 5#32
  let v1 : BitVec 32 := Scalar.divsi v0 c5_i32
  let c0_i32_0 : BitVec 32 := 0#32
  let v2 : BitVec 1 := Scalar.cmpi .sgt v0 c0_i32_0
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c5_i32 c0_i32_2
  let v8 : BitVec 32 := Scalar.extui v7
  let c0_i32_3 : BitVec 32 := 0#32
  let v9 : BitVec 1 := Scalar.cmpi .slt c5_i32 c0_i32_3
  let v10 : BitVec 32 := Scalar.extui v9
  let v11 : BitVec 32 := Scalar.subi v8 v10
  let v12 : BitVec 1 := Scalar.cmpi .ne v6 v11
  let v13 : BitVec 32 := Scalar.remsi v0 c5_i32
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c0_i32_5 : BitVec 32 := 0#32
  let v18 : BitVec 32 := Scalar.addi c0_i32_5 arg0
  let c5_i32_6 : BitVec 32 := 5#32
  let c0_i32_7 : BitVec 32 := 0#32
  let v19 : BitVec 1 := Scalar.cmpi .eq c5_i32_6 c0_i32_7
  let c1_i32_8 : BitVec 32 := 1#32
  let v20 : BitVec 32 := Scalar.select v19 c1_i32_8 c5_i32_6
  let v21 : BitVec 32 := Scalar.remsi v18 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![v17.toNat, c0_i32_12.toNat, v28.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ProjConvRefIdeal.lean ====
abbrev S4096x1024 : Shape := ⟨2, ![4096, 1024]⟩
abbrev S8x1024x1280 : Shape := ⟨3, ![8, 1024, 1280]⟩
abbrev S1024x8x1280 : Shape := ⟨3, ![1024, 8, 1280]⟩
abbrev S1024x10240 : Shape := ⟨2, ![1024, 10240]⟩
abbrev S1024x4096 : Shape := ⟨2, ![1024, 4096]⟩
abbrev S4096x4096 : Shape := ⟨2, ![4096, 4096]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S8x1024x1280, .bf16⟩
  | .hbm, ⟨2, _⟩ => ⟨S1024x8x1280, .bf16⟩
  | .hbm, ⟨3, _⟩ => ⟨S1024x10240, .bf16⟩
  | .hbm, ⟨4, _⟩ => ⟨S1024x10240, .f32⟩
  | .hbm, ⟨5, _⟩ => ⟨S4096x1024, .f32⟩
  | .hbm, ⟨6, _⟩ => ⟨S1024x4096, .f32⟩
  | .hbm, ⟨7, _⟩ => ⟨S4096x4096, .f32⟩
  | .hbm, ⟨8, _⟩ => ⟨S4096x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== ProjMid.lean ====
abbrev S4096x1024 : Shape := ⟨2, ![4096, 1024]⟩
abbrev S8x1024x1280 : Shape := ⟨3, ![8, 1024, 1280]⟩
abbrev S4096x3072 : Shape := ⟨2, ![4096, 3072]⟩
abbrev S1x1024x256 : Shape := ⟨3, ![1, 1024, 256]⟩
abbrev S4096x256 : Shape := ⟨2, ![4096, 256]⟩
abbrev S1024x256 : Shape := ⟨2, ![1024, 256]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S8x1024x1280, .bf16⟩
  | .hbm, ⟨2, _⟩ => ⟨S4096x3072, .bf16⟩
  | .local _ .vmem, ⟨0, _⟩ => ⟨S4096x1024, .bf16⟩
  | .local _ .vmem, ⟨1, _⟩ => ⟨S1x1024x256, .bf16⟩
  | .local _ .vmem, ⟨2, _⟩ => ⟨S1x1024x256, .bf16⟩
  | .local _ .vmem, ⟨3, _⟩ => ⟨S4096x256, .bf16⟩
  | .local _ .vmem, ⟨4, _⟩ => ⟨S4096x256, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c28_i32 : BitVec 32 := 28#32
  let v0 : BitVec 32 := Scalar.addi c28_i32 arg0
  let c5_i32 : BitVec 32 := 5#32
  let v1 : BitVec 32 := Scalar.divsi v0 c5_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c5_i32 c0_i32_1
  let v8 : BitVec 32 := Scalar.extui v7
  let c0_i32_2 : BitVec 32 := 0#32
  let v9 : BitVec 1 := Scalar.cmpi .slt c5_i32 c0_i32_2
  let v10 : BitVec 32 := Scalar.extui v9
  let v11 : BitVec 32 := Scalar.subi v8 v10
  let v12 : BitVec 1 := Scalar.cmpi .ne v6 v11
  let v13 : BitVec 32 := Scalar.remsi v0 c5_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c28_i32_4 : BitVec 32 := 28#32
  let v18 : BitVec 32 := Scalar.addi c28_i32_4 arg0
  let c5_i32_5 : BitVec 32 := 5#32
  let c0_i32_6 : BitVec 32 := 0#32
  let v19 : BitVec 1 := Scalar.cmpi .eq c5_i32_5 c0_i32_6
  let c1_i32_7 : BitVec 32 := 1#32
  let v20 : BitVec 32 := Scalar.select v19 c1_i32_7 c5_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v17.toNat, c0_i32_11.toNat, v28.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ProjMidRefIdeal.lean ====
abbrev S4096x1024 : Shape := ⟨2, ![4096, 1024]⟩
abbrev S8x1024x1280 : Shape := ⟨3, ![8, 1024, 1280]⟩
abbrev S1024x8x1280 : Shape := ⟨3, ![1024, 8, 1280]⟩
abbrev S1024x10240 : Shape := ⟨2, ![1024, 10240]⟩
abbrev S1024x3072 : Shape := ⟨2, ![1024, 3072]⟩
abbrev S4096x3072 : Shape := ⟨2, ![4096, 3072]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S8x1024x1280, .bf16⟩
  | .hbm, ⟨2, _⟩ => ⟨S1024x8x1280, .bf16⟩
  | .hbm, ⟨3, _⟩ => ⟨S1024x10240, .bf16⟩
  | .hbm, ⟨4, _⟩ => ⟨S1024x10240, .f32⟩
  | .hbm, ⟨5, _⟩ => ⟨S4096x1024, .f32⟩
  | .hbm, ⟨6, _⟩ => ⟨S1024x3072, .f32⟩
  | .hbm, ⟨7, _⟩ => ⟨S4096x3072, .f32⟩
  | .hbm, ⟨8, _⟩ => ⟨S4096x3072, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== ConvFwd.lean ====
abbrev S4096x4096 : Shape := ⟨2, ![4096, 4096]⟩
abbrev S3x1024 : Shape := ⟨2, ![3, 1024]⟩
abbrev S_ : Shape := ⟨0, ![]⟩
abbrev S5x1024 : Shape := ⟨2, ![5, 1024]⟩
abbrev S8x1024 : Shape := ⟨2, ![8, 1024]⟩
abbrev S4096x1024 : Shape := ⟨2, ![4096, 1024]⟩
abbrev S1024x512 : Shape := ⟨2, ![1024, 512]⟩
abbrev S16x512 : Shape := ⟨2, ![16, 512]⟩
abbrev S8x512 : Shape := ⟨2, ![8, 512]⟩
abbrev S1x512 : Shape := ⟨2, ![1, 512]⟩

abbrev nBuf : Space → Nat
  | .hbm => 6
  | .vmem => 16
  | .smem => 0
  | _ => 0

abbrev bufTy : (tb : Table) → Fin (tcTables nBuf tb) → BufTy
  | .hbm, ⟨0, _⟩ => ⟨S4096x4096, .bf16⟩
  | .hbm, ⟨1, _⟩ => ⟨S3x1024, .f32⟩
  | .hbm, ⟨2, _⟩ => ⟨S_, .f32⟩
  | .hbm, ⟨3, _⟩ => ⟨S5x1024, .f32⟩
  | .hbm, ⟨4, _⟩ => ⟨S8x1024, .f32⟩
  | .hbm, ⟨5, _⟩ => ⟨S4096x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S16x512, .bf16⟩
  | .local _ .vmem, ⟨9, _⟩ => ⟨S16x512, .bf16⟩
  | .local _ .vmem, ⟨10, _⟩ => ⟨S16x512, .bf16⟩
  | .local _ .vmem, ⟨11, _⟩ => ⟨S16x512, .bf16⟩
  | .local _ .vmem, ⟨12, _⟩ => ⟨S8x512, .f32⟩
  | .local _ .vmem, ⟨13, _⟩ => ⟨S8x512, .f32⟩
  | .local _ .vmem, ⟨14, _⟩ => ⟨S1024x512, .bf16⟩
  | .local _ .vmem, ⟨15, _⟩ => ⟨S1024x512, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let v3 : BitVec 32 := Scalar.addi c0_i32_0 arg1
  let c0_i32_1 : BitVec 32 := 0#32
  ![v2.toNat, v3.toNat]

def cc0_transform_5 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let v3 : BitVec 32 := Scalar.addi c4_i32 arg1
  let c0_i32_0 : BitVec 32 := 0#32
  ![v2.toNat, v3.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S16x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S16x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ConvFwdRefIdeal.lean ====
abbrev S4096x4096 : Shape := ⟨2, ![4096, 4096]⟩
abbrev S3x1024 : Shape := ⟨2, ![3, 1024]⟩
abbrev S4096x1024 : Shape := ⟨2, ![4096, 1024]⟩
abbrev S_ : Shape := ⟨0, ![]⟩
abbrev S2x1024 : Shape := ⟨2, ![2, 1024]⟩
abbrev S4098x1024 : Shape := ⟨2, ![4098, 1024]⟩
abbrev S1x1024 : Shape := ⟨2, ![1, 1024]⟩

abbrev nBuf : Space → Nat
  | .hbm => 40
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S3x1024, .f32⟩
  | .hbm, ⟨2, _⟩ => ⟨S4096x1024, .bf16⟩
  | .hbm, ⟨3, _⟩ => ⟨S4096x1024, .f32⟩
  | .hbm, ⟨4, _⟩ => ⟨S4096x1024, .bf16⟩
  | .hbm, ⟨5, _⟩ => ⟨S4096x1024, .f32⟩
  | .hbm, ⟨6, _⟩ => ⟨S4096x1024, .bf16⟩
  | .hbm, ⟨7, _⟩ => ⟨S4096x1024, .f32⟩
  | .hbm, ⟨8, _⟩ => ⟨S4096x1024, .bf16⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S2x1024, .f32⟩
  | .hbm, ⟨23, _⟩ => ⟨S4098x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S1x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_1 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩

abbrev nD : Nat := 1
abbrev τ : Topo := Topo.v7x

variable {F : FTy → Type} [FloatOps F]
-- ==== StepIn.lean ====
abbrev S8x1024x1280 : Shape := ⟨3, ![8, 1024, 1280]⟩
abbrev S1024x1280 : Shape := ⟨2, ![1024, 1280]⟩
abbrev S8x256x1280 : Shape := ⟨3, ![8, 256, 1280]⟩
abbrev S256x1280 : Shape := ⟨2, ![256, 1280]⟩
abbrev S1x256x1280 : Shape := ⟨3, ![1, 256, 1280]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x1280, .bf16⟩
  | .hbm, ⟨1, _⟩ => ⟨S1024x1280, .f32⟩
  | .hbm, ⟨2, _⟩ => ⟨S1024x1280, .f32⟩
  | .hbm, ⟨3, _⟩ => ⟨S1024x1280, .f32⟩
  | .hbm, ⟨4, _⟩ => ⟨S1024x1280, .f32⟩
  | .hbm, ⟨5, _⟩ => ⟨S1024x1280, .f32⟩
  | .hbm, ⟨6, _⟩ => ⟨S1024x1280, .f32⟩
  | .hbm, ⟨7, _⟩ => ⟨S1024x1280, .f32⟩
  | .local _ .vmem, ⟨0, _⟩ => ⟨S8x256x1280, .bf16⟩
  | .local _ .vmem, ⟨1, _⟩ => ⟨S8x256x1280, .bf16⟩
  | .local _ .vmem, ⟨2, _⟩ => ⟨S256x1280, .f32⟩
  | .local _ .vmem, ⟨3, _⟩ => ⟨S256x1280, .f32⟩
  | .local _ .vmem, ⟨4, _⟩ => ⟨S256x1280, .f32⟩
  | .local _ .vmem, ⟨5, _⟩ => ⟨S256x1280, .f32⟩
  | .local _ .vmem, ⟨6, _⟩ => ⟨S256x1280, .f32⟩
  | .local _ .vmem, ⟨7, _⟩ => ⟨S256x1280, .f32⟩
  | .local _ .vmem, ⟨8, _⟩ => ⟨S256x1280, .f32⟩
  | .local _ .vmem, ⟨9, _⟩ => ⟨S256x1280, .f32⟩
  | .local _ .vmem, ⟨10, _⟩ => ⟨S256x1280, .f32⟩
  | .local _ .vmem, ⟨11, _⟩ => ⟨S256x1280, .f32⟩
  | .local _ .vmem, ⟨12, _⟩ => ⟨S256x1280, .f32⟩
  | .local _ .vmem, ⟨13, _⟩ => ⟨S256x1280, .f32⟩
  | .local _ .vmem, ⟨14, _⟩ => ⟨S256x1280, .f32⟩
  | .local _ .vmem, ⟨15, _⟩ => ⟨S256x1280, .f32⟩
  | _, _ => ⟨S8x1024x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1280 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1280 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1280 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1280 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1280 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== StepInRefIdeal.lean ====
abbrev S8x1024x1280 : Shape := ⟨3, ![8, 1024, 1280]⟩
abbrev S1024x1280 : Shape := ⟨2, ![1024, 1280]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x1024x1280, .bf16⟩
  | .hbm, ⟨1, _⟩ => ⟨S1024x1280, .f32⟩
  | .hbm, ⟨2, _⟩ => ⟨S1024x1280, .f32⟩
  | .hbm, ⟨3, _⟩ => ⟨S1024x1280, .f32⟩
  | .hbm, ⟨4, _⟩ => ⟨S8x1024x1280, .f32⟩
  | .hbm, ⟨5, _⟩ => ⟨S_, .f32⟩
  | .hbm, ⟨6, _⟩ => ⟨S1024x1280, .f32⟩
  | .hbm, ⟨7, _⟩ => ⟨S_, .f32⟩
  | .hbm, ⟨8, _⟩ => ⟨S1024x1280, .f32⟩
  | .hbm, ⟨9, _⟩ => ⟨S1024x1280, .f32⟩
  | .hbm, ⟨10, _⟩ => ⟨S_, .f32⟩
  | .hbm, ⟨11, _⟩ => ⟨S1024x1280, .f32⟩
  | .hbm, ⟨12, _⟩ => ⟨S1024x1280, .f32⟩
  | .hbm, ⟨13, _⟩ => ⟨S1024x1280, .f32⟩
  | .hbm, ⟨14, _⟩ => ⟨S_, .f32⟩
  | .hbm, ⟨15, _⟩ => ⟨S1024x1280, .f32⟩
  | .hbm, ⟨16, _⟩ => ⟨S1024x1280, .f32⟩
  | .hbm, ⟨17, _⟩ => ⟨S1024x1280, .f32⟩
  | .hbm, ⟨18, _⟩ => ⟨S_, .f32⟩
  | .hbm, ⟨19, _⟩ => ⟨S1024x1280, .f32⟩
  | .hbm, ⟨20, _⟩ => ⟨S1024x1280, .f32⟩
  | .hbm, ⟨21, _⟩ => ⟨S1024x1280, .f32⟩
  | .hbm, ⟨22, _⟩ => ⟨S_, .f32⟩
  | .hbm, ⟨23, _⟩ => ⟨S1024x1280, .f32⟩
  | .hbm, ⟨24, _⟩ => ⟨S1024x1280, .f32⟩
  | .hbm, ⟨25, _⟩ => ⟨S_, .f32⟩
  | .hbm, ⟨26, _⟩ => ⟨S1024x1280, .f32⟩
  | .hbm, ⟨27, _⟩ => ⟨S1024x1280, .f32⟩
  | .hbm, ⟨28, _⟩ => ⟨S1024x1280, .f32⟩
  | .hbm, ⟨29, _⟩ => ⟨S_, .f32⟩
  | .hbm, ⟨30, _⟩ => ⟨S1024x1280, .f32⟩
  | .hbm, ⟨31, _⟩ => ⟨S1024x1280, .f32⟩
  | .hbm, ⟨32, _⟩ => ⟨S1024x1280, .f32⟩
  | .hbm, ⟨33, _⟩ => ⟨S_, .f32⟩
  | .hbm, ⟨34, _⟩ => ⟨S1024x1280, .f32⟩
  | .hbm, ⟨35, _⟩ => ⟨S1024x1280, .f32⟩
  | .hbm, ⟨36, _⟩ => ⟨S1024x1280, .f32⟩
  | .hbm, ⟨37, _⟩ => ⟨S_, .f32⟩
  | .hbm, ⟨38, _⟩ => ⟨S1024x1280, .f32⟩
  | .hbm, ⟨39, _⟩ => ⟨S1024x1280, .f32⟩
  | _, _ => ⟨S8x1024x1280, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== StepOut.lean ====
abbrev S8x384x1024 : Shape := ⟨3, ![8, 384, 1024]⟩
abbrev S384x1024 : Shape := ⟨2, ![384, 1024]⟩
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x384x1024, .bf16⟩
  | .hbm, ⟨1, _⟩ => ⟨S384x1024, .f32⟩
  | .hbm, ⟨2, _⟩ => ⟨S384x1024, .f32⟩
  | .hbm, ⟨3, _⟩ => ⟨S384x1024, .f32⟩
  | .hbm, ⟨4, _⟩ => ⟨S384x1024, .f32⟩
  | .hbm, ⟨5, _⟩ => ⟨S384x1024, .f32⟩
  | .hbm, ⟨6, _⟩ => ⟨S384x1024, .f32⟩
  | .hbm, ⟨7, _⟩ => ⟨S384x1024, .f32⟩
  | .local _ .vmem, ⟨0, _⟩ => ⟨S8x128x1024, .bf16⟩
  | .local _ .vmem, ⟨1, _⟩ => ⟨S8x128x1024, .bf16⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | _, _ => ⟨S8x384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![3], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== StepOutRefIdeal.lean ====
abbrev S8x384x1024 : Shape := ⟨3, ![8, 384, 1024]⟩
abbrev S384x1024 : Shape := ⟨2, ![384, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x384x1024, .bf16⟩
  | .hbm, ⟨1, _⟩ => ⟨S384x1024, .f32⟩
  | .hbm, ⟨2, _⟩ => ⟨S384x1024, .f32⟩
  | .hbm, ⟨3, _⟩ => ⟨S384x1024, .f32⟩
  | .hbm, ⟨4, _⟩ => ⟨S8x384x1024, .f32⟩
  | .hbm, ⟨5, _⟩ => ⟨S_, .f32⟩
  | .hbm, ⟨6, _⟩ => ⟨S384x1024, .f32⟩
  | .hbm, ⟨7, _⟩ => ⟨S_, .f32⟩
  | .hbm, ⟨8, _⟩ => ⟨S384x1024, .f32⟩
  | .hbm, ⟨9, _⟩ => ⟨S384x1024, .f32⟩
  | .hbm, ⟨10, _⟩ => ⟨S_, .f32⟩
  | .hbm, ⟨11, _⟩ => ⟨S384x1024, .f32⟩
  | .hbm, ⟨12, _⟩ => ⟨S384x1024, .f32⟩
  | .hbm, ⟨13, _⟩ => ⟨S384x1024, .f32⟩
  | .hbm, ⟨14, _⟩ => ⟨S_, .f32⟩
  | .hbm, ⟨15, _⟩ => ⟨S384x1024, .f32⟩
  | .hbm, ⟨16, _⟩ => ⟨S384x1024, .f32⟩
  | .hbm, ⟨17, _⟩ => ⟨S384x1024, .f32⟩
  | .hbm, ⟨18, _⟩ => ⟨S_, .f32⟩
  | .hbm, ⟨19, _⟩ => ⟨S384x1024, .f32⟩
  | .hbm, ⟨20, _⟩ => ⟨S384x1024, .f32⟩
  | .hbm, ⟨21, _⟩ => ⟨S384x1024, .f32⟩
  | .hbm, ⟨22, _⟩ => ⟨S_, .f32⟩
  | .hbm, ⟨23, _⟩ => ⟨S384x1024, .f32⟩
  | .hbm, ⟨24, _⟩ => ⟨S384x1024, .f32⟩
  | .hbm, ⟨25, _⟩ => ⟨S_, .f32⟩
  | .hbm, ⟨26, _⟩ => ⟨S384x1024, .f32⟩
  | .hbm, ⟨27, _⟩ => ⟨S384x1024, .f32⟩
  | .hbm, ⟨28, _⟩ => ⟨S384x1024, .f32⟩
  | .hbm, ⟨29, _⟩ => ⟨S_, .f32⟩
  | .hbm, ⟨30, _⟩ => ⟨S384x1024, .f32⟩
  | .hbm, ⟨31, _⟩ => ⟨S384x1024, .f32⟩
  | .hbm, ⟨32, _⟩ => ⟨S384x1024, .f32⟩
  | .hbm, ⟨33, _⟩ => ⟨S_, .f32⟩
  | .hbm, ⟨34, _⟩ => ⟨S384x1024, .f32⟩
  | .hbm, ⟨35, _⟩ => ⟨S384x1024, .f32⟩
  | .hbm, ⟨36, _⟩ => ⟨S384x1024, .f32⟩
  | .hbm, ⟨37, _⟩ => ⟨S_, .f32⟩
  | .hbm, ⟨38, _⟩ => ⟨S384x1024, .f32⟩
  | .hbm, ⟨39, _⟩ => ⟨S384x1024, .f32⟩
  | _, _ => ⟨S8x384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== StepSmall.lean ====
abbrev S8x1024 : Shape := ⟨2, ![8, 1024]⟩

abbrev nBuf : Space → Nat
  | .hbm => 7
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S8x1024, .f32⟩
  | .hbm, ⟨2, _⟩ => ⟨S8x1024, .f32⟩
  | .hbm, ⟨3, _⟩ => ⟨S8x1024, .f32⟩
  | .hbm, ⟨4, _⟩ => ⟨S8x1024, .f32⟩
  | .hbm, ⟨5, _⟩ => ⟨S8x1024, .f32⟩
  | .hbm, ⟨6, _⟩ => ⟨S8x1024, .f32⟩
  | .local _ .vmem, ⟨0, _⟩ => ⟨S8x1024, .f32⟩
  | .local _ .vmem, ⟨1, _⟩ => ⟨S8x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S8x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== StepSmallRefIdeal.lean ====
abbrev S8x1024 : Shape := ⟨2, ![8, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S8x1024, .f32⟩
  | .hbm, ⟨2, _⟩ => ⟨S8x1024, .f32⟩
  | .hbm, ⟨3, _⟩ => ⟨S8x1024, .f32⟩
  | .hbm, ⟨4, _⟩ => ⟨S_, .f32⟩
  | .hbm, ⟨5, _⟩ => ⟨S8x1024, .f32⟩
  | .hbm, ⟨6, _⟩ => ⟨S8x1024, .f32⟩
  | .hbm, ⟨7, _⟩ => ⟨S_, .f32⟩
  | .hbm, ⟨8, _⟩ => ⟨S8x1024, .f32⟩
  | .hbm, ⟨9, _⟩ => ⟨S8x1024, .f32⟩
  | .hbm, ⟨10, _⟩ => ⟨S8x1024, .f32⟩
  | .hbm, ⟨11, _⟩ => ⟨S_, .f32⟩
  | .hbm, ⟨12, _⟩ => ⟨S8x1024, .f32⟩
  | .hbm, ⟨13, _⟩ => ⟨S8x1024, .f32⟩
  | .hbm, ⟨14, _⟩ => ⟨S8x1024, .f32⟩
  | .hbm, ⟨15, _⟩ => ⟨S_, .f32⟩
  | .hbm, ⟨16, _⟩ => ⟨S8x1024, .f32⟩
  | .hbm, ⟨17, _⟩ => ⟨S8x1024, .f32⟩
  | .hbm, ⟨18, _⟩ => ⟨S8x1024, .f32⟩
  | .hbm, ⟨19, _⟩ => ⟨S_, .f32⟩
  | .hbm, ⟨20, _⟩ => ⟨S8x1024, .f32⟩
  | .hbm, ⟨21, _⟩ => ⟨S8x1024, .f32⟩
  | .hbm, ⟨22, _⟩ => ⟨S_, .f32⟩
  | .hbm, ⟨23, _⟩ => ⟨S8x1024, .f32⟩
  | .hbm, ⟨24, _⟩ => ⟨S8x1024, .f32⟩
  | .hbm, ⟨25, _⟩ => ⟨S8x1024, .f32⟩
  | .hbm, ⟨26, _⟩ => ⟨S_, .f32⟩
  | .hbm, ⟨27, _⟩ => ⟨S8x1024, .f32⟩
  | .hbm, ⟨28, _⟩ => ⟨S8x1024, .f32⟩
  | .hbm, ⟨29, _⟩ => ⟨S8x1024, .f32⟩
  | .hbm, ⟨30, _⟩ => ⟨S_, .f32⟩
  | .hbm, ⟨31, _⟩ => ⟨S8x1024, .f32⟩
  | .hbm, ⟨32, _⟩ => ⟨S8x1024, .f32⟩
  | .hbm, ⟨33, _⟩ => ⟨S8x1024, .f32⟩
  | .hbm, ⟨34, _⟩ => ⟨S_, .f32⟩
  | .hbm, ⟨35, _⟩ => ⟨S8x1024, .f32⟩
  | .hbm, ⟨36, _⟩ => ⟨S8x1024, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== StepConv.lean ====
abbrev S3x128 : Shape := ⟨2, ![3, 128]⟩

abbrev nBuf : Space → Nat
  | .hbm => 7
  | .vmem => 7
  | .smem => 0
  | _ => 0

abbrev bufTy : (tb : Table) → Fin (tcTables nBuf tb) → BufTy
  | .hbm, ⟨0, _⟩ => ⟨S3x128, .f32⟩
  | .hbm, ⟨1, _⟩ => ⟨S3x128, .f32⟩
  | .hbm, ⟨2, _⟩ => ⟨S3x128, .f32⟩
  | .hbm, ⟨3, _⟩ => ⟨S3x128, .f32⟩
  | .hbm, ⟨4, _⟩ => ⟨S3x128, .f32⟩
  | .hbm, ⟨5, _⟩ => ⟨S3x128, .f32⟩
  | .hbm, ⟨6, _⟩ => ⟨S3x128, .f32⟩
  | .local _ .vmem, ⟨0, _⟩ => ⟨S3x128, .f32⟩
  | .local _ .vmem, ⟨1, _⟩ => ⟨S3x128, .f32⟩
  | .local _ .vmem, ⟨2, _⟩ => ⟨S3x128, .f32⟩
  | .local _ .vmem, ⟨3, _⟩ => ⟨S3x128, .f32⟩
  | .local _ .vmem, ⟨4, _⟩ => ⟨S3x128, .f32⟩
  | .local _ .vmem, ⟨5, _⟩ => ⟨S3x128, .f32⟩
  | .local _ .vmem, ⟨6, _⟩ => ⟨S3x128, .f32⟩
  | _, _ => ⟨S3x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S3x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== StepConvRefIdeal.lean ====
abbrev S3x128 : Shape := ⟨2, ![3, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S3x128, .f32⟩
  | .hbm, ⟨1, _⟩ => ⟨S3x128, .f32⟩
  | .hbm, ⟨2, _⟩ => ⟨S3x128, .f32⟩
  | .hbm, ⟨3, _⟩ => ⟨S3x128, .f32⟩
  | .hbm, ⟨4, _⟩ => ⟨S_, .f32⟩
  | .hbm, ⟨5, _⟩ => ⟨S3x128, .f32⟩
  | .hbm, ⟨6, _⟩ => ⟨S3x128, .f32⟩
  | .hbm, ⟨7, _⟩ => ⟨S_, .f32⟩
  | .hbm, ⟨8, _⟩ => ⟨S3x128, .f32⟩
  | .hbm, ⟨9, _⟩ => ⟨S3x128, .f32⟩
  | .hbm, ⟨10, _⟩ => ⟨S3x128, .f32⟩
  | .hbm, ⟨11, _⟩ => ⟨S_, .f32⟩
  | .hbm, ⟨12, _⟩ => ⟨S3x128, .f32⟩
  | .hbm, ⟨13, _⟩ => ⟨S3x128, .f32⟩
  | .hbm, ⟨14, _⟩ => ⟨S3x128, .f32⟩
  | .hbm, ⟨15, _⟩ => ⟨S_, .f32⟩
  | .hbm, ⟨16, _⟩ => ⟨S3x128, .f32⟩
  | .hbm, ⟨17, _⟩ => ⟨S3x128, .f32⟩
  | .hbm, ⟨18, _⟩ => ⟨S3x128, .f32⟩
  | .hbm, ⟨19, _⟩ => ⟨S_, .f32⟩
  | .hbm, ⟨20, _⟩ => ⟨S3x128, .f32⟩
  | .hbm, ⟨21, _⟩ => ⟨S3x128, .f32⟩
  | .hbm, ⟨22, _⟩ => ⟨S_, .f32⟩
  | .hbm, ⟨23, _⟩ => ⟨S3x128, .f32⟩
  | .hbm, ⟨24, _⟩ => ⟨S3x128, .f32⟩
  | .hbm, ⟨25, _⟩ => ⟨S3x128, .f32⟩
  | .hbm, ⟨26, _⟩ => ⟨S_, .f32⟩
  | .hbm, ⟨27, _⟩ => ⟨S3x128, .f32⟩
  | .hbm, ⟨28, _⟩ => ⟨S3x128, .f32⟩
  | .hbm, ⟨29, _⟩ => ⟨S3x128, .f32⟩
  | .hbm, ⟨30, _⟩ => ⟨S_, .f32⟩
  | .hbm, ⟨31, _⟩ => ⟨S3x128, .f32⟩
  | .hbm, ⟨32, _⟩ => ⟨S3x128, .f32⟩
  | .hbm, ⟨33, _⟩ => ⟨S3x128, .f32⟩
  | .hbm, ⟨34, _⟩ => ⟨S_, .f32⟩
  | .hbm, ⟨35, _⟩ => ⟨S3x128, .f32⟩
  | .hbm, ⟨36, _⟩ => ⟨S3x128, .f32⟩
  | _, _ => ⟨S3x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.ConvSpec.lean ====
/- The gradient of the gated short convolution in closed form, over the extended reals: every array is a
   function of a row and a column, zero outside its extent. -/
module

public import Idealize.ShloMosaic.Lib.Pointwise

@[expose] public section

set_option maxRecDepth 16384

noncomputable section

open Idealize.ShloMosaic Idealize.ShloMosaic.TcCoe

namespace Cert.ConvSpec

/-- The element at row `r`, column `l` of a matrix, zero outside it. -/
def at2 {a b : ℕ} {φ : FTy} (X : FVec Ideal ⟨2, ![a, b]⟩ φ) (r l : ℕ) : EReal :=
  if h : r < a ∧ l < b then X (ix2 ⟨r, h.1⟩ ⟨l, h.2⟩) else 0

/-- The logistic function, as both programs compute it. -/
def sg (z : EReal) : EReal := Ideal.div 1 (1 + Ideal.exp (-z))

section

variable (dy : FVec Ideal ⟨2, ![4096, 1024]⟩ .bf16) (pa : FVec Ideal ⟨2, ![4096, 4096]⟩ .bf16)
  (w : FVec Ideal ⟨2, ![3, 1024]⟩ .f32)

/-- The convolved sequence `cg * xc`. -/
def u (r l : ℕ) : EReal := at2 pa r (2048 + l) * at2 pa r l

/-- The sequence `k` rows earlier, zero before it starts. -/
def sh (k r l : ℕ) : EReal := if r < k then 0 else u pa (r - k) l

/-- The convolution. -/
def conv (r l : ℕ) : EReal :=
  at2 w 0 l * sh pa 2 r l + at2 w 1 l * sh pa 1 r l + at2 w 2 l * sh pa 0 r l

/-- The gate `silu zc`. -/
def gate (r l : ℕ) : EReal := at2 pa r (3072 + l) * sg (at2 pa r (3072 + l))

/-- The convolution's gradient. -/
def dc (r l : ℕ) : EReal := at2 dy r l * gate pa r l * at2 pa r (1024 + l)

/-- The gradient of the convolved sequence. -/
def da (r l : ℕ) : EReal :=
  at2 w 2 l * dc dy pa r l + at2 w 1 l * dc dy pa (r + 1) l + at2 w 0 l * dc dy pa (r + 2) l

/-- The gradient of `zc`: the logistic's derivative in the form the kernel has it. -/
def dz (r l : ℕ) : EReal :=
  at2 dy r l * at2 pa r (1024 + l) * conv pa w r l
    * (sg (at2 pa r (3072 + l)) * (1 + at2 pa r (3072 + l) * (1 - sg (at2 pa r (3072 + l)))))

/-- The four gradients: of xc, bg, cg and zc. -/
def grads (s r l : ℕ) : EReal :=
  if s = 0 then da dy pa w r l * at2 pa r (2048 + l)
  else if s = 1 then at2 dy r l * gate pa r l * conv pa w r l
  else if s = 2 then da dy pa w r l * at2 pa r l
  else dz dy pa w r l

/-- A row's share of the taps' gradients, laid out in rows 4, 5 and 6 of eight: the convolution's gradient
    against the sequence two rows earlier, one row earlier and in place. -/
def taps (s r l : ℕ) : EReal :=
  ((if s = 4 then dc dy pa r l * sh pa 2 r l else 0) + if s = 5 then dc dy pa r l * sh pa 1 r l else 0)
    + if s = 6 then dc dy pa r l * sh pa 0 r l else 0

end

end Cert.ConvSpec

end
-- ==== Proof.ConvBody.lean ====
/- The gated short convolution's gradient: what the body stores at a grid point. -/
module

public import proofs.«01_k».proof.Proof.Gen.ConvBwdIdeal.Value
public import proofs.«01_k».proof.Proof.ConvSpec
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ConvBwdIdeal.Body

open Cert.ConvBwdIdeal Cert.ConvBwdIdeal.Gen Cert.ConvSpec

variable (m : (ℓ : Loc nD τ sig) → Buf (Elt Ideal) ℓ)

/-- The three argument arrays. -/
abbrev Dy (c : Dev nD) : FVec Ideal S4096x1024 .bf16 := m ((c : Thread nD τ).loc main_arg0)
abbrev Pa (c : Dev nD) : FVec Ideal S4096x4096 .bf16 := m ((c : Thread nD τ).loc main_arg1)
abbrev Tw (c : Dev nD) : FVec Ideal S3x1024 .f32 := m ((c : Thread nD τ).loc main_arg2)

theorem idx : ∀ t : Fin cfg0.N, win0_0.index t = ![t.val % 4, t.val / 4]
    ∧ win0_1.index t = ![t.val % 4, t.val / 4]
    ∧ win0_2.index t = ![t.val % 4, 2 + (t.val / 4)]
    ∧ win0_3.index t = ![t.val % 4, 4 + (t.val / 4)]
    ∧ win0_4.index t = ![t.val % 4, 6 + (t.val / 4)]
    ∧ win0_5.index t = ![t.val % 4 * 64 - 1, t.val / 4]
    ∧ win0_6.index t = ![t.val % 4 * 64 - 1, 4 + t.val / 4]
    ∧ win0_7.index t = ![min ((t.val % 4 + 1) * 64) 255, t.val / 4]
    ∧ win0_8.index t = ![min ((t.val % 4 + 1) * 64) 255, 2 + t.val / 4]
    ∧ win0_9.index t = ![min ((t.val % 4 + 1) * 64) 255, 6 + t.val / 4]
    ∧ win0_10.index t = ![0, t.val / 4]
    ∧ win0_11.index t = ![0, t.val % 4, t.val / 4]
    ∧ win0_12.index t = ![0, t.val / 4] :=
  (by decide +kernel : ∀ t : Fin grid0.N, _)

theorem coord1 : ∀ t : Fin cfg0.N, (grid0.coords t 1).val = t.val % 4 :=
  (by decide +kernel : ∀ t : Fin grid0.N, _)

/-- Row `r` and column `l` of the block at point `t`, in the array. -/
def row (t : Fin cfg0.N) (r : ℕ) : ℕ := t.val % 4 * 1024 + r
def col (t : Fin cfg0.N) (l : ℕ) : ℕ := t.val / 4 * 512 + l

theorem pt_lt (t : Fin cfg0.N) : t.val < 8 := lt_of_lt_of_eq t.isLt N_0

theorem blk0 (c : Dev nD) (t : Fin cfg0.N) (r : Fin 1024) (l : Fin 512) :
    iblk m c 0 t (ix2 r l) = at2 (Dy m c) (row t r) (col t l) := by
  have := pt_lt t
  simp only [row, col]
  rw [at2, dif_pos ⟨by omega, by omega⟩]
  blk_ext [iblk, V, idx t] <;> omega

theorem blk1 (c : Dev nD) (t : Fin cfg0.N) (r : Fin 1024) (l : Fin 512) :
    iblk m c 1 t (ix2 r l) = at2 (Pa m c) (row t r) (col t l) := by
  have := pt_lt t
  simp only [row, col]
  rw [at2, dif_pos ⟨by omega, by omega⟩]
  blk_ext [iblk, V, idx t] <;> omega

theorem blk2 (c : Dev nD) (t : Fin cfg0.N) (r : Fin 1024) (l : Fin 512) :
    iblk m c 2 t (ix2 r l) = at2 (Pa m c) (row t r) (1024 + col t l) := by
  have := pt_lt t
  simp only [row, col]
  rw [at2, dif_pos ⟨by omega, by omega⟩]
  blk_ext [iblk, V, idx t] <;> omega

theorem blk3 (c : Dev nD) (t : Fin cfg0.N) (r : Fin 1024) (l : Fin 512) :
    iblk m c 3 t (ix2 r l) = at2 (Pa m c) (row t r) (2048 + col t l) := by
  have := pt_lt t
  simp only [row, col]
  rw [at2, dif_pos ⟨by omega, by omega⟩]
  blk_ext [iblk, V, idx t] <;> omega

theorem blk4 (c : Dev nD) (t : Fin cfg0.N) (r : Fin 1024) (l : Fin 512) :
    iblk m c 4 t (ix2 r l) = at2 (Pa m c) (row t r) (3072 + col t l) := by
  have := pt_lt t
  simp only [row, col]
  rw [at2, dif_pos ⟨by omega, by omega⟩]
  blk_ext [iblk, V, idx t] <;> omega

theorem blk5 (c : Dev nD) (t : Fin cfg0.N) (h : t.val % 4 ≠ 0) (r : Fin 16) (l : Fin 512) :
    iblk m c 5 t (ix2 r l) = at2 (Pa m c) (row t r - 16) (col t l) := by
  have := pt_lt t
  simp only [row, col]
  rw [at2, dif_pos ⟨by omega, by omega⟩]
  blk_ext [iblk, V, idx t] <;> omega

theorem blk6 (c : Dev nD) (t : Fin cfg0.N) (h : t.val % 4 ≠ 0) (r : Fin 16) (l : Fin 512) :
    iblk m c 6 t (ix2 r l) = at2 (Pa m c) (row t r - 16) (2048 + col t l) := by
  have := pt_lt t
  simp only [row, col]
  rw [at2, dif_pos ⟨by omega, by omega⟩]
  blk_ext [iblk, V, idx t] <;> omega

theorem blk7 (c : Dev nD) (t : Fin cfg0.N) (h : t.val % 4 < 3) (r : Fin 16) (l : Fin 512) :
    iblk m c 7 t (ix2 r l) = at2 (Dy m c) (row t (1024 + r)) (col t l) := by
  have := pt_lt t
  simp only [row, col]
  rw [at2, dif_pos ⟨by omega, by omega⟩]
  blk_ext [iblk, V, idx t] <;> omega

theorem blk8 (c : Dev nD) (t : Fin cfg0.N) (h : t.val % 4 < 3) (r : Fin 16) (l : Fin 512) :
    iblk m c 8 t (ix2 r l) = at2 (Pa m c) (row t (1024 + r)) (1024 + col t l) := by
  have := pt_lt t
  simp only [row, col]
  rw [at2, dif_pos ⟨by omega, by omega⟩]
  blk_ext [iblk, V, idx t] <;> omega

theorem blk9 (c : Dev nD) (t : Fin cfg0.N) (h : t.val % 4 < 3) (r : Fin 16) (l : Fin 512) :
    iblk m c 9 t (ix2 r l) = at2 (Pa m c) (row t (1024 + r)) (3072 + col t l) := by
  have := pt_lt t
  simp only [row, col]
  rw [at2, dif_pos ⟨by omega, by omega⟩]
  blk_ext [iblk, V, idx t] <;> omega

theorem blk10 (c : Dev nD) (t : Fin cfg0.N) (j : Fin 3) (l : Fin 512) :
    iblk m c 10 t (ix2 ⟨j.val, by omega⟩ l) = at2 (Tw m c) j (col t l) := by
  have := pt_lt t
  simp only [col]
  rw [at2, dif_pos ⟨by omega, by omega⟩]
  blk_simp [iblk, idx t]
  entry_read
  pointwise
  rw [dif_pos (by blk_simp [idx t]; exact j.isLt)]
  blk_ext [idx t] <;> omega

/-! ## The values the body computes, in the array's rows and columns -/

/-- The convolved sequence. -/
theorem a0_at (c : Dev nD) (t : Fin cfg0.N) (r : Fin 1024) (l : Fin 512) :
    k0_pay5 (iblk m c 1 t) (iblk m c 3 t) (ix2 r l) = sh (Pa m c) 0 (row t r) (col t l) := by
  pointwise [k0_pay5, k0_pay4, k0_pay3]
  rw [blk1, blk3]
  rfl

/-- The convolved sequence one row earlier: the block's first row takes the tail of the block before. -/
theorem a1_at (c : Dev nD) (t : Fin cfg0.N) (r : Fin 1024) (l : Fin 512) :
    k0_pay7 (grid0.coords t) (iblk m c 1 t) (iblk m c 3 t) (iblk m c 6 t) (iblk m c 5 t) (ix2 r l)
      = sh (Pa m c) 1 (row t r) (col t l) := by
  have ht := coord1 t
  pointwise [k0_pay7, k0_pay6, k0_pay5, k0_pay4, k0_pay3, hlo_ix]
  simp (disch := word_cmp_side) only [hlo_ix]
  simp only [ht, blk1, blk3, sh, u]
  by_cases h1 : r.val = 0
  · rw [if_pos h1]
    by_cases h2 : 0 < t.val % 4
    · rw [if_pos h2, if_neg (by simp only [row]; omega), blk6 m c t (by omega), blk5 m c t (by omega),
        show row t (15 : Fin 16).val - 16 = row t r - 1 by simp only [row, h1]; omega]
    · rw [if_neg h2, if_pos (by simp only [row]; omega)]
  · rw [if_neg h1, if_neg (by simp only [row]; omega),
      show row t ((r.val + 1024 - 1) % 1024) = row t r - 1 by simp only [row]; omega]

/-- The convolved sequence two rows earlier. -/
theorem a2_at (c : Dev nD) (t : Fin cfg0.N) (r : Fin 1024) (l : Fin 512) :
    k0_pay8 (grid0.coords t) (iblk m c 1 t) (iblk m c 3 t) (iblk m c 6 t) (iblk m c 5 t) (ix2 r l)
      = sh (Pa m c) 2 (row t r) (col t l) := by
  have ht := coord1 t
  pointwise [k0_pay8, k0_pay6, k0_pay5, k0_pay4, k0_pay3, hlo_ix]
  simp (disch := word_cmp_side) only [hlo_ix]
  simp only [ht, blk1, blk3, sh, u]
  by_cases h1 : r.val = 0
  · rw [if_pos h1]
    by_cases h2 : 0 < t.val % 4
    · rw [if_pos h2, if_neg (by simp only [row]; omega), blk6 m c t (by omega), blk5 m c t (by omega),
        show row t (14 : Fin 16).val - 16 = row t r - 2 by simp only [row, h1]; omega]
    · rw [if_neg h2, if_pos (by simp only [row]; omega)]
  · rw [if_neg h1]
    by_cases h3 : r.val = 1
    · rw [if_pos h3]
      by_cases h2 : 0 < t.val % 4
      · rw [if_pos h2, if_neg (by simp only [row]; omega), blk6 m c t (by omega), blk5 m c t (by omega),
          show row t (15 : Fin 16).val - 16 = row t r - 2 by simp only [row, h3]; omega]
      · rw [if_neg h2, if_pos (by simp only [row]; omega)]
    · rw [if_neg h3, if_neg (by simp only [row]; omega),
        show row t ((r.val + 1024 - 2) % 1024) = row t r - 2 by simp only [row]; omega]

theorem dc_past (dy : FVec Ideal ⟨2, ![4096, 1024]⟩ .bf16) (pa : FVec Ideal ⟨2, ![4096, 4096]⟩ .bf16) (r l : ℕ)
    (h : 4096 ≤ r) : dc dy pa r l = 0 := by
  rw [dc, at2, dif_neg (by omega), zero_mul, zero_mul]

/-- The convolution's gradient. -/
theorem dc0_at (c : Dev nD) (t : Fin cfg0.N) (r : Fin 1024) (l : Fin 512) :
    k0_pay19 (k0_pay13 (iblk m c 4 t)) (k0_pay14 (iblk m c 2 t)) (k0_pay15 (iblk m c 0 t)) (ix2 r l)
      = dc (Dy m c) (Pa m c) (row t r) (col t l) := by
  pointwise [k0_pay19, k0_pay15, k0_pay14, k0_pay13, k0_pay12, k0_pay11]
  simp only [blk0, blk2, blk4, zero_sub]
  rfl

/-- The convolution's gradient one row later: the block's last row takes the head of the block after. -/
theorem dc1_at (c : Dev nD) (t : Fin cfg0.N) (r : Fin 1024) (l : Fin 512) :
    k0_pay21 (BitVec.ofNat 32 ↑(grid0.coords t 1)) (iota Kind.tc S1024x512 32 [0] iota_S1024x512_d0_w32)
        (k0_pay13 (iblk m c 4 t)) (k0_pay14 (iblk m c 2 t)) (k0_pay15 (iblk m c 0 t)) (iblk m c 9 t) (iblk m c 7 t)
        (iblk m c 8 t) (ix2 r l)
      = dc (Dy m c) (Pa m c) (row t r + 1) (col t l) := by
  have ht := coord1 t
  pointwise [k0_pay21, k0_pay20, k0_pay19, k0_pay15, k0_pay14, k0_pay13, k0_pay12, k0_pay11, hlo_ix]
  simp (disch := word_cmp_side) only [hlo_ix]
  simp only [ht, blk0, blk2, blk4, zero_sub]
  split_ifs with h1 h2
  · rw [blk7 m c t h2, blk8 m c t h2, blk9 m c t h2]
    simp only [dc, gate, sg, row, h1]
    rfl
  · rw [dc_past]
    simp only [row]; omega
  · rw [show row t ((r.val + 1024 - 1023) % 1024) = row t r + 1 by simp only [row]; omega]
    rfl

/-- The convolution's gradient two rows later. -/
theorem dc2_at (c : Dev nD) (t : Fin cfg0.N) (r : Fin 1024) (l : Fin 512) :
    Scalar.select (k0_pay22 (iota Kind.tc S1024x512 32 [0] iota_S1024x512_d0_w32) (ix2 r l))
      (k0_pay24 (BitVec.ofNat 32 ↑(grid0.coords t 1)) (iblk m c 9 t) (iblk m c 7 t) (iblk m c 8 t) (ix2 r l))
      (k0_pay23 (BitVec.ofNat 32 ↑(grid0.coords t 1)) (iota Kind.tc S1024x512 32 [0] iota_S1024x512_d0_w32)
        (k0_pay13 (iblk m c 4 t)) (k0_pay14 (iblk m c 2 t)) (k0_pay15 (iblk m c 0 t)) (iblk m c 9 t) (iblk m c 7 t)
        (iblk m c 8 t) (ix2 r l))
      = dc (Dy m c) (Pa m c) (row t r + 2) (col t l) := by
  have ht := coord1 t
  pointwise [k0_pay22, k0_pay23, k0_pay24, k0_pay20, k0_pay19, k0_pay15, k0_pay14, k0_pay13, k0_pay12, k0_pay11, hlo_ix]
  simp (disch := word_cmp_side) only [hlo_ix]
  simp only [ht, blk0, blk2, blk4, zero_sub]
  by_cases h1 : r.val = 1023
  · rw [if_pos h1]
    by_cases h2 : t.val % 4 < 3
    · rw [if_pos h2, blk7 m c t h2, blk8 m c t h2, blk9 m c t h2,
        show row t (1024 + (1 : Fin 16).val) = row t r + 2 by simp only [row, h1]; omega]
      simp only [dc, gate, sg]
    · rw [if_neg h2, dc_past]
      simp only [row]; omega
  · rw [if_neg h1]
    by_cases h3 : r.val = 1022
    · rw [if_pos h3]
      by_cases h2 : t.val % 4 < 3
      · rw [if_pos h2, blk7 m c t h2, blk8 m c t h2, blk9 m c t h2,
          show row t (1024 + (0 : Fin 16).val) = row t r + 2 by simp only [row, h3]; omega]
        simp only [dc, gate, sg]
      · rw [if_neg h2, dc_past]
        simp only [row]; omega
    · rw [if_neg h3, show row t ((r.val + 1024 - 1022) % 1024) = row t r + 2 by simp only [row]; omega]
      simp only [dc, gate, sg]

/-- The gradient of the convolved sequence, from the convolution's gradient at the three rows. -/
theorem da_at (c : Dev nD) (t : Fin cfg0.N) (r : Fin 1024) (l : Fin 512) :
    k0_pay25 (k0_pay9 (iblk m c 10 t))
      (k0_pay19 (k0_pay13 (iblk m c 4 t)) (k0_pay14 (iblk m c 2 t)) (k0_pay15 (iblk m c 0 t)))
      (k0_pay21 (BitVec.ofNat 32 ↑(grid0.coords t 1)) (iota Kind.tc S1024x512 32 [0] iota_S1024x512_d0_w32)
        (k0_pay13 (iblk m c 4 t)) (k0_pay14 (iblk m c 2 t)) (k0_pay15 (iblk m c 0 t)) (iblk m c 9 t) (iblk m c 7 t)
        (iblk m c 8 t))
      (k0_pay22 (iota Kind.tc S1024x512 32 [0] iota_S1024x512_d0_w32))
      (k0_pay23 (BitVec.ofNat 32 ↑(grid0.coords t 1)) (iota Kind.tc S1024x512 32 [0] iota_S1024x512_d0_w32)
        (k0_pay13 (iblk m c 4 t)) (k0_pay14 (iblk m c 2 t)) (k0_pay15 (iblk m c 0 t)) (iblk m c 9 t) (iblk m c 7 t)
        (iblk m c 8 t))
      (k0_pay24 (BitVec.ofNat 32 ↑(grid0.coords t 1)) (iblk m c 9 t) (iblk m c 7 t) (iblk m c 8 t)) (ix2 r l)
      = da (Dy m c) (Pa m c) (Tw m c) (row t r) (col t l) := by
  have e0 : iblk m c 10 t (ix2 0 l) = at2 (Tw m c) 0 (col t l) := blk10 m c t 0 l
  have e1 : iblk m c 10 t (ix2 1 l) = at2 (Tw m c) 1 (col t l) := blk10 m c t 1 l
  have e2 : iblk m c 10 t (ix2 2 l) = at2 (Tw m c) 2 (col t l) := blk10 m c t 2 l
  pointwise [k0_pay25, k0_pay9]
  rw [dc0_at, dc1_at, dc2_at, e0, e1, e2]
  rfl

/-! ## The four stored tiles -/

/-- The gradient of xc. -/
theorem tile0 (c : Dev nD) (t : Fin cfg0.N) (s : Fin 1) (r : Fin 1024) (l : Fin 512) :
    k0_pay27 (k0_pay4 (iblk m c 3 t)) (k0_pay9 (iblk m c 10 t))
      (k0_pay19 (k0_pay13 (iblk m c 4 t)) (k0_pay14 (iblk m c 2 t)) (k0_pay15 (iblk m c 0 t)))
      (k0_pay21 (BitVec.ofNat 32 ↑(grid0.coords t 1)) (iota Kind.tc S1024x512 32 [0] iota_S1024x512_d0_w32)
        (k0_pay13 (iblk m c 4 t)) (k0_pay14 (iblk m c 2 t)) (k0_pay15 (iblk m c 0 t)) (iblk m c 9 t) (iblk m c 7 t)
        (iblk m c 8 t))
      (k0_pay22 (iota Kind.tc S1024x512 32 [0] iota_S1024x512_d0_w32))
      (k0_pay23 (BitVec.ofNat 32 ↑(grid0.coords t 1)) (iota Kind.tc S1024x512 32 [0] iota_S1024x512_d0_w32)
        (k0_pay13 (iblk m c 4 t)) (k0_pay14 (iblk m c 2 t)) (k0_pay15 (iblk m c 0 t)) (iblk m c 9 t) (iblk m c 7 t)
        (iblk m c 8 t))
      (k0_pay24 (BitVec.ofNat 32 ↑(grid0.coords t 1)) (iblk m c 9 t) (iblk m c 7 t) (iblk m c 8 t)) (ix3 s r l)
      = grads (Dy m c) (Pa m c) (Tw m c) 0 (row t r) (col t l) := by
  pointwise [k0_pay27, k0_pay4]
  rw [da_at, blk3]
  rfl

/-- The gradient of bg. -/
theorem tile1 (c : Dev nD) (t : Fin cfg0.N) (s : Fin 1) (r : Fin 1024) (l : Fin 512) :
    k0_pay18 (k0_pay17 (k0_pay5 (iblk m c 1 t) (iblk m c 3 t))
        (k0_pay7 (grid0.coords t) (iblk m c 1 t) (iblk m c 3 t) (iblk m c 6 t) (iblk m c 5 t))
        (k0_pay8 (grid0.coords t) (iblk m c 1 t) (iblk m c 3 t) (iblk m c 6 t) (iblk m c 5 t)) (iblk m c 10 t)
        (iblk m c 4 t) (iblk m c 0 t)) (ix3 s r l)
      = grads (Dy m c) (Pa m c) (Tw m c) 1 (row t r) (col t l) := by
  have e0 : iblk m c 10 t (ix2 0 l) = at2 (Tw m c) 0 (col t l) := blk10 m c t 0 l
  have e1 : iblk m c 10 t (ix2 1 l) = at2 (Tw m c) 1 (col t l) := blk10 m c t 1 l
  have e2 : iblk m c 10 t (ix2 2 l) = at2 (Tw m c) 2 (col t l) := blk10 m c t 2 l
  pointwise [k0_pay18, k0_pay17, k0_pay15, k0_pay12, k0_pay11, k0_pay13, k0_pay14, k0_pay10, k0_pay9]
  rw [a2_at, a1_at, a0_at, e0, e1, e2, blk0, blk4, zero_sub]
  rfl

/-- The gradient of cg. -/
theorem tile2 (c : Dev nD) (t : Fin cfg0.N) (s : Fin 1) (r : Fin 1024) (l : Fin 512) :
    k0_pay26 (k0_pay3 (iblk m c 1 t)) (k0_pay9 (iblk m c 10 t))
      (k0_pay19 (k0_pay13 (iblk m c 4 t)) (k0_pay14 (iblk m c 2 t)) (k0_pay15 (iblk m c 0 t)))
      (k0_pay21 (BitVec.ofNat 32 ↑(grid0.coords t 1)) (iota Kind.tc S1024x512 32 [0] iota_S1024x512_d0_w32)
        (k0_pay13 (iblk m c 4 t)) (k0_pay14 (iblk m c 2 t)) (k0_pay15 (iblk m c 0 t)) (iblk m c 9 t) (iblk m c 7 t)
        (iblk m c 8 t))
      (k0_pay22 (iota Kind.tc S1024x512 32 [0] iota_S1024x512_d0_w32))
      (k0_pay23 (BitVec.ofNat 32 ↑(grid0.coords t 1)) (iota Kind.tc S1024x512 32 [0] iota_S1024x512_d0_w32)
        (k0_pay13 (iblk m c 4 t)) (k0_pay14 (iblk m c 2 t)) (k0_pay15 (iblk m c 0 t)) (iblk m c 9 t) (iblk m c 7 t)
        (iblk m c 8 t))
      (k0_pay24 (BitVec.ofNat 32 ↑(grid0.coords t 1)) (iblk m c 9 t) (iblk m c 7 t) (iblk m c 8 t)) (ix3 s r l)
      = grads (Dy m c) (Pa m c) (Tw m c) 2 (row t r) (col t l) := by
  pointwise [k0_pay26, k0_pay3]
  rw [da_at, blk1]
  rfl

/-- The gradient of zc. -/
theorem tile3 (c : Dev nD) (t : Fin cfg0.N) (s : Fin 1) (r : Fin 1024) (l : Fin 512) :
    k0_pay16 (k0_pay5 (iblk m c 1 t) (iblk m c 3 t))
        (k0_pay7 (grid0.coords t) (iblk m c 1 t) (iblk m c 3 t) (iblk m c 6 t) (iblk m c 5 t))
        (k0_pay8 (grid0.coords t) (iblk m c 1 t) (iblk m c 3 t) (iblk m c 6 t) (iblk m c 5 t)) (iblk m c 10 t)
        (iblk m c 4 t) (iblk m c 2 t) (iblk m c 0 t) (ix3 s r l)
      = grads (Dy m c) (Pa m c) (Tw m c) 3 (row t r) (col t l) := by
  have e0 : iblk m c 10 t (ix2 0 l) = at2 (Tw m c) 0 (col t l) := blk10 m c t 0 l
  have e1 : iblk m c 10 t (ix2 1 l) = at2 (Tw m c) 1 (col t l) := blk10 m c t 1 l
  have e2 : iblk m c 10 t (ix2 2 l) = at2 (Tw m c) 2 (col t l) := blk10 m c t 2 l
  pointwise [k0_pay16, k0_pay15, k0_pay12, k0_pay11, k0_pay13, k0_pay14, k0_pay10, k0_pay9]
  rw [a2_at, a1_at, a0_at, e0, e1, e2, blk0, blk2, blk4, zero_sub]
  rfl

/-! ## What a point leaves -/

/-- The four gradients' block after point `t`. -/
theorem grads_at (c : Dev nD) (t : Fin cfg0.N) (s : Fin 4) (r : Fin 1024) (l : Fin 512) :
    (outsAt0 m c t.val t.isLt).1 (ix3 s r l) = grads (Dy m c) (Pa m c) (Tw m c) s (row t r) (col t l) := by
  by_cases h : t.val % 4 = 0
  · rw [outsAt0_A m c t h]
    frame_out
    canon_tiles x h
    all_goals idx_vars x
    case piece0 =>
      rw [tile0, h1, h2, show s.val = 0 by omega]
    case piece1 =>
      rw [tile2, h1, h2, show s.val = 2 by omega]
    case piece2 =>
      rw [tile1, h1, h2, show s.val = 1 by omega]
    case piece3 =>
      rw [tile3, h1, h2, show s.val = 3 by omega]
  · rw [outsAt0_B m c t h]
    frame_out
    canon_tiles x h
    all_goals idx_vars x
    case piece0 =>
      rw [tile0, h1, h2, show s.val = 0 by omega]
    case piece1 =>
      rw [tile2, h1, h2, show s.val = 2 by omega]
    case piece2 =>
      rw [tile1, h1, h2, show s.val = 1 by omega]
    case piece3 =>
      rw [tile3, h1, h2, show s.val = 3 by omega]

/-- One step of the taps' accumulation: rows 4, 5 and 6 take the block's sums. -/
theorem acc_at (a b e d : FVec Ideal S1024x512 .f32) (p : Vec Ideal S8x512 .f32) (s : Fin 8) (l : Fin 512) :
    k0_pay1 (k0_pay28 p) (k0_pay29 a d) (k0_pay30 b d) (iota Kind.tc S8x512 32 [0] iota_S8x512_d0_w32)
        (k0_pay31 e d) k0_pay32 (ix2 s l)
      = p (ix2 s l) + ∑ r : Fin 1024, (((if s.val = 4 then d (ix2 r l) * e (ix2 r l) else 0)
        + if s.val = 5 then d (ix2 r l) * a (ix2 r l) else 0)
        + if s.val = 6 then d (ix2 r l) * b (ix2 r l) else 0) := by
  pointwise [k0_pay1, k0_pay28, k0_pay29, k0_pay30, k0_pay31, k0_pay32]
  simp (disch := word_cmp_side) only [hlo_ix]
  refine Ideal.add_congr rfl ?_
  show (_ : EReal) = _
  split_ifs
  all_goals first | omega | simp

/-- The step's sum at point `t`. -/
def part (c : Dev nD) (t : Fin cfg0.N) (y : S8x512.Idx) : EReal :=
  ∑ r : Fin 1024, taps (Dy m c) (Pa m c) (y 0).val (row t r) (col t (y 1).val)

theorem step_at (c : Dev nD) (t : Fin cfg0.N) (p : Vec Ideal S8x512 .f32) (y : S8x512.Idx) :
    k0_pay1 (k0_pay28 p)
      (k0_pay29 (k0_pay7 (grid0.coords t) (iblk m c 1 t) (iblk m c 3 t) (iblk m c 6 t) (iblk m c 5 t))
        (k0_pay19 (k0_pay13 (iblk m c 4 t)) (k0_pay14 (iblk m c 2 t)) (k0_pay15 (iblk m c 0 t))))
      (k0_pay30 (k0_pay5 (iblk m c 1 t) (iblk m c 3 t))
        (k0_pay19 (k0_pay13 (iblk m c 4 t)) (k0_pay14 (iblk m c 2 t)) (k0_pay15 (iblk m c 0 t))))
      (iota Kind.tc S8x512 32 [0] iota_S8x512_d0_w32)
      (k0_pay31 (k0_pay8 (grid0.coords t) (iblk m c 1 t) (iblk m c 3 t) (iblk m c 6 t) (iblk m c 5 t))
        (k0_pay19 (k0_pay13 (iblk m c 4 t)) (k0_pay14 (iblk m c 2 t)) (k0_pay15 (iblk m c 0 t))))
      k0_pay32 y
      = p y + part m c t y := by
  idx_vars y
  rw [acc_at]
  refine Ideal.add_congr rfl (Fin.sum_fin_congr fun r => ?_)
  rw [a2_at, a1_at, a0_at, dc0_at]
  rfl

/-- The taps' block when the row tiles are through: the sum over them. -/
theorem taps_at (c : Dev nD) (t : Fin cfg0.N) (hf : t.val % 4 = 3) (y : S8x512.Idx) :
    (outsAt0 m c t.val t.isLt).2 y
      = ∑ s : Fin 4, part m c ⟨4 * (t.val / 4) + s.val, by
          have := pt_lt t
          exact lt_of_lt_of_eq (by omega : _ < 8) N_0.symm⟩ y := by
  rw [Pipeline.eq_sum_fin_of_reset_step_apply_of_flush (fun n h => (outsAt0 m c n h).2) 4 (fun _ => 0)
    (fun p j => part m c p j)
    (fun t h j => by
      rw [outsAt0_A m c t h]
      frame_out
      rw [step_at]
      refine Ideal.add_congr ?_ rfl
      pointwise [k0_pay2])
    (fun t h j => by
      rw [outsAt0_B m c t h]
      frame_out
      rw [step_at])
    t hf y, zero_add]

/-! ## The two results -/

/-- The four gradients' array after the run. -/
theorem final11 (c : Dev nD) :
    (dats m 0 c).arrAt 11 cfg0.N = fun y => grads (Dy m c) (Pa m c) (Tw m c) (y 0).val (y 1).val (y 2).val := by
  refine (dats m 0 c).arrAt_eq_of_covers 11 _ (by decide +kernel) fun t hf y => ?_
  blk_simp [idx t]
  rw [after0_11]
  idx_vars y
  rw [grads_at]
  rfl

/-- The taps' gradient after the run. -/
theorem final12 (c : Dev nD) :
    (dats m 0 c).arrAt 12 cfg0.N
      = fun y => ∑ r : Fin 4096, taps (Dy m c) (Pa m c) (y 0).val r (y 1).val := by
  refine (dats m 0 c).arrAt_eq_of_covers 12 _ (by decide +kernel) fun t hf y => ?_
  blk_simp [idx t]
  rw [after0_12]
  rw [taps_at m c t ((flush0_12 t).mp hf)]
  rw [Fin.sum_univ_tiles 4 1024 rfl]
  refine Fin.sum_fin_congr fun s => ?_
  simp only [part, row, col]
  refine Fin.sum_fin_congr fun r => ?_
  have := s.isLt
  rw [show (4 * (t.val / 4) + s.val) % 4 = s.val by omega, show (4 * (t.val / 4) + s.val) / 4 = t.val / 4 by omega]

end Cert.ConvBwdIdeal.Body

end
-- ==== Proof.ConvFinite.lean ====
/- Finite extended reals, and the logistic's derivative in its two forms. -/
module

public import proofs.«01_k».proof.Proof.ConvSpec

@[expose] public section

set_option maxRecDepth 16384

noncomputable section

open Idealize.ShloMosaic Idealize.ShloMosaic.TcCoe

namespace Cert.ConvSpec

/-- A finite extended real. -/
def Fini (x : EReal) : Prop := ∃ r : ℝ, x = (r : EReal)

theorem Fini.zero : Fini 0 := ⟨0, rfl⟩

theorem Fini.mul {x y : EReal} : Fini x → Fini y → Fini (x * y) := by
  rintro ⟨a, rfl⟩ ⟨b, rfl⟩
  exact ⟨a * b, by norm_cast⟩

theorem Fini.add {x y : EReal} : Fini x → Fini y → Fini (x + y) := by
  rintro ⟨a, rfl⟩ ⟨b, rfl⟩
  exact ⟨a + b, by norm_cast⟩

/-- An extended real whose magnitude is below `⊤` is finite. -/
theorem Fini.of_abs {x : EReal} (h : max x (-x) < ⊤) : Fini x := by
  induction x with
  | bot => simp at h
  | top => simp at h
  | coe r => exact ⟨r, rfl⟩

theorem sg_coe (z : ℝ) : sg z = (((1 + Real.exp (-z))⁻¹ : ℝ) : EReal) := by
  have h : (1 + Real.exp (-z)) ≠ 0 := (add_pos one_pos (Real.exp_pos _)).ne'
  rw [sg, ← EReal.coe_neg, Ideal.exp_coe, ← EReal.coe_one, ← EReal.coe_add, Ideal.div_coe h, ← EReal.coe_mul]
  norm_num

/-- The derivative of `z * sg z` times `d * b * k`, as the chain rule writes it and factored. -/
theorem dz_forms {d b k z : EReal} (hd : Fini d) (hb : Fini b) (hk : Fini k) (hz : Fini z) :
    d * k * b * sg z + z * (d * k * b) * (sg z * (1 - sg z)) = d * b * k * (sg z * (1 + z * (1 - sg z))) := by
  obtain ⟨d, rfl⟩ := hd
  obtain ⟨b, rfl⟩ := hb
  obtain ⟨k, rfl⟩ := hk
  obtain ⟨z, rfl⟩ := hz
  rw [sg_coe]
  generalize (1 + Real.exp (-z))⁻¹ = s
  norm_cast
  ring_nf

theorem Fini.at2 {a b : ℕ} {φ : FTy} {X : FVec Ideal ⟨2, ![a, b]⟩ φ} (h : ∀ i, Fini (X i)) (r l : ℕ) :
    Fini (at2 X r l) := by
  rw [ConvSpec.at2]
  split_ifs
  · exact h _
  · exact Fini.zero

/-- The convolution of finite arrays is finite. -/
theorem Fini.conv {pa : FVec Ideal ⟨2, ![4096, 4096]⟩ .bf16} {w : FVec Ideal ⟨2, ![3, 1024]⟩ .f32}
    (hp : ∀ i, Fini (pa i)) (hw : ∀ i, Fini (w i)) (r l : ℕ) : Fini (conv pa w r l) := by
  have hsh : ∀ k, Fini (sh pa k r l) := fun k => by
    rw [sh]
    split_ifs
    · exact Fini.zero
    · exact (Fini.at2 hp _ _).mul (Fini.at2 hp _ _)
  exact (((Fini.at2 hw _ _).mul (hsh _)).add ((Fini.at2 hw _ _).mul (hsh _))).add ((Fini.at2 hw _ _).mul (hsh _))

end Cert.ConvSpec

end
-- ==== Proof.ConvRef.lean ====
/- The reference of the gated short convolution's gradient, read at an index. -/
module

public import proofs.«01_k».proof.Proof.Gen.ConvBwdRefIdeal.Read
public import proofs.«01_k».proof.Proof.ConvFinite

@[expose] public section

set_option maxRecDepth 16384

noncomputable section

open Idealize.ShloMosaic Idealize.ShloMosaic.TcCoe Idealize.SL.Sem

namespace Cert.ConvBwdRefIdeal.At

open Cert.ConvSpec Cert.ConvBwdRefIdeal Cert.ConvBwdRefIdeal.Gen Cert.ConvBwdRefIdeal.Read

/-- A read inside the matrix is the closed form's. -/
theorem in2 {a b : ℕ} {φ : FTy} (X : FVec Ideal ⟨2, ![a, b]⟩ φ) (r l : ℕ) (hr : r < a) (hl : l < b) :
    X (ix2 ⟨r, hr⟩ ⟨l, hl⟩) = at2 X r l := by
  rw [at2, dif_pos ⟨hr, hl⟩]

variable (dy : FVec Ideal S4096x1024 .bf16) (pa : FVec Ideal S4096x4096 .bf16) (w : FVec Ideal S3x1024 .f32)

/-- The sequence with two rows of zeros before it: row `r + k` is the sequence `2 - k` rows earlier. -/
theorem up_at (r : Fin 4098) (l : Fin 1024) :
    val_main_v21 (F := Ideal) pa (ix2 r l) = sh pa 2 r l := by
  pointwise [val_main_v21, val_main_v20, val_main_cst_2, val_main_v19, val_main_v5, val_main_v4, val_main_v1, val_main_v0]
  simp only [in2, sh, u]
  rfl

theorem sh_shift (k r l : ℕ) : sh pa (k + 1) (1 + r) l = sh pa k r l := by
  simp only [sh]
  split_ifs
  all_goals first | rfl | omega | (rw [show 1 + r - (k + 1) = r - k by omega])

/-- The convolution. -/
theorem conv_at (r : Fin 4096) (l : Fin 1024) :
    val_main_v36 (F := Ideal) pa w (ix2 r l) = conv pa w r l := by
  pointwise [val_main_v36, val_main_v35, val_main_v34, val_main_v33, val_main_v32, val_main_v31, val_main_v30, val_main_v29, val_main_v28, val_main_v27, val_main_v26, val_main_v25, val_main_v24, val_main_v23]
  simp only [up_at, in2]
  have h2 : sh pa 2 (2 + r.val) l = sh pa 0 r l := by
    rw [show 2 + r.val = 1 + (1 + r.val) by omega, sh_shift, sh_shift]
  rw [h2, sh_shift]
  rfl

/-- The convolution's gradient. -/
theorem dc_at (r : Fin 4096) (l : Fin 1024) :
    val_main_v39 (F := Ideal) dy pa (ix2 r l) = dc dy pa r l := by
  pointwise [val_main_v39, val_main_v38, val_main_v18, val_main_v17, val_main_v7, val_main_v6, val_main_v13, val_main_v12, val_main_v11, val_main_v10, val_main_v9, val_main_v8, val_main_cst, val_main_cst_0, val_main_v3, val_main_v2]
  simp only [in2, dc, gate, sg]
  rw [mul_comm, ← mul_assoc]

theorem dc_past (r l : ℕ) (h : 4096 ≤ r) : dc dy pa r l = 0 := by
  rw [dc, at2, dif_neg (by omega), zero_mul, zero_mul]

/-- The gradient of the convolved sequence. -/
theorem da_at (r : Fin 4096) (l : Fin 1024) :
    val_main_v67 (F := Ideal) dy pa w (ix2 r l) = da dy pa w r l := by
  pointwise [val_main_v67, val_main_v63, val_main_v62, val_main_cst_11, val_main_v58, val_main_v57, val_main_v54, val_main_v53, val_main_cst_8, val_main_v49, val_main_v48, val_main_v46, val_main_cst_5, val_main_v42, val_main_v41, val_main_v23, val_main_v27, val_main_v32]
  simp only [dc_at, in2]
  have h1 : (if h : 1 ≤ 2 + r.val ∧ 2 + r.val - 1 < 4096 then at2 w (1 : Fin 3) l * dc dy pa (2 + r.val - 1) l else 0)
      = at2 w 1 l * dc dy pa (r + 1) l := by
    split_ifs with h
    · rw [show 2 + r.val - 1 = r + 1 by omega]
      rfl
    · rw [dc_past dy pa _ _ (by omega), mul_zero]
  have h2 : (if h : 2 + r.val < 4096 then at2 w (0 : Fin 3) l * dc dy pa (2 + r.val) l else 0)
      = at2 w 0 l * dc dy pa (r + 2) l := by
    split_ifs with h
    · rw [show 2 + r.val = r + 2 by omega]
      rfl
    · rw [dc_past dy pa _ _ (by omega), mul_zero]
  rw [h1, h2]
  rfl

theorem out0_at (hd : ∀ i, Fini (dy i)) (hp : ∀ i, Fini (pa i)) (hw : ∀ i, Fini (w i)) (s : Fin 4) (r : Fin 4096) (l : Fin 1024) :
    val_main_v84 (F := Ideal) dy pa w (ix3 s r l) = grads dy pa w s r l := by
  pointwise [val_main_v84, val_main_v77, val_main_v76, val_main_v68, val_main_v79, val_main_v78, val_main_v70, val_main_v81, val_main_v80, val_main_v69, val_main_v83, val_main_v82, val_main_v75, val_main_v74, val_main_v73, val_main_v72, val_main_v71, val_main_v40]
  rw [da_at, conv_at]
  pointwise [val_main_v38, val_main_v18, val_main_v17, val_main_v7, val_main_v6, val_main_v16, val_main_v15, val_main_v14, val_main_v13, val_main_v12, val_main_v11, val_main_v10, val_main_v9, val_main_v8, val_main_cst, val_main_cst_0, val_main_cst_1, val_main_v3, val_main_v2, val_main_v5, val_main_v4, val_main_v1, val_main_v0]
  simp only [in2]
  fin_vals s with hs
  · simp only [hs, grads]
    exact mul_comm _ _
  · simp only [hs, grads, gate, sg]
    show (_ : EReal) * (_ * _) = _ * _ * _
    rw [← mul_assoc]
    exact congrArg (· * _) (mul_comm _ _)
  · simp only [hs, grads]
    rfl
  · simp only [hs, grads, dz]
    exact dz_forms (Fini.at2 hd _ _) (Fini.at2 hp _ _) (Fini.conv hp hw _ _) (Fini.at2 hp _ _)

theorem out1_at (s : Fin 8) (l : Fin 1024) :
    val_main_v87 (F := Ideal) dy pa (ix2 s l) = ∑ r : Fin 4096, taps dy pa s r l := by
  pointwise [val_main_v87, val_main_v86, val_main_v85, val_main_cst_14, val_main_cst_13, val_main_v65, val_main_v64, val_main_cst_12, val_main_v61, val_main_v60, val_main_cst_10, val_main_v59, val_main_v56, val_main_v55, val_main_cst_9, val_main_v52, val_main_v51, val_main_cst_7, val_main_v50, val_main_v47, val_main_cst_6, val_main_v45, val_main_v44, val_main_cst_4, val_main_v43, val_main_v33, val_main_v28, val_main_v24]
  simp only [up_at, dc_at]
  have h2 : ∀ r : ℕ, sh pa 2 (2 + r) l = sh pa 0 r l := fun r => by
    rw [show 2 + r = 1 + (1 + r) by omega, sh_shift, sh_shift]
  simp only [h2, sh_shift]
  fin_vals s with hs
  all_goals simp [hs, taps]

end Cert.ConvBwdRefIdeal.At

end
-- ==== Proof.ConvClaims.lean ====
/- The claims about the gated short convolution's gradient: the runs, and the two programs' equal values. -/
module

public import proofs.«01_k».proof.Defs
public import proofs.«01_k».proof.Proof.Gen.ConvBwd.Frame
public import proofs.«01_k».proof.Proof.Gen.Pre_finite
public import proofs.«01_k».proof.Proof.Gen.ConvBwdRefIdeal.Run
public import proofs.«01_k».proof.Proof.ConvBody
public import proofs.«01_k».proof.Proof.ConvRef
public import Idealize.ShloMosaic.Lib.Claim

@[expose] public section

set_option maxRecDepth 16384

noncomputable section

namespace Cert.Proof

open Idealize.ShloMosaic Idealize.ShloMosaic.TcCoe Idealize.SL.Sem Cert.ConvSpec

theorem quiescent_ConvBwd : Cert.quiescent_ConvBwd :=
  fun m ρ _ => Cert.ConvBwd.Gen.frame m ρ

theorem quiescent_ConvBwdIdeal : Cert.quiescent_ConvBwdIdeal :=
  fun m ρ _ => Cert.ConvBwdIdeal.Gen.frame m ρ

theorem quiescent_ConvBwdIdeal_pre_finite : Cert.quiescent_ConvBwdIdeal_pre_finite :=
  fun m ρ _ => Cert.ConvBwdIdeal.Gen.frame m ρ

theorem quiescent_ConvBwdRefIdeal : Cert.quiescent_ConvBwdRefIdeal := by
  intro m ρ _
  refine (θ_run _ _ _).mono (fun r h => ⟨fun c => ?_, sem_eq_zero_of_no_sems rfl _⟩) (Cert.ConvBwdRefIdeal.Value.run m ρ)
  exact (h c).2.2

theorem quiescent_ConvBwdRefIdeal_pre_finite : Cert.quiescent_ConvBwdRefIdeal_pre_finite :=
  fun m ρ _ => quiescent_ConvBwdRefIdeal m ρ trivial

/-- The infinite constant of the precondition. -/
theorem ofBits_inf : (Ideal.ofBits .f32 0x7F800000#32 : EReal) = ⊤ := by
  simp [Ideal.ofBits, Ideal.ieee]

/-- The precondition's comparison says that an element is finite. -/
theorem fini_of_cmp {x : EReal} (h : BitVec.ofBool (decide (max x (-x) < Ideal.ofBits .f32 0x7F800000#32)) = 1#1) :
    Fini x := by
  rw [ofBits_inf] at h
  refine Fini.of_abs ?_
  by_contra hn
  rw [decide_eq_false hn] at h
  exact absurd h (by decide)

/-- Under the precondition every element of the three arrays is finite. -/
theorem finite_args (m : (ℓ : Loc Cert.ConvBwdIdeal.nD Cert.ConvBwdIdeal.τ Cert.ConvBwdIdeal.sig) → Buf (Elt Ideal) ℓ)
    (h : Cert.Pre_ConvBwdIdeal_finite m) (c : Dev Cert.ConvBwdIdeal.nD) :
    (∀ i, Fini (Cert.ConvBwdIdeal.Body.Dy m c i)) ∧ (∀ i, Fini (Cert.ConvBwdIdeal.Body.Pa m c i))
      ∧ ∀ i, Fini (Cert.ConvBwdIdeal.Body.Tw m c i) := by
  obtain ⟨h0, h1, h2⟩ := h c
  refine ⟨fun i => fini_of_cmp ?_, fun i => fini_of_cmp ?_, fun i => fini_of_cmp ?_⟩
  · exact (by pointwise [Cert.Pre_finite.fn]; rfl : _ = _).trans (congrFun h0 i)
  · exact (by pointwise [Cert.Pre_finite.fn]; rfl : _ = _).trans (congrFun h1 i)
  · exact (by pointwise [Cert.Pre_finite.fn]; rfl : _ = _).trans (congrFun h2 i)

theorem algebraic_ConvBwdIdeal_ConvBwdRefIdeal_pre_finite :
    Cert.algebraic_ConvBwdIdeal_ConvBwdRefIdeal_pre_finite := by
  pair_intro
  · run_from Cert.ConvBwdIdeal.Value.run_blocks m g
  · run_from Cert.ConvBwdRefIdeal.Value.run m' g'
    · obtain ⟨hd, hp, hw⟩ := finite_args m hpre c
      rw [Cert.ConvBwdRefIdeal.Read.val_main_v84_eq, (hagree c).1, (hagree c).2.1, (hagree c).2.2,
        Cert.ConvBwdIdeal.Body.final11]
      funext y
      idx_vars y
      exact Cert.ConvBwdRefIdeal.At.out0_at _ _ _ hd hp hw _ _ _
    · rw [Cert.ConvBwdRefIdeal.Read.val_main_v87_eq, (hagree c).1, (hagree c).2.1, Cert.ConvBwdIdeal.Body.final12]
      funext y
      idx_vars y
      exact Cert.ConvBwdRefIdeal.At.out1_at _ _ _ _

end Cert.Proof

end
-- ==== Proof.ProjSpec.lean ====
/- The input projection in closed form, over the extended reals: the weights are kept in eight shards of 1280
   columns, and every array is a function of its coordinates, zero outside its extent. -/
module

public import proofs.«01_k».proof.Proof.ConvSpec

@[expose] public section

noncomputable section

open Idealize.ShloMosaic Idealize.ShloMosaic.TcCoe

namespace Cert.ProjSpec

open Cert.ConvSpec

/-- A read inside the matrix is the closed form's. -/
theorem read2 {a b : ℕ} {φ : FTy} (X : FVec Ideal ⟨2, ![a, b]⟩ φ) (r l : ℕ) (hr : r < a) (hl : l < b) :
    X (ix2 ⟨r, hr⟩ ⟨l, hl⟩) = at2 X r l := by
  rw [at2, dif_pos ⟨hr, hl⟩]

/-- The element of slice `s`, row `r`, column `l` of a stack of matrices, zero outside it. -/
def at3 {a b c : ℕ} {φ : FTy} (X : FVec Ideal ⟨3, ![a, b, c]⟩ φ) (s r l : ℕ) : EReal :=
  if h : s < a ∧ r < b ∧ l < c then X (ix3 ⟨s, h.1⟩ ⟨r, h.2.1⟩ ⟨l, h.2.2⟩) else 0

theorem read3 {a b c : ℕ} {φ : FTy} (X : FVec Ideal ⟨3, ![a, b, c]⟩ φ) (s r l : ℕ) (hs : s < a) (hr : r < b)
    (hl : l < c) : X (ix3 ⟨s, hs⟩ ⟨r, hr⟩ ⟨l, hl⟩) = at3 X s r l := by
  rw [at3, dif_pos ⟨hs, hr, hl⟩]

/-- Column `l` of the whole weight matrix lies in shard `l / 1280`. -/
def win (w : FVec Ideal ⟨3, ![8, 1024, 1280]⟩ .bf16) (k l : ℕ) : EReal := at3 w (l / 1280) k (l % 1280)

/-- The projection onto column `l` of the whole weight matrix. -/
def proj (u : FVec Ideal ⟨2, ![4096, 1024]⟩ .bf16) (w : FVec Ideal ⟨3, ![8, 1024, 1280]⟩ .bf16) (r l : ℕ) : EReal :=
  ∑ k : Fin 1024, at2 u r k * win w k l

end Cert.ProjSpec

end
-- ==== Proof.NormSpec.lean ====
/- The gradient of the input projection and the pre-norm in closed form, over the extended reals. -/
module

public import proofs.«01_k».proof.Proof.ProjSpec
public import proofs.«01_k».proof.Proof.ConvFinite

@[expose] public section

set_option maxRecDepth 16384

noncomputable section

open Idealize.ShloMosaic Idealize.ShloMosaic.TcCoe

namespace Cert.NormSpec

open Cert.ConvSpec Cert.ProjSpec

/-- The sum of `f` over the `n` numbers from `a` on. -/
def span (f : ℕ → EReal) (a n : ℕ) : EReal := ∑ j : Fin n, f (a + j)

theorem span_join (f : ℕ → EReal) (a n k : ℕ) : span f a n + span f (a + n) k = span f a (n + k) := by
  rw [span, span, span, Fin.sum_univ_add]
  simp only [Fin.val_castAdd, Fin.val_natAdd, Nat.add_assoc]

/-- The sixteen runs of columns that lie in one segment and in one shard. -/
theorem span_pieces (f : ℕ → EReal) :
    span f 0 1024 + span f 1024 256 + span f 1280 768 + span f 2048 512 + span f 2560 512 + span f 3072 768
      + span f 3840 256 + span f 4096 1024 + span f 5120 1024 + span f 6144 256 + span f 6400 768 + span f 7168 512
      + span f 7680 512 + span f 8192 768 + span f 8960 256 + span f 9216 1024 = ∑ l : Fin 10240, f l := by
  rw [span_join f 0 1024 256, span_join f 0 1280 768, span_join f 0 2048 512, span_join f 0 2560 512,
    span_join f 0 3072 768, span_join f 0 3840 256, span_join f 0 4096 1024, span_join f 0 5120 1024,
    span_join f 0 6144 256, span_join f 0 6400 768, span_join f 0 7168 512, span_join f 0 7680 512,
    span_join f 0 8192 768, span_join f 0 8960 256, span_join f 0 9216 1024, span]
  simp only [Nat.zero_add]

section

variable (dc : FVec Ideal ⟨3, ![4, 4096, 1024]⟩ .bf16) (da : FVec Ideal ⟨3, ![3, 4096, 1024]⟩ .f32)
  (dm : FVec Ideal ⟨3, ![3, 4096, 1024]⟩ .bf16) (w : FVec Ideal ⟨3, ![8, 1024, 1280]⟩ .bf16)
  (x dh : FVec Ideal ⟨2, ![4096, 1024]⟩ .f32) (g : FVec Ideal ⟨2, ![1, 1024]⟩ .f32)

/-- The gradient of the projections: column `l` lies in segment `l / 1024`, the segments in three groups. -/
def ct (r l : ℕ) : EReal :=
  if l < 4096 then at3 dc (l / 1024) r (l % 1024)
  else if l < 7168 then at3 da (l / 1024 - 4) r (l % 1024)
  else at3 dm (l / 1024 - 7) r (l % 1024)

theorem ct_conv (r : ℕ) {s k l : ℕ} (hs : s < 4) (hk : k < 1024) (h : l = s * 1024 + k) :
    at3 dc s r k = ct dc da dm r l := by
  subst h
  rw [ct, if_pos (by omega), show (s * 1024 + k) / 1024 = s by omega, show (s * 1024 + k) % 1024 = k by omega]

theorem ct_attn (r : ℕ) {s k l : ℕ} (hs : s < 3) (hk : k < 1024) (h : l = s * 1024 + k + 4096) :
    at3 da s r k = ct dc da dm r l := by
  subst h
  rw [ct, if_neg (by omega), if_pos (by omega), show (s * 1024 + k + 4096) / 1024 - 4 = s by omega,
    show (s * 1024 + k + 4096) % 1024 = k by omega]

theorem ct_mid (r : ℕ) {s k l : ℕ} (hk : k < 1024) (h : l = s * 1024 + k + 7168) :
    at3 dm s r k = ct dc da dm r l := by
  subst h
  rw [ct, if_neg (by omega), if_neg (by omega), show (s * 1024 + k + 7168) / 1024 - 7 = s by omega,
    show (s * 1024 + k + 7168) % 1024 = k by omega]

theorem win_shard (i : ℕ) {s k l : ℕ} (hk : k < 1280) (h : l = s * 1280 + k) : at3 w s i k = win w i l := by
  subst h
  rw [win, show (s * 1280 + k) / 1280 = s by omega, show (s * 1280 + k) % 1280 = k by omega]

/-- The gradient of the normalised input. -/
def du (r k : ℕ) : EReal := ∑ l : Fin 10240, ct dc da dm r l * win w k l

/-- The stabiliser, a float word's exact value. -/
def eps : EReal := Ideal.ofBits .f32 0x358637BD#32

/-- The mean square of a row, stabilised. -/
def ms (r : ℕ) : EReal := Ideal.div (∑ k : Fin 1024, at2 x r k * at2 x r k) (Ideal.ofBits .f32 0x44800000#32) + eps

/-- The reciprocal root of the mean square. -/
def rr (r : ℕ) : EReal := Ideal.rsqrt (ms x r)

/-- The gradient of the input. -/
def gx (r l : ℕ) : EReal :=
  at2 dh r l + rr x r * (du dc da dm w r l * at2 g 0 l - at2 x r l * rr x r
    * Ideal.div (∑ k : Fin 1024, du dc da dm w r k * at2 g 0 k * (at2 x r k * rr x r)) (Ideal.ofBits .f32 0x44800000#32))

/-- The gradient of the gain. -/
def gg (l : ℕ) : EReal := ∑ r : Fin 4096, du dc da dm w r l * (at2 x r l * rr x r)

end

end Cert.NormSpec

end
-- ==== Proof.NormBody.lean ====
/- The gradient of the input projection and the pre-norm: what the body stores at a grid point. -/
module

public import proofs.«01_k».proof.Proof.Gen.NormBwdIdeal.Value
public import proofs.«01_k».proof.Proof.NormSpec
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.NormBwdIdeal.Body

open Cert.NormBwdIdeal Cert.NormBwdIdeal.Gen Cert.ConvSpec Cert.ProjSpec Cert.NormSpec

variable (m : (ℓ : Loc nD τ sig) → Buf (Elt Ideal) ℓ)

/-- The argument arrays. -/
abbrev Dc (c : Dev nD) : FVec Ideal S4x4096x1024 .bf16 := m ((c : Thread nD τ).loc main_arg0)
abbrev Da (c : Dev nD) : FVec Ideal S3x4096x1024 .f32 := m ((c : Thread nD τ).loc main_arg1)
abbrev Dm (c : Dev nD) : FVec Ideal S3x4096x1024 .bf16 := m ((c : Thread nD τ).loc main_arg2)
abbrev W (c : Dev nD) : FVec Ideal S8x1024x1280 .bf16 := m ((c : Thread nD τ).loc main_arg3)
abbrev X (c : Dev nD) : FVec Ideal S4096x1024 .f32 := m ((c : Thread nD τ).loc main_arg4)
abbrev Dh (c : Dev nD) : FVec Ideal S4096x1024 .f32 := m ((c : Thread nD τ).loc main_arg5)
abbrev G (c : Dev nD) : FVec Ideal S1x1024 .f32 := m ((c : Thread nD τ).loc main_arg6)

theorem pt_lt (t : Fin cfg0.N) : t.val < 16 := lt_of_lt_of_eq t.isLt N_0

theorem idx : ∀ t : Fin cfg0.N, win0_0.index t = ![0, t.val, 0]
    ∧ win0_1.index t = ![0, t.val, 0]
    ∧ win0_2.index t = ![0, t.val, 0]
    ∧ win0_3.index t = ![0, 0, 0]
    ∧ win0_4.index t = ![t.val, 0]
    ∧ win0_5.index t = ![t.val, 0]
    ∧ win0_6.index t = ![0, 0]
    ∧ win0_7.index t = ![t.val, 0]
    ∧ win0_8.index t = ![0, 0] :=
  (by decide +kernel : ∀ t : Fin grid0.N, _)

theorem blk0 (c : Dev nD) (t : Fin cfg0.N) (s : Fin 4) (r : Fin 256) (l : Fin 1024) :
    iblk m c 0 t (ix3 s r l) = at3 (Dc m c) s (t.val * 256 + r) l := by
  have := pt_lt t
  rw [at3, dif_pos ⟨by omega, by omega, by omega⟩]
  blk_ext [iblk, V, idx t] <;> omega

theorem blk1 (c : Dev nD) (t : Fin cfg0.N) (s : Fin 3) (r : Fin 256) (l : Fin 1024) :
    iblk m c 1 t (ix3 s r l) = at3 (Da m c) s (t.val * 256 + r) l := by
  have := pt_lt t
  rw [at3, dif_pos ⟨by omega, by omega, by omega⟩]
  blk_ext [iblk, V, idx t] <;> omega

theorem blk2 (c : Dev nD) (t : Fin cfg0.N) (s : Fin 3) (r : Fin 256) (l : Fin 1024) :
    iblk m c 2 t (ix3 s r l) = at3 (Dm m c) s (t.val * 256 + r) l := by
  have := pt_lt t
  rw [at3, dif_pos ⟨by omega, by omega, by omega⟩]
  blk_ext [iblk, V, idx t] <;> omega

theorem blk3 (c : Dev nD) (t : Fin cfg0.N) (s : Fin 8) (r : Fin 1024) (l : Fin 1280) :
    iblk m c 3 t (ix3 s r l) = at3 (W m c) s r l := by
  rw [at3, dif_pos ⟨by omega, by omega, by omega⟩]
  blk_ext [iblk, V, idx t] <;> omega

theorem blk4 (c : Dev nD) (t : Fin cfg0.N) (r : Fin 256) (l : Fin 1024) :
    iblk m c 4 t (ix2 r l) = at2 (X m c) (t.val * 256 + r) l := by
  have := pt_lt t
  rw [at2, dif_pos ⟨by omega, by omega⟩]
  blk_ext [iblk, V, idx t] <;> omega

theorem blk5 (c : Dev nD) (t : Fin cfg0.N) (r : Fin 256) (l : Fin 1024) :
    iblk m c 5 t (ix2 r l) = at2 (Dh m c) (t.val * 256 + r) l := by
  have := pt_lt t
  rw [at2, dif_pos ⟨by omega, by omega⟩]
  blk_ext [iblk, V, idx t] <;> omega

theorem blk6 (c : Dev nD) (t : Fin cfg0.N) (z : Fin 1) (l : Fin 1024) :
    iblk m c 6 t (ix2 z l) = at2 (G m c) 0 l := by
  rw [at2, dif_pos ⟨by omega, by omega⟩]
  blk_ext [iblk, V, idx t] <;> omega

/-- The body's sum of sixteen products, from the blocks. -/
def duK (x0 : Vec Ideal S4x256x1024 .bf16) (x1 : Vec Ideal S3x256x1024 .f32) (x2 : Vec Ideal S3x256x1024 .bf16)
    (x3 : Vec Ideal S8x1024x1280 .bf16) : FVec Ideal S256x1024 .f32 :=
  k0_pay11
    (k0_pay8
      (k0_pay6
        (k0_pay4 (View.ld x0 (Rect.unit ![0, 0, 0] ![1, 256, 1024] inb_S4x256x1024_S1x256x1024_0_0_0))
          (View.ld x3 (Rect.unit ![0, 0, 0] ![1, 1024, 1024] inb_S8x1024x1280_S1x1024x1024_0_0_0))
          (View.ld x0 (Rect.unit ![1, 0, 0] ![1, 256, 256] inb_S4x256x1024_S1x256x256_1_0_0))
          (View.ld x3 (Rect.unit ![0, 0, 1024] ![1, 1024, 256] inb_S8x1024x1280_S1x1024x256_0_0_1024))
          (View.ld x0 (Rect.unit ![1, 0, 256] ![1, 256, 768] inb_S4x256x1024_S1x256x768_1_0_256))
          (View.ld x3 (Rect.unit ![1, 0, 0] ![1, 1024, 768] inb_S8x1024x1280_S1x1024x768_1_0_0)))
        (k0_pay5 (View.ld x0 (Rect.unit ![2, 0, 0] ![1, 256, 512] inb_S4x256x1024_S1x256x512_2_0_0))
          (View.ld x3 (Rect.unit ![1, 0, 768] ![1, 1024, 512] inb_S8x1024x1280_S1x1024x512_1_0_768)))
        (View.ld x0 (Rect.unit ![2, 0, 512] ![1, 256, 512] inb_S4x256x1024_S1x256x512_2_0_512))
        (View.ld x3 (Rect.unit ![2, 0, 0] ![1, 1024, 512] inb_S8x1024x1280_S1x1024x512_2_0_0))
        (View.ld x0 (Rect.unit ![3, 0, 0] ![1, 256, 768] inb_S4x256x1024_S1x256x768_3_0_0))
        (View.ld x3 (Rect.unit ![2, 0, 512] ![1, 1024, 768] inb_S8x1024x1280_S1x1024x768_2_0_512))
        (View.ld x0 (Rect.unit ![3, 0, 768] ![1, 256, 256] inb_S4x256x1024_S1x256x256_3_0_768))
        (View.ld x3 (Rect.unit ![3, 0, 0] ![1, 1024, 256] inb_S8x1024x1280_S1x1024x256_3_0_0))
        (View.ld x1 (Rect.unit ![0, 0, 0] ![1, 256, 1024] inb_S3x256x1024_S1x256x1024_0_0_0))
        (View.ld x3 (Rect.unit ![3, 0, 256] ![1, 1024, 1024] inb_S8x1024x1280_S1x1024x1024_3_0_256)))
      (k0_pay7 (View.ld x1 (Rect.unit ![1, 0, 0] ![1, 256, 1024] inb_S3x256x1024_S1x256x1024_1_0_0)))
      (View.ld x3 (Rect.unit ![4, 0, 0] ![1, 1024, 1024] inb_S8x1024x1280_S1x1024x1024_4_0_0))
      (View.ld x1 (Rect.unit ![2, 0, 0] ![1, 256, 256] inb_S3x256x1024_S1x256x256_2_0_0))
      (View.ld x3 (Rect.unit ![4, 0, 1024] ![1, 1024, 256] inb_S8x1024x1280_S1x1024x256_4_0_1024))
      (View.ld x1 (Rect.unit ![2, 0, 256] ![1, 256, 768] inb_S3x256x1024_S1x256x768_2_0_256))
      (View.ld x3 (Rect.unit ![5, 0, 0] ![1, 1024, 768] inb_S8x1024x1280_S1x1024x768_5_0_0))
      (View.ld x2 (Rect.unit ![0, 0, 0] ![1, 256, 512] inb_S3x256x1024_S1x256x512_0_0_0))
      (View.ld x3 (Rect.unit ![5, 0, 768] ![1, 1024, 512] inb_S8x1024x1280_S1x1024x512_5_0_768)))
    (k0_pay9 (View.ld x2 (Rect.unit ![0, 0, 512] ![1, 256, 512] inb_S3x256x1024_S1x256x512_0_0_512)))
    (k0_pay10 (View.ld x3 (Rect.unit ![6, 0, 0] ![1, 1024, 512] inb_S8x1024x1280_S1x1024x512_6_0_0)))
    (constant S256x1024 FTy.f32 0#32)
    (View.ld x2 (Rect.unit ![1, 0, 0] ![1, 256, 768] inb_S3x256x1024_S1x256x768_1_0_0))
    (View.ld x3 (Rect.unit ![6, 0, 512] ![1, 1024, 768] inb_S8x1024x1280_S1x1024x768_6_0_512))
    (View.ld x2 (Rect.unit ![1, 0, 768] ![1, 256, 256] inb_S3x256x1024_S1x256x256_1_0_768))
    (View.ld x3 (Rect.unit ![7, 0, 0] ![1, 1024, 256] inb_S8x1024x1280_S1x1024x256_7_0_0))
    (View.ld x2 (Rect.unit ![2, 0, 0] ![1, 256, 1024] inb_S3x256x1024_S1x256x1024_2_0_0))
    (View.ld x3 (Rect.unit ![7, 0, 256] ![1, 1024, 1024] inb_S8x1024x1280_S1x1024x1024_7_0_256))

/-- The sum of sixteen products is the whole row's product. -/
theorem du_at (c : Dev nD) (t : Fin cfg0.N) (r : Fin 256) (l : Fin 1024) :
    duK (iblk m c 0 t) (iblk m c 1 t) (iblk m c 2 t) (iblk m c 3 t) (ix2 r l)
      = du (Dc m c) (Da m c) (Dm m c) (W m c) (t.val * 256 + r) l := by
  pointwise [duK, k0_pay11, k0_pay10, k0_pay9, k0_pay8, k0_pay7, k0_pay6, k0_pay5, k0_pay4]
  refine Eq.trans ?_ (span_pieces fun k => ct (Dc m c) (Da m c) (Dm m c) (t.val * 256 + r) k * win (W m c) l k)
  refine Ideal.add_congr (Ideal.add_congr (Ideal.add_congr (Ideal.add_congr (Ideal.add_congr (Ideal.add_congr (Ideal.add_congr (Ideal.add_congr (Ideal.add_congr (Ideal.add_congr (Ideal.add_congr (Ideal.add_congr (Ideal.add_congr (Ideal.add_congr (Ideal.add_congr ?_ ?_) ?_) ?_) ?_) ?_) ?_) ?_) ?_) ?_) ?_) ?_) ?_) ?_) ?_) ?_
  all_goals
    refine Fin.sum_fin_congr fun j => ?_
    have := j.isLt
    first | rw [blk0, blk3] | rw [blk1, blk3] | rw [blk2, blk3]
    refine Ideal.mul_congr ?_ (win_shard _ _ (by simp; try omega) (by simp; try omega))
    first
      | exact ct_conv _ _ _ _ (by simp) (by simp; try omega) (by simp; try omega)
      | exact ct_attn _ _ _ _ (by simp) (by simp; try omega) (by simp; try omega)
      | exact ct_mid _ _ _ _ (by simp; try omega) (by simp; try omega)

/-- The gradient of the input at one place of a block. -/
theorem gx_at (c : Dev nD) (t : Fin cfg0.N) (r : Fin 256) (l : Fin 1024) :
    k0_pay1 (duK (iblk m c 0 t) (iblk m c 1 t) (iblk m c 2 t) (iblk m c 3 t)) (k0_pay12 (iblk m c 4 t))
        (k0_pay13 (iblk m c 4 t)) (iblk m c 6 t) (iblk m c 5 t) (ix2 r l)
      = gx (Dc m c) (Da m c) (Dm m c) (W m c) (X m c) (Dh m c) (G m c) (t.val * 256 + r) l := by
  pointwise [k0_pay1, k0_pay12, k0_pay13]
  simp only [du_at, blk4, blk5, blk6]
  rfl

theorem step7 (c : Dev nD) (t : Fin cfg0.N) (r : Fin 256) (l : Fin 1024) :
    (outsAt0 m c t.val t.isLt).1 (ix2 r l)
      = gx (Dc m c) (Da m c) (Dm m c) (W m c) (X m c) (Dh m c) (G m c) (t.val * 256 + r) l := by
  by_cases h : t.val % 16 = 0
  · rw [outsAt0_A m c t h]
    frame_out
    exact gx_at m c t r l
  · rw [outsAt0_B m c t h]
    frame_out
    exact gx_at m c t r l

/-- A row tile's part of the gain's gradient, in row 0 of its block. -/
def part (c : Dev nD) (t : Fin cfg0.N) (y : S8x1024.Idx) : EReal :=
  if (y 0).val = 0 then
    ∑ r : Fin 256, du (Dc m c) (Da m c) (Dm m c) (W m c) (t.val * 256 + r) (y 1).val
      * (at2 (X m c) (t.val * 256 + r) (y 1).val * rr (X m c) (t.val * 256 + r))
  else 0

/-- One step of the accumulation. -/
theorem step_at (c : Dev nD) (t : Fin cfg0.N) (p : FVec Ideal S8x1024 .f32) (y : S8x1024.Idx) :
    k0_pay2 (duK (iblk m c 0 t) (iblk m c 1 t) (iblk m c 2 t) (iblk m c 3 t)) (k0_pay13 (iblk m c 4 t)) p y
      = p y + part m c t y := by
  idx_vars y
  pointwise [k0_pay2, k0_pay13, k0_pay12]
  simp (disch := word_cmp_side) only [hlo_ix]
  simp only [du_at, blk4]
  rfl

theorem gain_at (c : Dev nD) (t : Fin cfg0.N) (hf : t.val % 16 = 15) (y : S8x1024.Idx) :
    (outsAt0 m c t.val t.isLt).2 y
      = ∑ s : Fin 16, part m c ⟨16 * (t.val / 16) + s.val, by
          have := pt_lt t
          exact lt_of_lt_of_eq (by omega : _ < 16) N_0.symm⟩ y := by
  rw [Pipeline.eq_sum_fin_of_reset_step_apply_of_flush (fun n h => (outsAt0 m c n h).2) 16 (fun _ => 0)
    (fun p j => part m c p j)
    (fun t h j => by
      rw [outsAt0_A m c t h]
      frame_out
      refine (step_at m c t _ _).trans (Ideal.add_congr ?_ rfl)
      pointwise [k0_pay3])
    (fun t h j => by
      rw [outsAt0_B m c t h]
      frame_out
      exact step_at m c t _ _)
    t hf y, zero_add]

/-- The gain's block when the row tiles are through. -/
theorem tile8 (c : Dev nD) (t : Fin cfg0.N) (hf : t.val % 16 = 15) (s : Fin 8) (l : Fin 1024) :
    (outsAt0 m c t.val t.isLt).2 (ix2 s l)
      = if s.val = 0 then gg (Dc m c) (Da m c) (Dm m c) (W m c) (X m c) l else 0 := by
  have ht := pt_lt t
  have h16 : t.val / 16 = 0 := by omega
  rw [gain_at m c t hf]
  by_cases h0 : s.val = 0
  · rw [if_pos h0, gg, Fin.sum_univ_tiles 16 256 rfl]
    refine Fin.sum_fin_congr fun q => ?_
    refine (if_pos h0).trans (Fin.sum_fin_congr fun r => ?_)
    simp only [h16, Nat.mul_zero, Nat.zero_add]
    rfl
  · rw [if_neg h0]
    exact Finset.sum_eq_zero fun q _ => if_neg h0

/-- The input's gradient after the run. -/
theorem final7 (c : Dev nD) :
    (dats m 0 c).arrAt 7 cfg0.N
      = fun y => gx (Dc m c) (Da m c) (Dm m c) (W m c) (X m c) (Dh m c) (G m c) (y 0).val (y 1).val := by
  refine (dats m 0 c).arrAt_eq_of_covers 7 _ (by decide +kernel) fun t hf y => ?_
  blk_simp [idx t]
  rw [after0_7]
  idx_vars y
  rw [step7]

/-- The gain's gradient after the run: in row 0, and zero elsewhere. -/
theorem final8 (c : Dev nD) :
    (dats m 0 c).arrAt 8 cfg0.N
      = fun y => if (y 0).val = 0 then gg (Dc m c) (Da m c) (Dm m c) (W m c) (X m c) (y 1).val else 0 := by
  refine (dats m 0 c).arrAt_eq_of_covers 8 _ (by decide +kernel) fun t hf y => ?_
  blk_simp [idx t]
  rw [after0_8]
  idx_vars y
  rw [tile8 m c t ((flush0_8 t).mp hf)]
  rfl

end Cert.NormBwdIdeal.Body

end
-- ==== Proof.NormFinite.lean ====
/- The norm's gradient in its two forms, over finite extended reals. -/
module

public import proofs.«01_k».proof.Proof.ConvFinite
public import proofs.«01_k».proof.Proof.NormSpec

@[expose] public section

set_option maxRecDepth 16384

noncomputable section

open Idealize.ShloMosaic Idealize.ShloMosaic.TcCoe

namespace Cert.NormSpec

open Cert.ConvSpec Cert.ProjSpec

theorem coe_sum {n : ℕ} (f : Fin n → ℝ) : ∑ k, (f k : EReal) = ((∑ k, f k : ℝ) : EReal) := by
  induction n with
  | zero => simp
  | succ n ih => rw [Fin.sum_univ_castSucc, Fin.sum_univ_castSucc, ih, EReal.coe_add]

theorem fini_sum {n : ℕ} {f : Fin n → EReal} (h : ∀ k, Fini (f k)) : Fini (∑ k, f k) := by
  choose g hg using h
  simp only [hg]
  exact ⟨_, coe_sum g⟩

theorem fini_at3 {a b c : ℕ} {φ : FTy} {X : FVec Ideal ⟨3, ![a, b, c]⟩ φ} (h : ∀ i, Fini (X i)) (s r l : ℕ) :
    Fini (at3 X s r l) := by
  rw [ProjSpec.at3]
  split_ifs
  · exact h _
  · exact Fini.zero

theorem width : (Ideal.ofBits .f32 0x44800000#32 : EReal) = ((1024 : ℝ) : EReal) := by
  simp [Ideal.ofBits, Ideal.ieee, ← EReal.coe_mul]
  norm_num

theorem minus_half : (Ideal.ofBits .f32 0xBF000000#32 : EReal) = ((-(1 / 2) : ℝ) : EReal) := by
  simp [Ideal.ofBits, Ideal.ieee, ← EReal.coe_mul]
  norm_num

theorem eps_pos : ∃ e : ℝ, 0 < e ∧ eps = (e : EReal) := by
  refine ⟨8796093 * 2 ^ (-43 : ℤ), by positivity, ?_⟩
  simp [eps, Ideal.ofBits, Ideal.ieee]

/-- The gradient through a root mean square, as the chain rule writes it and gathered. -/
theorem gx_forms {n : ℕ} {x d : Fin n → EReal} {xl dl dh : EReal} {q : ℝ} (hx : ∀ k, Fini (x k)) (hd : ∀ k, Fini (d k))
    (hxl : Fini xl) (hdl : Fini dl) (hq : 0 < q) :
    dh + dl * Ideal.rsqrt (q : EReal)
        + xl * Ideal.div ((∑ k, x k * d k) * (Ideal.ofBits .f32 0xBF000000#32 * Ideal.div (Ideal.rsqrt (q : EReal)) (q : EReal)))
          (Ideal.ofBits .f32 0x44800000#32)
        + Ideal.div ((∑ k, x k * d k) * (Ideal.ofBits .f32 0xBF000000#32 * Ideal.div (Ideal.rsqrt (q : EReal)) (q : EReal)))
          (Ideal.ofBits .f32 0x44800000#32) * xl
      = dh + Ideal.rsqrt (q : EReal) * (dl - xl * Ideal.rsqrt (q : EReal)
          * Ideal.div (∑ k, d k * (x k * Ideal.rsqrt (q : EReal))) (Ideal.ofBits .f32 0x44800000#32)) := by
  choose x' hx using hx
  choose d' hd using hd
  obtain ⟨xl, rfl⟩ := hxl
  obtain ⟨dl, rfl⟩ := hdl
  rw [add_assoc, add_assoc]
  refine congrArg (dh + ·) ?_
  have h1024 : (1024 : ℝ) ≠ 0 := by norm_num
  have hr : Ideal.rsqrt (q : EReal) = (((√q)⁻¹ : ℝ) : EReal) := by
    rw [Ideal.rsqrt_coe, if_neg (not_lt.mpr hq.le), if_neg hq.ne']
  have hs : (√q)⁻¹ * (√q)⁻¹ = 1 / q := by rw [← mul_inv, Real.mul_self_sqrt hq.le, one_div]
  simp only [hx, hd, hr, width, minus_half, ← EReal.coe_mul, coe_sum, Ideal.div_coe h1024, Ideal.div_coe hq.ne', ← EReal.coe_add,
    ← EReal.coe_sub]
  rw [EReal.coe_eq_coe_iff]
  have hsum : ∑ k, d' k * (x' k * (√q)⁻¹) = (∑ k, x' k * d' k) * (√q)⁻¹ := by
    rw [Finset.sum_mul]
    exact Finset.sum_congr rfl fun k _ => by ring
  rw [hsum, ← hs]
  ring

end Cert.NormSpec

end
-- ==== Proof.NormRef.lean ====
/- The reference of the input projection's and the norm's gradient, read at an index. -/
module

public import proofs.«01_k».proof.Proof.Gen.NormBwdRefIdeal.Read
public import proofs.«01_k».proof.Proof.NormFinite

@[expose] public section

set_option maxRecDepth 16384

noncomputable section

open Idealize.ShloMosaic Idealize.ShloMosaic.TcCoe Idealize.SL.Sem

namespace Cert.NormBwdRefIdeal.At

open Cert.ConvSpec Cert.ProjSpec Cert.NormSpec Cert.NormBwdRefIdeal Cert.NormBwdRefIdeal.Gen Cert.NormBwdRefIdeal.Read

variable (dc : FVec Ideal S4x4096x1024 .bf16) (da : FVec Ideal S3x4096x1024 .f32)
  (dm : FVec Ideal S3x4096x1024 .bf16) (w : FVec Ideal S8x1024x1280 .bf16)
  (x dh : FVec Ideal S4096x1024 .f32) (g : FVec Ideal S1x1024 .f32)

/-! The segments -/

theorem seg0 (r : Fin 4096) (l : Fin 1024) : val_main_v5 (F := Ideal) dc (ix2 r l) = at3 dc 0 r l := by
  pointwise [val_main_v5, val_main_v4, val_main_v3]
  simp only [read3]
  rfl

theorem seg1 (r : Fin 4096) (l : Fin 1024) : val_main_v8 (F := Ideal) dc (ix2 r l) = at3 dc 1 r l := by
  pointwise [val_main_v8, val_main_v7, val_main_v6]
  simp only [read3]
  rfl

theorem seg2 (r : Fin 4096) (l : Fin 1024) : val_main_v11 (F := Ideal) dc (ix2 r l) = at3 dc 2 r l := by
  pointwise [val_main_v11, val_main_v10, val_main_v9]
  simp only [read3]
  rfl

theorem seg3 (r : Fin 4096) (l : Fin 1024) : val_main_v14 (F := Ideal) dc (ix2 r l) = at3 dc 3 r l := by
  pointwise [val_main_v14, val_main_v13, val_main_v12]
  simp only [read3]
  rfl

theorem seg4 (r : Fin 4096) (l : Fin 1024) : val_main_v16 (F := Ideal) da (ix2 r l) = at3 da 0 r l := by
  pointwise [val_main_v16, val_main_v15]
  simp only [read3]
  rfl

theorem seg5 (r : Fin 4096) (l : Fin 1024) : val_main_v18 (F := Ideal) da (ix2 r l) = at3 da 1 r l := by
  pointwise [val_main_v18, val_main_v17]
  simp only [read3]
  rfl

theorem seg6 (r : Fin 4096) (l : Fin 1024) : val_main_v20 (F := Ideal) da (ix2 r l) = at3 da 2 r l := by
  pointwise [val_main_v20, val_main_v19]
  simp only [read3]
  rfl

theorem seg7 (r : Fin 4096) (l : Fin 1024) : val_main_v23 (F := Ideal) dm (ix2 r l) = at3 dm 0 r l := by
  pointwise [val_main_v23, val_main_v22, val_main_v21]
  simp only [read3]
  rfl

theorem seg8 (r : Fin 4096) (l : Fin 1024) : val_main_v26 (F := Ideal) dm (ix2 r l) = at3 dm 1 r l := by
  pointwise [val_main_v26, val_main_v25, val_main_v24]
  simp only [read3]
  rfl

theorem seg9 (r : Fin 4096) (l : Fin 1024) : val_main_v29 (F := Ideal) dm (ix2 r l) = at3 dm 2 r l := by
  pointwise [val_main_v29, val_main_v28, val_main_v27]
  simp only [read3]
  rfl

/-- The ten segments side by side. -/
theorem ct_at (r : Fin 4096) (l : Fin 10240) : val_main_v30 (F := Ideal) dc da dm (ix2 r l) = ct dc da dm r l := by
  have := l.isLt
  pointwise [val_main_v30]
  by_cases h0 : l.val < 1024
  · rw [dif_pos h0, seg0]
    exact ct_conv (s := 0) (k := l.val) (l := l.val) _ _ _ _ (by decide) h0 (by omega)
  rw [dif_neg h0]
  by_cases h1 : l.val - 1024 < 1024
  · rw [dif_pos h1, seg1]
    exact ct_conv (s := 1) (k := l.val - 1024) (l := l.val) _ _ _ _ (by decide) h1 (by omega)
  rw [dif_neg h1]
  by_cases h2 : l.val - 1024 - 1024 < 1024
  · rw [dif_pos h2, seg2]
    exact ct_conv (s := 2) (k := l.val - 1024 - 1024) (l := l.val) _ _ _ _ (by decide) h2 (by omega)
  rw [dif_neg h2]
  by_cases h3 : l.val - 1024 - 1024 - 1024 < 1024
  · rw [dif_pos h3, seg3]
    exact ct_conv (s := 3) (k := l.val - 1024 - 1024 - 1024) (l := l.val) _ _ _ _ (by decide) h3 (by omega)
  rw [dif_neg h3]
  by_cases h4 : l.val - 1024 - 1024 - 1024 - 1024 < 1024
  · rw [dif_pos h4, seg4]
    exact ct_attn (s := 0) (k := l.val - 1024 - 1024 - 1024 - 1024) (l := l.val) _ _ _ _ (by decide) h4 (by omega)
  rw [dif_neg h4]
  by_cases h5 : l.val - 1024 - 1024 - 1024 - 1024 - 1024 < 1024
  · rw [dif_pos h5, seg5]
    exact ct_attn (s := 1) (k := l.val - 1024 - 1024 - 1024 - 1024 - 1024) (l := l.val) _ _ _ _ (by decide) h5 (by omega)
  rw [dif_neg h5]
  by_cases h6 : l.val - 1024 - 1024 - 1024 - 1024 - 1024 - 1024 < 1024
  · rw [dif_pos h6, seg6]
    exact ct_attn (s := 2) (k := l.val - 1024 - 1024 - 1024 - 1024 - 1024 - 1024) (l := l.val) _ _ _ _ (by decide) h6 (by omega)
  rw [dif_neg h6]
  by_cases h7 : l.val - 1024 - 1024 - 1024 - 1024 - 1024 - 1024 - 1024 < 1024
  · rw [dif_pos h7, seg7]
    exact ct_mid (s := 0) (k := l.val - 1024 - 1024 - 1024 - 1024 - 1024 - 1024 - 1024) (l := l.val) _ _ _ _ h7 (by omega)
  rw [dif_neg h7]
  by_cases h8 : l.val - 1024 - 1024 - 1024 - 1024 - 1024 - 1024 - 1024 - 1024 < 1024
  · rw [dif_pos h8, seg8]
    exact ct_mid (s := 1) (k := l.val - 1024 - 1024 - 1024 - 1024 - 1024 - 1024 - 1024 - 1024) (l := l.val) _ _ _ _ h8 (by omega)
  rw [dif_neg h8]
  rw [seg9]
  exact ct_mid (s := 2) (k := l.val - 1024 - 1024 - 1024 - 1024 - 1024 - 1024 - 1024 - 1024 - 1024) (l := l.val) _ _ _ _ (by omega) (by omega)

/-- The shards of the weight side by side. -/
theorem win_at (k : Fin 1024) (l : Fin 10240) : val_main_v2 (F := Ideal) w (ix2 k l) = win w k l := by
  pointwise [val_main_v2, val_main_v1, val_main_v0]
  simp only [read3, win]

theorem du_at (r : Fin 4096) (l : Fin 1024) : val_main_v47 (F := Ideal) dc da dm w (ix2 r l) = du dc da dm w r l := by
  pointwise [val_main_v47]
  simp only [ct_at, win_at]
  rfl

theorem ms_at (r : Fin 4096) (z : Fin 1) : val_main_v37 (F := Ideal) x (ix2 r z) = ms x r := by
  pointwise [val_main_v37, val_main_v36, val_main_v35, val_main_v34, val_main_v33, val_main_v32, val_main_v31, val_main_cst, val_main_cst_0, val_main_cst_1]
  simp only [read2]
  rfl

theorem out1_at (s : Fin 8) (l : Fin 1024) :
    val_main_v69 (F := Ideal) dc da dm w x (ix2 s l) = if s.val = 0 then gg dc da dm w x l else 0 := by
  pointwise [val_main_v69, val_main_v68, val_main_v50, val_main_v49, val_main_v48, val_main_v43, val_main_v42, val_main_v38, val_main_cst_7, val_main_cst_3]
  simp only [du_at, ms_at, read2]
  by_cases h : s.val = 0
  · rw [dif_pos (by omega), if_pos h, gg]
    exact Finset.sum_congr rfl fun r _ => mul_comm _ _
  · rw [dif_neg (by omega), if_neg h]

/-- The gradient of finite arrays' product is finite. -/
theorem fini_du (hc : ∀ i, Fini (dc i)) (ha : ∀ i, Fini (da i)) (hm : ∀ i, Fini (dm i)) (hw : ∀ i, Fini (w i)) (r k : ℕ) :
    Fini (du dc da dm w r k) := by
  refine fini_sum fun l => Fini.mul ?_ (fini_at3 hw _ _ _)
  rw [ct]
  split_ifs
  · exact fini_at3 hc _ _ _
  · exact fini_at3 ha _ _ _
  · exact fini_at3 hm _ _ _

/-- The stabilised mean square of a finite row is a positive real. -/
theorem ms_pos (hx : ∀ i, Fini (x i)) (r : ℕ) : ∃ q : ℝ, 0 < q ∧ ms x r = (q : EReal) := by
  choose x' hx' using fun k : Fin 1024 => Fini.at2 hx r k
  obtain ⟨e, he, hee⟩ := eps_pos
  refine ⟨(∑ k, x' k * x' k) * (1 / 1024) + e, ?_, ?_⟩
  · have : 0 ≤ ∑ k, x' k * x' k := Finset.sum_nonneg fun k _ => mul_self_nonneg _
    positivity
  · rw [ms, width, hee]
    simp only [hx', ← EReal.coe_mul, coe_sum, Ideal.div_coe (by norm_num : (1024 : ℝ) ≠ 0), ← EReal.coe_add]

theorem out0_at (hc : ∀ i, Fini (dc i)) (ha : ∀ i, Fini (da i)) (hm : ∀ i, Fini (dm i)) (hw : ∀ i, Fini (w i))
    (hx : ∀ i, Fini (x i)) (hg : ∀ i, Fini (g i)) (r : Fin 4096) (l : Fin 1024) :
    val_main_v67 (F := Ideal) dc da dm w x dh g (ix2 r l) = gx dc da dm w x dh g r l := by
  pointwise [val_main_v67, val_main_v66, val_main_v65, val_main_v64, val_main_v63, val_main_v62, val_main_v61, val_main_v60, val_main_v59, val_main_v58, val_main_v57, val_main_v56, val_main_v55, val_main_v54, val_main_v53, val_main_v52, val_main_v51, val_main_cst_4, val_main_cst_5, val_main_cst_6, val_main_v38, val_main_v39, val_main_v40, val_main_v41, val_main_cst_2]
  simp only [du_at, ms_at, read2]
  rw [Fin.sum_univ_one]
  obtain ⟨q, hq, hqe⟩ := ms_pos x hx r
  rw [gx, rr, hqe]
  exact gx_forms (fun k => Fini.at2 hx _ _) (fun k => (fini_du dc da dm w hc ha hm hw _ _).mul (Fini.at2 hg _ _))
    (Fini.at2 hx _ _) ((fini_du dc da dm w hc ha hm hw _ _).mul (Fini.at2 hg _ _)) hq

end Cert.NormBwdRefIdeal.At

end
-- ==== Proof.NormClaims.lean ====
/- The claims about the input projection's and the norm's gradient: the runs, and the two programs' equal values. -/
module

public import proofs.«01_k».proof.Defs
public import proofs.«01_k».proof.Proof.Gen.NormBwd.Frame
public import proofs.«01_k».proof.Proof.Gen.Pre_finite_norm
public import proofs.«01_k».proof.Proof.Gen.NormBwdRefIdeal.Run
public import proofs.«01_k».proof.Proof.NormBody
public import proofs.«01_k».proof.Proof.NormRef
public import proofs.«01_k».proof.Proof.ConvClaims
public import Idealize.ShloMosaic.Lib.Claim

@[expose] public section

set_option maxRecDepth 16384

noncomputable section

namespace Cert.Proof

open Idealize.ShloMosaic Idealize.ShloMosaic.TcCoe Idealize.SL.Sem Cert.ConvSpec

theorem quiescent_NormBwd : Cert.quiescent_NormBwd :=
  fun m ρ _ => Cert.NormBwd.Gen.frame m ρ

theorem quiescent_NormBwdIdeal : Cert.quiescent_NormBwdIdeal :=
  fun m ρ _ => Cert.NormBwdIdeal.Gen.frame m ρ

theorem quiescent_NormBwdIdeal_pre_finite_norm : Cert.quiescent_NormBwdIdeal_pre_finite_norm :=
  fun m ρ _ => Cert.NormBwdIdeal.Gen.frame m ρ

theorem quiescent_NormBwdRefIdeal : Cert.quiescent_NormBwdRefIdeal := by
  intro m ρ _
  refine (θ_run _ _ _).mono (fun r h => ⟨fun c => ?_, sem_eq_zero_of_no_sems rfl _⟩) (Cert.NormBwdRefIdeal.Value.run m ρ)
  exact (h c).2.2

theorem quiescent_NormBwdRefIdeal_pre_finite_norm : Cert.quiescent_NormBwdRefIdeal_pre_finite_norm :=
  fun m ρ _ => quiescent_NormBwdRefIdeal m ρ trivial

/-- Under the precondition every element of the seven arrays is finite. -/
theorem finite_norm_args
    (m : (ℓ : Loc Cert.NormBwdIdeal.nD Cert.NormBwdIdeal.τ Cert.NormBwdIdeal.sig) → Buf (Elt Ideal) ℓ)
    (h : Cert.Pre_NormBwdIdeal_finite_norm m) (c : Dev Cert.NormBwdIdeal.nD) :
    (∀ i, Fini (Cert.NormBwdIdeal.Body.Dc m c i)) ∧ (∀ i, Fini (Cert.NormBwdIdeal.Body.Da m c i))
      ∧ (∀ i, Fini (Cert.NormBwdIdeal.Body.Dm m c i)) ∧ (∀ i, Fini (Cert.NormBwdIdeal.Body.W m c i))
      ∧ (∀ i, Fini (Cert.NormBwdIdeal.Body.X m c i)) ∧ ∀ i, Fini (Cert.NormBwdIdeal.Body.G m c i) := by
  obtain ⟨h0, h1, h2, h3, h4, h5⟩ := h c
  refine ⟨fun i => fini_of_cmp ?_, fun i => fini_of_cmp ?_, fun i => fini_of_cmp ?_, fun i => fini_of_cmp ?_,
    fun i => fini_of_cmp ?_, fun i => fini_of_cmp ?_⟩
  · exact (by pointwise [Cert.Pre_finite_norm.fn, Cert.Pre_finite_norm.fn_part1]; rfl : _ = _).trans (congrFun h0 i)
  · exact (by pointwise [Cert.Pre_finite_norm.fn, Cert.Pre_finite_norm.fn_part1]; rfl : _ = _).trans (congrFun h1 i)
  · exact (by pointwise [Cert.Pre_finite_norm.fn, Cert.Pre_finite_norm.fn_part1]; rfl : _ = _).trans (congrFun h2 i)
  · exact (by pointwise [Cert.Pre_finite_norm.fn, Cert.Pre_finite_norm.fn_part1]; rfl : _ = _).trans (congrFun h3 i)
  · exact (by pointwise [Cert.Pre_finite_norm.fn, Cert.Pre_finite_norm.fn_part1]; rfl : _ = _).trans (congrFun h4 i)
  · exact (by pointwise [Cert.Pre_finite_norm.fn, Cert.Pre_finite_norm.fn_part1]; rfl : _ = _).trans (congrFun h5 i)

theorem algebraic_NormBwdIdeal_NormBwdRefIdeal_pre_finite_norm :
    Cert.algebraic_NormBwdIdeal_NormBwdRefIdeal_pre_finite_norm := by
  pair_intro
  · run_from Cert.NormBwdIdeal.Value.run_blocks m g
  · run_from Cert.NormBwdRefIdeal.Value.run m' g'
    · obtain ⟨hc, ha, hm, hw, hx, hg⟩ := finite_norm_args m hpre c
      rw [Cert.NormBwdRefIdeal.Read.val_main_v67_eq, (hagree c).1, (hagree c).2.1, (hagree c).2.2.1, (hagree c).2.2.2.1,
        (hagree c).2.2.2.2.1, (hagree c).2.2.2.2.2.1, (hagree c).2.2.2.2.2.2, Cert.NormBwdIdeal.Body.final7]
      funext y
      idx_vars y
      exact Cert.NormBwdRefIdeal.At.out0_at _ _ _ _ _ _ _ hc ha hm hw hx hg _ _
    · rw [Cert.NormBwdRefIdeal.Read.val_main_v69_eq, (hagree c).2.2.2.2.1, Cert.NormBwdIdeal.Body.final8]
      funext y
      idx_vars y
      exact Cert.NormBwdRefIdeal.At.out1_at _ _ _ _ _ _ _

end Cert.Proof

end
-- ==== Proof.MidSpec.lean ====
/- The loss and the gradient of the output projections and the merge gates in closed form, over the extended reals. -/
module

public import proofs.«01_k».proof.Proof.NormSpec

@[expose] public section

set_option maxRecDepth 16384

noncomputable section

open Idealize.ShloMosaic Idealize.ShloMosaic.TcCoe

namespace Cert.MidSpec

open Cert.ConvSpec Cert.ProjSpec Cert.NormSpec

section

variable (yc : FVec Ideal ⟨2, ![4096, 1024]⟩ .bf16) (pa : FVec Ideal ⟨2, ![4096, 3072]⟩ .bf16)
  (o x t : FVec Ideal ⟨2, ![4096, 1024]⟩ .f32) (b : FVec Ideal ⟨2, ![1, 2048]⟩ .f32)
  (g : FVec Ideal ⟨2, ![1, 1024]⟩ .f32) (w : FVec Ideal ⟨3, ![3, 1024, 1024]⟩ .bf16)

/-- The attention's gate `silu za`. -/
def sl (r l : ℕ) : EReal := at2 pa r l * sg (at2 pa r l)

/-- The gated output of the attention. -/
def ya0 (r l : ℕ) : EReal := sl pa r l * at2 o r l

/-- The convolution's branch through its output projection. -/
def yC (r l : ℕ) : EReal := ∑ k : Fin 1024, at2 yc r k * at3 w 0 k l

/-- The attention's branch through its output projection. -/
def yA (r l : ℕ) : EReal := ∑ k : Fin 1024, ya0 pa o r k * at3 w 1 k l

/-- The two merge gates. -/
def gC (r l : ℕ) : EReal := sg (at2 pa r (1024 + l) + at2 b 0 l)
def gA (r l : ℕ) : EReal := sg (at2 pa r (2048 + l) + at2 b 0 (1024 + l))

/-- The merged branches. -/
def mg (r l : ℕ) : EReal := gC pa b r l * yC yc w r l + gA pa b r l * yA pa o w r l

/-- The residual stream. -/
def hh (r l : ℕ) : EReal := at2 x r l + ∑ k : Fin 1024, mg yc pa o b w r k * at3 w 2 k l

/-- Its mean square, stabilised, and the reciprocal root of that. -/
def hms (r : ℕ) : EReal :=
  Ideal.div (∑ k : Fin 1024, hh yc pa o x b w r k * hh yc pa o x b w r k) (Ideal.ofBits .f32 0x44800000#32) + eps
def hrr (r : ℕ) : EReal := Ideal.rsqrt (hms yc pa o x b w r)

/-- The normalised stream. -/
def nn (r l : ℕ) : EReal := hh yc pa o x b w r l * hrr yc pa o x b w r

/-- The error, and its gradient. -/
def er (r l : ℕ) : EReal := nn yc pa o x b w r l * at2 g 0 l - at2 t r l
def ey (r l : ℕ) : EReal := Ideal.div (er yc pa o x t b g w r l) (Ideal.ofBits .f32 0x44800000#32)

/-- A row's mean square error. -/
def ls (r : ℕ) : EReal :=
  Ideal.div (∑ l : Fin 1024, er yc pa o x t b g w r l * er yc pa o x t b g w r l) (Ideal.ofBits .f32 0x44800000#32)

/-- The residual stream's gradient. -/
def dh (r l : ℕ) : EReal :=
  hrr yc pa o x b w r * (ey yc pa o x t b g w r l * at2 g 0 l - nn yc pa o x b w r l
    * Ideal.div (∑ k : Fin 1024, ey yc pa o x t b g w r k * at2 g 0 k * nn yc pa o x b w r k) (Ideal.ofBits .f32 0x44800000#32))

/-- The merged branches' gradient. -/
def dm (r l : ℕ) : EReal := ∑ k : Fin 1024, dh yc pa o x t b g w r k * at3 w 2 l k

/-- The gradients of the two merge gates' arguments. -/
def dgC (r l : ℕ) : EReal :=
  dm yc pa o x t b g w r l * yC yc w r l * gC pa b r l * (1 - gC pa b r l)
def dgA (r l : ℕ) : EReal :=
  dm yc pa o x t b g w r l * yA pa o w r l * gA pa b r l * (1 - gA pa b r l)

/-- The gradients of the two branches, back through their output projections. -/
def dyC (r l : ℕ) : EReal := ∑ k : Fin 1024, dm yc pa o x t b g w r k * gC pa b r k * at3 w 0 l k
def dyA (r l : ℕ) : EReal := ∑ k : Fin 1024, dm yc pa o x t b g w r k * gA pa b r k * at3 w 1 l k

/-- The gradients of the attention's output and of its gate. -/
def dO (r l : ℕ) : EReal := dyA yc pa o x t b g w r l * sl pa r l
def dza (r l : ℕ) : EReal :=
  dyA yc pa o x t b g w r l * at2 o r l * (sg (at2 pa r l) * (1 + at2 pa r l * (1 - sg (at2 pa r l))))

/-- The three projections' gradients. -/
def dmid (s r l : ℕ) : EReal :=
  if s = 0 then dza yc pa o x t b g w r l
  else if s = 1 then dgC yc pa o x t b g w r l
  else dgA yc pa o x t b g w r l

/-- One half, a float word's exact value. -/
def half : EReal := Ideal.ofBits .f32 0x3F000000#32

/-- The gradients of the two gates' biases and of the gain in rows 1, 2 and 3, the loss in row 7. -/
def small (s l : ℕ) : EReal :=
  if s = 1 then ∑ r : Fin 4096, dgC yc pa o x t b g w r l
  else if s = 2 then ∑ r : Fin 4096, dgA yc pa o x t b g w r l
  else if s = 3 then ∑ r : Fin 4096, ey yc pa o x t b g w r l * nn yc pa o x b w r l
  else if s = 7 then half * ∑ r : Fin 4096, ls yc pa o x t b g w r
  else 0

end

theorem half_coe : half = (((1 / 2 : ℝ)) : EReal) := by
  simp [half, Ideal.ofBits, Ideal.ieee, ← EReal.coe_mul]
  norm_num

/-- Half of a sum. -/
theorem half_sum {n : ℕ} (f : Fin n → EReal) : ∑ k, half * f k = half * ∑ k, f k := by
  have h0 : (0 : EReal) ≤ half := by
    rw [half_coe]
    exact EReal.coe_nonneg.mpr (by norm_num)
  have h1 : half ≠ ⊤ := by
    rw [half_coe]
    exact EReal.coe_ne_top _
  induction n with
  | zero => simp
  | succ n ih => rw [Fin.sum_univ_castSucc, Fin.sum_univ_castSucc, ih, EReal.left_distrib_of_nonneg_of_ne_top h0 h1]

end Cert.MidSpec

end
-- ==== Proof.MidBody.lean ====
/- The loss and the gradient of the output projections and the merge gates: what the body stores at a grid point. -/
module

public import proofs.«01_k».proof.Proof.Gen.MidIdeal.Value
public import proofs.«01_k».proof.Proof.MidSpec
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MidIdeal.Body

open Cert.MidIdeal Cert.MidIdeal.Gen Cert.ConvSpec Cert.ProjSpec Cert.NormSpec Cert.MidSpec

variable (m : (ℓ : Loc nD τ sig) → Buf (Elt Ideal) ℓ)

/-- The argument arrays. -/
abbrev Yc (c : Dev nD) : FVec Ideal S4096x1024 .bf16 := m ((c : Thread nD τ).loc main_arg0)
abbrev Pa (c : Dev nD) : FVec Ideal S4096x3072 .bf16 := m ((c : Thread nD τ).loc main_arg1)
abbrev O (c : Dev nD) : FVec Ideal S4096x1024 .f32 := m ((c : Thread nD τ).loc main_arg2)
abbrev X (c : Dev nD) : FVec Ideal S4096x1024 .f32 := m ((c : Thread nD τ).loc main_arg3)
abbrev T (c : Dev nD) : FVec Ideal S4096x1024 .f32 := m ((c : Thread nD τ).loc main_arg4)
abbrev B (c : Dev nD) : FVec Ideal S1x2048 .f32 := m ((c : Thread nD τ).loc main_arg5)
abbrev G (c : Dev nD) : FVec Ideal S1x1024 .f32 := m ((c : Thread nD τ).loc main_arg6)
abbrev W (c : Dev nD) : FVec Ideal S3x1024x1024 .bf16 := m ((c : Thread nD τ).loc main_arg7)

theorem pt_lt (t : Fin cfg0.N) : t.val < 16 := lt_of_lt_of_eq t.isLt N_0

theorem idx : ∀ t : Fin cfg0.N, win0_0.index t = ![t.val, 0]
    ∧ win0_1.index t = ![t.val, 0]
    ∧ win0_2.index t = ![t.val, 1]
    ∧ win0_3.index t = ![t.val, 2]
    ∧ win0_4.index t = ![t.val, 0]
    ∧ win0_5.index t = ![t.val, 0]
    ∧ win0_6.index t = ![t.val, 0]
    ∧ win0_7.index t = ![0, 0]
    ∧ win0_8.index t = ![0, 0]
    ∧ win0_9.index t = ![0, 0, 0]
    ∧ win0_10.index t = ![t.val, 0]
    ∧ win0_11.index t = ![0, t.val, 0]
    ∧ win0_12.index t = ![t.val, 0]
    ∧ win0_13.index t = ![t.val, 0]
    ∧ win0_14.index t = ![0, 0] :=
  (by decide +kernel : ∀ t : Fin grid0.N, _)

/-! The blocks -/

theorem blk0 (c : Dev nD) (t : Fin cfg0.N) (r : Fin 256) (l : Fin 1024) :
    iblk m c 0 t (ix2 r l) = at2 (Yc m c) (t.val * 256 + r) l := by
  have := pt_lt t
  rw [at2, dif_pos ⟨by omega, by omega⟩]
  blk_ext [iblk, V, idx t] <;> omega

theorem blk1 (c : Dev nD) (t : Fin cfg0.N) (r : Fin 256) (l : Fin 1024) :
    iblk m c 1 t (ix2 r l) = at2 (Pa m c) (t.val * 256 + r) l := by
  have := pt_lt t
  rw [at2, dif_pos ⟨by omega, by omega⟩]
  blk_ext [iblk, V, idx t] <;> omega

theorem blk2 (c : Dev nD) (t : Fin cfg0.N) (r : Fin 256) (l : Fin 1024) :
    iblk m c 2 t (ix2 r l) = at2 (Pa m c) (t.val * 256 + r) (1024 + l) := by
  have := pt_lt t
  rw [at2, dif_pos ⟨by omega, by omega⟩]
  blk_ext [iblk, V, idx t] <;> omega

theorem blk3 (c : Dev nD) (t : Fin cfg0.N) (r : Fin 256) (l : Fin 1024) :
    iblk m c 3 t (ix2 r l) = at2 (Pa m c) (t.val * 256 + r) (2048 + l) := by
  have := pt_lt t
  rw [at2, dif_pos ⟨by omega, by omega⟩]
  blk_ext [iblk, V, idx t] <;> omega

theorem blk4 (c : Dev nD) (t : Fin cfg0.N) (r : Fin 256) (l : Fin 1024) :
    iblk m c 4 t (ix2 r l) = at2 (O m c) (t.val * 256 + r) l := by
  have := pt_lt t
  rw [at2, dif_pos ⟨by omega, by omega⟩]
  blk_ext [iblk, V, idx t] <;> omega

theorem blk5 (c : Dev nD) (t : Fin cfg0.N) (r : Fin 256) (l : Fin 1024) :
    iblk m c 5 t (ix2 r l) = at2 (X m c) (t.val * 256 + r) l := by
  have := pt_lt t
  rw [at2, dif_pos ⟨by omega, by omega⟩]
  blk_ext [iblk, V, idx t] <;> omega

theorem blk6 (c : Dev nD) (t : Fin cfg0.N) (r : Fin 256) (l : Fin 1024) :
    iblk m c 6 t (ix2 r l) = at2 (T m c) (t.val * 256 + r) l := by
  have := pt_lt t
  rw [at2, dif_pos ⟨by omega, by omega⟩]
  blk_ext [iblk, V, idx t] <;> omega

theorem blk7 (c : Dev nD) (t : Fin cfg0.N) (z : Fin 1) (l : Fin 2048) :
    iblk m c 7 t (ix2 z l) = at2 (B m c) 0 l := by
  rw [at2, dif_pos ⟨by omega, by omega⟩]
  blk_ext [iblk, V, idx t] <;> omega

theorem blk8 (c : Dev nD) (t : Fin cfg0.N) (z : Fin 1) (l : Fin 1024) :
    iblk m c 8 t (ix2 z l) = at2 (G m c) 0 l := by
  rw [at2, dif_pos ⟨by omega, by omega⟩]
  blk_ext [iblk, V, idx t] <;> omega

theorem blk9 (c : Dev nD) (t : Fin cfg0.N) (s : Fin 3) (r : Fin 1024) (l : Fin 1024) :
    iblk m c 9 t (ix3 s r l) = at3 (W m c) s r l := by
  rw [at3, dif_pos ⟨by omega, by omega, by omega⟩]
  blk_ext [iblk, V, idx t] <;> omega

/-! The stages over any contents -/

section

variable (v8 : FVec Ideal S1024x1024 .bf16) (v23 v24 : FVec Ideal S256x1024 .f32) (v25 : Vec Ideal S1x2048 .f32)
  (v30 : FVec Ideal S256x1024 .f32) (z : Ideal .f32) (v38 : Vec Ideal S256x1024 .bf16) (v54 : Vec Ideal S256x1024 .f32)
  (v67 : Vec Ideal S1x1024 .f32) (v70 : Vec Ideal S256x1024 .f32)

theorem pay42_at (r : Fin 256) (l : Fin 1024) :
    k0_pay42 v8 v23 v24 v25 v30 z v38 v54 (ix2 r l)
      = v54 (ix2 r l) + ∑ k : Fin 1024, k0_pay41 v23 v24 v25 v30 z v38 (ix2 r k) * v8 (ix2 k l) := by
  pointwise [k0_pay42]

theorem pay43_at (r : Fin 256) (q : Fin 1) :
    k0_pay43 v8 v23 v24 v25 v30 z v38 v54 (ix2 r q)
      = Ideal.rsqrt (Ideal.div (∑ k : Fin 1024, k0_pay42 v8 v23 v24 v25 v30 z v38 v54 (ix2 r k)
          * k0_pay42 v8 v23 v24 v25 v30 z v38 v54 (ix2 r k)) (Ideal.ofBits .f32 0x44800000#32) + eps) := by
  pointwise [k0_pay43]
  rfl

theorem pay44_at (r : Fin 256) (l : Fin 1024) :
    k0_pay44 v8 v23 v24 v25 v30 z v38 v54 (ix2 r l)
      = k0_pay42 v8 v23 v24 v25 v30 z v38 v54 (ix2 r l) * k0_pay43 v8 v23 v24 v25 v30 z v38 v54 (ix2 r 0) := by
  pointwise [k0_pay44]

theorem pay45_at (r : Fin 256) (l : Fin 1024) :
    k0_pay45 v8 v23 v24 v25 v30 z v38 v54 v67 v70 (ix2 r l)
      = k0_pay44 v8 v23 v24 v25 v30 z v38 v54 (ix2 r l) * v67 (ix2 0 l) - v70 (ix2 r l) := by
  pointwise [k0_pay45]

variable (v64 : FVec Ideal S256x1 .f32) (v66 : FVec Ideal S256x1024 .f32) (v71 : FVec Ideal S256x1024 .f32)

theorem pay52_at (r : Fin 256) (l : Fin 1024) :
    k0_pay52 v8 v64 v66 v67 v71 (ix2 r l) = ∑ k : Fin 1024, k0_pay50 v64 v66 v67 v71 (ix2 r k) * v8 (ix2 l k) := by
  pointwise [k0_pay52, k0_pay51]

theorem pay54_at (v37 : FVec Ideal S256x1024 .f32) (r : Fin 256) (l : Fin 1024) :
    k0_pay54 v8 v37 v64 v66 v67 v71 (ix2 r l) = k0_pay52 v8 v64 v66 v67 v71 (ix2 r l) * v37 (ix2 r l) := by
  pointwise [k0_pay54]

theorem pay55_at (v37 : FVec Ideal S256x1024 .f32) (r : Fin 256) (l : Fin 1024) :
    k0_pay55 v8 v37 v64 v66 v67 v71 (ix2 r l) = k0_pay52 v8 v64 v66 v67 v71 (ix2 r l) * v37 (ix2 r l) := by
  pointwise [k0_pay55]

theorem pay58_at (v100 : FVec Ideal S256x1024 .f32) (q : Fin 1) (r : Fin 256) (l : Fin 1024) :
    k0_pay58 v23 v24 v100 (ix3 q r l) = k0_pay56 v23 v24 v100 (ix2 r l) := by
  pointwise [k0_pay58]

theorem pay59_at (v100 : FVec Ideal S256x1024 .f32) (q : Fin 1) (r : Fin 256) (l : Fin 1024) :
    k0_pay59 v23 v24 v100 (ix3 q r l) = k0_pay57 v23 v24 v100 (ix2 r l) := by
  pointwise [k0_pay59]

end

/-! The body's stages -/

section

variable (c : Dev nD) (t : Fin cfg0.N)

def w0 : Vec Ideal S1x1024x1024 .bf16 :=
  View.ld (iblk m c 9 t) (Rect.unit ![0, 0, 0] ![1, 1024, 1024] inb_S3x1024x1024_S1x1024x1024_0_0_0)
def w1 : Vec Ideal S1x1024x1024 .bf16 :=
  View.ld (iblk m c 9 t) (Rect.unit ![1, 0, 0] ![1, 1024, 1024] inb_S3x1024x1024_S1x1024x1024_1_0_0)
def w2 : Vec Ideal S1x1024x1024 .bf16 :=
  View.ld (iblk m c 9 t) (Rect.unit ![2, 0, 0] ![1, 1024, 1024] inb_S3x1024x1024_S1x1024x1024_2_0_0)

theorem w0_at (z : Fin 1) (r l : Fin 1024) : w0 m c t (ix3 z r l) = at3 (W m c) 0 r l := by
  pointwise [w0]
  exact blk9 m c t _ _ _
theorem w1_at (z : Fin 1) (r l : Fin 1024) : w1 m c t (ix3 z r l) = at3 (W m c) 1 r l := by
  pointwise [w1]
  exact blk9 m c t _ _ _
theorem w2_at (z : Fin 1) (r l : Fin 1024) : w2 m c t (ix3 z r l) = at3 (W m c) 2 r l := by
  pointwise [w2]
  exact blk9 m c t _ _ _

/-- The word zero. -/
def z0 : Ideal .f32 := FloatOps.ofBits FTy.f32 0#32

theorem z0_eq : z0 = (0 : EReal) := by
  pointwise [z0]

def ycK : FVec Ideal S256x1024 .f32 := k0_pay36 (w0 m c t) (iblk m c 0 t)
def yaK : FVec Ideal S256x1024 .f32 := k0_pay37 (w1 m c t) (iblk m c 1 t) (iblk m c 4 t)
def pcK : FVec Ideal S256x1024 .f32 := k0_pay38 (iblk m c 7 t) (iblk m c 2 t)
def woK : FVec Ideal S1024x1024 .bf16 := k0_pay32 (w2 m c t)

theorem wo_at (k l : Fin 1024) : woK m c t (ix2 k l) = at3 (W m c) 2 k l := by
  pointwise [woK, k0_pay32]
  exact w2_at m c t _ _ _

theorem yc_at (r : Fin 256) (l : Fin 1024) : ycK m c t (ix2 r l) = yC (Yc m c) (W m c) (t.val * 256 + r) l := by
  pointwise [ycK, k0_pay36, k0_pay30]
  simp only [blk0, w0_at]
  rfl

theorem sl_at (r : Fin 256) (l : Fin 1024) :
    k0_pay34 (iblk m c 1 t) (ix2 r l) = sg (at2 (Pa m c) (t.val * 256 + r) l) := by
  pointwise [k0_pay34, k0_pay33]
  simp only [blk1, zero_sub]
  rfl

theorem ya0_at (r : Fin 256) (l : Fin 1024) :
    k0_pay35 (iblk m c 1 t) (iblk m c 4 t) (ix2 r l) = ya0 (Pa m c) (O m c) (t.val * 256 + r) l := by
  pointwise [k0_pay35, k0_pay33]
  simp only [blk1, blk4, sl_at]
  rfl

theorem ya_at (r : Fin 256) (l : Fin 1024) : yaK m c t (ix2 r l) = yA (Pa m c) (O m c) (W m c) (t.val * 256 + r) l := by
  pointwise [yaK, k0_pay37, k0_pay31]
  simp only [ya0_at, w1_at]
  rfl

theorem gc_at (r : Fin 256) (l : Fin 1024) :
    k0_pay39 (pcK m c t) z0 (ix2 r l) = gC (Pa m c) (B m c) (t.val * 256 + r) l := by
  pointwise [k0_pay39, pcK, k0_pay38]
  simp only [blk7, blk2, z0_eq, zero_sub]
  rfl

theorem ga_at (r : Fin 256) (l : Fin 1024) :
    k0_pay40 (iblk m c 7 t) (iblk m c 3 t) (ix2 r l) = gA (Pa m c) (B m c) (t.val * 256 + r) l := by
  pointwise [k0_pay40]
  simp only [blk7, blk3, zero_sub]
  rfl

def mgK : FVec Ideal S256x1024 .f32 :=
  k0_pay41 (ycK m c t) (yaK m c t) (iblk m c 7 t) (pcK m c t) z0 (iblk m c 3 t)
def hK : FVec Ideal S256x1024 .f32 :=
  k0_pay42 (woK m c t) (ycK m c t) (yaK m c t) (iblk m c 7 t) (pcK m c t) z0 (iblk m c 3 t) (iblk m c 5 t)
def rK : FVec Ideal S256x1 .f32 :=
  k0_pay43 (woK m c t) (ycK m c t) (yaK m c t) (iblk m c 7 t) (pcK m c t) z0 (iblk m c 3 t) (iblk m c 5 t)
def nK : FVec Ideal S256x1024 .f32 :=
  k0_pay44 (woK m c t) (ycK m c t) (yaK m c t) (iblk m c 7 t) (pcK m c t) z0 (iblk m c 3 t) (iblk m c 5 t)
def eK : FVec Ideal S256x1024 .f32 :=
  k0_pay45 (woK m c t) (ycK m c t) (yaK m c t) (iblk m c 7 t) (pcK m c t) z0 (iblk m c 3 t) (iblk m c 5 t) (iblk m c 8 t)
    (iblk m c 6 t)

theorem mg_at (r : Fin 256) (l : Fin 1024) :
    mgK m c t (ix2 r l) = mg (Yc m c) (Pa m c) (O m c) (B m c) (W m c) (t.val * 256 + r) l := by
  pointwise [mgK, k0_pay41]
  simp only [yc_at, ya_at, gc_at, ga_at]
  rfl

theorem h_at (r : Fin 256) (l : Fin 1024) :
    hK m c t (ix2 r l) = hh (Yc m c) (Pa m c) (O m c) (X m c) (B m c) (W m c) (t.val * 256 + r) l := by
  rw [hK, pay42_at, blk5, hh]
  refine Ideal.add_congr rfl (Finset.sum_congr rfl fun k _ => Ideal.mul_congr (mg_at m c t r k) (wo_at m c t k l))

theorem r_at (r : Fin 256) (z : Fin 1) :
    rK m c t (ix2 r z) = hrr (Yc m c) (Pa m c) (O m c) (X m c) (B m c) (W m c) (t.val * 256 + r) := by
  rw [rK, pay43_at, hrr, hms]
  refine congrArg (fun q => Ideal.rsqrt (Ideal.div q (Ideal.ofBits .f32 0x44800000#32) + eps))
    (Finset.sum_congr rfl fun k _ => Ideal.mul_congr (h_at m c t r k) (h_at m c t r k))

theorem n_at (r : Fin 256) (l : Fin 1024) :
    nK m c t (ix2 r l) = nn (Yc m c) (Pa m c) (O m c) (X m c) (B m c) (W m c) (t.val * 256 + r) l := by
  rw [nK, pay44_at, nn]
  exact Ideal.mul_congr (h_at m c t r l) (r_at m c t r 0)

theorem e_at (r : Fin 256) (l : Fin 1024) :
    eK m c t (ix2 r l)
      = er (Yc m c) (Pa m c) (O m c) (X m c) (T m c) (B m c) (G m c) (W m c) (t.val * 256 + r) l := by
  rw [eK, pay45_at, er, blk8, blk6]
  exact congrArg (fun q => q * at2 (G m c) 0 l - at2 (T m c) (t.val * 256 + r) l) (n_at m c t r l)

theorem ey_at (r : Fin 256) (l : Fin 1024) :
    k0_pay48 (eK m c t) (ix2 r l)
      = ey (Yc m c) (Pa m c) (O m c) (X m c) (T m c) (B m c) (G m c) (W m c) (t.val * 256 + r) l := by
  pointwise [k0_pay48]
  simp only [e_at]
  rfl

def dhK : FVec Ideal S256x1024 .f32 := k0_pay50 (rK m c t) (nK m c t) (iblk m c 8 t) (eK m c t)
def dmK : FVec Ideal S256x1024 .f32 := k0_pay52 (woK m c t) (rK m c t) (nK m c t) (iblk m c 8 t) (eK m c t)
def dcK : FVec Ideal S256x1024 .bf16 :=
  k0_pay54 (woK m c t) (k0_pay39 (pcK m c t) z0) (rK m c t) (nK m c t) (iblk m c 8 t) (eK m c t)
def daK : FVec Ideal S256x1024 .bf16 :=
  k0_pay55 (woK m c t) (k0_pay40 (iblk m c 7 t) (iblk m c 3 t)) (rK m c t) (nK m c t) (iblk m c 8 t) (eK m c t)
def gcK : FVec Ideal S256x1024 .f32 := k0_pay56 (ycK m c t) (k0_pay39 (pcK m c t) z0) (dmK m c t)
def gaK : FVec Ideal S256x1024 .f32 := k0_pay57 (yaK m c t) (k0_pay40 (iblk m c 7 t) (iblk m c 3 t)) (dmK m c t)

theorem dh_at (r : Fin 256) (l : Fin 1024) :
    dhK m c t (ix2 r l)
      = dh (Yc m c) (Pa m c) (O m c) (X m c) (T m c) (B m c) (G m c) (W m c) (t.val * 256 + r) l := by
  pointwise [dhK, k0_pay50]
  simp only [ey_at, n_at, r_at, blk8]
  rfl

theorem dm_at (r : Fin 256) (l : Fin 1024) :
    dmK m c t (ix2 r l)
      = dm (Yc m c) (Pa m c) (O m c) (X m c) (T m c) (B m c) (G m c) (W m c) (t.val * 256 + r) l := by
  rw [dmK, pay52_at, dm]
  exact Finset.sum_congr rfl fun k _ => Ideal.mul_congr (dh_at m c t r k) (wo_at m c t l k)

theorem dc_at (r : Fin 256) (l : Fin 1024) :
    dcK m c t (ix2 r l)
      = dm (Yc m c) (Pa m c) (O m c) (X m c) (T m c) (B m c) (G m c) (W m c) (t.val * 256 + r) l
        * gC (Pa m c) (B m c) (t.val * 256 + r) l := by
  rw [dcK, pay54_at, gc_at]
  exact Ideal.mul_congr (dm_at m c t r l) rfl

theorem da_at (r : Fin 256) (l : Fin 1024) :
    daK m c t (ix2 r l)
      = dm (Yc m c) (Pa m c) (O m c) (X m c) (T m c) (B m c) (G m c) (W m c) (t.val * 256 + r) l
        * gA (Pa m c) (B m c) (t.val * 256 + r) l := by
  rw [daK, pay55_at, ga_at]
  exact Ideal.mul_congr (dm_at m c t r l) rfl

theorem dgc_at (r : Fin 256) (l : Fin 1024) :
    gcK m c t (ix2 r l)
      = dgC (Yc m c) (Pa m c) (O m c) (X m c) (T m c) (B m c) (G m c) (W m c) (t.val * 256 + r) l := by
  pointwise [gcK, k0_pay56]
  simp only [dm_at, gc_at, yc_at]
  rfl

theorem dga_at (r : Fin 256) (l : Fin 1024) :
    gaK m c t (ix2 r l)
      = dgA (Yc m c) (Pa m c) (O m c) (X m c) (T m c) (B m c) (G m c) (W m c) (t.val * 256 + r) l := by
  pointwise [gaK, k0_pay57]
  simp only [dm_at, ga_at, ya_at]
  rfl

theorem dyc_at (r : Fin 256) (l : Fin 1024) :
    k0_pay63 (k0_pay30 (w0 m c t)) (dcK m c t) (ix2 r l)
      = dyC (Yc m c) (Pa m c) (O m c) (X m c) (T m c) (B m c) (G m c) (W m c) (t.val * 256 + r) l := by
  pointwise [k0_pay63, k0_pay30]
  simp only [dc_at, w0_at]
  rfl

theorem dya_at (r : Fin 256) (l : Fin 1024) :
    k0_pay64 (k0_pay31 (w1 m c t)) (daK m c t) (ix2 r l)
      = dyA (Yc m c) (Pa m c) (O m c) (X m c) (T m c) (B m c) (G m c) (W m c) (t.val * 256 + r) l := by
  pointwise [k0_pay64, k0_pay31]
  simp only [da_at, w1_at]
  rfl

theorem do_at (r : Fin 256) (l : Fin 1024) :
    k0_pay65 (k0_pay31 (w1 m c t)) (k0_pay33 (iblk m c 1 t)) (k0_pay34 (iblk m c 1 t)) (daK m c t) (ix2 r l)
      = dO (Yc m c) (Pa m c) (O m c) (X m c) (T m c) (B m c) (G m c) (W m c) (t.val * 256 + r) l := by
  pointwise [k0_pay65, k0_pay33]
  simp only [dya_at, sl_at, blk1]
  rfl

theorem dza_at (z : Fin 1) (r : Fin 256) (l : Fin 1024) :
    k0_pay66 (k0_pay31 (w1 m c t)) (k0_pay33 (iblk m c 1 t)) (k0_pay34 (iblk m c 1 t)) (iblk m c 4 t) (daK m c t)
        (ix3 z r l)
      = dza (Yc m c) (Pa m c) (O m c) (X m c) (T m c) (B m c) (G m c) (W m c) (t.val * 256 + r) l := by
  pointwise [k0_pay66, k0_pay33]
  simp only [dya_at, sl_at, blk1, blk4]
  rfl

theorem gc3_at (z : Fin 1) (r : Fin 256) (l : Fin 1024) :
    k0_pay58 (ycK m c t) (k0_pay39 (pcK m c t) z0) (dmK m c t) (ix3 z r l)
      = dgC (Yc m c) (Pa m c) (O m c) (X m c) (T m c) (B m c) (G m c) (W m c) (t.val * 256 + r) l :=
  (pay58_at _ _ _ _ _ _).trans (dgc_at m c t r l)

theorem ga3_at (z : Fin 1) (r : Fin 256) (l : Fin 1024) :
    k0_pay59 (yaK m c t) (k0_pay40 (iblk m c 7 t) (iblk m c 3 t)) (dmK m c t) (ix3 z r l)
      = dgA (Yc m c) (Pa m c) (O m c) (X m c) (T m c) (B m c) (G m c) (W m c) (t.val * 256 + r) l :=
  (pay59_at _ _ _ _ _ _).trans (dga_at m c t r l)

/-- The row sums of a tile. -/
theorem pay71_at (v : FVec Ideal S256x1024 .f32) (s : Fin 8) (l : Fin 1024) :
    k0_pay71 v (ix2 s l) = if s.val = 1 then ∑ r : Fin 256, v (ix2 r l) else 0 := by
  pointwise [k0_pay71]
  simp (disch := word_cmp_side) only [hlo_ix]

theorem pay68_at (v : FVec Ideal S256x1024 .f32) (z : Fin 1) (l : Fin 1024) :
    k0_pay68 v (ix2 z l) = ∑ r : Fin 256, v (ix2 r l) := by
  pointwise [k0_pay68]

theorem pay49_at (z : Fin 1) (l : Fin 1024) :
    k0_pay49 (nK m c t) (eK m c t) (ix2 z l)
      = ∑ r : Fin 256, ey (Yc m c) (Pa m c) (O m c) (X m c) (T m c) (B m c) (G m c) (W m c) (t.val * 256 + r) l
        * nn (Yc m c) (Pa m c) (O m c) (X m c) (B m c) (W m c) (t.val * 256 + r) l := by
  pointwise [k0_pay49]
  simp only [ey_at, n_at]

def sqK : FVec Ideal S256x1024 .f32 :=
  k0_pay46 (woK m c t) (ycK m c t) (yaK m c t) (iblk m c 7 t) (pcK m c t) z0 (iblk m c 3 t) (iblk m c 5 t) (iblk m c 8 t)
    (iblk m c 6 t)

theorem pay46_at (v8 : FVec Ideal S1024x1024 .bf16) (v23 v24 : FVec Ideal S256x1024 .f32) (v25 : Vec Ideal S1x2048 .f32)
    (v30 : FVec Ideal S256x1024 .f32) (z : Ideal .f32) (v38 : Vec Ideal S256x1024 .bf16) (v54 : Vec Ideal S256x1024 .f32)
    (v67 : Vec Ideal S1x1024 .f32) (v70 : Vec Ideal S256x1024 .f32) (r : Fin 256) (l : Fin 1024) :
    k0_pay46 v8 v23 v24 v25 v30 z v38 v54 v67 v70 (ix2 r l)
      = k0_pay45 v8 v23 v24 v25 v30 z v38 v54 v67 v70 (ix2 r l) * k0_pay45 v8 v23 v24 v25 v30 z v38 v54 v67 v70 (ix2 r l) := by
  pointwise [k0_pay46]

theorem sq_at (r : Fin 256) (l : Fin 1024) :
    sqK m c t (ix2 r l)
      = er (Yc m c) (Pa m c) (O m c) (X m c) (T m c) (B m c) (G m c) (W m c) (t.val * 256 + r) l
        * er (Yc m c) (Pa m c) (O m c) (X m c) (T m c) (B m c) (G m c) (W m c) (t.val * 256 + r) l := by
  rw [sqK, pay46_at]
  exact Ideal.mul_congr (e_at m c t r l) (e_at m c t r l)

theorem pay69_at (z : Fin 1) (l : Fin 1024) :
    k0_pay69 (k0_pay47 (sqK m c t)) (ix2 z l)
      = half * ∑ r : Fin 256, ls (Yc m c) (Pa m c) (O m c) (X m c) (T m c) (B m c) (G m c) (W m c) (t.val * 256 + r) := by
  pointwise [k0_pay69, k0_pay47]
  simp only [sq_at]
  rfl

theorem pay1_at (v85 v176 v178 : FVec Ideal S1x1024 .f32) (v172 v186 : FVec Ideal S8x1024 .f32) (s : Fin 8) (l : Fin 1024) :
    k0_pay1 v85 (k0_pay67 v172) v176 v178 (iota Kind.tc S8x1024 32 [0] iota_S8x1024_d0_w32) k0_pay70 v186 (ix2 s l)
      = v172 (ix2 s l) + (((v186 (ix2 s l) + if s.val = 2 then v176 (ix2 0 l) else 0) + if s.val = 3 then v85 (ix2 0 l) else 0)
        + if s.val = 7 then v178 (ix2 0 l) else 0) := by
  pointwise [k0_pay1, k0_pay67, k0_pay70]
  simp (disch := word_cmp_side) only [hlo_ix, zero_add]

/-- A row tile's part of the sums over the rows. -/
def part (y : S8x1024.Idx) : EReal :=
  (((if (y 0).val = 1 then ∑ r : Fin 256, gcK m c t (ix2 r (y 1)) else 0)
    + if (y 0).val = 2 then ∑ r : Fin 256, gaK m c t (ix2 r (y 1)) else 0)
    + if (y 0).val = 3 then ∑ r : Fin 256, ey (Yc m c) (Pa m c) (O m c) (X m c) (T m c) (B m c) (G m c) (W m c) (t.val * 256 + r) (y 1).val
        * nn (Yc m c) (Pa m c) (O m c) (X m c) (B m c) (W m c) (t.val * 256 + r) (y 1).val else 0)
    + if (y 0).val = 7 then
        half * ∑ r : Fin 256, ls (Yc m c) (Pa m c) (O m c) (X m c) (T m c) (B m c) (G m c) (W m c) (t.val * 256 + r) else 0

/-- One step of the accumulation. -/
theorem step_at (p : FVec Ideal S8x1024 .f32) (y : S8x1024.Idx) :
    k0_pay1 (k0_pay49 (nK m c t) (eK m c t)) (k0_pay67 p) (k0_pay68 (gaK m c t)) (k0_pay69 (k0_pay47 (sqK m c t)))
        (iota Kind.tc S8x1024 32 [0] iota_S8x1024_d0_w32) k0_pay70 (k0_pay71 (gcK m c t)) y
      = p y + part m c t y := by
  idx_vars y
  rw [pay1_at, pay71_at, pay68_at, pay49_at, pay69_at]
  rfl

end

/-! The results at a point -/

section

variable (c : Dev nD) (t : Fin cfg0.N)

theorem out10 : (outsAt0 m c t.val t.isLt).1 = dhK m c t := by
  by_cases h0 : t.val % 16 = 0
  · rw [outsAt0_A m c t h0 (by omega)]
    frame_out
    rfl
  by_cases h1 : t.val % 16 = 15
  · rw [outsAt0_C m c t h0 h1]
    frame_out
    rfl
  · rw [outsAt0_B m c t h0 h1]
    frame_out
    rfl

theorem out12 : (outsAt0 m c t.val t.isLt).2.2.1
    = k0_pay65 (k0_pay31 (w1 m c t)) (k0_pay33 (iblk m c 1 t)) (k0_pay34 (iblk m c 1 t)) (daK m c t) := by
  by_cases h0 : t.val % 16 = 0
  · rw [outsAt0_A m c t h0 (by omega)]
    frame_out
    rfl
  by_cases h1 : t.val % 16 = 15
  · rw [outsAt0_C m c t h0 h1]
    frame_out
    rfl
  · rw [outsAt0_B m c t h0 h1]
    frame_out
    rfl

theorem out13 : (outsAt0 m c t.val t.isLt).2.2.2.1 = k0_pay63 (k0_pay30 (w0 m c t)) (dcK m c t) := by
  by_cases h0 : t.val % 16 = 0
  · rw [outsAt0_A m c t h0 (by omega)]
    frame_out
    rfl
  by_cases h1 : t.val % 16 = 15
  · rw [outsAt0_C m c t h0 h1]
    frame_out
    rfl
  · rw [outsAt0_B m c t h0 h1]
    frame_out
    rfl

theorem out11 (s : Fin 3) (r : Fin 256) (l : Fin 1024) : (outsAt0 m c t.val t.isLt).2.1 (ix3 s r l)
    = dmid (Yc m c) (Pa m c) (O m c) (X m c) (T m c) (B m c) (G m c) (W m c) s (t.val * 256 + r) l := by
  by_cases a0 : t.val % 16 = 0
  · rw [outsAt0_A m c t a0 (by omega)]
    frame_out
    canon_tiles x h
    all_goals idx_vars x
    case piece0 =>
      refine Eq.trans (dza_at m c t _ _ _) ?_
      rw [h1, h2, dmid, if_pos (by omega)]
    case piece1 =>
      refine Eq.trans (ga3_at m c t _ _ _) ?_
      rw [h1, h2, dmid, if_neg (by omega), if_neg (by omega)]
    case piece2 =>
      refine Eq.trans (gc3_at m c t _ _ _) ?_
      rw [h1, h2, dmid, if_neg (by omega), if_pos (by omega)]
  by_cases a1 : t.val % 16 = 15
  · rw [outsAt0_C m c t a0 a1]
    frame_out
    canon_tiles x h
    all_goals idx_vars x
    case piece0 =>
      refine Eq.trans (dza_at m c t _ _ _) ?_
      rw [h1, h2, dmid, if_pos (by omega)]
    case piece1 =>
      refine Eq.trans (ga3_at m c t _ _ _) ?_
      rw [h1, h2, dmid, if_neg (by omega), if_neg (by omega)]
    case piece2 =>
      refine Eq.trans (gc3_at m c t _ _ _) ?_
      rw [h1, h2, dmid, if_neg (by omega), if_pos (by omega)]
  · rw [outsAt0_B m c t a0 a1]
    frame_out
    canon_tiles x h
    all_goals idx_vars x
    case piece0 =>
      refine Eq.trans (dza_at m c t _ _ _) ?_
      rw [h1, h2, dmid, if_pos (by omega)]
    case piece1 =>
      refine Eq.trans (ga3_at m c t _ _ _) ?_
      rw [h1, h2, dmid, if_neg (by omega), if_neg (by omega)]
    case piece2 =>
      refine Eq.trans (gc3_at m c t _ _ _) ?_
      rw [h1, h2, dmid, if_neg (by omega), if_pos (by omega)]

theorem sums_at (hf : t.val % 16 = 15) (y : S8x1024.Idx) :
    (outsAt0 m c t.val t.isLt).2.2.2.2.1 y
      = ∑ s : Fin 16, part m c ⟨16 * (t.val / 16) + s.val, by
          have := pt_lt t
          exact lt_of_lt_of_eq (by omega : _ < 16) N_0.symm⟩ y := by
  rw [Pipeline.eq_sum_fin_of_reset_step_apply_of_flush (fun n h => (outsAt0 m c n h).2.2.2.2.1) 16 (fun _ => 0)
    (fun p j => part m c p j)
    (fun t h j => by
      rw [outsAt0_A m c t h (by omega)]
      frame_out
      refine (step_at m c t _ _).trans (Ideal.add_congr ?_ rfl)
      pointwise [k0_pay29])
    (fun t h j => by
      by_cases h1 : t.val % 16 = 15
      · rw [outsAt0_C m c t h h1]
        frame_out
        exact step_at m c t _ _
      · rw [outsAt0_B m c t h h1]
        frame_out
        exact step_at m c t _ _)
    t hf y, zero_add]

/-- A row tile's part at a row and a column. -/
theorem part_at (s : Fin 8) (l : Fin 1024) :
    part m c t (ix2 s l)
      = (((if s.val = 1 then ∑ r : Fin 256, dgC (Yc m c) (Pa m c) (O m c) (X m c) (T m c) (B m c) (G m c) (W m c) (t.val * 256 + r) l else 0)
        + if s.val = 2 then ∑ r : Fin 256, dgA (Yc m c) (Pa m c) (O m c) (X m c) (T m c) (B m c) (G m c) (W m c) (t.val * 256 + r) l else 0)
        + if s.val = 3 then ∑ r : Fin 256, ey (Yc m c) (Pa m c) (O m c) (X m c) (T m c) (B m c) (G m c) (W m c) (t.val * 256 + r) l * nn (Yc m c) (Pa m c) (O m c) (X m c) (B m c) (W m c) (t.val * 256 + r) l else 0)
        + if s.val = 7 then half * ∑ r : Fin 256, ls (Yc m c) (Pa m c) (O m c) (X m c) (T m c) (B m c) (G m c) (W m c) (t.val * 256 + r) else 0 := by
  have hc (r : Fin 256) := dgc_at m c t r l
  have ha (r : Fin 256) := dga_at m c t r l
  simp only [← hc, ← ha]
  rfl

/-- The sums over the rows when the row tiles are through. -/
theorem tile14 (hf : t.val % 16 = 15) (s : Fin 8) (l : Fin 1024) :
    (outsAt0 m c t.val t.isLt).2.2.2.2.1 (ix2 s l) = small (Yc m c) (Pa m c) (O m c) (X m c) (T m c) (B m c) (G m c) (W m c) s l := by
  have ht := pt_lt t
  have h16 : t.val / 16 = 0 := by omega
  have sums (f : ℕ → EReal) : ∑ q : Fin 16, ∑ r : Fin 256, f (q.val * 256 + r) = ∑ r : Fin 4096, f r :=
    (Fin.sum_univ_tiles (f := fun r : Fin 4096 => f r) 16 256 rfl).symm
  rw [sums_at m c t hf, small]
  simp only [h16, Nat.mul_zero, Nat.zero_add, part_at]
  by_cases h1 : s.val = 1
  · rw [if_pos h1]
    refine Eq.trans (Finset.sum_congr rfl fun q _ => ?_) (sums fun r => dgC (Yc m c) (Pa m c) (O m c) (X m c) (T m c) (B m c) (G m c) (W m c) r l)
    rw [if_pos h1, if_neg (by omega), if_neg (by omega), if_neg (by omega), add_zero, add_zero, add_zero]
  rw [if_neg h1]
  by_cases h2 : s.val = 2
  · rw [if_pos h2]
    refine Eq.trans (Finset.sum_congr rfl fun q _ => ?_) (sums fun r => dgA (Yc m c) (Pa m c) (O m c) (X m c) (T m c) (B m c) (G m c) (W m c) r l)
    rw [if_neg h1, if_pos h2, if_neg (by omega), if_neg (by omega), zero_add, add_zero, add_zero]
  rw [if_neg h2]
  by_cases h3 : s.val = 3
  · rw [if_pos h3]
    refine Eq.trans (Finset.sum_congr rfl fun q _ => ?_) (sums fun r => ey (Yc m c) (Pa m c) (O m c) (X m c) (T m c) (B m c) (G m c) (W m c) r l * nn (Yc m c) (Pa m c) (O m c) (X m c) (B m c) (W m c) r l)
    rw [if_neg h1, if_neg h2, if_pos h3, if_neg (by omega), zero_add, zero_add, add_zero]
  rw [if_neg h3]
  by_cases h7 : s.val = 7
  · rw [if_pos h7, ← sums fun r => ls (Yc m c) (Pa m c) (O m c) (X m c) (T m c) (B m c) (G m c) (W m c) r, ← half_sum]
    refine Finset.sum_congr rfl fun q _ => ?_
    rw [if_neg h1, if_neg h2, if_neg h3, if_pos h7, zero_add, zero_add, zero_add]
  rw [if_neg h7]
  refine Finset.sum_eq_zero fun q _ => ?_
  rw [if_neg h1, if_neg h2, if_neg h3, if_neg h7, zero_add, zero_add, zero_add]

end

/-! The arrays after the run -/

theorem final10 (c : Dev nD) :
    (dats m 0 c).arrAt 10 cfg0.N
      = fun y => dh (Yc m c) (Pa m c) (O m c) (X m c) (T m c) (B m c) (G m c) (W m c) (y 0).val (y 1).val := by
  refine (dats m 0 c).arrAt_eq_of_covers 10 _ (by decide +kernel) fun t hf y => ?_
  blk_simp [idx t]
  rw [after0_10]
  idx_vars y
  rw [out10]
  exact dh_at m c t _ _

theorem final12 (c : Dev nD) :
    (dats m 0 c).arrAt 12 cfg0.N
      = fun y => dO (Yc m c) (Pa m c) (O m c) (X m c) (T m c) (B m c) (G m c) (W m c) (y 0).val (y 1).val := by
  refine (dats m 0 c).arrAt_eq_of_covers 12 _ (by decide +kernel) fun t hf y => ?_
  blk_simp [idx t]
  rw [after0_12]
  idx_vars y
  rw [out12]
  exact do_at m c t _ _

theorem final13 (c : Dev nD) :
    (dats m 0 c).arrAt 13 cfg0.N
      = fun y => dyC (Yc m c) (Pa m c) (O m c) (X m c) (T m c) (B m c) (G m c) (W m c) (y 0).val (y 1).val := by
  refine (dats m 0 c).arrAt_eq_of_covers 13 _ (by decide +kernel) fun t hf y => ?_
  blk_simp [idx t]
  rw [after0_13]
  idx_vars y
  rw [out13]
  exact dyc_at m c t _ _

theorem final11 (c : Dev nD) :
    (dats m 0 c).arrAt 11 cfg0.N
      = fun y => dmid (Yc m c) (Pa m c) (O m c) (X m c) (T m c) (B m c) (G m c) (W m c) (y 0).val (y 1).val (y 2).val := by
  refine (dats m 0 c).arrAt_eq_of_covers 11 _ (by decide +kernel) fun t hf y => ?_
  blk_simp [idx t]
  rw [after0_11]
  idx_vars y
  exact out11 m c t _ _ _

theorem final14 (c : Dev nD) :
    (dats m 0 c).arrAt 14 cfg0.N
      = fun y => small (Yc m c) (Pa m c) (O m c) (X m c) (T m c) (B m c) (G m c) (W m c) (y 0).val (y 1).val := by
  refine (dats m 0 c).arrAt_eq_of_covers 14 _ (by decide +kernel) fun t hf y => ?_
  blk_simp [idx t]
  rw [after0_14]
  idx_vars y
  exact tile14 m c t ((flush0_14 t).mp hf) _ _

end Cert.MidIdeal.Body

end
-- ==== Proof.MidLast.lean ====
/- The last step of the loss head's grid, with what its copies leave of the three output weights' gradient. -/
module

public import proofs.«01_k».proof.Proof.Gen.MidIdeal.Frame

@[expose] public section

set_option maxRecDepth 16384

noncomputable section

namespace Cert.MidIdeal.Last

open Cert.MidIdeal Cert.MidIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

set_option maxHeartbeats 2240000 in set_option sl_exec.dmaWindow true in set_option sl_exec.dmaWindowSet true in
def lastRun (c : Dev nD) (i : grid0.Coords) (arg1 : Memref sig .tc .vmem S256x1024 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x1024 .f32) (harg7 : arg7.IsWhole) (arg8 : Memref sig .tc .vmem S1x2048 .f32) (harg8 : arg8.IsWhole) (arg9 : Memref sig .tc .vmem S1x1024 .f32) (harg9 : arg9.IsWhole) (arg10 : Memref sig .tc .vmem S3x1024x1024 .bf16) (harg10 : arg10.IsWhole) (arg11 : Memref sig .tc .vmem S256x1024 .f32) (harg11 : arg11.IsWhole) (arg12 : Memref sig .tc .vmem S3x256x1024 .bf16) (harg12 : arg12.IsWhole) (arg13 : Memref sig .tc .vmem S256x1024 .f32) (harg13 : arg13.IsWhole) (arg14 : Memref sig .tc .vmem S256x1024 .bf16) (harg14 : arg14.IsWhole) (arg16 : Memref sig .tc .vmem S8x1024 .f32) (harg16 : arg16.IsWhole) (arg17 : Memref sig .tc .vmem S3x1024x1024 .f32) (harg17 : arg17.IsWhole) (arg18 : Memref sig .tc .vmem S2x128x1024 .bf16) (harg18 : arg18.IsWhole) (hc0 : ¬cond0_0 i) (hc1 : cond0_1 i) (hd0 : Disjoint ((((Memref.whole main_v0_4).slice (Rect.unit (s := S8x3x128x1024) ![0, 1, 0, 0] S1x1x128x1024.size inb_S8x3x128x1024_S1x1x128x1024_0_1_0_0) (fun _ => rfl)).squeeze S128x1024 squeezes_S1x1x128x1024_S128x1024)).view.set ((((Memref.whole main_v0_4).slice (Rect.unit (s := S8x3x128x1024) ![0, 0, 0, 0] S1x1x128x1024.size inb_S8x3x128x1024_S1x1x128x1024_0_0_0_0) (fun _ => rfl)).squeeze S128x1024 squeezes_S1x1x128x1024_S128x1024)).view.set) (hd1 : Disjoint ((((Memref.whole main_v0_4).slice (Rect.unit (s := S8x3x128x1024) ![0, 2, 0, 0] S1x1x128x1024.size inb_S8x3x128x1024_S1x1x128x1024_0_2_0_0) (fun _ => rfl)).squeeze S128x1024 squeezes_S1x1x128x1024_S128x1024)).view.set ((((Memref.whole main_v0_4).slice (Rect.unit (s := S8x3x128x1024) ![0, 1, 0, 0] S1x1x128x1024.size inb_S8x3x128x1024_S1x1x128x1024_0_1_0_0) (fun _ => rfl)).squeeze S128x1024 squeezes_S1x1x128x1024_S128x1024)).view.set) (hd2 : Disjoint ((((Memref.whole main_v0_4).slice (Rect.unit (s := S8x3x128x1024) ![1, 0, 0, 0] S1x1x128x1024.size inb_S8x3x128x1024_S1x1x128x1024_1_0_0_0) (fun _ => rfl)).squeeze S128x1024 squeezes_S1x1x128x1024_S128x1024)).view.set ((((Memref.whole main_v0_4).slice (Rect.unit (s := S8x3x128x1024) ![0, 2, 0, 0] S1x1x128x1024.size inb_S8x3x128x1024_S1x1x128x1024_0_2_0_0) (fun _ => rfl)).squeeze S128x1024 squeezes_S1x1x128x1024_S128x1024)).view.set) (hd3 : Disjoint ((((Memref.whole main_v0_4).slice (Rect.unit (s := S8x3x128x1024) ![1, 1, 0, 0] S1x1x128x1024.size inb_S8x3x128x1024_S1x1x128x1024_1_1_0_0) (fun _ => rfl)).squeeze S128x1024 squeezes_S1x1x128x1024_S128x1024)).view.set ((((Memref.whole main_v0_4).slice (Rect.unit (s := S8x3x128x1024) ![1, 0, 0, 0] S1x1x128x1024.size inb_S8x3x128x1024_S1x1x128x1024_1_0_0_0) (fun _ => rfl)).squeeze S128x1024 squeezes_S1x1x128x1024_S128x1024)).view.set) (hd4 : Disjoint ((((Memref.whole main_v0_4).slice (Rect.unit (s := S8x3x128x1024) ![1, 2, 0, 0] S1x1x128x1024.size inb_S8x3x128x1024_S1x1x128x1024_1_2_0_0) (fun _ => rfl)).squeeze S128x1024 squeezes_S1x1x128x1024_S128x1024)).view.set ((((Memref.whole main_v0_4).slice (Rect.unit (s := S8x3x128x1024) ![1, 1, 0, 0] S1x1x128x1024.size inb_S8x3x128x1024_S1x1x128x1024_1_1_0_0) (fun _ => rfl)).squeeze S128x1024 squeezes_S1x1x128x1024_S128x1024)).view.set) (hd5 : Disjoint ((((Memref.whole main_v0_4).slice (Rect.unit (s := S8x3x128x1024) ![2, 0, 0, 0] S1x1x128x1024.size inb_S8x3x128x1024_S1x1x128x1024_2_0_0_0) (fun _ => rfl)).squeeze S128x1024 squeezes_S1x1x128x1024_S128x1024)).view.set ((((Memref.whole main_v0_4).slice (Rect.unit (s := S8x3x128x1024) ![1, 2, 0, 0] S1x1x128x1024.size inb_S8x3x128x1024_S1x1x128x1024_1_2_0_0) (fun _ => rfl)).squeeze S128x1024 squeezes_S1x1x128x1024_S128x1024)).view.set) (hd6 : Disjoint ((((Memref.whole main_v0_4).slice (Rect.unit (s := S8x3x128x1024) ![2, 1, 0, 0] S1x1x128x1024.size inb_S8x3x128x1024_S1x1x128x1024_2_1_0_0) (fun _ => rfl)).squeeze S128x1024 squeezes_S1x1x128x1024_S128x1024)).view.set ((((Memref.whole main_v0_4).slice (Rect.unit (s := S8x3x128x1024) ![2, 0, 0, 0] S1x1x128x1024.size inb_S8x3x128x1024_S1x1x128x1024_2_0_0_0) (fun _ => rfl)).squeeze S128x1024 squeezes_S1x1x128x1024_S128x1024)).view.set) (hd7 : Disjoint ((((Memref.whole main_v0_4).slice (Rect.unit (s := S8x3x128x1024) ![2, 2, 0, 0] S1x1x128x1024.size inb_S8x3x128x1024_S1x1x128x1024_2_2_0_0) (fun _ => rfl)).squeeze S128x1024 squeezes_S1x1x128x1024_S128x1024)).view.set ((((Memref.whole main_v0_4).slice (Rect.unit (s := S8x3x128x1024) ![2, 1, 0, 0] S1x1x128x1024.size inb_S8x3x128x1024_S1x1x128x1024_2_1_0_0) (fun _ => rfl)).squeeze S128x1024 squeezes_S1x1x128x1024_S128x1024)).view.set) (hd8 : Disjoint ((((Memref.whole main_v0_4).slice (Rect.unit (s := S8x3x128x1024) ![3, 0, 0, 0] S1x1x128x1024.size inb_S8x3x128x1024_S1x1x128x1024_3_0_0_0) (fun _ => rfl)).squeeze S128x1024 squeezes_S1x1x128x1024_S128x1024)).view.set ((((Memref.whole main_v0_4).slice (Rect.unit (s := S8x3x128x1024) ![2, 2, 0, 0] S1x1x128x1024.size inb_S8x3x128x1024_S1x1x128x1024_2_2_0_0) (fun _ => rfl)).squeeze S128x1024 squeezes_S1x1x128x1024_S128x1024)).view.set) (hd9 : Disjoint ((((Memref.whole main_v0_4).slice (Rect.unit (s := S8x3x128x1024) ![3, 1, 0, 0] S1x1x128x1024.size inb_S8x3x128x1024_S1x1x128x1024_3_1_0_0) (fun _ => rfl)).squeeze S128x1024 squeezes_S1x1x128x1024_S128x1024)).view.set ((((Memref.whole main_v0_4).slice (Rect.unit (s := S8x3x128x1024) ![3, 0, 0, 0] S1x1x128x1024.size inb_S8x3x128x1024_S1x1x128x1024_3_0_0_0) (fun _ => rfl)).squeeze S128x1024 squeezes_S1x1x128x1024_S128x1024)).view.set) (hd10 : Disjoint ((((Memref.whole main_v0_4).slice (Rect.unit (s := S8x3x128x1024) ![3, 2, 0, 0] S1x1x128x1024.size inb_S8x3x128x1024_S1x1x128x1024_3_2_0_0) (fun _ => rfl)).squeeze S128x1024 squeezes_S1x1x128x1024_S128x1024)).view.set ((((Memref.whole main_v0_4).slice (Rect.unit (s := S8x3x128x1024) ![3, 1, 0, 0] S1x1x128x1024.size inb_S8x3x128x1024_S1x1x128x1024_3_1_0_0) (fun _ => rfl)).squeeze S128x1024 squeezes_S1x1x128x1024_S128x1024)).view.set) (hd11 : Disjoint ((((Memref.whole main_v0_4).slice (Rect.unit (s := S8x3x128x1024) ![4, 0, 0, 0] S1x1x128x1024.size inb_S8x3x128x1024_S1x1x128x1024_4_0_0_0) (fun _ => rfl)).squeeze S128x1024 squeezes_S1x1x128x1024_S128x1024)).view.set ((((Memref.whole main_v0_4).slice (Rect.unit (s := S8x3x128x1024) ![3, 2, 0, 0] S1x1x128x1024.size inb_S8x3x128x1024_S1x1x128x1024_3_2_0_0) (fun _ => rfl)).squeeze S128x1024 squeezes_S1x1x128x1024_S128x1024)).view.set) (hd12 : Disjoint ((((Memref.whole main_v0_4).slice (Rect.unit (s := S8x3x128x1024) ![4, 1, 0, 0] S1x1x128x1024.size inb_S8x3x128x1024_S1x1x128x1024_4_1_0_0) (fun _ => rfl)).squeeze S128x1024 squeezes_S1x1x128x1024_S128x1024)).view.set ((((Memref.whole main_v0_4).slice (Rect.unit (s := S8x3x128x1024) ![4, 0, 0, 0] S1x1x128x1024.size inb_S8x3x128x1024_S1x1x128x1024_4_0_0_0) (fun _ => rfl)).squeeze S128x1024 squeezes_S1x1x128x1024_S128x1024)).view.set) (hd13 : Disjoint ((((Memref.whole main_v0_4).slice (Rect.unit (s := S8x3x128x1024) ![4, 2, 0, 0] S1x1x128x1024.size inb_S8x3x128x1024_S1x1x128x1024_4_2_0_0) (fun _ => rfl)).squeeze S128x1024 squeezes_S1x1x128x1024_S128x1024)).view.set ((((Memref.whole main_v0_4).slice (Rect.unit (s := S8x3x128x1024) ![4, 1, 0, 0] S1x1x128x1024.size inb_S8x3x128x1024_S1x1x128x1024_4_1_0_0) (fun _ => rfl)).squeeze S128x1024 squeezes_S1x1x128x1024_S128x1024)).view.set) (hd14 : Disjoint ((((Memref.whole main_v0_4).slice (Rect.unit (s := S8x3x128x1024) ![5, 0, 0, 0] S1x1x128x1024.size inb_S8x3x128x1024_S1x1x128x1024_5_0_0_0) (fun _ => rfl)).squeeze S128x1024 squeezes_S1x1x128x1024_S128x1024)).view.set ((((Memref.whole main_v0_4).slice (Rect.unit (s := S8x3x128x1024) ![4, 2, 0, 0] S1x1x128x1024.size inb_S8x3x128x1024_S1x1x128x1024_4_2_0_0) (fun _ => rfl)).squeeze S128x1024 squeezes_S1x1x128x1024_S128x1024)).view.set) (hd15 : Disjoint ((((Memref.whole main_v0_4).slice (Rect.unit (s := S8x3x128x1024) ![5, 1, 0, 0] S1x1x128x1024.size inb_S8x3x128x1024_S1x1x128x1024_5_1_0_0) (fun _ => rfl)).squeeze S128x1024 squeezes_S1x1x128x1024_S128x1024)).view.set ((((Memref.whole main_v0_4).slice (Rect.unit (s := S8x3x128x1024) ![5, 0, 0, 0] S1x1x128x1024.size inb_S8x3x128x1024_S1x1x128x1024_5_0_0_0) (fun _ => rfl)).squeeze S128x1024 squeezes_S1x1x128x1024_S128x1024)).view.set) (hd16 : Disjoint ((((Memref.whole main_v0_4).slice (Rect.unit (s := S8x3x128x1024) ![5, 2, 0, 0] S1x1x128x1024.size inb_S8x3x128x1024_S1x1x128x1024_5_2_0_0) (fun _ => rfl)).squeeze S128x1024 squeezes_S1x1x128x1024_S128x1024)).view.set ((((Memref.whole main_v0_4).slice (Rect.unit (s := S8x3x128x1024) ![5, 1, 0, 0] S1x1x128x1024.size inb_S8x3x128x1024_S1x1x128x1024_5_1_0_0) (fun _ => rfl)).squeeze S128x1024 squeezes_S1x1x128x1024_S128x1024)).view.set) (hd17 : Disjoint ((((Memref.whole main_v0_4).slice (Rect.unit (s := S8x3x128x1024) ![6, 0, 0, 0] S1x1x128x1024.size inb_S8x3x128x1024_S1x1x128x1024_6_0_0_0) (fun _ => rfl)).squeeze S128x1024 squeezes_S1x1x128x1024_S128x1024)).view.set ((((Memref.whole main_v0_4).slice (Rect.unit (s := S8x3x128x1024) ![5, 2, 0, 0] S1x1x128x1024.size inb_S8x3x128x1024_S1x1x128x1024_5_2_0_0) (fun _ => rfl)).squeeze S128x1024 squeezes_S1x1x128x1024_S128x1024)).view.set) (hd18 : Disjoint ((((Memref.whole main_v0_4).slice (Rect.unit (s := S8x3x128x1024) ![6, 1, 0, 0] S1x1x128x1024.size inb_S8x3x128x1024_S1x1x128x1024_6_1_0_0) (fun _ => rfl)).squeeze S128x1024 squeezes_S1x1x128x1024_S128x1024)).view.set ((((Memref.whole main_v0_4).slice (Rect.unit (s := S8x3x128x1024) ![6, 0, 0, 0] S1x1x128x1024.size inb_S8x3x128x1024_S1x1x128x1024_6_0_0_0) (fun _ => rfl)).squeeze S128x1024 squeezes_S1x1x128x1024_S128x1024)).view.set) (hd19 : Disjoint ((((Memref.whole main_v0_4).slice (Rect.unit (s := S8x3x128x1024) ![6, 2, 0, 0] S1x1x128x1024.size inb_S8x3x128x1024_S1x1x128x1024_6_2_0_0) (fun _ => rfl)).squeeze S128x1024 squeezes_S1x1x128x1024_S128x1024)).view.set ((((Memref.whole main_v0_4).slice (Rect.unit (s := S8x3x128x1024) ![6, 1, 0, 0] S1x1x128x1024.size inb_S8x3x128x1024_S1x1x128x1024_6_1_0_0) (fun _ => rfl)).squeeze S128x1024 squeezes_S1x1x128x1024_S128x1024)).view.set) (hd20 : Disjoint ((((Memref.whole main_v0_4).slice (Rect.unit (s := S8x3x128x1024) ![7, 0, 0, 0] S1x1x128x1024.size inb_S8x3x128x1024_S1x1x128x1024_7_0_0_0) (fun _ => rfl)).squeeze S128x1024 squeezes_S1x1x128x1024_S128x1024)).view.set ((((Memref.whole main_v0_4).slice (Rect.unit (s := S8x3x128x1024) ![6, 2, 0, 0] S1x1x128x1024.size inb_S8x3x128x1024_S1x1x128x1024_6_2_0_0) (fun _ => rfl)).squeeze S128x1024 squeezes_S1x1x128x1024_S128x1024)).view.set) (hd21 : Disjoint ((((Memref.whole main_v0_4).slice (Rect.unit (s := S8x3x128x1024) ![7, 1, 0, 0] S1x1x128x1024.size inb_S8x3x128x1024_S1x1x128x1024_7_1_0_0) (fun _ => rfl)).squeeze S128x1024 squeezes_S1x1x128x1024_S128x1024)).view.set ((((Memref.whole main_v0_4).slice (Rect.unit (s := S8x3x128x1024) ![7, 0, 0, 0] S1x1x128x1024.size inb_S8x3x128x1024_S1x1x128x1024_7_0_0_0) (fun _ => rfl)).squeeze S128x1024 squeezes_S1x1x128x1024_S128x1024)).view.set) (hd22 : Disjoint ((((Memref.whole main_v0_4).slice (Rect.unit (s := S8x3x128x1024) ![7, 2, 0, 0] S1x1x128x1024.size inb_S8x3x128x1024_S1x1x128x1024_7_2_0_0) (fun _ => rfl)).squeeze S128x1024 squeezes_S1x1x128x1024_S128x1024)).view.set ((((Memref.whole main_v0_4).slice (Rect.unit (s := S8x3x128x1024) ![7, 1, 0, 0] S1x1x128x1024.size inb_S8x3x128x1024_S1x1x128x1024_7_1_0_0) (fun _ => rfl)).squeeze S128x1024 squeezes_S1x1x128x1024_S128x1024)).view.set)
    (x0 : Vec F S256x1024 .bf16) (x1 : Vec F S256x1024 .bf16) (x2 : Vec F S256x1024 .bf16) (x3 : Vec F S256x1024 .bf16) (x4 : Vec F S256x1024 .f32) (x5 : Vec F S256x1024 .f32) (x6 : Vec F S256x1024 .f32) (x7 : Vec F S1x2048 .f32) (x8 : Vec F S1x1024 .f32) (x9 : Vec F S3x1024x1024 .bf16) (xo14 : Vec F S8x1024 .f32) (xs0 : Vec F S3x1024x1024 .f32) :
    Σ' (L10 : List (View.Piece (Elt F) S256x1024 .f32)), Σ' (L11 : List (View.Piece (Elt F) S3x256x1024 .bf16)), Σ' (L12 : List (View.Piece (Elt F) S256x1024 .f32)), Σ' (L13 : List (View.Piece (Elt F) S256x1024 .bf16)), Σ' (L14 : List (View.Piece (Elt F) S8x1024 .f32)), Σ' (LS0 : List (View.Piece (Elt F) S3x1024x1024 .f32)), { LH : Buf (Elt F) (arg18.view.loc (c : Thread nD τ)) → HbBuf0 (F := F) c hbM0_0 → HbBuf0 (F := F) c hbM0_0 //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ owns (c : Thread nD τ) arg16 fullShare xo14 ∗ owns (c : Thread nD τ) arg17 fullShare xs0 ∗ (∃ d, owns (c : Thread nD τ) arg18 fullShare d) ∗ semVal ((c : Thread nD τ), SemLoc.dma 26) 0 ∗ semVal ((c : Thread nD τ), SemLoc.dma 27) 0 ∗ (∃ f, hbPt0 c hbM0_0 f) ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13) ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f LS0) ∗ (∃ d, owns (c : Thread nD τ) arg18 fullShare d) ∗ semVal ((c : Thread nD τ), SemLoc.dma 26) 0 ∗ semVal ((c : Thread nD τ), SemLoc.dma 27) 0 ∗ (∃ fs f, hbPt0 c hbM0_0 (LH fs f)) ∗ (∃ W', owes (c : Thread nD τ) 0 W')) -∗ K ⟨⟩))
          ⊢ wp frame (wpE (defs₀ (F := F)) Variants.none c none) Set.univ (cc0_mid i arg1 harg1 arg2 harg2 arg3 harg3 arg4 harg4 arg5 harg5 arg6 harg6 arg7 harg7 arg8 harg8 arg9 harg9 arg10 harg10 arg11 harg11 arg12 harg12 arg13 harg13 arg14 harg14 (Memref.whole main_v0_4) (Memref.isWhole_whole _) arg16 harg16 arg17 harg17 arg18 harg18 cc0_scratch2) K } := by
  refine ⟨?_, ?_, ?_, ?_, ?_, ?_, ?_, fun W K => ?run⟩
  case run =>
    simp only [cc0_mid_eq_skeleton]; unfold cc0_mid_skel
    simp only [k0_part18_eq_skeleton, k0_part19_eq_skeleton, k0_part20_eq_skeleton, k0_part21_eq_skeleton, k0_part22_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%f14, %hf14, H14⟩, ⟨%fs0, %hfs0, HS0⟩, ⟨%ds1, %fs1, -, HS1⟩, Hq0, Hq1, ⟨%fw0, Hh0⟩, HW, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg16.eq_unread hf14; obtain rfl := harg17.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]; · iexists _; iexact H10
    isplitl [H11]; · iexists _; iexact H11
    isplitl [H12]; · iexists _; iexact H12
    isplitl [H13]; · iexists _; iexact H13
    isplitl [H14]; · iexists _; iexact H14
    isplitl [HS0]; · iexists _; iexact HS0
    isplitl [HS1]
    · iexists _, _; isplitr; swap; · iexact HS1
      ipureintro; rfl
    isplitl [Hq0]; · iexact Hq0
    isplitl [Hq1]; · iexact Hq1
    isplitl [Hh0]; · iexists fs1, fw0; iexact Hh0
    iexists _; iexact HW

end Cert.MidIdeal.Last

end
-- ==== Proof.MidRun.lean ====
/- The run of the loss head and its gradient, with the contents its copies leave of the output weights' gradient. -/
module

public import proofs.«01_k».proof.Proof.MidLast
public import proofs.«01_k».proof.Proof.Gen.MidIdeal.Value
public import Idealize.ShloMosaic.Lib.Pipeline.FrameValue

@[expose] public section

set_option maxRecDepth 16384

noncomputable section

namespace Cert.MidIdeal.Last

open Cert.MidIdeal Cert.MidIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The last step's run at the contents the grid hands it. -/
def lastAt (c : Dev nD) (t : Fin cfg0.N) (h0 : ¬t.val % 16 = 0) (h1 : t.val % 16 = 15) :=
  lastRun (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (fun h => h0 ((hcond0_0 t).mp h)) ((hcond0_1 t).mpr h1) (by rw [Memref.set_view_squeeze, Memref.set_view_squeeze]; exact View.disjoint_slice_of_disj (Memref.whole main_v0_4).view (Rect.unit (s := S8x3x128x1024) ![0, 1, 0, 0] S1x1x128x1024.size inb_S8x3x128x1024_S1x1x128x1024_0_1_0_0) (Rect.unit (s := S8x3x128x1024) ![0, 0, 0, 0] S1x1x128x1024.size inb_S8x3x128x1024_S1x1x128x1024_0_0_0_0) (hdd0_0 t)) (by rw [Memref.set_view_squeeze, Memref.set_view_squeeze]; exact View.disjoint_slice_of_disj (Memref.whole main_v0_4).view (Rect.unit (s := S8x3x128x1024) ![0, 2, 0, 0] S1x1x128x1024.size inb_S8x3x128x1024_S1x1x128x1024_0_2_0_0) (Rect.unit (s := S8x3x128x1024) ![0, 1, 0, 0] S1x1x128x1024.size inb_S8x3x128x1024_S1x1x128x1024_0_1_0_0) (hdd0_1 t)) (by rw [Memref.set_view_squeeze, Memref.set_view_squeeze]; exact View.disjoint_slice_of_disj (Memref.whole main_v0_4).view (Rect.unit (s := S8x3x128x1024) ![1, 0, 0, 0] S1x1x128x1024.size inb_S8x3x128x1024_S1x1x128x1024_1_0_0_0) (Rect.unit (s := S8x3x128x1024) ![0, 2, 0, 0] S1x1x128x1024.size inb_S8x3x128x1024_S1x1x128x1024_0_2_0_0) (hdd0_2 t)) (by rw [Memref.set_view_squeeze, Memref.set_view_squeeze]; exact View.disjoint_slice_of_disj (Memref.whole main_v0_4).view (Rect.unit (s := S8x3x128x1024) ![1, 1, 0, 0] S1x1x128x1024.size inb_S8x3x128x1024_S1x1x128x1024_1_1_0_0) (Rect.unit (s := S8x3x128x1024) ![1, 0, 0, 0] S1x1x128x1024.size inb_S8x3x128x1024_S1x1x128x1024_1_0_0_0) (hdd0_3 t)) (by rw [Memref.set_view_squeeze, Memref.set_view_squeeze]; exact View.disjoint_slice_of_disj (Memref.whole main_v0_4).view (Rect.unit (s := S8x3x128x1024) ![1, 2, 0, 0] S1x1x128x1024.size inb_S8x3x128x1024_S1x1x128x1024_1_2_0_0) (Rect.unit (s := S8x3x128x1024) ![1, 1, 0, 0] S1x1x128x1024.size inb_S8x3x128x1024_S1x1x128x1024_1_1_0_0) (hdd0_4 t)) (by rw [Memref.set_view_squeeze, Memref.set_view_squeeze]; exact View.disjoint_slice_of_disj (Memref.whole main_v0_4).view (Rect.unit (s := S8x3x128x1024) ![2, 0, 0, 0] S1x1x128x1024.size inb_S8x3x128x1024_S1x1x128x1024_2_0_0_0) (Rect.unit (s := S8x3x128x1024) ![1, 2, 0, 0] S1x1x128x1024.size inb_S8x3x128x1024_S1x1x128x1024_1_2_0_0) (hdd0_5 t)) (by rw [Memref.set_view_squeeze, Memref.set_view_squeeze]; exact View.disjoint_slice_of_disj (Memref.whole main_v0_4).view (Rect.unit (s := S8x3x128x1024) ![2, 1, 0, 0] S1x1x128x1024.size inb_S8x3x128x1024_S1x1x128x1024_2_1_0_0) (Rect.unit (s := S8x3x128x1024) ![2, 0, 0, 0] S1x1x128x1024.size inb_S8x3x128x1024_S1x1x128x1024_2_0_0_0) (hdd0_6 t)) (by rw [Memref.set_view_squeeze, Memref.set_view_squeeze]; exact View.disjoint_slice_of_disj (Memref.whole main_v0_4).view (Rect.unit (s := S8x3x128x1024) ![2, 2, 0, 0] S1x1x128x1024.size inb_S8x3x128x1024_S1x1x128x1024_2_2_0_0) (Rect.unit (s := S8x3x128x1024) ![2, 1, 0, 0] S1x1x128x1024.size inb_S8x3x128x1024_S1x1x128x1024_2_1_0_0) (hdd0_7 t)) (by rw [Memref.set_view_squeeze, Memref.set_view_squeeze]; exact View.disjoint_slice_of_disj (Memref.whole main_v0_4).view (Rect.unit (s := S8x3x128x1024) ![3, 0, 0, 0] S1x1x128x1024.size inb_S8x3x128x1024_S1x1x128x1024_3_0_0_0) (Rect.unit (s := S8x3x128x1024) ![2, 2, 0, 0] S1x1x128x1024.size inb_S8x3x128x1024_S1x1x128x1024_2_2_0_0) (hdd0_8 t)) (by rw [Memref.set_view_squeeze, Memref.set_view_squeeze]; exact View.disjoint_slice_of_disj (Memref.whole main_v0_4).view (Rect.unit (s := S8x3x128x1024) ![3, 1, 0, 0] S1x1x128x1024.size inb_S8x3x128x1024_S1x1x128x1024_3_1_0_0) (Rect.unit (s := S8x3x128x1024) ![3, 0, 0, 0] S1x1x128x1024.size inb_S8x3x128x1024_S1x1x128x1024_3_0_0_0) (hdd0_9 t)) (by rw [Memref.set_view_squeeze, Memref.set_view_squeeze]; exact View.disjoint_slice_of_disj (Memref.whole main_v0_4).view (Rect.unit (s := S8x3x128x1024) ![3, 2, 0, 0] S1x1x128x1024.size inb_S8x3x128x1024_S1x1x128x1024_3_2_0_0) (Rect.unit (s := S8x3x128x1024) ![3, 1, 0, 0] S1x1x128x1024.size inb_S8x3x128x1024_S1x1x128x1024_3_1_0_0) (hdd0_10 t)) (by rw [Memref.set_view_squeeze, Memref.set_view_squeeze]; exact View.disjoint_slice_of_disj (Memref.whole main_v0_4).view (Rect.unit (s := S8x3x128x1024) ![4, 0, 0, 0] S1x1x128x1024.size inb_S8x3x128x1024_S1x1x128x1024_4_0_0_0) (Rect.unit (s := S8x3x128x1024) ![3, 2, 0, 0] S1x1x128x1024.size inb_S8x3x128x1024_S1x1x128x1024_3_2_0_0) (hdd0_11 t)) (by rw [Memref.set_view_squeeze, Memref.set_view_squeeze]; exact View.disjoint_slice_of_disj (Memref.whole main_v0_4).view (Rect.unit (s := S8x3x128x1024) ![4, 1, 0, 0] S1x1x128x1024.size inb_S8x3x128x1024_S1x1x128x1024_4_1_0_0) (Rect.unit (s := S8x3x128x1024) ![4, 0, 0, 0] S1x1x128x1024.size inb_S8x3x128x1024_S1x1x128x1024_4_0_0_0) (hdd0_12 t)) (by rw [Memref.set_view_squeeze, Memref.set_view_squeeze]; exact View.disjoint_slice_of_disj (Memref.whole main_v0_4).view (Rect.unit (s := S8x3x128x1024) ![4, 2, 0, 0] S1x1x128x1024.size inb_S8x3x128x1024_S1x1x128x1024_4_2_0_0) (Rect.unit (s := S8x3x128x1024) ![4, 1, 0, 0] S1x1x128x1024.size inb_S8x3x128x1024_S1x1x128x1024_4_1_0_0) (hdd0_13 t)) (by rw [Memref.set_view_squeeze, Memref.set_view_squeeze]; exact View.disjoint_slice_of_disj (Memref.whole main_v0_4).view (Rect.unit (s := S8x3x128x1024) ![5, 0, 0, 0] S1x1x128x1024.size inb_S8x3x128x1024_S1x1x128x1024_5_0_0_0) (Rect.unit (s := S8x3x128x1024) ![4, 2, 0, 0] S1x1x128x1024.size inb_S8x3x128x1024_S1x1x128x1024_4_2_0_0) (hdd0_14 t)) (by rw [Memref.set_view_squeeze, Memref.set_view_squeeze]; exact View.disjoint_slice_of_disj (Memref.whole main_v0_4).view (Rect.unit (s := S8x3x128x1024) ![5, 1, 0, 0] S1x1x128x1024.size inb_S8x3x128x1024_S1x1x128x1024_5_1_0_0) (Rect.unit (s := S8x3x128x1024) ![5, 0, 0, 0] S1x1x128x1024.size inb_S8x3x128x1024_S1x1x128x1024_5_0_0_0) (hdd0_15 t)) (by rw [Memref.set_view_squeeze, Memref.set_view_squeeze]; exact View.disjoint_slice_of_disj (Memref.whole main_v0_4).view (Rect.unit (s := S8x3x128x1024) ![5, 2, 0, 0] S1x1x128x1024.size inb_S8x3x128x1024_S1x1x128x1024_5_2_0_0) (Rect.unit (s := S8x3x128x1024) ![5, 1, 0, 0] S1x1x128x1024.size inb_S8x3x128x1024_S1x1x128x1024_5_1_0_0) (hdd0_16 t)) (by rw [Memref.set_view_squeeze, Memref.set_view_squeeze]; exact View.disjoint_slice_of_disj (Memref.whole main_v0_4).view (Rect.unit (s := S8x3x128x1024) ![6, 0, 0, 0] S1x1x128x1024.size inb_S8x3x128x1024_S1x1x128x1024_6_0_0_0) (Rect.unit (s := S8x3x128x1024) ![5, 2, 0, 0] S1x1x128x1024.size inb_S8x3x128x1024_S1x1x128x1024_5_2_0_0) (hdd0_17 t)) (by rw [Memref.set_view_squeeze, Memref.set_view_squeeze]; exact View.disjoint_slice_of_disj (Memref.whole main_v0_4).view (Rect.unit (s := S8x3x128x1024) ![6, 1, 0, 0] S1x1x128x1024.size inb_S8x3x128x1024_S1x1x128x1024_6_1_0_0) (Rect.unit (s := S8x3x128x1024) ![6, 0, 0, 0] S1x1x128x1024.size inb_S8x3x128x1024_S1x1x128x1024_6_0_0_0) (hdd0_18 t)) (by rw [Memref.set_view_squeeze, Memref.set_view_squeeze]; exact View.disjoint_slice_of_disj (Memref.whole main_v0_4).view (Rect.unit (s := S8x3x128x1024) ![6, 2, 0, 0] S1x1x128x1024.size inb_S8x3x128x1024_S1x1x128x1024_6_2_0_0) (Rect.unit (s := S8x3x128x1024) ![6, 1, 0, 0] S1x1x128x1024.size inb_S8x3x128x1024_S1x1x128x1024_6_1_0_0) (hdd0_19 t)) (by rw [Memref.set_view_squeeze, Memref.set_view_squeeze]; exact View.disjoint_slice_of_disj (Memref.whole main_v0_4).view (Rect.unit (s := S8x3x128x1024) ![7, 0, 0, 0] S1x1x128x1024.size inb_S8x3x128x1024_S1x1x128x1024_7_0_0_0) (Rect.unit (s := S8x3x128x1024) ![6, 2, 0, 0] S1x1x128x1024.size inb_S8x3x128x1024_S1x1x128x1024_6_2_0_0) (hdd0_20 t)) (by rw [Memref.set_view_squeeze, Memref.set_view_squeeze]; exact View.disjoint_slice_of_disj (Memref.whole main_v0_4).view (Rect.unit (s := S8x3x128x1024) ![7, 1, 0, 0] S1x1x128x1024.size inb_S8x3x128x1024_S1x1x128x1024_7_1_0_0) (Rect.unit (s := S8x3x128x1024) ![7, 0, 0, 0] S1x1x128x1024.size inb_S8x3x128x1024_S1x1x128x1024_7_0_0_0) (hdd0_21 t)) (by rw [Memref.set_view_squeeze, Memref.set_view_squeeze]; exact View.disjoint_slice_of_disj (Memref.whole main_v0_4).view (Rect.unit (s := S8x3x128x1024) ![7, 2, 0, 0] S1x1x128x1024.size inb_S8x3x128x1024_S1x1x128x1024_7_2_0_0) (Rect.unit (s := S8x3x128x1024) ![7, 1, 0, 0] S1x1x128x1024.size inb_S8x3x128x1024_S1x1x128x1024_7_1_0_0) (hdd0_22 t)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2

/-- The run the frame is proved by, at the same contents. -/
def genAt (c : Dev nD) (t : Fin cfg0.N) (h0 : ¬t.val % 16 = 0) (h1 : t.val % 16 = 15) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (fun h => h0 ((hcond0_0 t).mp h)) ((hcond0_1 t).mpr h1) (by rw [Memref.set_view_squeeze, Memref.set_view_squeeze]; exact View.disjoint_slice_of_disj (Memref.whole main_v0_4).view (Rect.unit (s := S8x3x128x1024) ![0, 1, 0, 0] S1x1x128x1024.size inb_S8x3x128x1024_S1x1x128x1024_0_1_0_0) (Rect.unit (s := S8x3x128x1024) ![0, 0, 0, 0] S1x1x128x1024.size inb_S8x3x128x1024_S1x1x128x1024_0_0_0_0) (hdd0_0 t)) (by rw [Memref.set_view_squeeze, Memref.set_view_squeeze]; exact View.disjoint_slice_of_disj (Memref.whole main_v0_4).view (Rect.unit (s := S8x3x128x1024) ![0, 2, 0, 0] S1x1x128x1024.size inb_S8x3x128x1024_S1x1x128x1024_0_2_0_0) (Rect.unit (s := S8x3x128x1024) ![0, 1, 0, 0] S1x1x128x1024.size inb_S8x3x128x1024_S1x1x128x1024_0_1_0_0) (hdd0_1 t)) (by rw [Memref.set_view_squeeze, Memref.set_view_squeeze]; exact View.disjoint_slice_of_disj (Memref.whole main_v0_4).view (Rect.unit (s := S8x3x128x1024) ![1, 0, 0, 0] S1x1x128x1024.size inb_S8x3x128x1024_S1x1x128x1024_1_0_0_0) (Rect.unit (s := S8x3x128x1024) ![0, 2, 0, 0] S1x1x128x1024.size inb_S8x3x128x1024_S1x1x128x1024_0_2_0_0) (hdd0_2 t)) (by rw [Memref.set_view_squeeze, Memref.set_view_squeeze]; exact View.disjoint_slice_of_disj (Memref.whole main_v0_4).view (Rect.unit (s := S8x3x128x1024) ![1, 1, 0, 0] S1x1x128x1024.size inb_S8x3x128x1024_S1x1x128x1024_1_1_0_0) (Rect.unit (s := S8x3x128x1024) ![1, 0, 0, 0] S1x1x128x1024.size inb_S8x3x128x1024_S1x1x128x1024_1_0_0_0) (hdd0_3 t)) (by rw [Memref.set_view_squeeze, Memref.set_view_squeeze]; exact View.disjoint_slice_of_disj (Memref.whole main_v0_4).view (Rect.unit (s := S8x3x128x1024) ![1, 2, 0, 0] S1x1x128x1024.size inb_S8x3x128x1024_S1x1x128x1024_1_2_0_0) (Rect.unit (s := S8x3x128x1024) ![1, 1, 0, 0] S1x1x128x1024.size inb_S8x3x128x1024_S1x1x128x1024_1_1_0_0) (hdd0_4 t)) (by rw [Memref.set_view_squeeze, Memref.set_view_squeeze]; exact View.disjoint_slice_of_disj (Memref.whole main_v0_4).view (Rect.unit (s := S8x3x128x1024) ![2, 0, 0, 0] S1x1x128x1024.size inb_S8x3x128x1024_S1x1x128x1024_2_0_0_0) (Rect.unit (s := S8x3x128x1024) ![1, 2, 0, 0] S1x1x128x1024.size inb_S8x3x128x1024_S1x1x128x1024_1_2_0_0) (hdd0_5 t)) (by rw [Memref.set_view_squeeze, Memref.set_view_squeeze]; exact View.disjoint_slice_of_disj (Memref.whole main_v0_4).view (Rect.unit (s := S8x3x128x1024) ![2, 1, 0, 0] S1x1x128x1024.size inb_S8x3x128x1024_S1x1x128x1024_2_1_0_0) (Rect.unit (s := S8x3x128x1024) ![2, 0, 0, 0] S1x1x128x1024.size inb_S8x3x128x1024_S1x1x128x1024_2_0_0_0) (hdd0_6 t)) (by rw [Memref.set_view_squeeze, Memref.set_view_squeeze]; exact View.disjoint_slice_of_disj (Memref.whole main_v0_4).view (Rect.unit (s := S8x3x128x1024) ![2, 2, 0, 0] S1x1x128x1024.size inb_S8x3x128x1024_S1x1x128x1024_2_2_0_0) (Rect.unit (s := S8x3x128x1024) ![2, 1, 0, 0] S1x1x128x1024.size inb_S8x3x128x1024_S1x1x128x1024_2_1_0_0) (hdd0_7 t)) (by rw [Memref.set_view_squeeze, Memref.set_view_squeeze]; exact View.disjoint_slice_of_disj (Memref.whole main_v0_4).view (Rect.unit (s := S8x3x128x1024) ![3, 0, 0, 0] S1x1x128x1024.size inb_S8x3x128x1024_S1x1x128x1024_3_0_0_0) (Rect.unit (s := S8x3x128x1024) ![2, 2, 0, 0] S1x1x128x1024.size inb_S8x3x128x1024_S1x1x128x1024_2_2_0_0) (hdd0_8 t)) (by rw [Memref.set_view_squeeze, Memref.set_view_squeeze]; exact View.disjoint_slice_of_disj (Memref.whole main_v0_4).view (Rect.unit (s := S8x3x128x1024) ![3, 1, 0, 0] S1x1x128x1024.size inb_S8x3x128x1024_S1x1x128x1024_3_1_0_0) (Rect.unit (s := S8x3x128x1024) ![3, 0, 0, 0] S1x1x128x1024.size inb_S8x3x128x1024_S1x1x128x1024_3_0_0_0) (hdd0_9 t)) (by rw [Memref.set_view_squeeze, Memref.set_view_squeeze]; exact View.disjoint_slice_of_disj (Memref.whole main_v0_4).view (Rect.unit (s := S8x3x128x1024) ![3, 2, 0, 0] S1x1x128x1024.size inb_S8x3x128x1024_S1x1x128x1024_3_2_0_0) (Rect.unit (s := S8x3x128x1024) ![3, 1, 0, 0] S1x1x128x1024.size inb_S8x3x128x1024_S1x1x128x1024_3_1_0_0) (hdd0_10 t)) (by rw [Memref.set_view_squeeze, Memref.set_view_squeeze]; exact View.disjoint_slice_of_disj (Memref.whole main_v0_4).view (Rect.unit (s := S8x3x128x1024) ![4, 0, 0, 0] S1x1x128x1024.size inb_S8x3x128x1024_S1x1x128x1024_4_0_0_0) (Rect.unit (s := S8x3x128x1024) ![3, 2, 0, 0] S1x1x128x1024.size inb_S8x3x128x1024_S1x1x128x1024_3_2_0_0) (hdd0_11 t)) (by rw [Memref.set_view_squeeze, Memref.set_view_squeeze]; exact View.disjoint_slice_of_disj (Memref.whole main_v0_4).view (Rect.unit (s := S8x3x128x1024) ![4, 1, 0, 0] S1x1x128x1024.size inb_S8x3x128x1024_S1x1x128x1024_4_1_0_0) (Rect.unit (s := S8x3x128x1024) ![4, 0, 0, 0] S1x1x128x1024.size inb_S8x3x128x1024_S1x1x128x1024_4_0_0_0) (hdd0_12 t)) (by rw [Memref.set_view_squeeze, Memref.set_view_squeeze]; exact View.disjoint_slice_of_disj (Memref.whole main_v0_4).view (Rect.unit (s := S8x3x128x1024) ![4, 2, 0, 0] S1x1x128x1024.size inb_S8x3x128x1024_S1x1x128x1024_4_2_0_0) (Rect.unit (s := S8x3x128x1024) ![4, 1, 0, 0] S1x1x128x1024.size inb_S8x3x128x1024_S1x1x128x1024_4_1_0_0) (hdd0_13 t)) (by rw [Memref.set_view_squeeze, Memref.set_view_squeeze]; exact View.disjoint_slice_of_disj (Memref.whole main_v0_4).view (Rect.unit (s := S8x3x128x1024) ![5, 0, 0, 0] S1x1x128x1024.size inb_S8x3x128x1024_S1x1x128x1024_5_0_0_0) (Rect.unit (s := S8x3x128x1024) ![4, 2, 0, 0] S1x1x128x1024.size inb_S8x3x128x1024_S1x1x128x1024_4_2_0_0) (hdd0_14 t)) (by rw [Memref.set_view_squeeze, Memref.set_view_squeeze]; exact View.disjoint_slice_of_disj (Memref.whole main_v0_4).view (Rect.unit (s := S8x3x128x1024) ![5, 1, 0, 0] S1x1x128x1024.size inb_S8x3x128x1024_S1x1x128x1024_5_1_0_0) (Rect.unit (s := S8x3x128x1024) ![5, 0, 0, 0] S1x1x128x1024.size inb_S8x3x128x1024_S1x1x128x1024_5_0_0_0) (hdd0_15 t)) (by rw [Memref.set_view_squeeze, Memref.set_view_squeeze]; exact View.disjoint_slice_of_disj (Memref.whole main_v0_4).view (Rect.unit (s := S8x3x128x1024) ![5, 2, 0, 0] S1x1x128x1024.size inb_S8x3x128x1024_S1x1x128x1024_5_2_0_0) (Rect.unit (s := S8x3x128x1024) ![5, 1, 0, 0] S1x1x128x1024.size inb_S8x3x128x1024_S1x1x128x1024_5_1_0_0) (hdd0_16 t)) (by rw [Memref.set_view_squeeze, Memref.set_view_squeeze]; exact View.disjoint_slice_of_disj (Memref.whole main_v0_4).view (Rect.unit (s := S8x3x128x1024) ![6, 0, 0, 0] S1x1x128x1024.size inb_S8x3x128x1024_S1x1x128x1024_6_0_0_0) (Rect.unit (s := S8x3x128x1024) ![5, 2, 0, 0] S1x1x128x1024.size inb_S8x3x128x1024_S1x1x128x1024_5_2_0_0) (hdd0_17 t)) (by rw [Memref.set_view_squeeze, Memref.set_view_squeeze]; exact View.disjoint_slice_of_disj (Memref.whole main_v0_4).view (Rect.unit (s := S8x3x128x1024) ![6, 1, 0, 0] S1x1x128x1024.size inb_S8x3x128x1024_S1x1x128x1024_6_1_0_0) (Rect.unit (s := S8x3x128x1024) ![6, 0, 0, 0] S1x1x128x1024.size inb_S8x3x128x1024_S1x1x128x1024_6_0_0_0) (hdd0_18 t)) (by rw [Memref.set_view_squeeze, Memref.set_view_squeeze]; exact View.disjoint_slice_of_disj (Memref.whole main_v0_4).view (Rect.unit (s := S8x3x128x1024) ![6, 2, 0, 0] S1x1x128x1024.size inb_S8x3x128x1024_S1x1x128x1024_6_2_0_0) (Rect.unit (s := S8x3x128x1024) ![6, 1, 0, 0] S1x1x128x1024.size inb_S8x3x128x1024_S1x1x128x1024_6_1_0_0) (hdd0_19 t)) (by rw [Memref.set_view_squeeze, Memref.set_view_squeeze]; exact View.disjoint_slice_of_disj (Memref.whole main_v0_4).view (Rect.unit (s := S8x3x128x1024) ![7, 0, 0, 0] S1x1x128x1024.size inb_S8x3x128x1024_S1x1x128x1024_7_0_0_0) (Rect.unit (s := S8x3x128x1024) ![6, 2, 0, 0] S1x1x128x1024.size inb_S8x3x128x1024_S1x1x128x1024_6_2_0_0) (hdd0_20 t)) (by rw [Memref.set_view_squeeze, Memref.set_view_squeeze]; exact View.disjoint_slice_of_disj (Memref.whole main_v0_4).view (Rect.unit (s := S8x3x128x1024) ![7, 1, 0, 0] S1x1x128x1024.size inb_S8x3x128x1024_S1x1x128x1024_7_1_0_0) (Rect.unit (s := S8x3x128x1024) ![7, 0, 0, 0] S1x1x128x1024.size inb_S8x3x128x1024_S1x1x128x1024_7_0_0_0) (hdd0_21 t)) (by rw [Memref.set_view_squeeze, Memref.set_view_squeeze]; exact View.disjoint_slice_of_disj (Memref.whole main_v0_4).view (Rect.unit (s := S8x3x128x1024) ![7, 2, 0, 0] S1x1x128x1024.size inb_S8x3x128x1024_S1x1x128x1024_7_2_0_0) (Rect.unit (s := S8x3x128x1024) ![7, 1, 0, 0] S1x1x128x1024.size inb_S8x3x128x1024_S1x1x128x1024_7_1_0_0) (hdd0_22 t)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2

theorem pieces (c : Dev nD) (t : Fin cfg0.N) (h0 : ¬t.val % 16 = 0) (h1 : t.val % 16 = 15) :
    (lastAt m c t h0 h1).1 = (genAt m c t h0 h1).1
      ∧ (lastAt m c t h0 h1).2.1 = (genAt m c t h0 h1).2.1
      ∧ (lastAt m c t h0 h1).2.2.1 = (genAt m c t h0 h1).2.2.1
      ∧ (lastAt m c t h0 h1).2.2.2.1 = (genAt m c t h0 h1).2.2.2.1
      ∧ (lastAt m c t h0 h1).2.2.2.2.1 = (genAt m c t h0 h1).2.2.2.2.1
      ∧ (lastAt m c t h0 h1).2.2.2.2.2.1 = (genAt m c t h0 h1).2.2.2.2.2.1 :=
  ⟨rfl, rfl, rfl, rfl, rfl, rfl⟩

/-- The last step. -/
def lastPt : Fin cfg0.N := ⟨15, lt_of_lt_of_eq (by decide) N_0.symm⟩

theorem lastPt_pos : ¬lastPt.val % 16 = 0 := by decide

theorem lastPt_last : lastPt.val % 16 = 15 := by decide

/-- What the copies of the last step leave, over what the buffers held before it. -/
def leftAt (c : Dev nD) (t : Fin cfg0.N) (h0 : ¬t.val % 16 = 0) (h1 : t.val % 16 = 15)
    (fs : Buf (Elt F) (scM0_1.view.loc (c : Thread nD τ))) (f : HbBuf0 (F := F) c hbM0_0) : HbBuf0 (F := F) c hbM0_0 :=
  (lastAt m c t h0 h1).2.2.2.2.2.2.1 fs f

/-- The invariant after the last step: the sums, and the copied result. -/
def PhiAt (c : Dev nD) (t : Fin cfg0.N) (h0 : ¬t.val % 16 = 0) (h1 : t.val % 16 = 15) : sProp 𝕄 :=
  iprop(iprop(owns (c : Thread nD τ) scM0_0 fullShare ((outsAt0 m c t.val t.isLt).2.2.2.2.2)
      ∗ (∃ d, owns (c : Thread nD τ) scM0_1 fullShare d)) ∗ (∃ r, prngReg c r)
    ∗ iprop(semVal ((c : Thread nD τ), SemLoc.dma 26) 0 ∗ semVal ((c : Thread nD τ), SemLoc.dma 27) 0) ∗ iprop(emp)
    ∗ iprop(∃ fs f, hbPt0 c hbM0_0 (leftAt m c t h0 h1 fs f)))

def PhiLast (c : Dev nD) : sProp 𝕄 := PhiAt m c lastPt lastPt_pos lastPt_last

/-- The data `d` with another invariant. -/
def withPhi {c : Dev nD} (d : Dat τ (Elt F) Unit ℕ (Pipeline.UD sig nD τ) ℕ cfg0 c)
    (Φ : Fin (cfg0.N + 1) → sProp 𝕄) : Dat τ (Elt F) Unit ℕ (Pipeline.UD sig nD τ) ℕ cfg0 c := { d with Φ := Φ }

/-- What a step is entered with under the data `D`. -/
def preD {c : Dev nD} (D : Dat τ (Elt F) Unit ℕ (Pipeline.UD sig nD τ) ℕ cfg0 c) (t : Fin cfg0.N) : sProp 𝕄 :=
  iprop(D.Φ t.castSucc ∗ D.owesAt () t.castSucc
    ∗ (∃ d, owns (c : Thread nD τ) (ms0_0 t) fullShare (D.before 0 t d))
    ∗ (∃ d, owns (c : Thread nD τ) (ms0_1 t) fullShare (D.before 1 t d))
    ∗ (∃ d, owns (c : Thread nD τ) (ms0_2 t) fullShare (D.before 2 t d))
    ∗ (∃ d, owns (c : Thread nD τ) (ms0_3 t) fullShare (D.before 3 t d))
    ∗ (∃ d, owns (c : Thread nD τ) (ms0_4 t) fullShare (D.before 4 t d))
    ∗ (∃ d, owns (c : Thread nD τ) (ms0_5 t) fullShare (D.before 5 t d))
    ∗ (∃ d, owns (c : Thread nD τ) (ms0_6 t) fullShare (D.before 6 t d))
    ∗ (∃ d, owns (c : Thread nD τ) (ms0_7 t) fullShare (D.before 7 t d))
    ∗ (∃ d, owns (c : Thread nD τ) (ms0_8 t) fullShare (D.before 8 t d))
    ∗ (∃ d, owns (c : Thread nD τ) (ms0_9 t) fullShare (D.before 9 t d))
    ∗ (∃ d, owns (c : Thread nD τ) (ms0_10 t) fullShare (D.before 10 t d))
    ∗ (∃ d, owns (c : Thread nD τ) (ms0_11 t) fullShare (D.before 11 t d))
    ∗ (∃ d, owns (c : Thread nD τ) (ms0_12 t) fullShare (D.before 12 t d))
    ∗ (∃ d, owns (c : Thread nD τ) (ms0_13 t) fullShare (D.before 13 t d))
    ∗ (∃ d, owns (c : Thread nD τ) (ms0_14 t) fullShare (D.before 14 t d)))

/-- What it gives back. -/
def postD {c : Dev nD} (D : Dat τ (Elt F) Unit ℕ (Pipeline.UD sig nD τ) ℕ cfg0 c) (t : Fin cfg0.N) : sProp 𝕄 :=
  iprop(D.Φ t.succ ∗ D.owesAt () t.succ
    ∗ owns (c : Thread nD τ) (ms0_0 t) fullShare (D.after 0 t)
    ∗ owns (c : Thread nD τ) (ms0_1 t) fullShare (D.after 1 t)
    ∗ owns (c : Thread nD τ) (ms0_2 t) fullShare (D.after 2 t)
    ∗ owns (c : Thread nD τ) (ms0_3 t) fullShare (D.after 3 t)
    ∗ owns (c : Thread nD τ) (ms0_4 t) fullShare (D.after 4 t)
    ∗ owns (c : Thread nD τ) (ms0_5 t) fullShare (D.after 5 t)
    ∗ owns (c : Thread nD τ) (ms0_6 t) fullShare (D.after 6 t)
    ∗ owns (c : Thread nD τ) (ms0_7 t) fullShare (D.after 7 t)
    ∗ owns (c : Thread nD τ) (ms0_8 t) fullShare (D.after 8 t)
    ∗ owns (c : Thread nD τ) (ms0_9 t) fullShare (D.after 9 t)
    ∗ owns (c : Thread nD τ) (ms0_10 t) fullShare (D.after 10 t)
    ∗ owns (c : Thread nD τ) (ms0_11 t) fullShare (D.after 11 t)
    ∗ owns (c : Thread nD τ) (ms0_12 t) fullShare (D.after 12 t)
    ∗ owns (c : Thread nD τ) (ms0_13 t) fullShare (D.after 13 t)
    ∗ owns (c : Thread nD τ) (ms0_14 t) fullShare (D.after 14 t))

theorem preD_withPhi {c : Dev nD} (D : Dat τ (Elt F) Unit ℕ (Pipeline.UD sig nD τ) ℕ cfg0 c) (Q : Fin (cfg0.N + 1) → sProp 𝕄)
    (t : Fin cfg0.N) (h : Q t.castSucc = D.Φ t.castSucc) : preD (withPhi D Q) t = preD D t := by
  unfold preD
  rw [show (withPhi D Q).Φ t.castSucc = D.Φ t.castSucc from h]
  rfl

theorem postD_withPhi {c : Dev nD} (D : Dat τ (Elt F) Unit ℕ (Pipeline.UD sig nD τ) ℕ cfg0 c) (Q : Fin (cfg0.N + 1) → sProp 𝕄)
    (t : Fin cfg0.N) (h : Q t.succ = D.Φ t.succ) : postD (withPhi D Q) t = postD D t := by
  unfold postD
  rw [show (withPhi D Q).Φ t.succ = D.Φ t.succ from h]
  rfl

theorem postD_at {c : Dev nD} (D : Dat τ (Elt F) Unit ℕ (Pipeline.UD sig nD τ) ℕ cfg0 c)
    (Q : Fin (cfg0.N + 1) → sProp 𝕄) (P : sProp 𝕄) (t : Fin cfg0.N) (h : Q t.succ = P) :
    postD (withPhi D Q) t = iprop(P ∗ D.owesAt () t.succ
    ∗ owns (c : Thread nD τ) (ms0_0 t) fullShare (D.after 0 t)
    ∗ owns (c : Thread nD τ) (ms0_1 t) fullShare (D.after 1 t)
    ∗ owns (c : Thread nD τ) (ms0_2 t) fullShare (D.after 2 t)
    ∗ owns (c : Thread nD τ) (ms0_3 t) fullShare (D.after 3 t)
    ∗ owns (c : Thread nD τ) (ms0_4 t) fullShare (D.after 4 t)
    ∗ owns (c : Thread nD τ) (ms0_5 t) fullShare (D.after 5 t)
    ∗ owns (c : Thread nD τ) (ms0_6 t) fullShare (D.after 6 t)
    ∗ owns (c : Thread nD τ) (ms0_7 t) fullShare (D.after 7 t)
    ∗ owns (c : Thread nD τ) (ms0_8 t) fullShare (D.after 8 t)
    ∗ owns (c : Thread nD τ) (ms0_9 t) fullShare (D.after 9 t)
    ∗ owns (c : Thread nD τ) (ms0_10 t) fullShare (D.after 10 t)
    ∗ owns (c : Thread nD τ) (ms0_11 t) fullShare (D.after 11 t)
    ∗ owns (c : Thread nD τ) (ms0_12 t) fullShare (D.after 12 t)
    ∗ owns (c : Thread nD τ) (ms0_13 t) fullShare (D.after 13 t)
    ∗ owns (c : Thread nD τ) (ms0_14 t) fullShare (D.after 14 t)) := by
  unfold postD
  rw [show (withPhi D Q).Φ t.succ = P from h]
  rfl

theorem withPhi_arrAt {c : Dev nD} (D : Dat τ (Elt F) Unit ℕ (Pipeline.UD sig nD τ) ℕ cfg0 c) (Q : Fin (cfg0.N + 1) → sProp 𝕄)
    (w : Fin cfg0.W) (n : ℕ) : (withPhi D Q).arrAt w n = D.arrAt w n := by
  induction n with
  | zero => rfl
  | succ n ih => unfold Dat.arrAt; rw [ih]; rfl

/-- The pipeline's data with that invariant at its end. -/
def datG (p : Fin 1) (c : Dev nD) : Dat τ (Elt F) Unit ℕ (Pipeline.UD sig nD τ) ℕ cfg0 c :=
  withPhi (dats m p c) fun t => if t.val = 16 then PhiLast m c else (dats m p c).Φ t

theorem datG_phi (c : Dev nD) (t : Fin (cfg0.N + 1)) (h : ¬t.val = 16) : (datG m 0 c).Φ t = (dats m 0 c).Φ t :=
  if_neg h

theorem datG_last (c : Dev nD) (t : Fin (cfg0.N + 1)) (h : t.val = 16) : (datG m 0 c).Φ t = PhiLast m c :=
  if_pos h

theorem sound_early (c : Dev nD) (t : Fin cfg0.N) (h : ¬t.val = 15) :
    preD (datG m 0 c) t ⊢ wp frame (wpE (defs₀ (F := F)) Variants.none c none) Set.univ (bodyAt0 t) (fun _ => postD (datG m 0 c) t) := by
  have hN : t.val < 16 := lt_of_lt_of_eq t.isLt N_0
  have e1 : preD (datG m 0 c) t = bodyPre m c t :=
    preD_withPhi (dats m 0 c) _ t (if_neg (by rw [Fin.val_castSucc]; omega))
  have e2 : postD (datG m 0 c) t = bodyPost m c t :=
    postD_withPhi (dats m 0 c) _ t (if_neg (by rw [Fin.val_succ]; omega))
  rw [e1, e2]
  exact sound_body m c t

set_option maxHeartbeats 19200000 in
/-- The last step, with the copied result named. -/
theorem sound_at (c : Dev nD) (t : Fin cfg0.N) (h0 : ¬t.val % 16 = 0) (h1 : t.val % 16 = 15) :
    bodyPre m c t ⊢ wp frame (wpE (defs₀ (F := F)) Variants.none c none) Set.univ (bodyAt0 t) (fun _ =>
      iprop(PhiAt m c t h0 h1 ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t))) := by
  unfold bodyPre bodyAt0 PhiAt
  simp only [before0_0, before0_1, before0_2, before0_3, before0_4, before0_5, before0_6, before0_7, before0_8, before0_9]
  rw [after0_0, after0_1, after0_2, after0_3, after0_4, after0_5, after0_6, after0_7, after0_8, after0_9, after0_10, after0_11, after0_12, after0_13, after0_14]
  unfold Dat.owesAt Pipeline.owesWithin
  rw [show (dats m 0 c).owed t.castSucc = 0 from rfl, show (dats m 0 c).owed t.succ = 0 from rfl]
  have hz : ¬t.val = 0 := fun h => h0 (by rw [h])
  rw [PhiS_castSucc m c t, PhiS_pos m c _ _ hz]
  rw [outsAt0_C m c t h0 h1]
  simp only [before0_14_C m c t h0 h1]
  unfold out0_C_10 out0_C_11 out0_C_12 out0_C_13 out0_C_14 sout0_C_0; dsimp only
  iintro ⟨⟨⟨HS0, HS1⟩, Hg, ⟨Hq0, Hq1⟩, -, Hh0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply ((lastAt m c t h0 h1).2.2.2.2.2.2.2 W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexists _; iexact H13
  isplitl [H14]; · iexact H14
  isplitl [HS0]; · iexact HS0
  isplitl [HS1]; · iexact HS1
  isplitl [Hq0]; · iexact Hq0
  isplitl [Hq1]; · iexact Hq1
  isplitl [Hh0]; · iexact Hh0
  isplitl [HW]; · iexact HW
  iintro ⟨H0, H1, H2, H3, H4, H5, H6, H7, H8, H9, ⟨%e10, H10⟩, ⟨%e11, H11⟩, ⟨%e12, H12⟩, ⟨%e13, H13⟩, ⟨%e14, H14⟩, ⟨%es0, HS0⟩, HS1, Hq0, Hq1, ⟨%gs, %gf, Hh0⟩, ⟨%W', HW'⟩⟩
  isplitl [HS0 HS1 Hg Hq0 Hq1 Hh0]
  · isplitl [HS0 HS1]
    · isplitl [HS0]
      · unfold owns; iexists _; isplitr
        swap; · iexact HS0
        ipureintro; rw [(pieces m c t h0 h1).2.2.2.2.2]; exact View.read_writes_of_cover _ _ _ _ _ (scover0_C_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      iexact HS1
    isplitl [Hg]
    · iexact Hg
    isplitl [Hq0 Hq1]
    · isplitl [Hq0]; · iexact Hq0
      iexact Hq1
    isplitr; · iempintro
    iexists gs, gf; iexact Hh0
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · unfold owns; iexists _; isplitr
    swap; · iexact H10
    ipureintro; rw [(pieces m c t h0 h1).1]; exact View.read_writes_of_cover _ _ _ _ _ (cover0_C_10 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H11]
  · unfold owns; iexists _; isplitr
    swap; · iexact H11
    ipureintro; rw [(pieces m c t h0 h1).2.1]; exact View.read_writes_of_cover _ _ _ _ _ (cover0_C_11 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H12]
  · unfold owns; iexists _; isplitr
    swap; · iexact H12
    ipureintro; rw [(pieces m c t h0 h1).2.2.1]; exact View.read_writes_of_cover _ _ _ _ _ (cover0_C_12 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H13]
  · unfold owns; iexists _; isplitr
    swap; · iexact H13
    ipureintro; rw [(pieces m c t h0 h1).2.2.2.1]; exact View.read_writes_of_cover _ _ _ _ _ (cover0_C_13 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H14
  ipureintro; rw [(pieces m c t h0 h1).2.2.2.2.1]; exact View.read_writes_of_cover _ _ _ _ _ (cover0_C_14 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

theorem sound_last (c : Dev nD) (t : Fin cfg0.N) (h : t.val = 15) :
    preD (datG m 0 c) t ⊢ wp frame (wpE (defs₀ (F := F)) Variants.none c none) Set.univ (bodyAt0 t) (fun _ => postD (datG m 0 c) t) := by
  obtain rfl : t = lastPt := Fin.ext h
  have e1 : preD (datG m 0 c) lastPt = bodyPre m c lastPt :=
    preD_withPhi (dats m 0 c) _ lastPt (if_neg (by rw [Fin.val_castSucc, h]; omega))
  have e2 := postD_at (dats m 0 c) (datG m 0 c).Φ (PhiLast m c) lastPt (datG_last m c _ (by rw [Fin.val_succ, h]))
  rw [e1]
  refine (sound_at m c lastPt lastPt_pos lastPt_last).trans ?_
  rw [show postD (datG m 0 c) lastPt = _ from e2]
  exact .rfl

theorem body_obligation (c : Dev nD) : BodyObligation (datG (F := F) m 0 c) (defs₀ (F := F)) Variants.none () Set.univ := fun t => by
  rw [bigSep_W0, bigSep_W0, defs₀_row]
  by_cases h : t.val = 15
  · exact triple_restated (sound_last m c t h) rfl .rfl fun _ => .rfl
  · exact triple_restated (sound_early m c t h) rfl .rfl fun _ => .rfl

/-- The contents of the copied result beside the contents the launch found in the other buffers. -/
def after (g : (c : Dev nD) → HbBuf0 (F := F) c hbM0_0) (c : Dev nD) (b : Ref sig .tc) : Buf (Elt F) ((c.tc : Thread nD τ).loc b) :=
  if h : b = main_v0_4 then h ▸ g c else V m c b

theorem after_copied (g : (c : Dev nD) → HbBuf0 (F := F) c hbM0_0) (c : Dev nD) : after m g c main_v0_4 = g c := dif_pos rfl

theorem phi_in (c : Dev nD) : Pipeline.ΦDRG osem0 spec0 H0 R0 (V m) (V m) c ⊢ (datG m 0 c).Φ 0 :=
  (Pipeline.ΦDRG_ΦDR osem0 spec0 H0 R0 (V m) (V m) c).trans
    ((hin m c).trans (by rw [datG_phi m c 0 (by decide)]))

theorem phi_out (g : (c : Dev nD) → HbBuf0 (F := F) c hbM0_0) (hg : ∀ c fs f, leftAt m c lastPt lastPt_pos lastPt_last fs f = g c) (c : Dev nD) :
    (datG m 0 c).Φ (Fin.last cfg0.N) ⊢ Pipeline.ΦDRG osem0 spec0 H0 R0 (V m) (after m g) c := by
  have e : (Pipeline.routed R0 c (after m g c) : sProp 𝕄) = hbPt0 c hbM0_0 (g c) := by
    unfold Pipeline.routed
    rw [BI.bigSep_eq_bigSepL_of_eq [main_v0_4] (by decide) (by decide), ← after_copied m g c]; rfl
  rw [datG_last m c _ (by rw [Fin.val_last]; exact N_0), Pipeline.ΦDRG_eq, scopedRest0_eq, ownSems00_eq, hbmPts0_eq, e]
  unfold PhiLast PhiAt
  simp only [hg, scM0_0, scM0_1, owns_whole]
  iintro ⟨⟨HS0, HS1⟩, Hg, ⟨Hq0, Hq1⟩, -, ⟨%fs, %f, Hh0⟩⟩
  isplitl [HS0 HS1]
  · isplitl [HS0]
    · iexists _; iexact HS0
    iexact HS1
  isplitl [Hg]; · iexact Hg
  isplitl [Hq0 Hq1]
  · isplitl [Hq0]; · iexact Hq0
    iexact Hq1
  isplitr; · iempintro
  iexact Hh0

-- the library's launch theorem is stated over the pinned configurations
set_option backward.isDefEq.respectTransparency.types false in
/-- Every execution ends with the arrays as the grid leaves them and the copied result at `g`. -/
theorem run (g : (c : Dev nD) → HbBuf0 (F := F) c hbM0_0) (hg : ∀ c fs f, leftAt m c lastPt lastPt_pos lastPt_last fs f = g c) :
    θ_run defs (onTc (τ := τ) (main (F := F))) (s₀ m ρ) (Pipeline.FramePostRG cfgs (datG m) 0 R0 (V m) (after m g)) :=
  Pipeline.θ_run_frame_dmaRG_shared (Q' := _) cfgs (datG m) (0 : Fin 1) launch₀0 osem0 defs₀ Variants.none ownSemFacts0 H0 R0 H0_sub R0_sub m ρ main
    (hbody := fun c => (body_obligation m c).loose) (hq := fun _ _ _ => rfl)
    (howed := fun _ _ => rfl) (V := V m) (hmain := hmain m Variants.none) (hA := fun c w => A_eq m c w)
    (G := after m g) (hin := phi_in m) (hout := phi_out m g hg)

end Cert.MidIdeal.Last

end
-- ==== Proof.MidGw.lean ====
/- The gradient of the three output weights as a formula. -/
module

public import proofs.«01_k».proof.Proof.MidSpec

@[expose] public section

noncomputable section

namespace Cert.MidSpec

open Idealize.ShloMosaic Cert.ConvSpec Cert.ProjSpec Cert.NormSpec

variable (yc : FVec Ideal ⟨2, ![4096, 1024]⟩ .bf16) (pa : FVec Ideal ⟨2, ![4096, 3072]⟩ .bf16)
  (o x t : FVec Ideal ⟨2, ![4096, 1024]⟩ .f32) (b : FVec Ideal ⟨2, ![1, 2048]⟩ .f32)
  (g : FVec Ideal ⟨2, ![1, 1024]⟩ .f32) (w : FVec Ideal ⟨3, ![3, 1024, 1024]⟩ .bf16)

/-- What weight `a` multiplies: the convolution branch, the gated attention, the merged branches. -/
def inW (a r i : ℕ) : EReal :=
  if a = 0 then at2 yc r i else if a = 1 then ya0 pa o r i else mg yc pa o b w r i

/-- The gradient of what weight `a` gives. -/
def outW (a r j : ℕ) : EReal :=
  if a = 0 then dm yc pa o x t b g w r j * gC pa b r j
  else if a = 1 then dm yc pa o x t b g w r j * gA pa b r j else dh yc pa o x t b g w r j

/-- The gradient of weight `a`, summed over the rows. -/
def dW (a i j : ℕ) : EReal := ∑ r : Fin 4096, inW yc pa o b w a r i * outW yc pa o x t b g w a r j

end Cert.MidSpec

end
-- ==== Proof.MidAcc.lean ====
/- The three products with the transposed rows that the scratch accumulates over the row tiles. -/
module

public import proofs.«01_k».proof.Proof.MidBody
public import proofs.«01_k».proof.Proof.MidGw
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.MidIdeal.Body

open Cert.MidIdeal Cert.MidIdeal.Gen Cert.ConvSpec Cert.ProjSpec Cert.NormSpec Cert.MidSpec

variable (m : (ℓ : Loc nD τ sig) → Buf (Elt Ideal) ℓ)

section

variable (v19 v111 : FVec Ideal S256x1024 .bf16) (v52 v66 v71 : FVec Ideal S256x1024 .f32) (v64 : FVec Ideal S256x1 .f32)
  (v67 : Vec Ideal S1x1024 .f32) (p : Vec Ideal S1x1024x1024 .f32) (a : Vec Ideal S3x1024x1024 .f32)

theorem pay60_at (z : Fin 1) (r l : Fin 1024) :
    k0_pay60 v19 v111 p (ix3 z r l) = p (ix3 0 r l) + ∑ k : Fin 256, v19 (ix2 k r) * v111 (ix2 k l) := by
  pointwise [k0_pay60]

theorem pay62_at (z : Fin 1) (r l : Fin 1024) :
    k0_pay62 (k0_pay61 v19 v111 p) (ix3 z r l) = p (ix3 0 r l) + ∑ k : Fin 256, v19 (ix2 k r) * v111 (ix2 k l) := by
  pointwise [k0_pay62, k0_pay61]

theorem pay53_at (z : Fin 1) (r l : Fin 1024) :
    k0_pay53 v52 v64 v66 v67 v71 p (ix3 z r l)
      = p (ix3 0 r l) + ∑ k : Fin 256, v52 (ix2 k r) * k0_pay50 v64 v66 v67 v71 (ix2 k l) := by
  pointwise [k0_pay53, k0_pay51]

theorem acc0_at (r l : Fin 1024) :
    View.ld a (Rect.unit ![0, 0, 0] ![1, 1024, 1024] inb_S3x1024x1024_S1x1024x1024_0_0_0) (ix3 0 r l) = a (ix3 0 r l) := by
  pointwise []
theorem acc1_at (r l : Fin 1024) :
    View.ld a (Rect.unit ![1, 0, 0] ![1, 1024, 1024] inb_S3x1024x1024_S1x1024x1024_1_0_0) (ix3 0 r l) = a (ix3 1 r l) := by
  pointwise []
theorem acc2_at (r l : Fin 1024) :
    View.ld a (Rect.unit ![2, 0, 0] ![1, 1024, 1024] inb_S3x1024x1024_S1x1024x1024_2_0_0) (ix3 0 r l) = a (ix3 2 r l) := by
  pointwise []

theorem pay28_at (y : S3x1024x1024.Idx) : k0_pay28 (F := Ideal) y = 0 := by
  idx_vars y
  pointwise [k0_pay28]

/-- The scratch's windows: the whole, and one per weight. -/
abbrev rz : Rect S3x1024x1024 := Rect.unit ![0, 0, 0] ![3, 1024, 1024] inb_S3x1024x1024_S3x1024x1024_0_0_0
abbrev r0 : Rect S3x1024x1024 := Rect.unit ![0, 0, 0] ![1, 1024, 1024] inb_S3x1024x1024_S1x1024x1024_0_0_0
abbrev r1 : Rect S3x1024x1024 := Rect.unit ![1, 0, 0] ![1, 1024, 1024] inb_S3x1024x1024_S1x1024x1024_1_0_0
abbrev r2 : Rect S3x1024x1024 := Rect.unit ![2, 0, 0] ![1, 1024, 1024] inb_S3x1024x1024_S1x1024x1024_2_0_0

theorem fill_at {κ : Kind} {sp : Space} (v : View sig κ sp S3x1024x1024 .f32) (r : Rect S3x1024x1024) (x : r.shape.Idx) :
    v.readCov [(⟨rz, k0_pay28 (F := Ideal)⟩ : View.Piece (Elt Ideal) S3x1024x1024 .f32)] r.toLoadRect x = (0 : EReal) := by
  refine (congrFun (View.readCov_fill (Val := Elt Ideal) (e := .f32) (s := S3x1024x1024) v inb_S3x1024x1024_S3x1024x1024_0_0_0 (k0_pay28 (F := Ideal)) [] r
    (by decide)) x).trans ?_
  exact pay28_at _

/-- The zeroed scratch read through a window. -/
theorem zero2_at {κ : Kind} {sp : Space} (v : View sig κ sp S3x1024x1024 .f32) (x : r2.shape.Idx) :
    v.readCov [(⟨rz, k0_pay28 (F := Ideal)⟩ : View.Piece (Elt Ideal) S3x1024x1024 .f32)] r2.toLoadRect x = (0 : EReal) :=
  fill_at v r2 x

theorem zero0_at {κ : Kind} {sp : Space} (v : View sig κ sp S3x1024x1024 .f32) (x : r0.shape.Idx) :
    v.readCov [(⟨r2, p⟩ : View.Piece (Elt Ideal) S3x1024x1024 .f32), ⟨rz, k0_pay28 (F := Ideal)⟩] r0.toLoadRect x = (0 : EReal) := by
  rw [View.readCov_skip v r2 p _ r0.toLoadRect (by decide)]
  exact fill_at v r0 x

theorem zero1_at {κ : Kind} {sp : Space} (v : View sig κ sp S3x1024x1024 .f32) (q : Vec Ideal S1x1024x1024 .f32)
    (x : r1.shape.Idx) :
    v.readCov [(⟨r0, q⟩ : View.Piece (Elt Ideal) S3x1024x1024 .f32), ⟨r2, p⟩, ⟨rz, k0_pay28 (F := Ideal)⟩] r1.toLoadRect x
      = (0 : EReal) := by
  rw [View.readCov_skip v r0 q _ r1.toLoadRect (by decide), View.readCov_skip v r2 p _ r1.toLoadRect (by decide)]
  exact fill_at v r1 x

end

section

variable (c : Dev nD) (t : Fin cfg0.N)

/-- A row tile's part of the three products. -/
def gpart (y : S3x1024x1024.Idx) : EReal :=
  ∑ r : Fin 256, inW (Yc m c) (Pa m c) (O m c) (B m c) (W m c) (y 0).val (t.val * 256 + r) (y 1).val
    * outW (Yc m c) (Pa m c) (O m c) (X m c) (T m c) (B m c) (G m c) (W m c) (y 0).val (t.val * 256 + r) (y 2).val

theorem gpart_at (y : S3x1024x1024.Idx) (a i j : ℕ) (h0 : (y 0).val = a) (h1 : (y 1).val = i) (h2 : (y 2).val = j) :
    gpart m c t y = ∑ r : Fin 256, inW (Yc m c) (Pa m c) (O m c) (B m c) (W m c) a (t.val * 256 + r) i
      * outW (Yc m c) (Pa m c) (O m c) (X m c) (T m c) (B m c) (G m c) (W m c) a (t.val * 256 + r) j := by
  rw [gpart, h0, h1, h2]

theorem prod0 (y : S3x1024x1024.Idx) (i j : Fin 1024) (h0 : (y 0).val = 0) (h1 : (y 1).val = i) (h2 : (y 2).val = j) :
    ∑ k : Fin 256, HMul.hMul (α := EReal) (β := EReal) (γ := EReal) (iblk m c 0 t (ix2 k i)) (dcK m c t (ix2 k j)) = gpart m c t y := by
  rw [gpart_at m c t y 0 i j h0 h1 h2]
  exact Finset.sum_congr rfl fun k _ => Ideal.mul_congr (blk0 m c t k i) (dc_at m c t k j)

theorem prod1 (y : S3x1024x1024.Idx) (i j : Fin 1024) (h0 : (y 0).val = 1) (h1 : (y 1).val = i) (h2 : (y 2).val = j) :
    ∑ k : Fin 256, k0_pay35 (iblk m c 1 t) (iblk m c 4 t) (ix2 k i) * daK m c t (ix2 k j) = gpart m c t y := by
  rw [gpart_at m c t y 1 i j h0 h1 h2]
  exact Finset.sum_congr rfl fun k _ => Ideal.mul_congr (ya0_at m c t k i) (da_at m c t k j)

theorem prod2 (y : S3x1024x1024.Idx) (i j : Fin 1024) (h0 : (y 0).val = 2) (h1 : (y 1).val = i) (h2 : (y 2).val = j) :
    ∑ k : Fin 256, mgK m c t (ix2 k i) * dhK m c t (ix2 k j) = gpart m c t y := by
  rw [gpart_at m c t y 2 i j h0 h1 h2]
  exact Finset.sum_congr rfl fun k _ => Ideal.mul_congr (mg_at m c t k i) (dh_at m c t k j)

theorem read_scratch (p : Vec Ideal S3x1024x1024 .f32) (h : (Memref.whole cc0_scratch0).IsWhole) :
    View.read (Elt Ideal) (View.whole cc0_scratch0) (h.unread p) = p :=
  h.read_unread p

/-- The index with the coordinates' values. -/
theorem idx3_eq (y : S3x1024x1024.Idx) (a : Fin 3) (i j : Fin 1024) (h0 : (y 0).val = a) (h1 : (y 1).val = i) (h2 : (y 2).val = j) :
    y = ix3 a i j := by
  funext q
  refine Fin.ext ?_
  fin_cases q
  · exact h0
  · exact h1
  · exact h2

/-- Pieces that cover an index leave nothing of the earlier ones there. -/
theorem canon_drop {S : Shape} {e : EltTy} (y : S.Idx) (L' : List (View.Piece (Elt Ideal) S e)) :
    ∀ (L : List (View.Piece (Elt Ideal) S e)) (_ : ∃ q ∈ L, y ∈ q.1.set), View.canon (L ++ L') y = View.canon L y
  | [], hc => by
    obtain ⟨q, hq, -⟩ := hc
    exact absurd hq List.not_mem_nil
  | q :: L, hc => by
    by_cases hm : y ∈ q.1.set
    · obtain ⟨x, rfl⟩ := q.1.exists_idx_of_mem hm
      exact (View.canon_cons_emb q.1 q.2 (L ++ L') x).trans (View.canon_cons_emb q.1 q.2 L x).symm
    · refine (View.canon_cons_of_not_mem q (L ++ L') hm).trans ?_
      refine Eq.trans ?_ (View.canon_cons_of_not_mem q L hm).symm
      refine canon_drop y L' L ?_
      obtain ⟨w, hw, hy⟩ := hc
      rcases List.mem_cons.mp hw with rfl | hw
      · exact absurd hy hm
      · exact ⟨w, hw, hy⟩

theorem acc_first (h : t.val % 16 = 0) (y : S3x1024x1024.Idx) :
    (outsAt0 m c t.val t.isLt).2.2.2.2.2 y = 0 + gpart m c t y := by
  rw [outsAt0_A m c t h (by omega)]
  frame_out
  refine (canon_drop y [_] [_, _, _] (View.cover_of_tiled_head _ _ _ (by rfl) y)).trans ?_
  canon_tiles x h
  all_goals idx_vars x
  case piece0 =>
    refine (pay62_at _ _ _ _ _ _).trans (Ideal.add_congr (zero1_at _ _ _ _) ?_)
    exact prod1 m c t y x1 x2 (by omega) h1 h2
  case piece1 =>
    refine (pay60_at _ _ _ _ _ _).trans (Ideal.add_congr (zero0_at _ _ _) ?_)
    exact prod0 m c t y x1 x2 (by omega) h1 h2
  case piece2 =>
    refine (pay53_at _ _ _ _ _ _ _ _ _).trans (Ideal.add_congr (zero2_at _ _) ?_)
    exact prod2 m c t y x1 x2 (by omega) h1 h2

theorem acc_next (h : ¬t.val % 16 = 0) (y : S3x1024x1024.Idx) :
    (outsAt0 m c t.val t.isLt).2.2.2.2.2 y = (outsAt0 m c (t.val - 1) (by omega)).2.2.2.2.2 y + gpart m c t y := by
  by_cases a1 : t.val % 16 = 15
  · rw [outsAt0_C m c t h a1]
    frame_out
    canon_tiles x h
    all_goals idx_vars x
    case piece0 =>
      refine (pay62_at _ _ _ _ _ _).trans (Ideal.add_congr ((acc1_at _ _ _).trans ?_) (prod1 m c t y x1 x2 (by omega) h1 h2))
      rw [idx3_eq y 1 x1 x2 (by omega) h1 h2]
      exact congrFun (read_scratch _ _) _
    case piece1 =>
      refine (pay60_at _ _ _ _ _ _).trans (Ideal.add_congr ((acc0_at _ _ _).trans ?_) (prod0 m c t y x1 x2 (by omega) h1 h2))
      rw [idx3_eq y 0 x1 x2 (by omega) h1 h2]
      exact congrFun (read_scratch _ _) _
    case piece2 =>
      refine (pay53_at _ _ _ _ _ _ _ _ _).trans (Ideal.add_congr ((acc2_at _ _ _).trans ?_) (prod2 m c t y x1 x2 (by omega) h1 h2))
      rw [idx3_eq y 2 x1 x2 (by omega) h1 h2]
      exact congrFun (read_scratch _ _) _
  · rw [outsAt0_B m c t h a1]
    frame_out
    canon_tiles x h
    all_goals idx_vars x
    case piece0 =>
      refine (pay62_at _ _ _ _ _ _).trans (Ideal.add_congr ((acc1_at _ _ _).trans ?_) (prod1 m c t y x1 x2 (by omega) h1 h2))
      rw [idx3_eq y 1 x1 x2 (by omega) h1 h2]
      exact congrFun (read_scratch _ _) _
    case piece1 =>
      refine (pay60_at _ _ _ _ _ _).trans (Ideal.add_congr ((acc0_at _ _ _).trans ?_) (prod0 m c t y x1 x2 (by omega) h1 h2))
      rw [idx3_eq y 0 x1 x2 (by omega) h1 h2]
      exact congrFun (read_scratch _ _) _
    case piece2 =>
      refine (pay53_at _ _ _ _ _ _ _ _ _).trans (Ideal.add_congr ((acc2_at _ _ _).trans ?_) (prod2 m c t y x1 x2 (by omega) h1 h2))
      rw [idx3_eq y 2 x1 x2 (by omega) h1 h2]
      exact congrFun (read_scratch _ _) _

/-- The scratch when the row tiles are through. -/
theorem acc_last (hf : t.val % 16 = 15) (a : Fin 3) (i j : Fin 1024) :
    (outsAt0 m c t.val t.isLt).2.2.2.2.2 (ix3 a i j)
      = dW (Yc m c) (Pa m c) (O m c) (X m c) (T m c) (B m c) (G m c) (W m c) a i j := by
  have ht := pt_lt t
  have h16 : t.val / 16 = 0 := by omega
  have sums (f : ℕ → EReal) : ∑ q : Fin 16, ∑ r : Fin 256, f (q.val * 256 + r) = ∑ r : Fin 4096, f r :=
    (Fin.sum_univ_tiles (f := fun r : Fin 4096 => f r) 16 256 rfl).symm
  rw [Pipeline.eq_sum_fin_of_reset_step_apply_of_flush (fun n h => (outsAt0 m c n h).2.2.2.2.2) 16 (fun _ => 0)
    (fun p j => gpart m c p j) (fun t h j => acc_first m c t h j) (fun t h j => acc_next m c t h j) t hf (ix3 a i j), zero_add]
  simp only [h16, Nat.mul_zero, Nat.zero_add]
  exact sums fun r => inW (Yc m c) (Pa m c) (O m c) (B m c) (W m c) a r i
    * outW (Yc m c) (Pa m c) (O m c) (X m c) (T m c) (B m c) (G m c) (W m c) a r j

end

end Cert.MidIdeal.Body

end
-- ==== Proof.MidCopy.lean ====
/- What the copies of the last grid point leave: the accumulated products, cut into the devices' parts. -/
module

public import proofs.«01_k».proof.Proof.MidRun
public import proofs.«01_k».proof.Proof.MidAcc
public import Idealize.ShloMosaic.Lib.ValueLayout
public import Idealize.ShloMosaic.Lib.Writes

@[expose] public section

set_option maxRecDepth 16384

noncomputable section

open Idealize.ShloMosaic Idealize.ShloMosaic.TcCoe Idealize.SL.Sem
open Idealize.ShloMosaic.Pipeline (Dat)

namespace Cert.MidIdeal.Last

open Cert.MidIdeal Cert.MidIdeal.Gen Cert.MidIdeal.Body

section

/-- The contents agree with `G` at the windows before window `k`. -/
def Upto (k : ℕ) (G f : S8x3x128x1024.Idx → Elt Ideal .bf16) : Prop :=
  ∀ y, 3 * (y 0).val + (y 1).val < k → f y = G y

theorem Upto.all {G f : S8x3x128x1024.Idx → Elt Ideal .bf16} (h : Upto 24 G f) : f = G := by
  funext y
  have h0 : (y 0).val < 8 := (y 0).isLt
  have h1 : (y 1).val < 3 := (y 1).isLt
  exact h y (by omega)

theorem Upto.none (G f : S8x3x128x1024.Idx → Elt Ideal .bf16) : Upto 0 G f := fun y h => absurd h (Nat.not_lt_zero _)

/-- Where a copied part's index lies. -/
def spot (p a : ℕ) (hp : p < 8) (ha : a < 3) (x : S128x1024.Idx) : S8x3x128x1024.Idx :=
  ix4 (⟨p, hp⟩ : Fin 8) (⟨a, ha⟩ : Fin 3) (x 0) (x 1)

/-- A part's index, with a leading axis. -/
def row (x : S128x1024.Idx) : S1x128x1024.Idx := ix3 (0 : Fin 1) (x 0) (x 1)

theorem ix2_self (x : S128x1024.Idx) : x = ValueIdx.ix2 (x 0) (x 1) := by
  funext q
  fin_cases q <;> rfl

theorem lift3 (hn : S128x1024.numel = S1x128x1024.numel) (x : S128x1024.Idx) : Shape.reshapeEquiv hn x = row x := by
  refine (congrArg _ (ix2_self x)).trans ((ValueIdx.reshapeEquiv_ix2_1ab hn (x 0) (x 1)).trans ?_)
  funext q
  fin_cases q <;> rfl

theorem lift4 (p a : ℕ) (hp : p < 8) (ha : a < 3)
    (inb : ∀ q, (![p, a, 0, 0] : Fin 4 → ℕ) q + S1x1x128x1024.size q ≤ S8x3x128x1024.size q)
    (hn : S128x1024.numel = S1x1x128x1024.numel) (x : S128x1024.Idx) :
    (Rect.unit (s := S8x3x128x1024) ![p, a, 0, 0] S1x1x128x1024.size inb).emb (Shape.reshapeEquiv hn x) = spot p a hp ha x := by
  have e : Shape.reshapeEquiv hn x = _ :=
    (congrArg _ (ix2_self x)).trans (ValueIdx.reshapeEquiv_ix2_11ab hn (x 0) (x 1))
  refine (congrArg _ e).trans ?_
  funext q
  refine Fin.ext ?_
  fin_cases q
  · show p + 1 * 0 = p
    omega
  · show a + 1 * 0 = a
    omega
  · show 0 + 1 * (x 0).val = (x 0).val
    omega
  · show 0 + 1 * (x 1).val = (x 1).val
    omega

/-- Copying window `(p, a)`. -/
theorem Upto.copy (p a : ℕ) (hp : p < 8) (ha : a < 3)
    (inb : ∀ q, (![p, a, 0, 0] : Fin 4 → ℕ) q + S1x1x128x1024.size q ≤ S8x3x128x1024.size q)
    (hn : S128x1024.numel = S1x1x128x1024.numel) {G f : S8x3x128x1024.Idx → Elt Ideal .bf16}
    {D : S128x1024.Idx → Elt Ideal .bf16} (h : Upto (3 * p + a) G f) (hD : ∀ x, D x = G (spot p a hp ha x)) :
    Upto (3 * p + a + 1) G (View.write (Elt Ideal)
      (((View.whole main_v0_4).slice (Rect.unit (s := S8x3x128x1024) ![p, a, 0, 0] S1x1x128x1024.size inb)).reshape S128x1024 hn)
      f D Finset.univ) := by
  intro y hy
  have hemb (x : S128x1024.Idx) :
      (((View.whole main_v0_4).slice (Rect.unit (s := S8x3x128x1024) ![p, a, 0, 0] S1x1x128x1024.size inb)).reshape S128x1024 hn).emb
        x = spot p a hp ha x := lift4 p a hp ha inb hn x
  have h1 : (y 1).val < 3 := (y 1).isLt
  by_cases hw : (y 0).val = p ∧ (y 1).val = a
  · have e : y = spot p a hp ha (ix2 (y 2) (y 3)) := by
      funext q
      refine Fin.ext ?_
      fin_cases q
      · exact hw.1
      · exact hw.2
      · rfl
      · rfl
    rw [e, ← hD, ← hemb]
    exact View.write_emb_of_mem _ _ (Finset.mem_univ _)
  · refine (View.write_of_not_mem _ _ _ fun hm => hw ?_).trans (h y (by omega))
    obtain ⟨x, -, ex⟩ := Finset.mem_map.mp hm
    rw [← (hemb x).symm.trans ex]
    exact ⟨rfl, rfl⟩

/-- A part of a view read back, reshaped, after the store into it. -/
theorem stage_read {κ : Kind} {sp : Space} {S T : Shape} {e : EltTy} (v : View sig κ sp S e) (R : Rect S)
    (hn : T.numel = R.shape.numel) (fs : v.ty.Contents (Elt Ideal)) (w : R.shape.Idx → Elt Ideal e)
    (L : List (View.Piece (Elt Ideal) S e)) (x : T.Idx) :
    View.read (Elt Ideal) ((v.slice R).reshape T hn) (v.writes (Elt Ideal) fs (⟨R, w⟩ :: L)) x = w (Shape.reshapeEquiv hn x) :=
  View.read_writes_cons_emb ..

/-- A window of the accumulated products. -/
theorem win_at {κ : Kind} {sp : Space} (v : View sig κ sp S3x1024x1024 .f32) (L : List (View.Piece (Elt Ideal) S3x1024x1024 .f32))
    (a o : ℕ) (ha : a < 3) (ho : o + 128 ≤ 1024)
    (inb : ∀ q, (![a, o, 0] : Fin 3 → ℕ) q + S1x128x1024.size q ≤ S3x1024x1024.size q) (x : S128x1024.Idx) :
    v.readCov L (Rect.unit (s := S3x1024x1024) ![a, o, 0] S1x128x1024.size inb).toLoadRect (row x)
      = View.canon L (ix3 (⟨a, ha⟩ : Fin 3) (⟨o + (x 0).val, by
          have h0 : (x 0).val < 128 := (x 0).isLt
          omega⟩ : Fin 1024) (x 1) : S3x1024x1024.Idx) := by
  rw [View.readCov_eq_canon']
  refine congrArg (View.canon L) ?_
  funext q
  refine Fin.ext ?_
  fin_cases q
  · show a + 1 * 0 = a
    omega
  · show o + 1 * (x 0).val = o + (x 0).val
    omega
  · show 0 + 1 * (x 1).val = (x 1).val
    omega

/-- The devices' parts of an array of the three products. -/
def parts (A : S3x1024x1024.Idx → Elt Ideal .f32) : S8x3x128x1024.Idx → Elt Ideal .bf16 :=
  fun y => A (ix3 (y 1) (⟨128 * (y 0).val + (y 2).val, by
    have h0 : (y 0).val < 8 := (y 0).isLt
    have h2 : (y 2).val < 128 := (y 2).isLt
    show _ < 1024
    omega⟩ : Fin 1024) (y 3))

/-- The window that a part is copied from. -/
theorem win_parts {κ : Kind} {sp : Space} (v : View sig κ sp S3x1024x1024 .f32) (L : List (View.Piece (Elt Ideal) S3x1024x1024 .f32))
    (p a o : ℕ) (hp : p < 8) (ha : a < 3) (ho : o = 128 * p)
    (inb : ∀ q, (![a, o, 0] : Fin 3 → ℕ) q + S1x128x1024.size q ≤ S3x1024x1024.size q) (x : S128x1024.Idx) :
    v.readCov L (Rect.unit (s := S3x1024x1024) ![a, o, 0] S1x128x1024.size inb).toLoadRect (row x)
      = parts (View.canon L) (spot p a hp ha x) := by
  subst ho
  exact win_at v L a (128 * p) ha (by omega) inb x

variable (v : Vec Ideal S1x128x1024 .f32) (z : S1x128x1024.Idx)

theorem cast2 : k0_pay2 v z = v z := by
  pointwise [k0_pay2]
theorem cast3 : k0_pay3 v z = v z := by
  pointwise [k0_pay3]
theorem cast4 : k0_pay4 v z = v z := by
  pointwise [k0_pay4]
theorem cast5 : k0_pay6 (k0_pay5 v) z = v z := by
  pointwise [k0_pay6, k0_pay5]
theorem cast7 : k0_pay7 v z = v z := by
  pointwise [k0_pay7]
theorem cast8 : k0_pay8 v z = v z := by
  pointwise [k0_pay8]
theorem cast9 : k0_pay9 v z = v z := by
  pointwise [k0_pay9]
theorem cast10 : k0_pay10 v z = v z := by
  pointwise [k0_pay10]
theorem cast11 : k0_pay11 v z = v z := by
  pointwise [k0_pay11]
theorem cast12 : k0_pay12 v z = v z := by
  pointwise [k0_pay12]
theorem cast13 : k0_pay14 (k0_pay13 v) z = v z := by
  pointwise [k0_pay14, k0_pay13]
theorem cast15 : k0_pay15 v z = v z := by
  pointwise [k0_pay15]
theorem cast16 : k0_pay16 v z = v z := by
  pointwise [k0_pay16]
theorem cast17 : k0_pay17 v z = v z := by
  pointwise [k0_pay17]
theorem cast18 : k0_pay18 v z = v z := by
  pointwise [k0_pay18]
theorem cast19 : k0_pay19 v z = v z := by
  pointwise [k0_pay19]
theorem cast20 : k0_pay20 v z = v z := by
  pointwise [k0_pay20]
theorem cast21 : k0_pay21 v z = v z := by
  pointwise [k0_pay21]
theorem cast22 : k0_pay22 v z = v z := by
  pointwise [k0_pay22]
theorem cast23 : k0_pay23 v z = v z := by
  pointwise [k0_pay23]
theorem cast24 : k0_pay24 v z = v z := by
  pointwise [k0_pay24]
theorem cast25 : k0_pay25 v z = v z := by
  pointwise [k0_pay25]
theorem cast26 : k0_pay26 v z = v z := by
  pointwise [k0_pay26]
theorem cast27 : k0_pay27 v z = v z := by
  pointwise [k0_pay27]

end

end Cert.MidIdeal.Last

end
-- ==== Proof.MidLeft.lean ====
/- What the copies of the last grid point leave. -/
module

public import proofs.«01_k».proof.Proof.MidRun
public import proofs.«01_k».proof.Proof.MidCopy
public import proofs.«01_k».proof.Proof.Gen.MidIdeal.Value
public import Idealize.ShloMosaic.Lib.ValueLayout
public import Idealize.ShloMosaic.Lib.Writes

@[expose] public section

set_option maxRecDepth 16384

noncomputable section

open Idealize.ShloMosaic Idealize.ShloMosaic.TcCoe Idealize.SL.Sem
open Idealize.ShloMosaic.Pipeline (Dat)

namespace Cert.MidIdeal.Last

open Cert.MidIdeal Cert.MidIdeal.Gen Cert.MidIdeal.Body

variable (m : (ℓ : Loc nD τ sig) → Buf (Elt Ideal) ℓ)

/-- What the copies leave is the parts of what the scratch then holds. -/
theorem left_parts (c : Dev nD) (fs : Buf (Elt Ideal) (scM0_1.view.loc (c : Thread nD τ))) (f : HbBuf0 (F := Ideal) c hbM0_0) :
    leftAt m c lastPt lastPt_pos lastPt_last fs f = parts (View.canon (lastAt m c lastPt lastPt_pos lastPt_last).2.2.2.2.2.1) := by
  unfold leftAt lastAt lastRun
  dsimp only
  refine Upto.all ?_
  refine Upto.copy 7 2 (by decide) (by decide) _ _ ?_ fun x => ?_
  rotate_left
  · unfold lastRun.sl.dma108 lastRun.sl.HS1_24
    refine (stage_read _ _ _ _ _ _ x).trans ?_
    refine (congrArg _ (lift3 _ x)).trans ?_
    refine (cast27 _ (row x)).trans ?_
    exact win_parts _ _ 7 2 896 (by decide) (by decide) (by decide) _ x
  refine Upto.copy 7 1 (by decide) (by decide) _ _ ?_ fun x => ?_
  rotate_left
  · unfold lastRun.sl.dma105 lastRun.sl.HS1_23
    refine (stage_read _ _ _ _ _ _ x).trans ?_
    refine (congrArg _ (lift3 _ x)).trans ?_
    refine (cast26 _ (row x)).trans ?_
    exact win_parts _ _ 7 1 896 (by decide) (by decide) (by decide) _ x
  refine Upto.copy 7 0 (by decide) (by decide) _ _ ?_ fun x => ?_
  rotate_left
  · unfold lastRun.sl.dma102 lastRun.sl.HS1_22
    refine (stage_read _ _ _ _ _ _ x).trans ?_
    refine (congrArg _ (lift3 _ x)).trans ?_
    refine (cast25 _ (row x)).trans ?_
    exact win_parts _ _ 7 0 896 (by decide) (by decide) (by decide) _ x
  refine Upto.copy 6 2 (by decide) (by decide) _ _ ?_ fun x => ?_
  rotate_left
  · unfold lastRun.sl.dma99 lastRun.sl.HS1_21
    refine (stage_read _ _ _ _ _ _ x).trans ?_
    refine (congrArg _ (lift3 _ x)).trans ?_
    refine (cast24 _ (row x)).trans ?_
    exact win_parts _ _ 6 2 768 (by decide) (by decide) (by decide) _ x
  refine Upto.copy 6 1 (by decide) (by decide) _ _ ?_ fun x => ?_
  rotate_left
  · unfold lastRun.sl.dma96 lastRun.sl.HS1_20
    refine (stage_read _ _ _ _ _ _ x).trans ?_
    refine (congrArg _ (lift3 _ x)).trans ?_
    refine (cast23 _ (row x)).trans ?_
    exact win_parts _ _ 6 1 768 (by decide) (by decide) (by decide) _ x
  refine Upto.copy 6 0 (by decide) (by decide) _ _ ?_ fun x => ?_
  rotate_left
  · unfold lastRun.sl.dma93 lastRun.sl.HS1_19
    refine (stage_read _ _ _ _ _ _ x).trans ?_
    refine (congrArg _ (lift3 _ x)).trans ?_
    refine (cast22 _ (row x)).trans ?_
    exact win_parts _ _ 6 0 768 (by decide) (by decide) (by decide) _ x
  refine Upto.copy 5 2 (by decide) (by decide) _ _ ?_ fun x => ?_
  rotate_left
  · unfold lastRun.sl.dma90 lastRun.sl.HS1_18
    refine (stage_read _ _ _ _ _ _ x).trans ?_
    refine (congrArg _ (lift3 _ x)).trans ?_
    refine (cast21 _ (row x)).trans ?_
    exact win_parts _ _ 5 2 640 (by decide) (by decide) (by decide) _ x
  refine Upto.copy 5 1 (by decide) (by decide) _ _ ?_ fun x => ?_
  rotate_left
  · unfold lastRun.sl.dma87 lastRun.sl.HS1_17
    refine (stage_read _ _ _ _ _ _ x).trans ?_
    refine (congrArg _ (lift3 _ x)).trans ?_
    refine (cast20 _ (row x)).trans ?_
    exact win_parts _ _ 5 1 640 (by decide) (by decide) (by decide) _ x
  refine Upto.copy 5 0 (by decide) (by decide) _ _ ?_ fun x => ?_
  rotate_left
  · unfold lastRun.sl.dma84 lastRun.sl.HS1_16
    refine (stage_read _ _ _ _ _ _ x).trans ?_
    refine (congrArg _ (lift3 _ x)).trans ?_
    refine (cast19 _ (row x)).trans ?_
    exact win_parts _ _ 5 0 640 (by decide) (by decide) (by decide) _ x
  refine Upto.copy 4 2 (by decide) (by decide) _ _ ?_ fun x => ?_
  rotate_left
  · unfold lastRun.sl.dma81 lastRun.sl.HS1_15
    refine (stage_read _ _ _ _ _ _ x).trans ?_
    refine (congrArg _ (lift3 _ x)).trans ?_
    refine (cast18 _ (row x)).trans ?_
    exact win_parts _ _ 4 2 512 (by decide) (by decide) (by decide) _ x
  refine Upto.copy 4 1 (by decide) (by decide) _ _ ?_ fun x => ?_
  rotate_left
  · unfold lastRun.sl.dma78 lastRun.sl.HS1_14
    refine (stage_read _ _ _ _ _ _ x).trans ?_
    refine (congrArg _ (lift3 _ x)).trans ?_
    refine (cast17 _ (row x)).trans ?_
    exact win_parts _ _ 4 1 512 (by decide) (by decide) (by decide) _ x
  refine Upto.copy 4 0 (by decide) (by decide) _ _ ?_ fun x => ?_
  rotate_left
  · unfold lastRun.sl.dma75 lastRun.sl.HS1_13
    refine (stage_read _ _ _ _ _ _ x).trans ?_
    refine (congrArg _ (lift3 _ x)).trans ?_
    refine (cast16 _ (row x)).trans ?_
    exact win_parts _ _ 4 0 512 (by decide) (by decide) (by decide) _ x
  refine Upto.copy 3 2 (by decide) (by decide) _ _ ?_ fun x => ?_
  rotate_left
  · unfold lastRun.sl.dma72 lastRun.sl.HS1_12
    refine (stage_read _ _ _ _ _ _ x).trans ?_
    refine (congrArg _ (lift3 _ x)).trans ?_
    refine (cast15 _ (row x)).trans ?_
    exact win_parts _ _ 3 2 384 (by decide) (by decide) (by decide) _ x
  refine Upto.copy 3 1 (by decide) (by decide) _ _ ?_ fun x => ?_
  rotate_left
  · unfold lastRun.sl.dma69 lastRun.sl.HS1_11
    refine (stage_read _ _ _ _ _ _ x).trans ?_
    refine (congrArg _ (lift3 _ x)).trans ?_
    refine (cast13 _ (row x)).trans ?_
    exact win_parts _ _ 3 1 384 (by decide) (by decide) (by decide) _ x
  refine Upto.copy 3 0 (by decide) (by decide) _ _ ?_ fun x => ?_
  rotate_left
  · unfold lastRun.sl.dma66 lastRun.sl.HS1_10
    refine (stage_read _ _ _ _ _ _ x).trans ?_
    refine (congrArg _ (lift3 _ x)).trans ?_
    refine (cast12 _ (row x)).trans ?_
    exact win_parts _ _ 3 0 384 (by decide) (by decide) (by decide) _ x
  refine Upto.copy 2 2 (by decide) (by decide) _ _ ?_ fun x => ?_
  rotate_left
  · unfold lastRun.sl.dma63 lastRun.sl.HS1_9
    refine (stage_read _ _ _ _ _ _ x).trans ?_
    refine (congrArg _ (lift3 _ x)).trans ?_
    refine (cast11 _ (row x)).trans ?_
    exact win_parts _ _ 2 2 256 (by decide) (by decide) (by decide) _ x
  refine Upto.copy 2 1 (by decide) (by decide) _ _ ?_ fun x => ?_
  rotate_left
  · unfold lastRun.sl.dma60 lastRun.sl.HS1_8
    refine (stage_read _ _ _ _ _ _ x).trans ?_
    refine (congrArg _ (lift3 _ x)).trans ?_
    refine (cast10 _ (row x)).trans ?_
    exact win_parts _ _ 2 1 256 (by decide) (by decide) (by decide) _ x
  refine Upto.copy 2 0 (by decide) (by decide) _ _ ?_ fun x => ?_
  rotate_left
  · unfold lastRun.sl.dma57 lastRun.sl.HS1_7
    refine (stage_read _ _ _ _ _ _ x).trans ?_
    refine (congrArg _ (lift3 _ x)).trans ?_
    refine (cast9 _ (row x)).trans ?_
    exact win_parts _ _ 2 0 256 (by decide) (by decide) (by decide) _ x
  refine Upto.copy 1 2 (by decide) (by decide) _ _ ?_ fun x => ?_
  rotate_left
  · unfold lastRun.sl.dma54 lastRun.sl.HS1_6
    refine (stage_read _ _ _ _ _ _ x).trans ?_
    refine (congrArg _ (lift3 _ x)).trans ?_
    refine (cast8 _ (row x)).trans ?_
    exact win_parts _ _ 1 2 128 (by decide) (by decide) (by decide) _ x
  refine Upto.copy 1 1 (by decide) (by decide) _ _ ?_ fun x => ?_
  rotate_left
  · unfold lastRun.sl.dma51 lastRun.sl.HS1_5
    refine (stage_read _ _ _ _ _ _ x).trans ?_
    refine (congrArg _ (lift3 _ x)).trans ?_
    refine (cast7 _ (row x)).trans ?_
    exact win_parts _ _ 1 1 128 (by decide) (by decide) (by decide) _ x
  refine Upto.copy 1 0 (by decide) (by decide) _ _ ?_ fun x => ?_
  rotate_left
  · unfold lastRun.sl.dma48 lastRun.sl.HS1_4
    refine (stage_read _ _ _ _ _ _ x).trans ?_
    refine (congrArg _ (lift3 _ x)).trans ?_
    refine (cast5 _ (row x)).trans ?_
    exact win_parts _ _ 1 0 128 (by decide) (by decide) (by decide) _ x
  refine Upto.copy 0 2 (by decide) (by decide) _ _ ?_ fun x => ?_
  rotate_left
  · unfold lastRun.sl.dma45 lastRun.sl.HS1_3
    refine (stage_read _ _ _ _ _ _ x).trans ?_
    refine (congrArg _ (lift3 _ x)).trans ?_
    refine (cast4 _ (row x)).trans ?_
    exact win_parts _ _ 0 2 0 (by decide) (by decide) (by decide) _ x
  refine Upto.copy 0 1 (by decide) (by decide) _ _ ?_ fun x => ?_
  rotate_left
  · unfold lastRun.sl.dma42 lastRun.sl.HS1_2
    refine (stage_read _ _ _ _ _ _ x).trans ?_
    refine (congrArg _ (lift3 _ x)).trans ?_
    refine (cast3 _ (row x)).trans ?_
    exact win_parts _ _ 0 1 0 (by decide) (by decide) (by decide) _ x
  refine Upto.copy 0 0 (by decide) (by decide) _ _ ?_ fun x => ?_
  rotate_left
  · unfold lastRun.sl.dma39 lastRun.sl.HS1_1
    refine (stage_read _ _ _ _ _ _ x).trans ?_
    refine (congrArg _ (lift3 _ x)).trans ?_
    refine (cast2 _ (row x)).trans ?_
    exact win_parts _ _ 0 0 0 (by decide) (by decide) (by decide) _ x
  exact Upto.none _ _

/-- The scratch's pieces of a last step. -/
def lastPieces (c : Dev nD) (t : Fin cfg0.N) (h0 : ¬t.val % 16 = 0) (h1 : t.val % 16 = 15) :
    List (View.Piece (Elt Ideal) S3x1024x1024 .f32) := (lastAt m c t h0 h1).2.2.2.2.2.1

/-- They are what it then holds. -/
theorem scratch_at (c : Dev nD) (t : Fin cfg0.N) (h0 : ¬t.val % 16 = 0) (h1 : t.val % 16 = 15) :
    (outsAt0 m c t.val t.isLt).2.2.2.2.2 = View.canon (lastPieces m c t h0 h1) := by
  rw [outsAt0_C m c t h0 h1]
  unfold sout0_C_0
  dsimp only
  rw [View.read_writes_junk_eq_canon]
  exact congrArg View.canon (pieces m c t h0 h1).2.2.2.2.2.symm

theorem scratch_last (c : Dev nD) :
    View.canon (lastAt m c lastPt lastPt_pos lastPt_last).2.2.2.2.2.1 = (outsAt0 m c lastPt.val lastPt.isLt).2.2.2.2.2 :=
  (scratch_at m c lastPt lastPt_pos lastPt_last).symm

open Cert.MidSpec in
/-- The three output weights' gradient, cut into the devices' parts. -/
def gw (c : Dev nD) : HbBuf0 (F := Ideal) c hbM0_0 := fun (y : S8x3x128x1024.Idx) =>
  dW (Yc m c) (Pa m c) (O m c) (X m c) (T m c) (B m c) (G m c) (W m c) (y 1).val (128 * (y 0).val + (y 2).val) (y 3).val

theorem left_eq (c : Dev nD) (fs : Buf (Elt Ideal) (scM0_1.view.loc (c : Thread nD τ))) (f : HbBuf0 (F := Ideal) c hbM0_0) :
    leftAt m c lastPt lastPt_pos lastPt_last fs f = gw m c := by
  refine (left_parts m c fs f).trans ((congrArg parts (scratch_last m c)).trans ?_)
  funext y
  exact acc_last m c lastPt lastPt_last _ _ _

theorem datG_arrAt (c : Dev nD) (w : Fin cfg0.W) (n : ℕ) : (datG m 0 c).arrAt w n = (dats m 0 c).arrAt w n := by
  unfold datG
  exact withPhi_arrAt _ _ w n

/-- The arrays that the windows write are as in the frame's run. -/
theorem post_dats {V' : (c : Dev nD) → (b : Ref sig .tc) → Buf (Elt Ideal) ((c.tc : Thread nD τ).loc b)}
    (r : PUnit × MemSt nD τ sig (Elt Ideal)) (hr : Pipeline.FramePostR cfgs (datG m) 0 R0 V' r) :
    Pipeline.FramePostR cfgs (dats m) 0 R0 V' r := by
  intro c
  refine ⟨fun w => ?_, (hr c).2⟩
  have e := (hr c).1 w
  rw [datG_arrAt] at e
  exact e

/-- The run, with every result's contents. -/
theorem run_all (ρ : Dev nD → PrngReg) : θ_run defs (onTc (τ := τ) (main (F := Ideal))) ⟨m, fun _ => 0, ρ⟩ fun r => ∀ c : Dev nD,
      r.2.mem ((c : Thread nD τ).loc main_v0_0) = (dats m 0 c).arrAt 10 cfg0.N
      ∧ r.2.mem ((c : Thread nD τ).loc main_v0_1) = (dats m 0 c).arrAt 11 cfg0.N
      ∧ r.2.mem ((c : Thread nD τ).loc main_v0_2) = (dats m 0 c).arrAt 12 cfg0.N
      ∧ r.2.mem ((c : Thread nD τ).loc main_v0_3) = (dats m 0 c).arrAt 13 cfg0.N
      ∧ r.2.mem ((c : Thread nD τ).loc main_v0_4) = gw m c
      ∧ r.2.mem ((c : Thread nD τ).loc main_v0_5) = (dats m 0 c).arrAt 14 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) := by
  refine (θ_run defs _ _).mono (fun r hr c => ?_) (run m ρ (gw m) (left_eq m))
  have h : Pipeline.FramePostR cfgs (dats m) 0 R0 (V m) r := post_dats m r hr.toR
  exact ⟨Value.post10 m r h c, Value.post11 m r h c, Value.post12 m r h c, Value.post13 m r h c,
    (hr.written c (by decide)).trans (after_copied m (gw m) c), Value.post14 m r h c,
    Value.kept_main_arg0 m r h c, Value.kept_main_arg1 m r h c, Value.kept_main_arg2 m r h c, Value.kept_main_arg3 m r h c,
    Value.kept_main_arg4 m r h c, Value.kept_main_arg5 m r h c, Value.kept_main_arg6 m r h c, Value.kept_main_arg7 m r h c⟩

end Cert.MidIdeal.Last

end
-- ==== Proof.MidFinite.lean ====
/- The values of the loss head are finite when its arguments are. -/
module

public import proofs.«01_k».proof.Proof.NormFinite
public import proofs.«01_k».proof.Proof.MidSpec

@[expose] public section

set_option maxRecDepth 16384

noncomputable section

open Idealize.ShloMosaic Idealize.ShloMosaic.TcCoe

namespace Cert.MidSpec

open Cert.ConvSpec Cert.ProjSpec Cert.NormSpec

/-- The logistic function is finite everywhere. -/
theorem fini_sg (z : EReal) : Fini (sg z) := by
  induction z with
  | bot =>
    have h : Ideal.exp ⊤ = ⊤ := rfl
    have h1 : (1 + ⊤ : EReal) = ⊤ := EReal.add_top_of_ne_bot (by exact_mod_cast EReal.coe_ne_bot 1)
    exact ⟨0, by simp [sg, h, h1, Ideal.div]⟩
  | top =>
    have h : Ideal.exp ⊥ = 0 := rfl
    exact ⟨1, by simp [sg, h, Ideal.div]⟩
  | coe r => exact ⟨_, sg_coe r⟩

theorem fini_sub {x y : EReal} : Fini x → Fini y → Fini (x - y) := by
  rintro ⟨a, rfl⟩ ⟨b, rfl⟩
  exact ⟨a - b, by norm_cast⟩

theorem fini_mean {x : EReal} : Fini x → Fini (Ideal.div x (Ideal.ofBits .f32 0x44800000#32)) := by
  rintro ⟨a, rfl⟩
  rw [width, Ideal.div_coe (by norm_num : (1024 : ℝ) ≠ 0)]
  exact ⟨a * (1 / 1024), by norm_cast⟩

theorem two_coe : (Ideal.ofBits .f32 0x40000000#32 : EReal) = ((2 : ℝ) : EReal) := by
  simp [Ideal.ofBits, Ideal.ieee, ← EReal.coe_mul]
  norm_num

/-- The error's gradient as the chain rule writes it. -/
theorem ey_forms {e : EReal} (he : Fini e) :
    Ideal.div (half * 1) (Ideal.ofBits .f32 0x44800000#32) * (Ideal.ofBits .f32 0x40000000#32 * e)
      = Ideal.div e (Ideal.ofBits .f32 0x44800000#32) := by
  obtain ⟨e, rfl⟩ := he
  rw [mul_one, half_coe, two_coe, width, Ideal.div_coe (by norm_num : (1024 : ℝ) ≠ 0),
    Ideal.div_coe (by norm_num : (1024 : ℝ) ≠ 0)]
  norm_cast
  ring_nf

section

variable {yc : FVec Ideal ⟨2, ![4096, 1024]⟩ .bf16} {pa : FVec Ideal ⟨2, ![4096, 3072]⟩ .bf16}
  {o x t : FVec Ideal ⟨2, ![4096, 1024]⟩ .f32} (b : FVec Ideal ⟨2, ![1, 2048]⟩ .f32)
  {g : FVec Ideal ⟨2, ![1, 1024]⟩ .f32} {w : FVec Ideal ⟨3, ![3, 1024, 1024]⟩ .bf16}
  (hyc : ∀ i, Fini (yc i)) (hpa : ∀ i, Fini (pa i)) (ho : ∀ i, Fini (o i)) (hx : ∀ i, Fini (x i)) (ht : ∀ i, Fini (t i))
  (hg : ∀ i, Fini (g i)) (hw : ∀ i, Fini (w i))

include hyc hpa ho hw in
theorem fini_mg (r l : ℕ) : Fini (mg yc pa o b w r l) := by
  refine ((fini_sg _).mul (fini_sum fun k => ?_)).add ((fini_sg _).mul (fini_sum fun k => ?_))
  · exact (Fini.at2 hyc _ _).mul (fini_at3 hw _ _ _)
  · exact (((Fini.at2 hpa _ _).mul (fini_sg _)).mul (Fini.at2 ho _ _)).mul (fini_at3 hw _ _ _)

include hyc hpa ho hx hw in
theorem fini_hh (r l : ℕ) : Fini (hh yc pa o x b w r l) :=
  (Fini.at2 hx _ _).add (fini_sum fun k => (fini_mg b hyc hpa ho hw _ _).mul (fini_at3 hw _ _ _))

include hyc hpa ho hx hw in
/-- The stabilised mean square is a positive real. -/
theorem hms_pos (r : ℕ) : ∃ q : ℝ, 0 < q ∧ hms yc pa o x b w r = (q : EReal) := by
  choose h' hh' using fun k : Fin 1024 => fini_hh b hyc hpa ho hx hw r k
  obtain ⟨e, he, hee⟩ := eps_pos
  refine ⟨(∑ k, h' k * h' k) * (1 / 1024) + e, ?_, ?_⟩
  · have : 0 ≤ ∑ k, h' k * h' k := Finset.sum_nonneg fun k _ => mul_self_nonneg _
    positivity
  · rw [hms, width, hee]
    simp only [hh', ← EReal.coe_mul, coe_sum, Ideal.div_coe (by norm_num : (1024 : ℝ) ≠ 0), ← EReal.coe_add]

include hyc hpa ho hx hw in
theorem fini_hrr (r : ℕ) : Fini (hrr yc pa o x b w r) := by
  obtain ⟨q, hq, hqe⟩ := hms_pos b hyc hpa ho hx hw r
  rw [hrr, hqe, Ideal.rsqrt_coe, if_neg (not_lt.mpr hq.le), if_neg hq.ne']
  exact ⟨_, rfl⟩

include hyc hpa ho hx hw in
theorem fini_nn (r l : ℕ) : Fini (nn yc pa o x b w r l) :=
  (fini_hh b hyc hpa ho hx hw r l).mul (fini_hrr b hyc hpa ho hx hw r)

include hyc hpa ho hx ht hg hw in
theorem fini_er (r l : ℕ) : Fini (er yc pa o x t b g w r l) :=
  fini_sub ((fini_nn b hyc hpa ho hx hw r l).mul (Fini.at2 hg _ _)) (Fini.at2 ht _ _)

include hyc hpa ho hx ht hg hw in
theorem fini_ey (r l : ℕ) : Fini (ey yc pa o x t b g w r l) :=
  fini_mean (fini_er b hyc hpa ho hx ht hg hw r l)

include hyc hpa ho hx ht hg hw in
theorem fini_dh (r l : ℕ) : Fini (dh yc pa o x t b g w r l) :=
  (fini_hrr b hyc hpa ho hx hw r).mul (fini_sub ((fini_ey b hyc hpa ho hx ht hg hw r l).mul (Fini.at2 hg _ _))
    ((fini_nn b hyc hpa ho hx hw r l).mul (fini_mean (fini_sum fun k =>
      ((fini_ey b hyc hpa ho hx ht hg hw r k).mul (Fini.at2 hg _ _)).mul (fini_nn b hyc hpa ho hx hw r k)))))

include hyc hpa ho hx ht hg hw in
theorem fini_dm (r l : ℕ) : Fini (dm yc pa o x t b g w r l) :=
  fini_sum fun k => (fini_dh b hyc hpa ho hx ht hg hw r k).mul (fini_at3 hw _ _ _)

include hyc hpa ho hx ht hg hw in
theorem fini_dyA (r l : ℕ) : Fini (dyA yc pa o x t b g w r l) :=
  fini_sum fun k => ((fini_dm b hyc hpa ho hx ht hg hw r k).mul (fini_sg _)).mul (fini_at3 hw _ _ _)

end

end Cert.MidSpec

end
-- ==== Proof.MidRef.lean ====
/- The reference of the loss head and its gradient, read at an index. -/
module

public import proofs.«01_k».proof.Proof.Gen.MidRefIdeal.Read
public import proofs.«01_k».proof.Proof.MidFinite
public import proofs.«01_k».proof.Proof.MidGw

@[expose] public section

set_option maxRecDepth 16384

noncomputable section

open Idealize.ShloMosaic Idealize.ShloMosaic.TcCoe Idealize.SL.Sem

namespace Cert.MidRefIdeal.At

open Cert.ConvSpec Cert.ProjSpec Cert.NormSpec Cert.MidSpec Cert.MidRefIdeal Cert.MidRefIdeal.Gen Cert.MidRefIdeal.Read

variable (yc : FVec Ideal S4096x1024 .bf16) (pa : FVec Ideal S4096x3072 .bf16) (o x t : FVec Ideal S4096x1024 .f32)
  (b : FVec Ideal S1x2048 .f32) (g : FVec Ideal S1x1024 .f32) (w : FVec Ideal S3x1024x1024 .bf16)

theorem za_at (r : Fin 4096) (l : Fin 1024) :
    val_main_v1 (F := Ideal) pa (ix2 r l) = at2 pa r l := by
  pointwise [val_main_v1, val_main_v0]
  simp only [read2]

theorem pc_at (r : Fin 4096) (l : Fin 1024) :
    val_main_v3 (F := Ideal) pa (ix2 r l) = at2 pa r (1024 + l) := by
  pointwise [val_main_v3, val_main_v2]
  simp only [read2]

theorem pq_at (r : Fin 4096) (l : Fin 1024) :
    val_main_v5 (F := Ideal) pa (ix2 r l) = at2 pa r (2048 + l) := by
  pointwise [val_main_v5, val_main_v4]
  simp only [read2]

theorem w0_at (r l : Fin 1024) :
    val_main_v9 (F := Ideal) w (ix2 r l) = at3 w 0 r l := by
  pointwise [val_main_v9, val_main_v8, val_main_v7]
  simp only [read3]
  rfl

theorem w1_at (r l : Fin 1024) :
    val_main_v12 (F := Ideal) w (ix2 r l) = at3 w 1 r l := by
  pointwise [val_main_v12, val_main_v11, val_main_v10]
  simp only [read3]
  rfl

theorem w2_at (r l : Fin 1024) :
    val_main_v15 (F := Ideal) w (ix2 r l) = at3 w 2 r l := by
  pointwise [val_main_v15, val_main_v14, val_main_v13]
  simp only [read3]
  rfl

theorem yC_at (r : Fin 4096) (l : Fin 1024) :
    val_main_v16 (F := Ideal) yc w (ix2 r l) = yC yc w r l := by
  pointwise [val_main_v16, val_main_v6]
  simp only [w0_at, read2]
  rfl

theorem sg_at (r : Fin 4096) (l : Fin 1024) :
    val_main_v22 (F := Ideal) pa (ix2 r l) = sg (at2 pa r l) := by
  pointwise [val_main_v17, val_main_v18, val_main_v19, val_main_v20, val_main_v21, val_main_v22, val_main_cst, val_main_cst_0]
  simp only [za_at]
  rfl

theorem sl_at (r : Fin 4096) (l : Fin 1024) :
    val_main_v26 (F := Ideal) pa (ix2 r l) = sl pa r l := by
  pointwise [val_main_v26]
  simp only [za_at, sg_at]
  rfl

theorem yA_at (r : Fin 4096) (l : Fin 1024) :
    val_main_v28 (F := Ideal) pa o w (ix2 r l) = yA pa o w r l := by
  pointwise [val_main_v28, val_main_v27]
  simp only [sl_at, w1_at, read2]
  rfl

theorem gC_at (r : Fin 4096) (l : Fin 1024) :
    val_main_v37 (F := Ideal) pa b (ix2 r l) = gC pa b r l := by
  pointwise [val_main_v29, val_main_v30, val_main_v31, val_main_v32, val_main_v33, val_main_v34, val_main_v35, val_main_v36, val_main_v37, val_main_cst_2, val_main_cst_3]
  simp only [pc_at, read2]
  rfl

theorem gA_at (r : Fin 4096) (l : Fin 1024) :
    val_main_v49 (F := Ideal) pa b (ix2 r l) = gA pa b r l := by
  pointwise [val_main_v41, val_main_v42, val_main_v43, val_main_v44, val_main_v45, val_main_v46, val_main_v47, val_main_v48, val_main_v49, val_main_cst_5, val_main_cst_6]
  simp only [pq_at, read2]
  rfl

theorem mg_at (r : Fin 4096) (l : Fin 1024) :
    val_main_v55 (F := Ideal) yc pa o b w (ix2 r l) = mg yc pa o b w r l := by
  pointwise [val_main_v53, val_main_v54, val_main_v55]
  simp only [yC_at, yA_at, gC_at, gA_at]
  rfl

theorem hh_at (r : Fin 4096) (l : Fin 1024) :
    val_main_v57 (F := Ideal) yc pa o x b w (ix2 r l) = hh yc pa o x b w r l := by
  pointwise [val_main_v57, val_main_v56]
  simp only [mg_at, w2_at, read2]
  rfl

theorem hms_at (r : Fin 4096) (z : Fin 1) :
    val_main_v64 (F := Ideal) yc pa o x b w (ix2 r z) = hms yc pa o x b w r := by
  pointwise [val_main_v58, val_main_v59, val_main_v60, val_main_v61, val_main_v62, val_main_v63, val_main_v64, val_main_cst_8, val_main_cst_9, val_main_cst_10]
  simp only [hh_at]
  rfl

theorem hrr_at (r : Fin 4096) (z : Fin 1) :
    val_main_v65 (F := Ideal) yc pa o x b w (ix2 r z) = hrr yc pa o x b w r := by
  pointwise [val_main_v65]
  simp only [hms_at]
  rfl

theorem nn_at (r : Fin 4096) (l : Fin 1024) :
    val_main_v70 (F := Ideal) yc pa o x b w (ix2 r l) = nn yc pa o x b w r l := by
  pointwise [val_main_v69, val_main_v70]
  simp only [hh_at, hrr_at]
  rfl

theorem er_at (r : Fin 4096) (l : Fin 1024) :
    val_main_v73 (F := Ideal) yc pa o x t b g w (ix2 r l) = er yc pa o x t b g w r l := by
  pointwise [val_main_v71, val_main_v72, val_main_v73]
  simp only [nn_at, read2]
  rfl

theorem ls_at (i : S_.Idx) :
    val_main_v81 (F := Ideal) yc pa o x t b g w i = half * ∑ r : Fin 4096, ls yc pa o x t b g w r := by
  pointwise [val_main_v74, val_main_v77, val_main_v78, val_main_v79, val_main_v80, val_main_v81, val_main_cst_13, val_main_cst_14, val_main_cst_15, val_main_cst_16]
  simp only [er_at]
  rfl

theorem ey_at (hyc : ∀ i, Fini (yc i)) (hpa : ∀ i, Fini (pa i)) (ho : ∀ i, Fini (o i)) (hx : ∀ i, Fini (x i))
    (ht : ∀ i, Fini (t i)) (hg : ∀ i, Fini (g i)) (hw : ∀ i, Fini (w i)) (r : Fin 4096) (l : Fin 1024) :
    val_main_v87 (F := Ideal) yc pa o x t b g w (ix2 r l) = ey yc pa o x t b g w r l := by
  pointwise [val_main_v75, val_main_v76, val_main_v82, val_main_v83, val_main_v84, val_main_v85, val_main_v86, val_main_v87, val_main_cst_12, val_main_cst_17, val_main_cst_18, val_main_cst_19]
  simp only [er_at]
  refine .trans ?_ (ey_forms (fini_er b hyc hpa ho hx ht hg hw r l))
  rw [mul_one]
  rfl

theorem dh_at (hyc : ∀ i, Fini (yc i)) (hpa : ∀ i, Fini (pa i)) (ho : ∀ i, Fini (o i)) (hx : ∀ i, Fini (x i))
    (ht : ∀ i, Fini (t i)) (hg : ∀ i, Fini (g i)) (hw : ∀ i, Fini (w i)) (r : Fin 4096) (l : Fin 1024) :
    val_main_v106 (F := Ideal) yc pa o x t b g w (ix2 r l) = dh yc pa o x t b g w r l := by
  pointwise [val_main_v91, val_main_v92, val_main_v93, val_main_v94, val_main_v95, val_main_v96, val_main_v97, val_main_v98, val_main_v99, val_main_v100, val_main_v101, val_main_v102, val_main_v103, val_main_v104, val_main_v105, val_main_v106, val_main_v66, val_main_v67, val_main_v68, val_main_cst_11, val_main_cst_21, val_main_cst_22, val_main_cst_23]
  simp only [ey_at yc pa o x t b g w hyc hpa ho hx ht hg hw, hh_at, hms_at, hrr_at, read2]
  rw [Fin.sum_univ_one]
  obtain ⟨q, hq, hqe⟩ := hms_pos b hyc hpa ho hx hw r
  have h := gx_forms (dh := 0) (fun k : Fin 1024 => fini_hh b hyc hpa ho hx hw r k)
    (fun k : Fin 1024 => (fini_ey b hyc hpa ho hx ht hg hw r k).mul (Fini.at2 hg 0 k)) (fini_hh b hyc hpa ho hx hw r l)
    ((fini_ey b hyc hpa ho hx ht hg hw r l).mul (Fini.at2 hg 0 l)) hq
  rw [zero_add, zero_add, ← hqe] at h
  exact h

theorem dm_at (hyc : ∀ i, Fini (yc i)) (hpa : ∀ i, Fini (pa i)) (ho : ∀ i, Fini (o i)) (hx : ∀ i, Fini (x i))
    (ht : ∀ i, Fini (t i)) (hg : ∀ i, Fini (g i)) (hw : ∀ i, Fini (w i)) (r : Fin 4096) (l : Fin 1024) :
    val_main_v109 (F := Ideal) yc pa o x t b g w (ix2 r l) = dm yc pa o x t b g w r l := by
  pointwise [val_main_v109]
  simp only [dh_at yc pa o x t b g w hyc hpa ho hx ht hg hw, w2_at]
  rfl

theorem dgC_at (hyc : ∀ i, Fini (yc i)) (hpa : ∀ i, Fini (pa i)) (ho : ∀ i, Fini (o i)) (hx : ∀ i, Fini (x i))
    (ht : ∀ i, Fini (t i)) (hg : ∀ i, Fini (g i)) (hw : ∀ i, Fini (w i)) (r : Fin 4096) (l : Fin 1024) :
    val_main_v118 (F := Ideal) yc pa o x t b g w (ix2 r l) = dgC yc pa o x t b g w r l := by
  pointwise [val_main_v118, val_main_v113, val_main_v40, val_main_v39, val_main_v38, val_main_cst_4]
  simp only [dm_at yc pa o x t b g w hyc hpa ho hx ht hg hw, yC_at, gC_at]
  exact (mul_assoc _ _ _).symm

theorem dgA_at (hyc : ∀ i, Fini (yc i)) (hpa : ∀ i, Fini (pa i)) (ho : ∀ i, Fini (o i)) (hx : ∀ i, Fini (x i))
    (ht : ∀ i, Fini (t i)) (hg : ∀ i, Fini (g i)) (hw : ∀ i, Fini (w i)) (r : Fin 4096) (l : Fin 1024) :
    val_main_v114 (F := Ideal) yc pa o x t b g w (ix2 r l) = dgA yc pa o x t b g w r l := by
  pointwise [val_main_v114, val_main_v111, val_main_v52, val_main_v51, val_main_v50, val_main_cst_7]
  simp only [dm_at yc pa o x t b g w hyc hpa ho hx ht hg hw, yA_at, gA_at]
  exact (mul_assoc _ _ _).symm

theorem dyC_at (hyc : ∀ i, Fini (yc i)) (hpa : ∀ i, Fini (pa i)) (ho : ∀ i, Fini (o i)) (hx : ∀ i, Fini (x i))
    (ht : ∀ i, Fini (t i)) (hg : ∀ i, Fini (g i)) (hw : ∀ i, Fini (w i)) (r : Fin 4096) (l : Fin 1024) :
    val_main_v134 (F := Ideal) yc pa o x t b g w (ix2 r l) = dyC yc pa o x t b g w r l := by
  pointwise [val_main_v134, val_main_v112]
  simp only [dm_at yc pa o x t b g w hyc hpa ho hx ht hg hw, gC_at, w0_at]
  exact Finset.sum_congr rfl fun k _ => Ideal.mul_congr (mul_comm _ _) rfl

theorem dyA_at (hyc : ∀ i, Fini (yc i)) (hpa : ∀ i, Fini (pa i)) (ho : ∀ i, Fini (o i)) (hx : ∀ i, Fini (x i))
    (ht : ∀ i, Fini (t i)) (hg : ∀ i, Fini (g i)) (hw : ∀ i, Fini (w i)) (r : Fin 4096) (l : Fin 1024) :
    val_main_v125 (F := Ideal) yc pa o x t b g w (ix2 r l) = dyA yc pa o x t b g w r l := by
  pointwise [val_main_v125, val_main_v110]
  simp only [dm_at yc pa o x t b g w hyc hpa ho hx ht hg hw, gA_at, w1_at]
  exact Finset.sum_congr rfl fun k _ => Ideal.mul_congr (mul_comm _ _) rfl

theorem dO_at (hyc : ∀ i, Fini (yc i)) (hpa : ∀ i, Fini (pa i)) (ho : ∀ i, Fini (o i)) (hx : ∀ i, Fini (x i))
    (ht : ∀ i, Fini (t i)) (hg : ∀ i, Fini (g i)) (hw : ∀ i, Fini (w i)) (r : Fin 4096) (l : Fin 1024) :
    val_main_v126 (F := Ideal) yc pa o x t b g w (ix2 r l) = dO yc pa o x t b g w r l := by
  pointwise [val_main_v126]
  simp only [dyA_at yc pa o x t b g w hyc hpa ho hx ht hg hw, sl_at]
  exact mul_comm _ _

theorem dza_at (hyc : ∀ i, Fini (yc i)) (hpa : ∀ i, Fini (pa i)) (ho : ∀ i, Fini (o i)) (hx : ∀ i, Fini (x i))
    (ht : ∀ i, Fini (t i)) (hg : ∀ i, Fini (g i)) (hw : ∀ i, Fini (w i)) (r : Fin 4096) (l : Fin 1024) :
    val_main_v131 (F := Ideal) yc pa o x t b g w (ix2 r l) = dza yc pa o x t b g w r l := by
  pointwise [val_main_v127, val_main_v128, val_main_v129, val_main_v130, val_main_v131, val_main_v25, val_main_v24, val_main_v23, val_main_cst_1]
  simp only [dyA_at yc pa o x t b g w hyc hpa ho hx ht hg hw, sg_at, za_at, read2]
  have h := dz_forms (k := 1) (fini_dyA b hyc hpa ho hx ht hg hw r l) (Fini.at2 ho r l) ⟨1, rfl⟩ (Fini.at2 hpa r l)
  rw [mul_one, mul_one] at h
  exact h

theorem out3_at (hyc : ∀ i, Fini (yc i)) (hpa : ∀ i, Fini (pa i)) (ho : ∀ i, Fini (o i)) (hx : ∀ i, Fini (x i))
    (ht : ∀ i, Fini (t i)) (hg : ∀ i, Fini (g i)) (hw : ∀ i, Fini (w i)) (r : Fin 4096) (l : Fin 1024) :
    val_main_v152 (F := Ideal) yc pa o x t b g w (ix2 r l) = dyC yc pa o x t b g w r l := by
  pointwise [val_main_v152]
  exact dyC_at yc pa o x t b g w hyc hpa ho hx ht hg hw r l

theorem out1_at (hyc : ∀ i, Fini (yc i)) (hpa : ∀ i, Fini (pa i)) (ho : ∀ i, Fini (o i)) (hx : ∀ i, Fini (x i))
    (ht : ∀ i, Fini (t i)) (hg : ∀ i, Fini (g i)) (hw : ∀ i, Fini (w i)) (s : Fin 3) (r : Fin 4096) (l : Fin 1024) :
    val_main_v151 (F := Ideal) yc pa o x t b g w (ix3 s r l) = dmid yc pa o x t b g w s r l := by
  pointwise [val_main_v145, val_main_v146, val_main_v147, val_main_v148, val_main_v149, val_main_v150, val_main_v151]
  by_cases h0 : s.val = 0
  · rw [dif_pos (by omega), dmid, if_pos h0]
    exact dza_at yc pa o x t b g w hyc hpa ho hx ht hg hw r l
  rw [dif_neg (by omega)]
  by_cases h1 : s.val = 1
  · rw [dif_pos (by omega), dmid, if_neg h0, if_pos h1]
    exact dgC_at yc pa o x t b g w hyc hpa ho hx ht hg hw r l
  · rw [dif_neg (by omega), dmid, if_neg h0, if_neg h1]
    exact dgA_at yc pa o x t b g w hyc hpa ho hx ht hg hw r l

theorem gg_at (hyc : ∀ i, Fini (yc i)) (hpa : ∀ i, Fini (pa i)) (ho : ∀ i, Fini (o i)) (hx : ∀ i, Fini (x i))
    (ht : ∀ i, Fini (t i)) (hg : ∀ i, Fini (g i)) (hw : ∀ i, Fini (w i)) (z : Fin 1) (l : Fin 1024) :
    val_main_v90 (F := Ideal) yc pa o x t b g w (ix2 z l) = ∑ r : Fin 4096, ey yc pa o x t b g w r l * nn yc pa o x b w r l := by
  pointwise [val_main_v90, val_main_v89, val_main_v88, val_main_cst_20]
  simp only [ey_at yc pa o x t b g w hyc hpa ho hx ht hg hw, nn_at]
  exact Finset.sum_congr rfl fun k _ => mul_comm _ _

theorem gb_at (hyc : ∀ i, Fini (yc i)) (hpa : ∀ i, Fini (pa i)) (ho : ∀ i, Fini (o i)) (hx : ∀ i, Fini (x i))
    (ht : ∀ i, Fini (t i)) (hg : ∀ i, Fini (g i)) (hw : ∀ i, Fini (w i)) (z : Fin 1) (l : Fin 2048) :
    val_main_v122 (F := Ideal) yc pa o x t b g w (ix2 z l) = if l.val < 1024 then ∑ r : Fin 4096, dgC yc pa o x t b g w r l else ∑ r : Fin 4096, dgA yc pa o x t b g w r (l - 1024) := by
  pointwise [val_main_v115, val_main_v116, val_main_v117, val_main_v119, val_main_v120, val_main_v121, val_main_v122, val_main_cst_24, val_main_cst_25, val_main_cst_26, val_main_cst_27]
  simp only [dgA_at yc pa o x t b g w hyc hpa ho hx ht hg hw, dgC_at yc pa o x t b g w hyc hpa ho hx ht hg hw]
  by_cases h0 : l.val < 1024
  · rw [dif_neg (by omega), dif_pos h0, if_pos h0, zero_add]
  · rw [dif_pos (by omega), dif_neg h0, if_neg h0, add_zero]

theorem out4_at (hyc : ∀ i, Fini (yc i)) (hpa : ∀ i, Fini (pa i)) (ho : ∀ i, Fini (o i)) (hx : ∀ i, Fini (x i))
    (ht : ∀ i, Fini (t i)) (hg : ∀ i, Fini (g i)) (hw : ∀ i, Fini (w i)) (s : Fin 8) (l : Fin 1024) :
    val_main_v144 (F := Ideal) yc pa o x t b g w (ix2 s l) = small yc pa o x t b g w s l := by
  pointwise [val_main_v140, val_main_v141, val_main_v142, val_main_v143, val_main_v144, val_main_cst_28, val_main_cst_29]
  simp only [gb_at yc pa o x t b g w hyc hpa ho hx ht hg hw, gg_at yc pa o x t b g w hyc hpa ho hx ht hg hw, ls_at]
  by_cases h0 : s.val = 0
  · rw [dif_pos (by omega), small, if_neg (by omega), if_neg (by omega), if_neg (by omega), if_neg (by omega)]
  rw [dif_neg (by omega)]
  by_cases h1 : s.val = 1
  · rw [dif_pos (by omega), small, if_pos h1, if_pos (by omega)]
    simp only [h1, Nat.sub_self, zero_mul, zero_add]
  by_cases h2 : s.val = 2
  · rw [dif_pos (by omega), small, if_neg h1, if_pos h2, if_neg (by omega)]
    have e : (s.val - 1) * 1024 + l.val - 1024 = l.val := by omega
    simp only [e]
  rw [dif_neg (by omega)]
  by_cases h3 : s.val = 3
  · rw [dif_pos (by omega), small, if_neg h1, if_neg h2, if_pos h3]
  rw [dif_neg (by omega)]
  by_cases h7 : s.val = 7
  · rw [dif_neg (by omega), small, if_neg h1, if_neg h2, if_neg h3, if_pos h7]
  · rw [dif_pos (by omega), small, if_neg h1, if_neg h2, if_neg h3, if_neg h7]

theorem ya0_at (r : Fin 4096) (l : Fin 1024) :
    val_main_v27 (F := Ideal) pa o (ix2 r l) = ya0 pa o r l := by
  pointwise [val_main_v27]
  simp only [sl_at, read2]
  rfl

theorem dW2_at (hyc : ∀ i, Fini (yc i)) (hpa : ∀ i, Fini (pa i)) (ho : ∀ i, Fini (o i)) (hx : ∀ i, Fini (x i))
    (ht : ∀ i, Fini (t i)) (hg : ∀ i, Fini (g i)) (hw : ∀ i, Fini (w i)) (i j : Fin 1024) :
    val_main_v108 (F := Ideal) yc pa o x t b g w (ix2 i j) = dW yc pa o x t b g w 2 i j := by
  pointwise [val_main_v108, val_main_v107]
  simp only [dh_at yc pa o x t b g w hyc hpa ho hx ht hg hw, mg_at]
  exact Finset.sum_congr rfl fun k _ => mul_comm _ _

theorem dW1_at (hyc : ∀ i, Fini (yc i)) (hpa : ∀ i, Fini (pa i)) (ho : ∀ i, Fini (o i)) (hx : ∀ i, Fini (x i))
    (ht : ∀ i, Fini (t i)) (hg : ∀ i, Fini (g i)) (hw : ∀ i, Fini (w i)) (i j : Fin 1024) :
    val_main_v124 (F := Ideal) yc pa o x t b g w (ix2 i j) = dW yc pa o x t b g w 1 i j := by
  pointwise [val_main_v124, val_main_v123, val_main_v110]
  simp only [dm_at yc pa o x t b g w hyc hpa ho hx ht hg hw, gA_at, ya0_at]
  exact Finset.sum_congr rfl fun k _ => (mul_comm _ _).trans (Ideal.mul_congr rfl (mul_comm _ _))

theorem dW0_at (hyc : ∀ i, Fini (yc i)) (hpa : ∀ i, Fini (pa i)) (ho : ∀ i, Fini (o i)) (hx : ∀ i, Fini (x i))
    (ht : ∀ i, Fini (t i)) (hg : ∀ i, Fini (g i)) (hw : ∀ i, Fini (w i)) (i j : Fin 1024) :
    val_main_v133 (F := Ideal) yc pa o x t b g w (ix2 i j) = dW yc pa o x t b g w 0 i j := by
  pointwise [val_main_v133, val_main_v132, val_main_v112, val_main_v6]
  simp only [dm_at yc pa o x t b g w hyc hpa ho hx ht hg hw, gC_at, read2]
  exact Finset.sum_congr rfl fun k _ => (mul_comm _ _).trans (Ideal.mul_congr rfl (mul_comm _ _))

theorem outw_at (hyc : ∀ i, Fini (yc i)) (hpa : ∀ i, Fini (pa i)) (ho : ∀ i, Fini (o i)) (hx : ∀ i, Fini (x i))
    (ht : ∀ i, Fini (t i)) (hg : ∀ i, Fini (g i)) (hw : ∀ i, Fini (w i)) (p : Fin 8) (a : Fin 3) (q : Fin 128) (j : Fin 1024) :
    val_main_v139 (F := Ideal) yc pa o x t b g w (ix4 p a q j) = dW yc pa o x t b g w a (128 * p.val + q.val) j := by
  pointwise [val_main_v139, val_main_v138, val_main_v137, val_main_v136, val_main_v135]
  by_cases h0 : a.val = 0
  · rw [dif_pos (by omega), h0]
    exact (dW0_at yc pa o x t b g w hyc hpa ho hx ht hg hw _ j).trans (congrArg (fun n => dW yc pa o x t b g w 0 n j) (by show p.val * 128 + q.val = _; omega))
  rw [dif_neg (by omega)]
  by_cases h1 : a.val = 1
  · rw [dif_pos (by omega), h1]
    exact (dW1_at yc pa o x t b g w hyc hpa ho hx ht hg hw _ j).trans (congrArg (fun n => dW yc pa o x t b g w 1 n j) (by show p.val * 128 + q.val = _; omega))
  · have h2 : a.val = 2 := by omega
    rw [dif_neg (by omega), h2]
    exact (dW2_at yc pa o x t b g w hyc hpa ho hx ht hg hw _ j).trans (congrArg (fun n => dW yc pa o x t b g w 2 n j) (by show p.val * 128 + q.val = _; omega))

end Cert.MidRefIdeal.At

end
-- ==== Proof.MidClaims.lean ====
/- The claims about the loss head and its gradient: the runs, and the two programs' equal values. -/
module

public import proofs.«01_k».proof.Defs
public import proofs.«01_k».proof.Proof.Gen.Mid.Frame
public import proofs.«01_k».proof.Proof.Gen.Pre_finite_mid
public import proofs.«01_k».proof.Proof.Gen.MidRefIdeal.Run
public import proofs.«01_k».proof.Proof.MidBody
public import proofs.«01_k».proof.Proof.MidLeft
public import proofs.«01_k».proof.Proof.MidRef
public import proofs.«01_k».proof.Proof.ConvClaims
public import Idealize.ShloMosaic.Lib.Claim

@[expose] public section

set_option maxRecDepth 16384

noncomputable section

namespace Cert.Proof

open Idealize.ShloMosaic Idealize.ShloMosaic.TcCoe Idealize.SL.Sem Cert.ConvSpec

theorem quiescent_Mid : Cert.quiescent_Mid :=
  fun m ρ _ => Cert.Mid.Gen.frame m ρ

theorem quiescent_MidIdeal : Cert.quiescent_MidIdeal :=
  fun m ρ _ => Cert.MidIdeal.Gen.frame m ρ

theorem quiescent_MidIdeal_pre_finite_mid : Cert.quiescent_MidIdeal_pre_finite_mid :=
  fun m ρ _ => Cert.MidIdeal.Gen.frame m ρ

theorem quiescent_MidRefIdeal : Cert.quiescent_MidRefIdeal := by
  intro m ρ _
  refine (θ_run _ _ _).mono (fun r h => ⟨fun c => ?_, sem_eq_zero_of_no_sems rfl _⟩) (Cert.MidRefIdeal.Value.run m ρ)
  exact (h c).2.2.2.2.2.2

theorem quiescent_MidRefIdeal_pre_finite_mid : Cert.quiescent_MidRefIdeal_pre_finite_mid :=
  fun m ρ _ => quiescent_MidRefIdeal m ρ trivial

/-- Under the precondition every element of the seven arrays is finite. -/
theorem finite_mid_args
    (m : (ℓ : Loc Cert.MidIdeal.nD Cert.MidIdeal.τ Cert.MidIdeal.sig) → Buf (Elt Ideal) ℓ)
    (h : Cert.Pre_MidIdeal_finite_mid m) (c : Dev Cert.MidIdeal.nD) :
    (∀ i, Fini (Cert.MidIdeal.Body.Yc m c i)) ∧ (∀ i, Fini (Cert.MidIdeal.Body.Pa m c i))
      ∧ (∀ i, Fini (Cert.MidIdeal.Body.O m c i)) ∧ (∀ i, Fini (Cert.MidIdeal.Body.X m c i))
      ∧ (∀ i, Fini (Cert.MidIdeal.Body.T m c i)) ∧ (∀ i, Fini (Cert.MidIdeal.Body.G m c i))
      ∧ ∀ i, Fini (Cert.MidIdeal.Body.W m c i) := by
  obtain ⟨h0, h1, h2, h3, h4, h5, h6⟩ := h c
  refine ⟨fun i => fini_of_cmp ?_, fun i => fini_of_cmp ?_, fun i => fini_of_cmp ?_, fun i => fini_of_cmp ?_,
    fun i => fini_of_cmp ?_, fun i => fini_of_cmp ?_, fun i => fini_of_cmp ?_⟩
  · exact (by pointwise [Cert.Pre_finite_mid.fn, Cert.Pre_finite_mid.fn_part1]; rfl : _ = _).trans (congrFun h0 i)
  · exact (by pointwise [Cert.Pre_finite_mid.fn, Cert.Pre_finite_mid.fn_part1]; rfl : _ = _).trans (congrFun h1 i)
  · exact (by pointwise [Cert.Pre_finite_mid.fn, Cert.Pre_finite_mid.fn_part1]; rfl : _ = _).trans (congrFun h2 i)
  · exact (by pointwise [Cert.Pre_finite_mid.fn, Cert.Pre_finite_mid.fn_part1]; rfl : _ = _).trans (congrFun h3 i)
  · exact (by pointwise [Cert.Pre_finite_mid.fn, Cert.Pre_finite_mid.fn_part1]; rfl : _ = _).trans (congrFun h4 i)
  · exact (by pointwise [Cert.Pre_finite_mid.fn, Cert.Pre_finite_mid.fn_part1]; rfl : _ = _).trans (congrFun h5 i)
  · exact (by pointwise [Cert.Pre_finite_mid.fn, Cert.Pre_finite_mid.fn_part1]; rfl : _ = _).trans (congrFun h6 i)

theorem algebraic_MidIdeal_MidRefIdeal_pre_finite_mid :
    Cert.algebraic_MidIdeal_MidRefIdeal_pre_finite_mid := by
  pair_intro
  · run_from Cert.MidIdeal.Last.run_all m g
  · run_from Cert.MidRefIdeal.Value.run m' g'
    · obtain ⟨hyc, hpa, ho, hx, ht, hg, hw⟩ := finite_mid_args m hpre c
      rw [Cert.MidRefIdeal.Read.val_main_v106_eq]
      change Cert.MidRefIdeal.Read.val_main_v106 (m' (c.tc.loc Cert.MidRefIdeal.main_arg0)) (m' (c.tc.loc Cert.MidRefIdeal.main_arg1)) (m' (c.tc.loc Cert.MidRefIdeal.main_arg2))
        (m' (c.tc.loc Cert.MidRefIdeal.main_arg3)) (m' (c.tc.loc Cert.MidRefIdeal.main_arg4)) (m' (c.tc.loc Cert.MidRefIdeal.main_arg5))
        (m' (c.tc.loc Cert.MidRefIdeal.main_arg6)) (m' (c.tc.loc Cert.MidRefIdeal.main_arg7)) = _
      rw [(hagree c).1, (hagree c).2.1, (hagree c).2.2.1, (hagree c).2.2.2.1,
        (hagree c).2.2.2.2.1, (hagree c).2.2.2.2.2.1, (hagree c).2.2.2.2.2.2.1, (hagree c).2.2.2.2.2.2.2,
        Cert.MidIdeal.Body.final10]
      funext y
      idx_vars y
      exact Cert.MidRefIdeal.At.dh_at _ _ _ _ _ _ _ _ hyc hpa ho hx ht hg hw _ _
    · obtain ⟨hyc, hpa, ho, hx, ht, hg, hw⟩ := finite_mid_args m hpre c
      rw [Cert.MidRefIdeal.Read.val_main_v151_eq]
      change Cert.MidRefIdeal.Read.val_main_v151 (m' (c.tc.loc Cert.MidRefIdeal.main_arg0)) (m' (c.tc.loc Cert.MidRefIdeal.main_arg1)) (m' (c.tc.loc Cert.MidRefIdeal.main_arg2))
        (m' (c.tc.loc Cert.MidRefIdeal.main_arg3)) (m' (c.tc.loc Cert.MidRefIdeal.main_arg4)) (m' (c.tc.loc Cert.MidRefIdeal.main_arg5))
        (m' (c.tc.loc Cert.MidRefIdeal.main_arg6)) (m' (c.tc.loc Cert.MidRefIdeal.main_arg7)) = _
      rw [(hagree c).1, (hagree c).2.1, (hagree c).2.2.1, (hagree c).2.2.2.1,
        (hagree c).2.2.2.2.1, (hagree c).2.2.2.2.2.1, (hagree c).2.2.2.2.2.2.1, (hagree c).2.2.2.2.2.2.2,
        Cert.MidIdeal.Body.final11]
      funext y
      idx_vars y
      exact Cert.MidRefIdeal.At.out1_at _ _ _ _ _ _ _ _ hyc hpa ho hx ht hg hw _ _ _
    · obtain ⟨hyc, hpa, ho, hx, ht, hg, hw⟩ := finite_mid_args m hpre c
      rw [Cert.MidRefIdeal.Read.val_main_v126_eq]
      change Cert.MidRefIdeal.Read.val_main_v126 (m' (c.tc.loc Cert.MidRefIdeal.main_arg0)) (m' (c.tc.loc Cert.MidRefIdeal.main_arg1)) (m' (c.tc.loc Cert.MidRefIdeal.main_arg2))
        (m' (c.tc.loc Cert.MidRefIdeal.main_arg3)) (m' (c.tc.loc Cert.MidRefIdeal.main_arg4)) (m' (c.tc.loc Cert.MidRefIdeal.main_arg5))
        (m' (c.tc.loc Cert.MidRefIdeal.main_arg6)) (m' (c.tc.loc Cert.MidRefIdeal.main_arg7)) = _
      rw [(hagree c).1, (hagree c).2.1, (hagree c).2.2.1, (hagree c).2.2.2.1,
        (hagree c).2.2.2.2.1, (hagree c).2.2.2.2.2.1, (hagree c).2.2.2.2.2.2.1, (hagree c).2.2.2.2.2.2.2,
        Cert.MidIdeal.Body.final12]
      funext y
      idx_vars y
      exact Cert.MidRefIdeal.At.dO_at _ _ _ _ _ _ _ _ hyc hpa ho hx ht hg hw _ _
    · obtain ⟨hyc, hpa, ho, hx, ht, hg, hw⟩ := finite_mid_args m hpre c
      rw [Cert.MidRefIdeal.Read.val_main_v152_eq]
      change Cert.MidRefIdeal.Read.val_main_v152 (m' (c.tc.loc Cert.MidRefIdeal.main_arg0)) (m' (c.tc.loc Cert.MidRefIdeal.main_arg1)) (m' (c.tc.loc Cert.MidRefIdeal.main_arg2))
        (m' (c.tc.loc Cert.MidRefIdeal.main_arg3)) (m' (c.tc.loc Cert.MidRefIdeal.main_arg4)) (m' (c.tc.loc Cert.MidRefIdeal.main_arg5))
        (m' (c.tc.loc Cert.MidRefIdeal.main_arg6)) (m' (c.tc.loc Cert.MidRefIdeal.main_arg7)) = _
      rw [(hagree c).1, (hagree c).2.1, (hagree c).2.2.1, (hagree c).2.2.2.1,
        (hagree c).2.2.2.2.1, (hagree c).2.2.2.2.2.1, (hagree c).2.2.2.2.2.2.1, (hagree c).2.2.2.2.2.2.2,
        Cert.MidIdeal.Body.final13]
      funext y
      idx_vars y
      exact Cert.MidRefIdeal.At.out3_at _ _ _ _ _ _ _ _ hyc hpa ho hx ht hg hw _ _
    · obtain ⟨hyc, hpa, ho, hx, ht, hg, hw⟩ := finite_mid_args m hpre c
      rw [Cert.MidRefIdeal.Read.val_main_v139_eq]
      change Cert.MidRefIdeal.Read.val_main_v139 (m' (c.tc.loc Cert.MidRefIdeal.main_arg0)) (m' (c.tc.loc Cert.MidRefIdeal.main_arg1)) (m' (c.tc.loc Cert.MidRefIdeal.main_arg2))
        (m' (c.tc.loc Cert.MidRefIdeal.main_arg3)) (m' (c.tc.loc Cert.MidRefIdeal.main_arg4)) (m' (c.tc.loc Cert.MidRefIdeal.main_arg5))
        (m' (c.tc.loc Cert.MidRefIdeal.main_arg6)) (m' (c.tc.loc Cert.MidRefIdeal.main_arg7)) = _
      rw [(hagree c).1, (hagree c).2.1, (hagree c).2.2.1, (hagree c).2.2.2.1,
        (hagree c).2.2.2.2.1, (hagree c).2.2.2.2.2.1, (hagree c).2.2.2.2.2.2.1, (hagree c).2.2.2.2.2.2.2]
      funext y
      idx_vars y
      exact Cert.MidRefIdeal.At.outw_at _ _ _ _ _ _ _ _ hyc hpa ho hx ht hg hw _ _ _ _
    · obtain ⟨hyc, hpa, ho, hx, ht, hg, hw⟩ := finite_mid_args m hpre c
      rw [Cert.MidRefIdeal.Read.val_main_v144_eq]
      change Cert.MidRefIdeal.Read.val_main_v144 (m' (c.tc.loc Cert.MidRefIdeal.main_arg0)) (m' (c.tc.loc Cert.MidRefIdeal.main_arg1)) (m' (c.tc.loc Cert.MidRefIdeal.main_arg2))
        (m' (c.tc.loc Cert.MidRefIdeal.main_arg3)) (m' (c.tc.loc Cert.MidRefIdeal.main_arg4)) (m' (c.tc.loc Cert.MidRefIdeal.main_arg5))
        (m' (c.tc.loc Cert.MidRefIdeal.main_arg6)) (m' (c.tc.loc Cert.MidRefIdeal.main_arg7)) = _
      rw [(hagree c).1, (hagree c).2.1, (hagree c).2.2.1, (hagree c).2.2.2.1,
        (hagree c).2.2.2.2.1, (hagree c).2.2.2.2.2.1, (hagree c).2.2.2.2.2.2.1, (hagree c).2.2.2.2.2.2.2,
        Cert.MidIdeal.Body.final14]
      funext y
      idx_vars y
      exact Cert.MidRefIdeal.At.out4_at _ _ _ _ _ _ _ _ hyc hpa ho hx ht hg hw _ _

end Cert.Proof

end
-- ==== Proof.WgRun.lean ====
/- The run of the three weight gradient calls, with everything it leaves in memory. -/
module

public import proofs.«01_k».proof.Proof.Gen.WeightGradIdeal.Frame
public import Idealize.ShloMosaic.Lib.Claim
public import proofs.«01_k».proof.Proof.NormSpec

@[expose] public section

set_option maxRecDepth 16384

noncomputable section

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (cellOf)

namespace Cert.WeightGradIdeal.Body

open Cert.WeightGradIdeal Cert.WeightGradIdeal.Gen

local notation "𝕄" => MT nD τ sig Unit (Elt Ideal) ℕ (UR sig nD τ) ℕ

variable (m : (ℓ : Loc nD τ sig) → Buf (Elt Ideal) ℓ) (ρ : Dev nD → PrngReg)

-- the library's launch theorem is stated over the pinned configurations
set_option backward.isDefEq.respectTransparency.types false in
/-- Every execution ends with each array at the contents the last call leaves. -/
theorem run : θ_run defs (onTc (τ := τ) (main (F := Ideal))) ⟨m, fun _ => 0, ρ⟩
    (fun r => ∀ c : Dev nD, ∀ b ∈ Pipeline.ucRefs τ sig, r.2.mem (((c : Thread nD τ)).1, b) = W5 m ρ c b) := by
  refine Pipeline.θ_run_regions_kit_sems (pcfgs (F := Ideal)) adm (pdats m ρ) () cellOf_inj emb₁ defs₀ 𝒱₀ L lv m ρ main
    (segs m ρ) (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj)) (hu₀ := ?launch)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩) (hinit := ?init)
    (QY := fun c s => ∀ b ∈ Pipeline.ucRefs τ sig, s.mem (((c : Thread nD τ)).1, b) = W5 m ρ c b)
    (hfin := fun c s' => ?last) (hQ := fun s h _ => h)
  case launch =>
    iintro Hu
    imodintro
    isplitl [Hu]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by
      rw [BI.bigSep_emp_const])
    iempintro
  case init =>
    refine Pipeline.initEach L lv fun c => ?_
    rw [show unscopedBufs c (fun b => m ((c : Thread nD τ).loc b))
        = StableHlo.held (c : Thread nD τ) (Pipeline.ucRefs τ sig) (W0 m ρ c) from Pipeline.unscopedBufs_held c (W0 m ρ c)]
    iintro ⟨⟨Hh, -, HO, -, Hp, -⟩, -⟩
    imodintro
    isplitl [Hh]; · iexact Hh
    isplitl [Hp]; · iexists _; iexact Hp
    iexists ∅; iexact HO
  case last =>
    iintro ⟨⟨Hh, -⟩, HSI⟩
    unfold StableHlo.held
    imodintro
    iapply (pointsTo_read_all (Pipeline.ucRefs τ sig) (fun b => (((c : Thread nD τ)).1, b)) (W5 m ρ c) s')
    isplitl [Hh] <;> iassumption

end Cert.WeightGradIdeal.Body

end
-- ==== Proof.WgBody.lean ====
/- The gradient of the input projection's weight: three calls in turn, each writing its segments' columns into the
   shards and leaving the others, against the closed form and the plain reference. -/
module

public import proofs.«01_k».proof.Proof.Gen.WeightGradIdeal.Frame
public import proofs.«01_k».proof.Proof.Gen.WeightGradRefIdeal.Read
public import proofs.«01_k».proof.Proof.NormSpec
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.NormSpec

open Cert.ConvSpec Cert.ProjSpec

/-- The gradient of the weight: the rows' products of the transposed input with the gradient's column. -/
def wg (u : FVec Ideal ⟨2, ![1024, 4096]⟩ .bf16) (dc : FVec Ideal ⟨3, ![4, 4096, 1024]⟩ .bf16)
    (da : FVec Ideal ⟨3, ![3, 4096, 1024]⟩ .f32) (dm : FVec Ideal ⟨3, ![3, 4096, 1024]⟩ .bf16) (k l : ℕ) : EReal :=
  ∑ r : Fin 4096, at2 u k r * ct dc da dm r l

end Cert.NormSpec

namespace Cert.WeightGradIdeal.Body

open Cert.WeightGradIdeal Cert.WeightGradIdeal.Gen Cert.ConvSpec Cert.ProjSpec Cert.NormSpec

variable (V : (c : Dev nD) → (b : Ref sig .tc) → Buf (Elt Ideal) ((c : Thread nD τ).loc b))

/-- The four argument arrays as a call finds them. -/
abbrev U (c : Dev nD) : FVec Ideal S1024x4096 .bf16 := V c main_arg0
abbrev Dm (c : Dev nD) : FVec Ideal S3x4096x1024 .bf16 := V c main_arg1
abbrev Dc (c : Dev nD) : FVec Ideal S4x4096x1024 .bf16 := V c main_arg2
abbrev Da (c : Dev nD) : FVec Ideal S3x4096x1024 .f32 := V c main_arg3

/-- The gradient at shard `s`, row `k`, column `l` of the shard. -/
abbrev wgAt (c : Dev nD) (s k l : ℕ) : EReal := wg (U V c) (Dc V c) (Da V c) (Dm V c) k (s * 1280 + l)

/-! The merge gates' segments -/

theorem pt0_lt (t : Fin cfg0.N) : t.val < 12 := lt_of_lt_of_eq t.isLt N_0

theorem idx0 : ∀ t : Fin cfg0.N, win0_0.index t = ![0, 0]
    ∧ win0_1.index t = ![t.val / 4, 0, t.val % 4]
    ∧ win0_2.index t = ![(28 + t.val) / 5, 0, (28 + t.val) % 5] :=
  (by decide +kernel : ∀ t : Fin grid0.N, _)

theorem blk0_0 (c : Dev nD) (t : Fin cfg0.N) (k : Fin 1024) (r : Fin 4096) :
    iblk0 V c 0 t (ix2 k r) = at2 (U V c) k r := by
  rw [at2, dif_pos ⟨by omega, by omega⟩]
  blk_ext [iblk0, idx0 t] <;> omega

theorem blk0_1 (c : Dev nD) (t : Fin cfg0.N) (z : Fin 1) (r : Fin 4096) (l : Fin 256) :
    iblk0 V c 1 t (ix3 z r l) = ct (Dc V c) (Da V c) (Dm V c) r (7168 + t.val * 256 + l.val) := by
  have := pt0_lt t
  refine Eq.trans ?_ (ct_mid (s := t.val / 4) (k := t.val % 4 * 256 + l.val) _ _ _ _ (by omega) (by omega))
  rw [at3, dif_pos ⟨by omega, by omega, by omega⟩]
  blk_ext [iblk0, idx0 t] <;> omega

theorem tile0 (c : Dev nD) (t : Fin cfg0.N) (z : Fin 1) (k : Fin 1024) (l : Fin 256) :
    k0_pay1 (iblk0 V c 0 t) (iblk0 V c 1 t) (ix3 z k l)
      = wgAt V c ((28 + t.val) / 5) k ((28 + t.val) % 5 * 256 + l.val) := by
  have : (28 + t.val) / 5 * 1280 + ((28 + t.val) % 5 * 256 + l.val) = 7168 + t.val * 256 + l.val := by omega
  pointwise [k0_pay1]
  simp only [blk0_0, blk0_1, wgAt, wg, this]

theorem final0 (c : Dev nD) : (dat0 V c).arrAt 2 cfg0.N
    = fun y => if 7168 ≤ (y 0).val * 1280 + (y 2).val then wgAt V c (y 0) (y 1) (y 2) else V c main_v0 y := by
  refine (dat0 V c).arrAt_eq_of_coversWhere 2 _ (fun β => 28 ≤ β (0 : Fin 3) * 5 + β (2 : Fin 3)) (by decide +kernel)
    (fun t hf y => ?_) (fun j => by blk_simp [Pipeline.Window.cell_apply]; omega)
  blk_simp [idx0 t]
  rw [after0_2]
  frame_out
  idx_vars y
  exact tile0 V c t _ _ _

/-! The convolution's segments -/

theorem pt1_lt (t : Fin cfg1.N) : t.val < 16 := lt_of_lt_of_eq t.isLt N_1

theorem idx1 : ∀ t : Fin cfg1.N, win1_0.index t = ![0, 0]
    ∧ win1_1.index t = ![t.val / 4, 0, t.val % 4]
    ∧ win1_2.index t = ![t.val / 5, 0, t.val % 5] :=
  (by decide +kernel : ∀ t : Fin grid1.N, _)

theorem blk1_0 (c : Dev nD) (t : Fin cfg1.N) (k : Fin 1024) (r : Fin 4096) :
    iblk1 V c 0 t (ix2 k r) = at2 (U V c) k r := by
  rw [at2, dif_pos ⟨by omega, by omega⟩]
  blk_ext [iblk1, idx1 t] <;> omega

theorem blk1_1 (c : Dev nD) (t : Fin cfg1.N) (z : Fin 1) (r : Fin 4096) (l : Fin 256) :
    iblk1 V c 1 t (ix3 z r l) = ct (Dc V c) (Da V c) (Dm V c) r (t.val * 256 + l.val) := by
  have := pt1_lt t
  refine Eq.trans ?_ (ct_conv (s := t.val / 4) (k := t.val % 4 * 256 + l.val) _ _ _ _ (by omega) (by omega) (by omega))
  rw [at3, dif_pos ⟨by omega, by omega, by omega⟩]
  blk_ext [iblk1, idx1 t] <;> omega

theorem tile1 (c : Dev nD) (t : Fin cfg1.N) (z : Fin 1) (k : Fin 1024) (l : Fin 256) :
    k1_pay1 (iblk1 V c 0 t) (iblk1 V c 1 t) (ix3 z k l) = wgAt V c (t.val / 5) k (t.val % 5 * 256 + l.val) := by
  have : t.val / 5 * 1280 + (t.val % 5 * 256 + l.val) = t.val * 256 + l.val := by omega
  pointwise [k1_pay1]
  simp only [blk1_0, blk1_1, wgAt, wg, this]

theorem final1 (c : Dev nD) : (dat1 V c).arrAt 2 cfg1.N
    = fun y => if (y 0).val * 1280 + (y 2).val < 4096 then wgAt V c (y 0) (y 1) (y 2) else V c main_v1 y := by
  refine (dat1 V c).arrAt_eq_of_coversWhere 2 _ (fun β => β (0 : Fin 3) * 5 + β (2 : Fin 3) < 16) (by decide +kernel)
    (fun t hf y => ?_) (fun j => by blk_simp [Pipeline.Window.cell_apply]; omega)
  blk_simp [idx1 t]
  rw [after1_2]
  unfold outsAt1
  frame_out
  idx_vars y
  exact tile1 V c t _ _ _

/-! The attention's segments -/

theorem pt2_lt (t : Fin cfg2.N) : t.val < 12 := lt_of_lt_of_eq t.isLt N_2

theorem idx2 : ∀ t : Fin cfg2.N, win2_0.index t = ![0, 0]
    ∧ win2_1.index t = ![t.val / 4, 0, t.val % 4]
    ∧ win2_2.index t = ![(16 + t.val) / 5, 0, (16 + t.val) % 5] :=
  (by decide +kernel : ∀ t : Fin grid2.N, _)

theorem blk2_0 (c : Dev nD) (t : Fin cfg2.N) (k : Fin 1024) (r : Fin 4096) :
    iblk2 V c 0 t (ix2 k r) = at2 (U V c) k r := by
  rw [at2, dif_pos ⟨by omega, by omega⟩]
  blk_ext [iblk2, idx2 t] <;> omega

theorem blk2_1 (c : Dev nD) (t : Fin cfg2.N) (z : Fin 1) (r : Fin 4096) (l : Fin 256) :
    iblk2 V c 1 t (ix3 z r l) = ct (Dc V c) (Da V c) (Dm V c) r (4096 + t.val * 256 + l.val) := by
  have := pt2_lt t
  refine Eq.trans ?_ (ct_attn (s := t.val / 4) (k := t.val % 4 * 256 + l.val) _ _ _ _ (by omega) (by omega) (by omega))
  rw [at3, dif_pos ⟨by omega, by omega, by omega⟩]
  blk_ext [iblk2, idx2 t] <;> omega

theorem tile2 (c : Dev nD) (t : Fin cfg2.N) (z : Fin 1) (k : Fin 1024) (l : Fin 256) :
    k2_pay1 (iblk2 V c 0 t) (iblk2 V c 1 t) (ix3 z k l)
      = wgAt V c ((16 + t.val) / 5) k ((16 + t.val) % 5 * 256 + l.val) := by
  have : (16 + t.val) / 5 * 1280 + ((16 + t.val) % 5 * 256 + l.val) = 4096 + t.val * 256 + l.val := by omega
  pointwise [k2_pay1]
  simp only [blk2_0, blk2_1, wgAt, wg, this]

theorem final2 (c : Dev nD) : (dat2 V c).arrAt 2 cfg2.N
    = fun y => if 4096 ≤ (y 0).val * 1280 + (y 2).val ∧ (y 0).val * 1280 + (y 2).val < 7168 then wgAt V c (y 0) (y 1) (y 2)
        else V c main_v2 y := by
  refine (dat2 V c).arrAt_eq_of_coversWhere 2 _
    (fun β => 16 ≤ β (0 : Fin 3) * 5 + β (2 : Fin 3) ∧ β (0 : Fin 3) * 5 + β (2 : Fin 3) < 28) (by decide +kernel)
    (fun t hf y => ?_) (fun j => by blk_simp [Pipeline.Window.cell_apply]; omega)
  blk_simp [idx2 t]
  rw [after2_2]
  unfold outsAt2
  frame_out
  idx_vars y
  exact tile2 V c t _ _ _

/-! The three calls in turn -/

variable (m : (ℓ : Loc nD τ sig) → Buf (Elt Ideal) ℓ) (ρ : Dev nD → PrngReg)

/-- The second call starts from a copy of the first's result, the third from a copy of the second's. -/
theorem entry1 (c : Dev nD) : V2 m ρ c main_v1 = (dat0 (V0 m ρ) c).arrAt 2 cfg0.N := by
  refine Eq.trans ?_ (W1_arr m ρ c 2)
  rfl

theorem entry2 (c : Dev nD) : V4 m ρ c main_v2 = (dat1 (V2 m ρ) c).arrAt 2 cfg1.N := by
  refine Eq.trans ?_ (W3_arr m ρ c 2)
  rfl

/-- No call changes an argument. -/
theorem wgAt_V2 (c : Dev nD) (s k l : ℕ) : wgAt (V2 m ρ) c s k l = wgAt (V0 m ρ) c s k l := by
  unfold wgAt U Dc Da Dm V2
  rw [W2_args m ρ c main_arg0 (by decide), W2_args m ρ c main_arg1 (by decide), W2_args m ρ c main_arg2 (by decide),
    W2_args m ρ c main_arg3 (by decide)]

theorem wgAt_V4 (c : Dev nD) (s k l : ℕ) : wgAt (V4 m ρ) c s k l = wgAt (V0 m ρ) c s k l := by
  unfold wgAt U Dc Da Dm V4
  rw [W4_args m ρ c main_arg0 (by decide), W4_args m ρ c main_arg1 (by decide), W4_args m ρ c main_arg2 (by decide),
    W4_args m ρ c main_arg3 (by decide)]

/-- The result: every column is written by one of the three calls. -/
theorem final (c : Dev nD) :
    W5 m ρ c (Proc.devRef .tc main_v2) = fun y => wgAt (V0 m ρ) c (y 0) (y 1) (y 2) := by
  refine (W5_arr m ρ c 2).trans ?_
  rw [final2, entry2, final1, entry1, final0]
  funext y
  simp only [wgAt_V2, wgAt_V4]
  by_cases h : (y 0).val * 1280 + (y 2).val < 4096
  · rw [if_neg (by omega), if_pos h]
    exact wgAt_V2 m ρ c _ _ _
  by_cases h' : (y 0).val * 1280 + (y 2).val < 7168
  · rw [if_pos ⟨by omega, h'⟩]
    exact wgAt_V4 m ρ c _ _ _
  · rw [if_neg (by omega), if_neg h, if_pos (by omega)]

end Cert.WeightGradIdeal.Body

end
-- ==== Proof.WgRef.lean ====
/- The reference of the weight's gradient, read at an index. -/
module

public import proofs.«01_k».proof.Proof.Gen.WeightGradRefIdeal.Read
public import proofs.«01_k».proof.Proof.WgBody

@[expose] public section

set_option maxRecDepth 16384

noncomputable section

open Idealize.ShloMosaic Idealize.ShloMosaic.TcCoe Idealize.SL.Sem

namespace Cert.WeightGradRefIdeal.At

open Cert.ConvSpec Cert.ProjSpec Cert.NormSpec Cert.WeightGradRefIdeal Cert.WeightGradRefIdeal.Gen Cert.WeightGradRefIdeal.Read

variable (u : FVec Ideal S1024x4096 .bf16) (dc : FVec Ideal S4x4096x1024 .bf16) (da : FVec Ideal S3x4096x1024 .f32)
  (dm : FVec Ideal S3x4096x1024 .bf16)

/-! The segments -/

theorem seg0 (r : Fin 4096) (l : Fin 1024) : val_main_v2 (F := Ideal) dc (ix2 r l) = at3 dc 0 r l := by
  pointwise [val_main_v2, val_main_v1, val_main_v0]
  simp only [read3]
  rfl

theorem seg1 (r : Fin 4096) (l : Fin 1024) : val_main_v5 (F := Ideal) dc (ix2 r l) = at3 dc 1 r l := by
  pointwise [val_main_v5, val_main_v4, val_main_v3]
  simp only [read3]
  rfl

theorem seg2 (r : Fin 4096) (l : Fin 1024) : val_main_v8 (F := Ideal) dc (ix2 r l) = at3 dc 2 r l := by
  pointwise [val_main_v8, val_main_v7, val_main_v6]
  simp only [read3]
  rfl

theorem seg3 (r : Fin 4096) (l : Fin 1024) : val_main_v11 (F := Ideal) dc (ix2 r l) = at3 dc 3 r l := by
  pointwise [val_main_v11, val_main_v10, val_main_v9]
  simp only [read3]
  rfl

theorem seg4 (r : Fin 4096) (l : Fin 1024) : val_main_v13 (F := Ideal) da (ix2 r l) = at3 da 0 r l := by
  pointwise [val_main_v13, val_main_v12]
  simp only [read3]
  rfl

theorem seg5 (r : Fin 4096) (l : Fin 1024) : val_main_v15 (F := Ideal) da (ix2 r l) = at3 da 1 r l := by
  pointwise [val_main_v15, val_main_v14]
  simp only [read3]
  rfl

theorem seg6 (r : Fin 4096) (l : Fin 1024) : val_main_v17 (F := Ideal) da (ix2 r l) = at3 da 2 r l := by
  pointwise [val_main_v17, val_main_v16]
  simp only [read3]
  rfl

theorem seg7 (r : Fin 4096) (l : Fin 1024) : val_main_v20 (F := Ideal) dm (ix2 r l) = at3 dm 0 r l := by
  pointwise [val_main_v20, val_main_v19, val_main_v18]
  simp only [read3]
  rfl

theorem seg8 (r : Fin 4096) (l : Fin 1024) : val_main_v23 (F := Ideal) dm (ix2 r l) = at3 dm 1 r l := by
  pointwise [val_main_v23, val_main_v22, val_main_v21]
  simp only [read3]
  rfl

theorem seg9 (r : Fin 4096) (l : Fin 1024) : val_main_v26 (F := Ideal) dm (ix2 r l) = at3 dm 2 r l := by
  pointwise [val_main_v26, val_main_v25, val_main_v24]
  simp only [read3]
  rfl

/-- The ten segments side by side. -/
theorem ct_at (r : Fin 4096) (l : Fin 10240) : val_main_v27 (F := Ideal) dm dc da (ix2 r l) = ct dc da dm r l := by
  have := l.isLt
  pointwise [val_main_v27]
  by_cases h0 : l.val < 1024
  · rw [dif_pos h0, seg0]
    exact ct_conv (s := 0) (k := l.val) (l := l.val) _ _ _ _ (by decide) h0 (by omega)
  rw [dif_neg h0]
  by_cases h1 : l.val - 1024 < 1024
  · rw [dif_pos h1, seg1]
    exact ct_conv (s := 1) (k := l.val - 1024) (l := l.val) _ _ _ _ (by decide) h1 (by omega)
  rw [dif_neg h1]
  by_cases h2 : l.val - 1024 - 1024 < 1024
  · rw [dif_pos h2, seg2]
    exact ct_conv (s := 2) (k := l.val - 1024 - 1024) (l := l.val) _ _ _ _ (by decide) h2 (by omega)
  rw [dif_neg h2]
  by_cases h3 : l.val - 1024 - 1024 - 1024 < 1024
  · rw [dif_pos h3, seg3]
    exact ct_conv (s := 3) (k := l.val - 1024 - 1024 - 1024) (l := l.val) _ _ _ _ (by decide) h3 (by omega)
  rw [dif_neg h3]
  by_cases h4 : l.val - 1024 - 1024 - 1024 - 1024 < 1024
  · rw [dif_pos h4, seg4]
    exact ct_attn (s := 0) (k := l.val - 1024 - 1024 - 1024 - 1024) (l := l.val) _ _ _ _ (by decide) h4 (by omega)
  rw [dif_neg h4]
  by_cases h5 : l.val - 1024 - 1024 - 1024 - 1024 - 1024 < 1024
  · rw [dif_pos h5, seg5]
    exact ct_attn (s := 1) (k := l.val - 1024 - 1024 - 1024 - 1024 - 1024) (l := l.val) _ _ _ _ (by decide) h5 (by omega)
  rw [dif_neg h5]
  by_cases h6 : l.val - 1024 - 1024 - 1024 - 1024 - 1024 - 1024 < 1024
  · rw [dif_pos h6, seg6]
    exact ct_attn (s := 2) (k := l.val - 1024 - 1024 - 1024 - 1024 - 1024 - 1024) (l := l.val) _ _ _ _ (by decide) h6 (by omega)
  rw [dif_neg h6]
  by_cases h7 : l.val - 1024 - 1024 - 1024 - 1024 - 1024 - 1024 - 1024 < 1024
  · rw [dif_pos h7, seg7]
    exact ct_mid (s := 0) (k := l.val - 1024 - 1024 - 1024 - 1024 - 1024 - 1024 - 1024) (l := l.val) _ _ _ _ h7 (by omega)
  rw [dif_neg h7]
  by_cases h8 : l.val - 1024 - 1024 - 1024 - 1024 - 1024 - 1024 - 1024 - 1024 < 1024
  · rw [dif_pos h8, seg8]
    exact ct_mid (s := 1) (k := l.val - 1024 - 1024 - 1024 - 1024 - 1024 - 1024 - 1024 - 1024) (l := l.val) _ _ _ _ h8 (by omega)
  rw [dif_neg h8]
  rw [seg9]
  exact ct_mid (s := 2) (k := l.val - 1024 - 1024 - 1024 - 1024 - 1024 - 1024 - 1024 - 1024 - 1024) (l := l.val) _ _ _ _ (by omega) (by omega)

/-- The product of the transposed gradient with the input, cut into the shards. -/
theorem out_at (s : Fin 8) (k : Fin 1024) (l : Fin 1280) :
    val_main_v36 (F := Ideal) u dm dc da (ix3 s k l) = wg u dc da dm k (s.val * 1280 + l.val) := by
  pointwise [val_main_v36, val_main_v35, val_main_v34, val_main_v33, val_main_v32, val_main_v29, val_main_v28]
  simp only [ct_at, read2, wg]
  exact Finset.sum_congr rfl fun r _ => mul_comm _ _

end Cert.WeightGradRefIdeal.At

end
-- ==== Proof.WgClaims.lean ====
/- The claims about the gradient of the input projection's weight. -/
module

public import proofs.«01_k».proof.Defs
public import proofs.«01_k».proof.Proof.Gen.WeightGrad.Frame
public import proofs.«01_k».proof.Proof.Gen.WeightGradRefIdeal.Run
public import proofs.«01_k».proof.Proof.WgRun
public import proofs.«01_k».proof.Proof.WgRef
public import Idealize.ShloMosaic.Lib.Claim

@[expose] public section

set_option maxRecDepth 16384

noncomputable section

namespace Cert.Proof

open Idealize.ShloMosaic Idealize.ShloMosaic.TcCoe Idealize.SL.Sem

theorem quiescent_WeightGrad : Cert.quiescent_WeightGrad :=
  fun m ρ _ => Cert.WeightGrad.Gen.frame m ρ

theorem quiescent_WeightGradIdeal : Cert.quiescent_WeightGradIdeal :=
  fun m ρ _ => Cert.WeightGradIdeal.Gen.frame m ρ

theorem quiescent_WeightGradRefIdeal : Cert.quiescent_WeightGradRefIdeal := by
  intro m ρ _
  refine (θ_run _ _ _).mono (fun r h => ⟨fun c => ?_, sem_eq_zero_of_no_sems rfl _⟩) (Cert.WeightGradRefIdeal.Value.run m ρ)
  exact (h c).2

open Cert.WeightGradIdeal Cert.WeightGradIdeal.Gen in
/-- The run, read at the result and the arguments. -/
theorem weightGrad_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v2) = (fun y => Body.wgAt (V0 m ρ) c (y 0) (y 1) (y 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run _ _ _).mono (fun r h c => ⟨(h c _ (mem_uc main_v2 (by decide))).trans (Body.final m ρ c),
    (h c _ (mem_uc main_arg0 (by decide))).trans (W5_main_arg0 m ρ c),
    (h c _ (mem_uc main_arg1 (by decide))).trans (W5_main_arg1 m ρ c),
    (h c _ (mem_uc main_arg2 (by decide))).trans (W5_main_arg2 m ρ c),
    (h c _ (mem_uc main_arg3 (by decide))).trans (W5_main_arg3 m ρ c)⟩) (Body.run m ρ)

theorem algebraic_WeightGradIdeal_WeightGradRefIdeal : Cert.algebraic_WeightGradIdeal_WeightGradRefIdeal := by
  pair_intro
  · run_from weightGrad_run m g
  · run_from Cert.WeightGradRefIdeal.Value.run m' g'
    rw [Cert.WeightGradRefIdeal.Read.val_main_v36_eq, (hagree c).2.1, (hagree c).2.2.1, (hagree c).2.2.2]
    funext y
    idx_vars y
    exact Cert.WeightGradRefIdeal.At.out_at _ _ _ _ _ _ _

end Cert.Proof

end
-- ==== Proof.ProjConvBody.lean ====
/- The first four segments of the input projection: the kernel's columns and the reference's are the closed form's. -/
module

public import proofs.«01_k».proof.Proof.Gen.ProjConvIdeal.Value
public import proofs.«01_k».proof.Proof.Gen.ProjConvRefIdeal.Read
public import proofs.«01_k».proof.Proof.ProjSpec
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ProjConvIdeal.Body

open Cert.ProjConvIdeal Cert.ProjConvIdeal.Gen Cert.ConvSpec Cert.ProjSpec

variable (m : (ℓ : Loc nD τ sig) → Buf (Elt Ideal) ℓ)

/-- The two argument arrays. -/
abbrev U (c : Dev nD) : FVec Ideal S4096x1024 .bf16 := m ((c : Thread nD τ).loc main_arg0)
abbrev W (c : Dev nD) : FVec Ideal S8x1024x1280 .bf16 := m ((c : Thread nD τ).loc main_arg1)

theorem pt_lt (t : Fin cfg0.N) : t.val < 16 := lt_of_lt_of_eq t.isLt N_0

theorem idx : ∀ t : Fin cfg0.N, win0_0.index t = ![0, 0]
    ∧ win0_1.index t = ![(t.val) / 5, 0, (t.val) % 5]
    ∧ win0_2.index t = ![0, t.val] :=
  (by decide +kernel : ∀ t : Fin grid0.N, _)

theorem blk0 (c : Dev nD) (t : Fin cfg0.N) (r : Fin 4096) (k : Fin 1024) :
    iblk m c 0 t (ix2 r k) = at2 (U m c) r k := by
  rw [at2, dif_pos ⟨by omega, by omega⟩]
  blk_ext [iblk, V, idx t] <;> omega

theorem blk1 (c : Dev nD) (t : Fin cfg0.N) (z : Fin 1) (k : Fin 1024) (l : Fin 256) :
    iblk m c 1 t (ix3 z k l) = win (W m c) k (t.val * 256 + l) := by
  have := pt_lt t
  have hw : (t.val * 256 + l.val) / 1280 = (t.val) / 5 := by omega
  have hl : (t.val * 256 + l.val) % 1280 = (t.val) % 5 * 256 + l.val := by omega
  rw [win, hw, hl, at3, dif_pos ⟨by omega, by omega, by omega⟩]
  blk_ext [iblk, V, idx t] <;> omega

/-- A tile of 256 columns. -/
theorem tile_at (c : Dev nD) (t : Fin cfg0.N) (r : Fin 4096) (l : Fin 256) :
    k0_pay1 (iblk m c 0 t) (iblk m c 1 t) (ix2 r l) = proj (U m c) (W m c) r (t.val * 256 + l) := by
  pointwise [k0_pay1]
  simp only [blk0, blk1, proj]

/-- The result's array after the run. -/
theorem final2 (c : Dev nD) :
    (dats m 0 c).arrAt 2 cfg0.N = fun y => proj (U m c) (W m c) (y 0).val ((y 1).val) := by
  refine (dats m 0 c).arrAt_eq_of_covers 2 _ (by decide +kernel) fun t hf y => ?_
  blk_simp [idx t]
  rw [after0_2]
  frame_out
  idx_vars y
  exact (tile_at m c t _ _)

end Cert.ProjConvIdeal.Body

namespace Cert.ProjConvRefIdeal.At

open Cert.ConvSpec Cert.ProjSpec Cert.ProjConvRefIdeal Cert.ProjConvRefIdeal.Gen Cert.ProjConvRefIdeal.Read

/-- The reference's result. -/
theorem out_at (u : FVec Ideal S4096x1024 .bf16) (w : FVec Ideal S8x1024x1280 .bf16) (r : Fin 4096) (l : Fin 4096) :
    val_main_v6 (F := Ideal) u w (ix2 r l) = proj u w r (l) := by
  pointwise [val_main_v6, val_main_v5, val_main_v4, val_main_v3, val_main_v2, val_main_v1, val_main_v0]
  simp only [read2, read3, proj, win]

end Cert.ProjConvRefIdeal.At

end
-- ==== Proof.ProjMidBody.lean ====
/- The last three segments of the input projection: the kernel's columns and the reference's are the closed form's. -/
module

public import proofs.«01_k».proof.Proof.Gen.ProjMidIdeal.Value
public import proofs.«01_k».proof.Proof.Gen.ProjMidRefIdeal.Read
public import proofs.«01_k».proof.Proof.ProjSpec
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ProjMidIdeal.Body

open Cert.ProjMidIdeal Cert.ProjMidIdeal.Gen Cert.ConvSpec Cert.ProjSpec

variable (m : (ℓ : Loc nD τ sig) → Buf (Elt Ideal) ℓ)

/-- The two argument arrays. -/
abbrev U (c : Dev nD) : FVec Ideal S4096x1024 .bf16 := m ((c : Thread nD τ).loc main_arg0)
abbrev W (c : Dev nD) : FVec Ideal S8x1024x1280 .bf16 := m ((c : Thread nD τ).loc main_arg1)

theorem pt_lt (t : Fin cfg0.N) : t.val < 12 := lt_of_lt_of_eq t.isLt N_0

theorem idx : ∀ t : Fin cfg0.N, win0_0.index t = ![0, 0]
    ∧ win0_1.index t = ![(28 + t.val) / 5, 0, (28 + t.val) % 5]
    ∧ win0_2.index t = ![0, t.val] :=
  (by decide +kernel : ∀ t : Fin grid0.N, _)

theorem blk0 (c : Dev nD) (t : Fin cfg0.N) (r : Fin 4096) (k : Fin 1024) :
    iblk m c 0 t (ix2 r k) = at2 (U m c) r k := by
  rw [at2, dif_pos ⟨by omega, by omega⟩]
  blk_ext [iblk, V, idx t] <;> omega

theorem blk1 (c : Dev nD) (t : Fin cfg0.N) (z : Fin 1) (k : Fin 1024) (l : Fin 256) :
    iblk m c 1 t (ix3 z k l) = win (W m c) k (7168 + t.val * 256 + l) := by
  have := pt_lt t
  have hw : (7168 + t.val * 256 + l.val) / 1280 = (28 + t.val) / 5 := by omega
  have hl : (7168 + t.val * 256 + l.val) % 1280 = (28 + t.val) % 5 * 256 + l.val := by omega
  rw [win, hw, hl, at3, dif_pos ⟨by omega, by omega, by omega⟩]
  blk_ext [iblk, V, idx t] <;> omega

/-- A tile of 256 columns. -/
theorem tile_at (c : Dev nD) (t : Fin cfg0.N) (r : Fin 4096) (l : Fin 256) :
    k0_pay1 (iblk m c 0 t) (iblk m c 1 t) (ix2 r l) = proj (U m c) (W m c) r (7168 + t.val * 256 + l) := by
  pointwise [k0_pay1]
  simp only [blk0, blk1, proj]

/-- The result's array after the run. -/
theorem final2 (c : Dev nD) :
    (dats m 0 c).arrAt 2 cfg0.N = fun y => proj (U m c) (W m c) (y 0).val (7168 + (y 1).val) := by
  refine (dats m 0 c).arrAt_eq_of_covers 2 _ (by decide +kernel) fun t hf y => ?_
  blk_simp [idx t]
  rw [after0_2]
  frame_out
  idx_vars y
  exact (tile_at m c t _ _).trans (by rw [Nat.add_assoc])

end Cert.ProjMidIdeal.Body

namespace Cert.ProjMidRefIdeal.At

open Cert.ConvSpec Cert.ProjSpec Cert.ProjMidRefIdeal Cert.ProjMidRefIdeal.Gen Cert.ProjMidRefIdeal.Read

/-- The reference's result. -/
theorem out_at (u : FVec Ideal S4096x1024 .bf16) (w : FVec Ideal S8x1024x1280 .bf16) (r : Fin 4096) (l : Fin 3072) :
    val_main_v6 (F := Ideal) u w (ix2 r l) = proj u w r (7168 + l) := by
  pointwise [val_main_v6, val_main_v5, val_main_v4, val_main_v3, val_main_v2, val_main_v1, val_main_v0]
  simp only [read2, read3, proj, win]

end Cert.ProjMidRefIdeal.At

end
-- ==== Proof.ConvFwdBody.lean ====
/- The gated short convolution: the kernel's result and the reference's are the closed form's. -/
module

public import proofs.«01_k».proof.Proof.Gen.ConvFwdIdeal.Value
public import proofs.«01_k».proof.Proof.Gen.ConvFwdRefIdeal.Read
public import proofs.«01_k».proof.Proof.ProjSpec
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ConvFwdIdeal.Body

open Cert.ConvFwdIdeal Cert.ConvFwdIdeal.Gen Cert.ConvSpec

variable (m : (ℓ : Loc nD τ sig) → Buf (Elt Ideal) ℓ)

/-- The two argument arrays. -/
abbrev Pa (c : Dev nD) : FVec Ideal S4096x4096 .bf16 := m ((c : Thread nD τ).loc main_arg0)
abbrev Tw (c : Dev nD) : FVec Ideal S3x1024 .f32 := m ((c : Thread nD τ).loc main_arg1)

theorem idx : ∀ t : Fin cfg0.N, win0_0.index t = ![t.val / 2, t.val % 2]
    ∧ win0_1.index t = ![t.val / 2, 2 + t.val % 2]
    ∧ win0_2.index t = ![t.val / 2, 4 + t.val % 2]
    ∧ win0_3.index t = ![t.val / 2, 6 + t.val % 2]
    ∧ win0_4.index t = ![t.val / 2 * 64 - 1, t.val % 2]
    ∧ win0_5.index t = ![t.val / 2 * 64 - 1, 4 + t.val % 2]
    ∧ win0_6.index t = ![0, t.val % 2]
    ∧ win0_7.index t = ![t.val / 2, t.val % 2] :=
  (by decide +kernel : ∀ t : Fin grid0.N, _)

theorem coord0 : ∀ t : Fin cfg0.N, (grid0.coords t 0).val = t.val / 2 :=
  (by decide +kernel : ∀ t : Fin grid0.N, _)

/-- Row `r` and column `l` of the block at point `t`, in the array. -/
def row (t : Fin cfg0.N) (r : ℕ) : ℕ := t.val / 2 * 1024 + r
def col (t : Fin cfg0.N) (l : ℕ) : ℕ := t.val % 2 * 512 + l

theorem pt_lt (t : Fin cfg0.N) : t.val < 8 := lt_of_lt_of_eq t.isLt N_0

theorem blk0 (c : Dev nD) (t : Fin cfg0.N) (r : Fin 1024) (l : Fin 512) :
    iblk m c 0 t (ix2 r l) = at2 (Pa m c) (row t r) (col t l) := by
  have := pt_lt t
  simp only [row, col]
  rw [at2, dif_pos ⟨by omega, by omega⟩]
  blk_ext [iblk, V, idx t] <;> omega

theorem blk1 (c : Dev nD) (t : Fin cfg0.N) (r : Fin 1024) (l : Fin 512) :
    iblk m c 1 t (ix2 r l) = at2 (Pa m c) (row t r) (1024 + col t l) := by
  have := pt_lt t
  simp only [row, col]
  rw [at2, dif_pos ⟨by omega, by omega⟩]
  blk_ext [iblk, V, idx t] <;> omega

theorem blk2 (c : Dev nD) (t : Fin cfg0.N) (r : Fin 1024) (l : Fin 512) :
    iblk m c 2 t (ix2 r l) = at2 (Pa m c) (row t r) (2048 + col t l) := by
  have := pt_lt t
  simp only [row, col]
  rw [at2, dif_pos ⟨by omega, by omega⟩]
  blk_ext [iblk, V, idx t] <;> omega

theorem blk3 (c : Dev nD) (t : Fin cfg0.N) (r : Fin 1024) (l : Fin 512) :
    iblk m c 3 t (ix2 r l) = at2 (Pa m c) (row t r) (3072 + col t l) := by
  have := pt_lt t
  simp only [row, col]
  rw [at2, dif_pos ⟨by omega, by omega⟩]
  blk_ext [iblk, V, idx t] <;> omega

theorem blk4 (c : Dev nD) (t : Fin cfg0.N) (h : 0 < t.val / 2) (r : Fin 16) (l : Fin 512) :
    iblk m c 4 t (ix2 r l) = at2 (Pa m c) (row t r - 16) (col t l) := by
  have := pt_lt t
  simp only [row, col]
  rw [at2, dif_pos ⟨by omega, by omega⟩]
  blk_ext [iblk, V, idx t] <;> omega

theorem blk5 (c : Dev nD) (t : Fin cfg0.N) (h : 0 < t.val / 2) (r : Fin 16) (l : Fin 512) :
    iblk m c 5 t (ix2 r l) = at2 (Pa m c) (row t r - 16) (2048 + col t l) := by
  have := pt_lt t
  simp only [row, col]
  rw [at2, dif_pos ⟨by omega, by omega⟩]
  blk_ext [iblk, V, idx t] <;> omega

/-- The taps, padded on the host to eight rows. -/
theorem blk6 (c : Dev nD) (t : Fin cfg0.N) (j : Fin 3) (l : Fin 512) :
    iblk m c 6 t (ix2 ⟨j.val, by omega⟩ l) = at2 (Tw m c) j (col t l) := by
  have := pt_lt t
  simp only [col]
  rw [at2, dif_pos ⟨by omega, by omega⟩]
  blk_simp [iblk, idx t]
  entry_read
  pointwise
  rw [dif_pos (by blk_simp [idx t]; exact j.isLt)]
  blk_ext [idx t] <;> omega

/-- The convolved sequence. -/
theorem a0_at (c : Dev nD) (t : Fin cfg0.N) (r : Fin 1024) (l : Fin 512) :
    k0_pay2 (iblk m c 2 t) (iblk m c 0 t) (ix2 r l) = sh (Pa m c) 0 (row t r) (col t l) := by
  pointwise [k0_pay2]
  rw [blk0, blk2]
  rfl

/-- The convolved sequence one row earlier: the block's first row takes the tail of the block before. -/
theorem a1_at (c : Dev nD) (t : Fin cfg0.N) (r : Fin 1024) (l : Fin 512) :
    k0_pay4 (grid0.coords t) (iblk m c 2 t) (iblk m c 0 t) (iblk m c 5 t) (iblk m c 4 t) (ix2 r l)
      = sh (Pa m c) 1 (row t r) (col t l) := by
  have ht := coord0 t
  pointwise [k0_pay4, k0_pay3, k0_pay2, hlo_ix]
  simp (disch := word_cmp_side) only [hlo_ix]
  simp only [ht, blk0, blk2, sh, u]
  by_cases h1 : r.val = 0
  · rw [if_pos h1]
    by_cases h2 : 0 < t.val / 2
    · rw [if_pos h2, if_neg (by simp only [row]; omega), blk5 m c t h2, blk4 m c t h2,
        show row t (15 : Fin 16).val - 16 = row t r - 1 by simp only [row, h1]; omega]
    · rw [if_neg h2, if_pos (by simp only [row]; omega)]
  · rw [if_neg h1, if_neg (by simp only [row]; omega),
      show row t ((r.val + 1024 - 1) % 1024) = row t r - 1 by simp only [row]; omega]

/-- The first tap's term: the convolved sequence two rows earlier. -/
theorem a2_at (c : Dev nD) (t : Fin cfg0.N) (r : Fin 1024) (l : Fin 512) :
    k0_pay6 (grid0.coords t) (iblk m c 2 t) (iblk m c 0 t) (iblk m c 5 t) (iblk m c 4 t) (iblk m c 6 t) (ix2 r l)
      = at2 (Tw m c) 0 (col t l) * sh (Pa m c) 2 (row t r) (col t l) := by
  have ht := coord0 t
  have e0 : iblk m c 6 t (ix2 0 l) = at2 (Tw m c) 0 (col t l) := blk6 m c t 0 l
  pointwise [k0_pay6, k0_pay5, k0_pay3, k0_pay2, hlo_ix]
  simp (disch := word_cmp_side) only [hlo_ix]
  rw [e0]
  refine Ideal.mul_congr rfl ?_
  simp only [ht, blk0, blk2, sh, u]
  by_cases h1 : r.val = 0
  · rw [if_pos h1]
    by_cases h2 : 0 < t.val / 2
    · rw [if_pos h2, if_neg (by simp only [row]; omega), blk5 m c t h2, blk4 m c t h2,
        show row t (14 : Fin 16).val - 16 = row t r - 2 by simp only [row, h1]; omega]
    · rw [if_neg h2, if_pos (by simp only [row]; omega)]
  · rw [if_neg h1]
    by_cases h3 : r.val = 1
    · rw [if_pos h3]
      by_cases h2 : 0 < t.val / 2
      · rw [if_pos h2, if_neg (by simp only [row]; omega), blk5 m c t h2, blk4 m c t h2,
          show row t (15 : Fin 16).val - 16 = row t r - 2 by simp only [row, h3]; omega]
      · rw [if_neg h2, if_pos (by simp only [row]; omega)]
    · rw [if_neg h3, if_neg (by simp only [row]; omega),
        show row t ((r.val + 1024 - 2) % 1024) = row t r - 2 by simp only [row]; omega]

/-- The block of the result. -/
theorem out_at (c : Dev nD) (t : Fin cfg0.N) (r : Fin 1024) (l : Fin 512) :
    k0_pay1 (k0_pay2 (iblk m c 2 t) (iblk m c 0 t))
      (k0_pay4 (grid0.coords t) (iblk m c 2 t) (iblk m c 0 t) (iblk m c 5 t) (iblk m c 4 t))
      (k0_pay5 (iblk m c 6 t))
      (k0_pay6 (grid0.coords t) (iblk m c 2 t) (iblk m c 0 t) (iblk m c 5 t) (iblk m c 4 t) (iblk m c 6 t))
      (k0_pay7 (iblk m c 6 t)) (iblk m c 3 t) (iblk m c 1 t) (ix2 r l)
      = gate (Pa m c) (row t r) (col t l) * at2 (Pa m c) (row t r) (1024 + col t l)
        * conv (Pa m c) (Tw m c) (row t r) (col t l) := by
  have e1 : iblk m c 6 t (ix2 1 l) = at2 (Tw m c) 1 (col t l) := blk6 m c t 1 l
  have e2 : iblk m c 6 t (ix2 2 l) = at2 (Tw m c) 2 (col t l) := blk6 m c t 2 l
  pointwise [k0_pay1, k0_pay7, k0_pay5]
  rw [a2_at, a1_at, a0_at, e1, e2, blk1, blk3, zero_sub]
  rfl

/-- The result's array after the run. -/
theorem final7 (c : Dev nD) :
    (dats m 0 c).arrAt 7 cfg0.N = fun y => gate (Pa m c) (y 0).val (y 1).val
      * at2 (Pa m c) (y 0).val (1024 + (y 1).val) * conv (Pa m c) (Tw m c) (y 0).val (y 1).val := by
  refine (dats m 0 c).arrAt_eq_of_covers 7 _ (by decide +kernel) fun t hf y => ?_
  blk_simp [idx t]
  rw [after0_7]
  frame_out
  idx_vars y
  exact out_at m c t _ _

end Cert.ConvFwdIdeal.Body

namespace Cert.ConvFwdRefIdeal.At

open Cert.ConvSpec Cert.ProjSpec Cert.ConvFwdRefIdeal Cert.ConvFwdRefIdeal.Gen Cert.ConvFwdRefIdeal.Read

variable (pa : FVec Ideal S4096x4096 .bf16) (w : FVec Ideal S3x1024 .f32)

/-- The sequence with two rows of zeros before it: row `r + k` is the sequence `2 - k` rows earlier. -/
theorem up_at (r : Fin 4098) (l : Fin 1024) :
    val_main_v18 (F := Ideal) pa (ix2 r l) = sh pa 2 r l := by
  pointwise [val_main_v18, val_main_v17, val_main_cst_1, val_main_v16, val_main_v5, val_main_v4, val_main_v1, val_main_v0]
  simp only [read2, sh, u]
  rfl

theorem sh_shift (k r l : ℕ) : sh pa (k + 1) (1 + r) l = sh pa k r l := by
  simp only [sh]
  split_ifs
  all_goals first | rfl | omega | (rw [show 1 + r - (k + 1) = r - k by omega])

/-- The reference's result. -/
theorem out_at (r : Fin 4096) (l : Fin 1024) :
    val_main_v34 (F := Ideal) pa w (ix2 r l) = gate pa r l * at2 pa r (1024 + l) * conv pa w r l := by
  pointwise [val_main_v34, val_main_v33, val_main_v32, val_main_v31, val_main_v30, val_main_v29, val_main_v28,
    val_main_v27, val_main_v26, val_main_v25, val_main_v24, val_main_v23, val_main_v22, val_main_v21, val_main_v20,
    val_main_v19, val_main_v15, val_main_v14, val_main_v13, val_main_v12, val_main_cst_0, val_main_v11,
    val_main_v10, val_main_cst, val_main_v9, val_main_v8, val_main_v7, val_main_v6, val_main_v3, val_main_v2]
  simp only [up_at, read2]
  have h2 : sh pa 2 (2 + r.val) l = sh pa 0 r l := by
    rw [show 2 + r.val = 1 + (1 + r.val) by omega, sh_shift, sh_shift]
  rw [h2, sh_shift]
  rfl

end Cert.ConvFwdRefIdeal.At

end
-- ==== Proof.FwdClaims.lean ====
/- The claims about the forward calls: the two projections and the gated short convolution. -/
module

public import proofs.«01_k».proof.Defs
public import proofs.«01_k».proof.Proof.Gen.ProjConv.Frame
public import proofs.«01_k».proof.Proof.Gen.ProjMid.Frame
public import proofs.«01_k».proof.Proof.Gen.ConvFwd.Frame
public import proofs.«01_k».proof.Proof.ProjConvBody
public import proofs.«01_k».proof.Proof.ProjMidBody
public import proofs.«01_k».proof.Proof.ConvFwdBody
public import Idealize.ShloMosaic.Lib.Claim

@[expose] public section

set_option maxRecDepth 16384

noncomputable section

namespace Cert.Proof

open Idealize.ShloMosaic Idealize.ShloMosaic.TcCoe Idealize.SL.Sem

theorem quiescent_ProjConv : Cert.quiescent_ProjConv :=
  fun m ρ _ => Cert.ProjConv.Gen.frame m ρ

theorem quiescent_ProjConvIdeal : Cert.quiescent_ProjConvIdeal :=
  fun m ρ _ => Cert.ProjConvIdeal.Gen.frame m ρ

theorem quiescent_ProjConvRefIdeal : Cert.quiescent_ProjConvRefIdeal := by
  intro m ρ _
  refine (θ_run _ _ _).mono (fun r h => ⟨fun c => ?_, sem_eq_zero_of_no_sems rfl _⟩) (Cert.ProjConvRefIdeal.Value.run m ρ)
  exact (h c).2

theorem algebraic_ProjConvIdeal_ProjConvRefIdeal : Cert.algebraic_ProjConvIdeal_ProjConvRefIdeal := by
  pair_intro
  · run_from Cert.ProjConvIdeal.Value.run_blocks m g
  · run_from Cert.ProjConvRefIdeal.Value.run m' g'
    rw [Cert.ProjConvRefIdeal.Read.val_main_v6_eq, Cert.ProjConvIdeal.Body.final2]
    funext y
    idx_vars y
    exact Cert.ProjConvRefIdeal.At.out_at _ _ _ _

theorem quiescent_ProjMid : Cert.quiescent_ProjMid :=
  fun m ρ _ => Cert.ProjMid.Gen.frame m ρ

theorem quiescent_ProjMidIdeal : Cert.quiescent_ProjMidIdeal :=
  fun m ρ _ => Cert.ProjMidIdeal.Gen.frame m ρ

theorem quiescent_ProjMidRefIdeal : Cert.quiescent_ProjMidRefIdeal := by
  intro m ρ _
  refine (θ_run _ _ _).mono (fun r h => ⟨fun c => ?_, sem_eq_zero_of_no_sems rfl _⟩) (Cert.ProjMidRefIdeal.Value.run m ρ)
  exact (h c).2

theorem algebraic_ProjMidIdeal_ProjMidRefIdeal : Cert.algebraic_ProjMidIdeal_ProjMidRefIdeal := by
  pair_intro
  · run_from Cert.ProjMidIdeal.Value.run_blocks m g
  · run_from Cert.ProjMidRefIdeal.Value.run m' g'
    rw [Cert.ProjMidRefIdeal.Read.val_main_v6_eq, Cert.ProjMidIdeal.Body.final2]
    funext y
    idx_vars y
    exact Cert.ProjMidRefIdeal.At.out_at _ _ _ _

theorem quiescent_ConvFwd : Cert.quiescent_ConvFwd :=
  fun m ρ _ => Cert.ConvFwd.Gen.frame m ρ

theorem quiescent_ConvFwdIdeal : Cert.quiescent_ConvFwdIdeal :=
  fun m ρ _ => Cert.ConvFwdIdeal.Gen.frame m ρ

theorem quiescent_ConvFwdRefIdeal : Cert.quiescent_ConvFwdRefIdeal := by
  intro m ρ _
  refine (θ_run _ _ _).mono (fun r h => ⟨fun c => ?_, sem_eq_zero_of_no_sems rfl _⟩) (Cert.ConvFwdRefIdeal.Value.run m ρ)
  exact (h c).2

theorem algebraic_ConvFwdIdeal_ConvFwdRefIdeal : Cert.algebraic_ConvFwdIdeal_ConvFwdRefIdeal := by
  pair_intro
  · run_from Cert.ConvFwdIdeal.Value.run_blocks m g
  · run_from Cert.ConvFwdRefIdeal.Value.run m' g'
    rw [Cert.ConvFwdRefIdeal.Read.val_main_v34_eq, Cert.ConvFwdIdeal.Body.final7]
    funext y
    idx_vars y
    exact Cert.ConvFwdRefIdeal.At.out_at _ _ _ _

end Cert.Proof

end
-- ==== Proof.StepSpec.lean ====
/- One step of AdamW on one weight, from its gradient and its moments. -/
module

public import proofs.«01_k».proof.Proof.ProjSpec
public import Idealize.ShloMosaic.Lib.Pipeline.ValueKit
public import Idealize.ShloMosaic.Lib.Claim

@[expose] public section

set_option maxRecDepth 16384

noncomputable section

open Idealize.ShloMosaic Idealize.ShloMosaic.TcCoe

namespace Cert.StepSpec

/-- The new first moment. -/
def mom (g m : EReal) : EReal :=
  Ideal.ofBits .f32 0x3F666666#32 * m + Ideal.ofBits .f32 0x3DCCCCCD#32 * g

/-- The new second moment. -/
def vel (g v : EReal) : EReal :=
  Ideal.ofBits .f32 0x3F7FBE77#32 * v + Ideal.ofBits .f32 0x3A83126F#32 * (g * g)

/-- The change of the weight. -/
def dlt (g w m v : EReal) : EReal :=
  Ideal.ofBits .f32 0xBA83126F#32 *
    (Ideal.div (Ideal.div (mom g m) (Ideal.ofBits .f32 0x3F26BD02#32))
        (Ideal.sqrt (Ideal.div (vel g v) (Ideal.ofBits .f32 0x3C231ACC#32)) + Ideal.ofBits .f32 0x322BCC77#32)
      + Ideal.ofBits .f32 0x3C23D70A#32 * w)

end Cert.StepSpec

end
-- ==== Proof.StepInBody.lean ====
/- The step of the input projection: the kernel's tiles and the reference are the closed form's. -/
module

public import proofs.«01_k».proof.Proof.Gen.StepInIdeal.Value
public import proofs.«01_k».proof.Proof.Gen.StepInRefIdeal.Read
public import proofs.«01_k».proof.Proof.StepSpec

@[expose] public section

set_option maxRecDepth 16384

noncomputable section

open Idealize.ShloMosaic Idealize.ShloMosaic.TcCoe Idealize.SL.Sem
open Idealize.ShloMosaic.Pipeline (Dat)

namespace Cert.StepInIdeal.Body

open Cert.StepInIdeal Cert.StepInIdeal.Gen Cert.ConvSpec Cert.ProjSpec Cert.StepSpec

/-- The gradient, summed over the devices. -/
def gsum (p : FVec Ideal S8x1024x1280 .bf16) (r l : ℕ) : EReal := ∑ s : Fin 8, at3 p s r l

section

variable (p0 p1 p2 p3 p4 p5 p6 p7 : Vec Ideal S1x256x1280 .bf16) (g w m v : Vec Ideal S256x1280 .f32) (r : Fin 256) (l : Fin 1280)

theorem pay_sum : k0_pay4 p0 p1 p2 p3 p4 p5 p6 p7 (ix2 r l)
    = p0 (ix3 0 r l) + p1 (ix3 0 r l) + p2 (ix3 0 r l) + p3 (ix3 0 r l) + p4 (ix3 0 r l) + p5 (ix3 0 r l)
      + p6 (ix3 0 r l) + p7 (ix3 0 r l) := by
  pointwise [k0_pay4]

theorem pay_mom : k0_pay1 g m (ix2 r l) = mom (g (ix2 r l)) (m (ix2 r l)) := by
  pointwise [k0_pay1]
  rfl

theorem pay_vel : k0_pay2 g v (ix2 r l) = vel (g (ix2 r l)) (v (ix2 r l)) := by
  pointwise [k0_pay2]
  rfl

theorem pay_dlt : k0_pay3 g w m v (ix2 r l) = dlt (g (ix2 r l)) (w (ix2 r l)) (m (ix2 r l)) (v (ix2 r l)) := by
  pointwise [k0_pay3]
  simp only [pay_mom, pay_vel]
  rfl

end

variable (m : (ℓ : Loc nD τ sig) → Buf (Elt Ideal) ℓ)

/-- The four argument arrays. -/
abbrev Pt (c : Dev nD) : FVec Ideal S8x1024x1280 .bf16 := m ((c : Thread nD τ).loc main_arg0)
abbrev W (c : Dev nD) : FVec Ideal S1024x1280 .f32 := m ((c : Thread nD τ).loc main_arg1)
abbrev M (c : Dev nD) : FVec Ideal S1024x1280 .f32 := m ((c : Thread nD τ).loc main_arg2)
abbrev Vv (c : Dev nD) : FVec Ideal S1024x1280 .f32 := m ((c : Thread nD τ).loc main_arg3)

theorem pt_lt (t : Fin cfg0.N) : t.val < 4 := lt_of_lt_of_eq t.isLt N_0

theorem idx : ∀ t : Fin cfg0.N, win0_0.index t = ![0, t.val, 0]
    ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0]
    ∧ win0_7.index t = ![t.val, 0] :=
  (by decide +kernel : ∀ t : Fin grid0.N, _)

theorem blk0 (c : Dev nD) (t : Fin cfg0.N) (s : Fin 8) (r : Fin 256) (l : Fin 1280) :
    iblk m c 0 t (ix3 s r l) = at3 (Pt m c) s (t.val * 256 + r) l := by
  have := pt_lt t
  rw [at3, dif_pos ⟨by omega, by omega, by omega⟩]
  blk_ext [iblk, V, idx t] <;> omega

theorem blk1 (c : Dev nD) (t : Fin cfg0.N) (r : Fin 256) (l : Fin 1280) :
    iblk m c 1 t (ix2 r l) = at2 (W m c) (t.val * 256 + r) l := by
  have := pt_lt t
  rw [at2, dif_pos ⟨by omega, by omega⟩]
  blk_ext [iblk, V, idx t] <;> omega

theorem blk2 (c : Dev nD) (t : Fin cfg0.N) (r : Fin 256) (l : Fin 1280) :
    iblk m c 2 t (ix2 r l) = at2 (M m c) (t.val * 256 + r) l := by
  have := pt_lt t
  rw [at2, dif_pos ⟨by omega, by omega⟩]
  blk_ext [iblk, V, idx t] <;> omega

theorem blk3 (c : Dev nD) (t : Fin cfg0.N) (r : Fin 256) (l : Fin 1280) :
    iblk m c 3 t (ix2 r l) = at2 (Vv m c) (t.val * 256 + r) l := by
  have := pt_lt t
  rw [at2, dif_pos ⟨by omega, by omega⟩]
  blk_ext [iblk, V, idx t] <;> omega

/-- A tile of the summed gradient. -/
theorem sum_at (c : Dev nD) (t : Fin cfg0.N) (r : Fin 256) (l : Fin 1280) :
    k0_pay4 (View.ld (iblk m c 0 t) r0_0) (View.ld (iblk m c 0 t) r0_1) (View.ld (iblk m c 0 t) r0_2) (View.ld (iblk m c 0 t) r0_3)
      (View.ld (iblk m c 0 t) r0_4) (View.ld (iblk m c 0 t) r0_5) (View.ld (iblk m c 0 t) r0_6) (View.ld (iblk m c 0 t) r0_7) (ix2 r l)
      = gsum (Pt m c) (t.val * 256 + r) l := by
  rw [pay_sum]
  rw [gsum, Fin.sum_univ_eight]
  have e0 : View.ld (iblk m c 0 t) r0_0 (ix3 0 r l) = at3 (Pt m c) 0 (t.val * 256 + r) l :=
    (by pointwise [] : _ = iblk m c 0 t (ix3 0 r l)).trans (blk0 m c t 0 r l)
  have e1 : View.ld (iblk m c 0 t) r0_1 (ix3 0 r l) = at3 (Pt m c) 1 (t.val * 256 + r) l :=
    (by pointwise [] : _ = iblk m c 0 t (ix3 1 r l)).trans (blk0 m c t 1 r l)
  have e2 : View.ld (iblk m c 0 t) r0_2 (ix3 0 r l) = at3 (Pt m c) 2 (t.val * 256 + r) l :=
    (by pointwise [] : _ = iblk m c 0 t (ix3 2 r l)).trans (blk0 m c t 2 r l)
  have e3 : View.ld (iblk m c 0 t) r0_3 (ix3 0 r l) = at3 (Pt m c) 3 (t.val * 256 + r) l :=
    (by pointwise [] : _ = iblk m c 0 t (ix3 3 r l)).trans (blk0 m c t 3 r l)
  have e4 : View.ld (iblk m c 0 t) r0_4 (ix3 0 r l) = at3 (Pt m c) 4 (t.val * 256 + r) l :=
    (by pointwise [] : _ = iblk m c 0 t (ix3 4 r l)).trans (blk0 m c t 4 r l)
  have e5 : View.ld (iblk m c 0 t) r0_5 (ix3 0 r l) = at3 (Pt m c) 5 (t.val * 256 + r) l :=
    (by pointwise [] : _ = iblk m c 0 t (ix3 5 r l)).trans (blk0 m c t 5 r l)
  have e6 : View.ld (iblk m c 0 t) r0_6 (ix3 0 r l) = at3 (Pt m c) 6 (t.val * 256 + r) l :=
    (by pointwise [] : _ = iblk m c 0 t (ix3 6 r l)).trans (blk0 m c t 6 r l)
  have e7 : View.ld (iblk m c 0 t) r0_7 (ix3 0 r l) = at3 (Pt m c) 7 (t.val * 256 + r) l :=
    (by pointwise [] : _ = iblk m c 0 t (ix3 7 r l)).trans (blk0 m c t 7 r l)
  rw [e0, e1, e2, e3, e4, e5, e6, e7]
  rfl

theorem sum_tile (c : Dev nD) (t : Fin cfg0.N) (r : Fin 256) (l : Fin 1280) :
    k0_pay5 (iblk m c 0 t) (iblk m c 1 t) (iblk m c 2 t) (iblk m c 3 t) (ix2 r l) = gsum (Pt m c) (t.val * 256 + r) l :=
  sum_at m c t r l

theorem dlt_tile (c : Dev nD) (t : Fin cfg0.N) (r : Fin 256) (l : Fin 1280) :
    k0_pay3 (k0_pay5 (iblk m c 0 t) (iblk m c 1 t) (iblk m c 2 t) (iblk m c 3 t)) (iblk m c 1 t) (iblk m c 2 t) (iblk m c 3 t) (ix2 r l)
      = dlt (gsum (Pt m c) (t.val * 256 + r) l) (at2 (W m c) (t.val * 256 + r) l) (at2 (M m c) (t.val * 256 + r) l)
          (at2 (Vv m c) (t.val * 256 + r) l) := by
  rw [pay_dlt, sum_tile, blk1, blk2, blk3]

theorem mom_tile (c : Dev nD) (t : Fin cfg0.N) (r : Fin 256) (l : Fin 1280) :
    k0_pay1 (k0_pay5 (iblk m c 0 t) (iblk m c 1 t) (iblk m c 2 t) (iblk m c 3 t)) (iblk m c 2 t) (ix2 r l)
      = mom (gsum (Pt m c) (t.val * 256 + r) l) (at2 (M m c) (t.val * 256 + r) l) := by
  rw [pay_mom, sum_tile, blk2]

theorem vel_tile (c : Dev nD) (t : Fin cfg0.N) (r : Fin 256) (l : Fin 1280) :
    k0_pay2 (k0_pay5 (iblk m c 0 t) (iblk m c 1 t) (iblk m c 2 t) (iblk m c 3 t)) (iblk m c 3 t) (ix2 r l)
      = vel (gsum (Pt m c) (t.val * 256 + r) l) (at2 (Vv m c) (t.val * 256 + r) l) := by
  rw [pay_vel, sum_tile, blk3]

theorem final4 (c : Dev nD) :
    (dats m 0 c).arrAt 4 cfg0.N = fun y => gsum (Pt m c) (y 0).val (y 1).val := by
  refine (dats m 0 c).arrAt_eq_of_covers 4 _ (by decide +kernel) fun t hf y => ?_
  blk_simp [idx t]
  rw [after0_4]
  frame_out
  idx_vars y
  exact sum_at m c t _ _

theorem final5 (c : Dev nD) :
    (dats m 0 c).arrAt 5 cfg0.N = fun y => dlt (gsum (Pt m c) (y 0).val (y 1).val) (at2 (W m c) (y 0).val (y 1).val) (at2 (M m c) (y 0).val (y 1).val)
      (at2 (Vv m c) (y 0).val (y 1).val) := by
  refine (dats m 0 c).arrAt_eq_of_covers 5 _ (by decide +kernel) fun t hf y => ?_
  blk_simp [idx t]
  rw [after0_5]
  frame_out
  idx_vars y
  exact dlt_tile m c t _ _

theorem final6 (c : Dev nD) :
    (dats m 0 c).arrAt 6 cfg0.N = fun y => mom (gsum (Pt m c) (y 0).val (y 1).val) (at2 (M m c) (y 0).val (y 1).val) := by
  refine (dats m 0 c).arrAt_eq_of_covers 6 _ (by decide +kernel) fun t hf y => ?_
  blk_simp [idx t]
  rw [after0_6]
  frame_out
  idx_vars y
  exact mom_tile m c t _ _

theorem final7 (c : Dev nD) :
    (dats m 0 c).arrAt 7 cfg0.N = fun y => vel (gsum (Pt m c) (y 0).val (y 1).val) (at2 (Vv m c) (y 0).val (y 1).val) := by
  refine (dats m 0 c).arrAt_eq_of_covers 7 _ (by decide +kernel) fun t hf y => ?_
  blk_simp [idx t]
  rw [after0_7]
  frame_out
  idx_vars y
  exact vel_tile m c t _ _

end Cert.StepInIdeal.Body

namespace Cert.StepInRefIdeal.At

open Cert.ConvSpec Cert.ProjSpec Cert.StepSpec Cert.StepInRefIdeal Cert.StepInRefIdeal.Gen Cert.StepInRefIdeal.Read

variable (p : FVec Ideal S8x1024x1280 .bf16) (w m v : FVec Ideal S1024x1280 .f32) (r : Fin 1024) (l : Fin 1280)

theorem sum_at : val_main_v1 (F := Ideal) p (ix2 r l) = Cert.StepInIdeal.Body.gsum p r l := by
  pointwise [val_main_v0, val_main_v1, val_main_cst]
  simp only [read3, Cert.StepInIdeal.Body.gsum]

theorem mom_at : val_main_v6 (F := Ideal) p m (ix2 r l) = mom (Cert.StepInIdeal.Body.gsum p r l) (at2 m r l) := by
  pointwise [val_main_v2, val_main_v3, val_main_v4, val_main_v5, val_main_v6, val_main_cst_0, val_main_cst_1]
  simp only [sum_at, read2]
  rfl

theorem vel_at : val_main_v12 (F := Ideal) p v (ix2 r l) = vel (Cert.StepInIdeal.Body.gsum p r l) (at2 v r l) := by
  pointwise [val_main_v7, val_main_v8, val_main_v9, val_main_v10, val_main_v11, val_main_v12, val_main_cst_2, val_main_cst_3]
  simp only [sum_at, read2]
  rfl

theorem dlt_at : val_main_v25 (F := Ideal) p w m v (ix2 r l)
    = dlt (Cert.StepInIdeal.Body.gsum p r l) (at2 w r l) (at2 m r l) (at2 v r l) := by
  pointwise [val_main_v13, val_main_v14, val_main_v15, val_main_v16, val_main_v17, val_main_v18, val_main_v19, val_main_v20, val_main_v21, val_main_v22, val_main_v23, val_main_v24, val_main_v25, val_main_cst_4, val_main_cst_5, val_main_cst_6, val_main_cst_7, val_main_cst_8]
  simp only [mom_at, vel_at, read2]
  rfl

end Cert.StepInRefIdeal.At

end
-- ==== Proof.StepInClaims.lean ====
/- The claims about the step of the input projection. -/
module

public import proofs.«01_k».proof.Defs
public import proofs.«01_k».proof.Proof.Gen.StepIn.Frame
public import proofs.«01_k».proof.Proof.Gen.StepInRefIdeal.Run
public import proofs.«01_k».proof.Proof.Gen.StepInRefIdeal.Read
public import proofs.«01_k».proof.Proof.StepInBody
public import Idealize.ShloMosaic.Lib.Claim

@[expose] public section

set_option maxRecDepth 16384

noncomputable section

namespace Cert.Proof

open Idealize.ShloMosaic Idealize.ShloMosaic.TcCoe Idealize.SL.Sem

theorem quiescent_StepIn : Cert.quiescent_StepIn :=
  fun m ρ _ => Cert.StepIn.Gen.frame m ρ

theorem quiescent_StepInIdeal : Cert.quiescent_StepInIdeal :=
  fun m ρ _ => Cert.StepInIdeal.Gen.frame m ρ

theorem quiescent_StepInRefIdeal : Cert.quiescent_StepInRefIdeal := by
  intro m ρ _
  refine (θ_run _ _ _).mono (fun r h => ⟨fun c => ?_, sem_eq_zero_of_no_sems rfl _⟩) (Cert.StepInRefIdeal.Value.run m ρ)
  exact (h c).2.2.2.2

theorem algebraic_StepInIdeal_StepInRefIdeal : Cert.algebraic_StepInIdeal_StepInRefIdeal := by
  pair_intro
  · run_from Cert.StepInIdeal.Value.run_blocks m g
  · refine (θ_run _ _ _).mono (fun r h c => ?_) (Cert.StepInRefIdeal.Value.run m' g')
    obtain ⟨a0, a1, a2, a3, ha⟩ := h c
    obtain ⟨e0, e1, e2, e3⟩ := hagree c
    refine ⟨a0.trans ?_, a1.trans ?_, a2.trans ?_, a3.trans ?_, ha⟩
    · refine (Cert.StepInRefIdeal.Read.val_main_v1_eq _).trans ?_
      rw [e0, Cert.StepInIdeal.Body.final4]
      funext y
      idx_vars y
      exact Cert.StepInRefIdeal.At.sum_at _ _ _
    · refine (Cert.StepInRefIdeal.Read.val_main_v25_eq _ _ _ _).trans ?_
      rw [e0, e1, e2, e3, Cert.StepInIdeal.Body.final5]
      funext y
      idx_vars y
      exact Cert.StepInRefIdeal.At.dlt_at _ _ _ _ _ _
    · refine (Cert.StepInRefIdeal.Read.val_main_v6_eq _ _).trans ?_
      rw [e0, e2, Cert.StepInIdeal.Body.final6]
      funext y
      idx_vars y
      exact Cert.StepInRefIdeal.At.mom_at _ _ _ _
    · refine (Cert.StepInRefIdeal.Read.val_main_v12_eq _ _).trans ?_
      rw [e0, e3, Cert.StepInIdeal.Body.final7]
      funext y
      idx_vars y
      exact Cert.StepInRefIdeal.At.vel_at _ _ _ _

end Cert.Proof

end
-- ==== Proof.StepOutBody.lean ====
/- The step of the output projections: the kernel's tiles and the reference are the closed form's. -/
module

public import proofs.«01_k».proof.Proof.Gen.StepOutIdeal.Value
public import proofs.«01_k».proof.Proof.Gen.StepOutRefIdeal.Read
public import proofs.«01_k».proof.Proof.StepSpec

@[expose] public section

set_option maxRecDepth 16384

noncomputable section

open Idealize.ShloMosaic Idealize.ShloMosaic.TcCoe Idealize.SL.Sem
open Idealize.ShloMosaic.Pipeline (Dat)

namespace Cert.StepOutIdeal.Body

open Cert.StepOutIdeal Cert.StepOutIdeal.Gen Cert.ConvSpec Cert.ProjSpec Cert.StepSpec

/-- The gradient, summed over the devices. -/
def gsum (p : FVec Ideal S8x384x1024 .bf16) (r l : ℕ) : EReal := ∑ s : Fin 8, at3 p s r l

section

variable (p0 p1 p2 p3 p4 p5 p6 p7 : Vec Ideal S1x128x1024 .bf16) (g w m v : Vec Ideal S128x1024 .f32) (r : Fin 128) (l : Fin 1024)

theorem pay_sum : k0_pay4 p0 p1 p2 p3 p4 p5 p6 p7 (ix2 r l)
    = p0 (ix3 0 r l) + p1 (ix3 0 r l) + p2 (ix3 0 r l) + p3 (ix3 0 r l) + p4 (ix3 0 r l) + p5 (ix3 0 r l)
      + p6 (ix3 0 r l) + p7 (ix3 0 r l) := by
  pointwise [k0_pay4]

theorem pay_mom : k0_pay1 g m (ix2 r l) = mom (g (ix2 r l)) (m (ix2 r l)) := by
  pointwise [k0_pay1]
  rfl

theorem pay_vel : k0_pay2 g v (ix2 r l) = vel (g (ix2 r l)) (v (ix2 r l)) := by
  pointwise [k0_pay2]
  rfl

theorem pay_dlt : k0_pay3 g w m v (ix2 r l) = dlt (g (ix2 r l)) (w (ix2 r l)) (m (ix2 r l)) (v (ix2 r l)) := by
  pointwise [k0_pay3]
  simp only [pay_mom, pay_vel]
  rfl

end

variable (m : (ℓ : Loc nD τ sig) → Buf (Elt Ideal) ℓ)

/-- The four argument arrays. -/
abbrev Pt (c : Dev nD) : FVec Ideal S8x384x1024 .bf16 := m ((c : Thread nD τ).loc main_arg0)
abbrev W (c : Dev nD) : FVec Ideal S384x1024 .f32 := m ((c : Thread nD τ).loc main_arg1)
abbrev M (c : Dev nD) : FVec Ideal S384x1024 .f32 := m ((c : Thread nD τ).loc main_arg2)
abbrev Vv (c : Dev nD) : FVec Ideal S384x1024 .f32 := m ((c : Thread nD τ).loc main_arg3)

theorem pt_lt (t : Fin cfg0.N) : t.val < 3 := lt_of_lt_of_eq t.isLt N_0

theorem idx : ∀ t : Fin cfg0.N, win0_0.index t = ![0, t.val, 0]
    ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0]
    ∧ win0_7.index t = ![t.val, 0] :=
  (by decide +kernel : ∀ t : Fin grid0.N, _)

theorem blk0 (c : Dev nD) (t : Fin cfg0.N) (s : Fin 8) (r : Fin 128) (l : Fin 1024) :
    iblk m c 0 t (ix3 s r l) = at3 (Pt m c) s (t.val * 128 + r) l := by
  have := pt_lt t
  rw [at3, dif_pos ⟨by omega, by omega, by omega⟩]
  blk_ext [iblk, V, idx t] <;> omega

theorem blk1 (c : Dev nD) (t : Fin cfg0.N) (r : Fin 128) (l : Fin 1024) :
    iblk m c 1 t (ix2 r l) = at2 (W m c) (t.val * 128 + r) l := by
  have := pt_lt t
  rw [at2, dif_pos ⟨by omega, by omega⟩]
  blk_ext [iblk, V, idx t] <;> omega

theorem blk2 (c : Dev nD) (t : Fin cfg0.N) (r : Fin 128) (l : Fin 1024) :
    iblk m c 2 t (ix2 r l) = at2 (M m c) (t.val * 128 + r) l := by
  have := pt_lt t
  rw [at2, dif_pos ⟨by omega, by omega⟩]
  blk_ext [iblk, V, idx t] <;> omega

theorem blk3 (c : Dev nD) (t : Fin cfg0.N) (r : Fin 128) (l : Fin 1024) :
    iblk m c 3 t (ix2 r l) = at2 (Vv m c) (t.val * 128 + r) l := by
  have := pt_lt t
  rw [at2, dif_pos ⟨by omega, by omega⟩]
  blk_ext [iblk, V, idx t] <;> omega

/-- A tile of the summed gradient. -/
theorem sum_at (c : Dev nD) (t : Fin cfg0.N) (r : Fin 128) (l : Fin 1024) :
    k0_pay4 (View.ld (iblk m c 0 t) r0_0) (View.ld (iblk m c 0 t) r0_1) (View.ld (iblk m c 0 t) r0_2) (View.ld (iblk m c 0 t) r0_3)
      (View.ld (iblk m c 0 t) r0_4) (View.ld (iblk m c 0 t) r0_5) (View.ld (iblk m c 0 t) r0_6) (View.ld (iblk m c 0 t) r0_7) (ix2 r l)
      = gsum (Pt m c) (t.val * 128 + r) l := by
  rw [pay_sum]
  rw [gsum, Fin.sum_univ_eight]
  have e0 : View.ld (iblk m c 0 t) r0_0 (ix3 0 r l) = at3 (Pt m c) 0 (t.val * 128 + r) l :=
    (by pointwise [] : _ = iblk m c 0 t (ix3 0 r l)).trans (blk0 m c t 0 r l)
  have e1 : View.ld (iblk m c 0 t) r0_1 (ix3 0 r l) = at3 (Pt m c) 1 (t.val * 128 + r) l :=
    (by pointwise [] : _ = iblk m c 0 t (ix3 1 r l)).trans (blk0 m c t 1 r l)
  have e2 : View.ld (iblk m c 0 t) r0_2 (ix3 0 r l) = at3 (Pt m c) 2 (t.val * 128 + r) l :=
    (by pointwise [] : _ = iblk m c 0 t (ix3 2 r l)).trans (blk0 m c t 2 r l)
  have e3 : View.ld (iblk m c 0 t) r0_3 (ix3 0 r l) = at3 (Pt m c) 3 (t.val * 128 + r) l :=
    (by pointwise [] : _ = iblk m c 0 t (ix3 3 r l)).trans (blk0 m c t 3 r l)
  have e4 : View.ld (iblk m c 0 t) r0_4 (ix3 0 r l) = at3 (Pt m c) 4 (t.val * 128 + r) l :=
    (by pointwise [] : _ = iblk m c 0 t (ix3 4 r l)).trans (blk0 m c t 4 r l)
  have e5 : View.ld (iblk m c 0 t) r0_5 (ix3 0 r l) = at3 (Pt m c) 5 (t.val * 128 + r) l :=
    (by pointwise [] : _ = iblk m c 0 t (ix3 5 r l)).trans (blk0 m c t 5 r l)
  have e6 : View.ld (iblk m c 0 t) r0_6 (ix3 0 r l) = at3 (Pt m c) 6 (t.val * 128 + r) l :=
    (by pointwise [] : _ = iblk m c 0 t (ix3 6 r l)).trans (blk0 m c t 6 r l)
  have e7 : View.ld (iblk m c 0 t) r0_7 (ix3 0 r l) = at3 (Pt m c) 7 (t.val * 128 + r) l :=
    (by pointwise [] : _ = iblk m c 0 t (ix3 7 r l)).trans (blk0 m c t 7 r l)
  rw [e0, e1, e2, e3, e4, e5, e6, e7]
  rfl

theorem sum_tile (c : Dev nD) (t : Fin cfg0.N) (r : Fin 128) (l : Fin 1024) :
    k0_pay5 (iblk m c 0 t) (iblk m c 1 t) (iblk m c 2 t) (iblk m c 3 t) (ix2 r l) = gsum (Pt m c) (t.val * 128 + r) l :=
  sum_at m c t r l

theorem dlt_tile (c : Dev nD) (t : Fin cfg0.N) (r : Fin 128) (l : Fin 1024) :
    k0_pay3 (k0_pay5 (iblk m c 0 t) (iblk m c 1 t) (iblk m c 2 t) (iblk m c 3 t)) (iblk m c 1 t) (iblk m c 2 t) (iblk m c 3 t) (ix2 r l)
      = dlt (gsum (Pt m c) (t.val * 128 + r) l) (at2 (W m c) (t.val * 128 + r) l) (at2 (M m c) (t.val * 128 + r) l)
          (at2 (Vv m c) (t.val * 128 + r) l) := by
  rw [pay_dlt, sum_tile, blk1, blk2, blk3]

theorem mom_tile (c : Dev nD) (t : Fin cfg0.N) (r : Fin 128) (l : Fin 1024) :
    k0_pay1 (k0_pay5 (iblk m c 0 t) (iblk m c 1 t) (iblk m c 2 t) (iblk m c 3 t)) (iblk m c 2 t) (ix2 r l)
      = mom (gsum (Pt m c) (t.val * 128 + r) l) (at2 (M m c) (t.val * 128 + r) l) := by
  rw [pay_mom, sum_tile, blk2]

theorem vel_tile (c : Dev nD) (t : Fin cfg0.N) (r : Fin 128) (l : Fin 1024) :
    k0_pay2 (k0_pay5 (iblk m c 0 t) (iblk m c 1 t) (iblk m c 2 t) (iblk m c 3 t)) (iblk m c 3 t) (ix2 r l)
      = vel (gsum (Pt m c) (t.val * 128 + r) l) (at2 (Vv m c) (t.val * 128 + r) l) := by
  rw [pay_vel, sum_tile, blk3]

theorem final4 (c : Dev nD) :
    (dats m 0 c).arrAt 4 cfg0.N = fun y => gsum (Pt m c) (y 0).val (y 1).val := by
  refine (dats m 0 c).arrAt_eq_of_covers 4 _ (by decide +kernel) fun t hf y => ?_
  blk_simp [idx t]
  rw [after0_4]
  frame_out
  idx_vars y
  exact sum_at m c t _ _

theorem final5 (c : Dev nD) :
    (dats m 0 c).arrAt 5 cfg0.N = fun y => dlt (gsum (Pt m c) (y 0).val (y 1).val) (at2 (W m c) (y 0).val (y 1).val) (at2 (M m c) (y 0).val (y 1).val)
      (at2 (Vv m c) (y 0).val (y 1).val) := by
  refine (dats m 0 c).arrAt_eq_of_covers 5 _ (by decide +kernel) fun t hf y => ?_
  blk_simp [idx t]
  rw [after0_5]
  frame_out
  idx_vars y
  exact dlt_tile m c t _ _

theorem final6 (c : Dev nD) :
    (dats m 0 c).arrAt 6 cfg0.N = fun y => mom (gsum (Pt m c) (y 0).val (y 1).val) (at2 (M m c) (y 0).val (y 1).val) := by
  refine (dats m 0 c).arrAt_eq_of_covers 6 _ (by decide +kernel) fun t hf y => ?_
  blk_simp [idx t]
  rw [after0_6]
  frame_out
  idx_vars y
  exact mom_tile m c t _ _

theorem final7 (c : Dev nD) :
    (dats m 0 c).arrAt 7 cfg0.N = fun y => vel (gsum (Pt m c) (y 0).val (y 1).val) (at2 (Vv m c) (y 0).val (y 1).val) := by
  refine (dats m 0 c).arrAt_eq_of_covers 7 _ (by decide +kernel) fun t hf y => ?_
  blk_simp [idx t]
  rw [after0_7]
  frame_out
  idx_vars y
  exact vel_tile m c t _ _

end Cert.StepOutIdeal.Body

namespace Cert.StepOutRefIdeal.At

open Cert.ConvSpec Cert.ProjSpec Cert.StepSpec Cert.StepOutRefIdeal Cert.StepOutRefIdeal.Gen Cert.StepOutRefIdeal.Read

variable (p : FVec Ideal S8x384x1024 .bf16) (w m v : FVec Ideal S384x1024 .f32) (r : Fin 384) (l : Fin 1024)

theorem sum_at : val_main_v1 (F := Ideal) p (ix2 r l) = Cert.StepOutIdeal.Body.gsum p r l := by
  pointwise [val_main_v0, val_main_v1, val_main_cst]
  simp only [read3, Cert.StepOutIdeal.Body.gsum]

theorem mom_at : val_main_v6 (F := Ideal) p m (ix2 r l) = mom (Cert.StepOutIdeal.Body.gsum p r l) (at2 m r l) := by
  pointwise [val_main_v2, val_main_v3, val_main_v4, val_main_v5, val_main_v6, val_main_cst_0, val_main_cst_1]
  simp only [sum_at, read2]
  rfl

theorem vel_at : val_main_v12 (F := Ideal) p v (ix2 r l) = vel (Cert.StepOutIdeal.Body.gsum p r l) (at2 v r l) := by
  pointwise [val_main_v7, val_main_v8, val_main_v9, val_main_v10, val_main_v11, val_main_v12, val_main_cst_2, val_main_cst_3]
  simp only [sum_at, read2]
  rfl

theorem dlt_at : val_main_v25 (F := Ideal) p w m v (ix2 r l)
    = dlt (Cert.StepOutIdeal.Body.gsum p r l) (at2 w r l) (at2 m r l) (at2 v r l) := by
  pointwise [val_main_v13, val_main_v14, val_main_v15, val_main_v16, val_main_v17, val_main_v18, val_main_v19, val_main_v20, val_main_v21, val_main_v22, val_main_v23, val_main_v24, val_main_v25, val_main_cst_4, val_main_cst_5, val_main_cst_6, val_main_cst_7, val_main_cst_8]
  simp only [mom_at, vel_at, read2]
  rfl

end Cert.StepOutRefIdeal.At

end
-- ==== Proof.StepOutClaims.lean ====
/- The claims about the step of the output projections. -/
module

public import proofs.«01_k».proof.Defs
public import proofs.«01_k».proof.Proof.Gen.StepOut.Frame
public import proofs.«01_k».proof.Proof.Gen.StepOutRefIdeal.Run
public import proofs.«01_k».proof.Proof.Gen.StepOutRefIdeal.Read
public import proofs.«01_k».proof.Proof.StepOutBody
public import Idealize.ShloMosaic.Lib.Claim

@[expose] public section

set_option maxRecDepth 16384

noncomputable section

namespace Cert.Proof

open Idealize.ShloMosaic Idealize.ShloMosaic.TcCoe Idealize.SL.Sem

theorem quiescent_StepOut : Cert.quiescent_StepOut :=
  fun m ρ _ => Cert.StepOut.Gen.frame m ρ

theorem quiescent_StepOutIdeal : Cert.quiescent_StepOutIdeal :=
  fun m ρ _ => Cert.StepOutIdeal.Gen.frame m ρ

theorem quiescent_StepOutRefIdeal : Cert.quiescent_StepOutRefIdeal := by
  intro m ρ _
  refine (θ_run _ _ _).mono (fun r h => ⟨fun c => ?_, sem_eq_zero_of_no_sems rfl _⟩) (Cert.StepOutRefIdeal.Value.run m ρ)
  exact (h c).2.2.2.2

theorem algebraic_StepOutIdeal_StepOutRefIdeal : Cert.algebraic_StepOutIdeal_StepOutRefIdeal := by
  pair_intro
  · run_from Cert.StepOutIdeal.Value.run_blocks m g
  · refine (θ_run _ _ _).mono (fun r h c => ?_) (Cert.StepOutRefIdeal.Value.run m' g')
    obtain ⟨a0, a1, a2, a3, ha⟩ := h c
    obtain ⟨e0, e1, e2, e3⟩ := hagree c
    refine ⟨a0.trans ?_, a1.trans ?_, a2.trans ?_, a3.trans ?_, ha⟩
    · refine (Cert.StepOutRefIdeal.Read.val_main_v1_eq _).trans ?_
      rw [e0, Cert.StepOutIdeal.Body.final4]
      funext y
      idx_vars y
      exact Cert.StepOutRefIdeal.At.sum_at _ _ _
    · refine (Cert.StepOutRefIdeal.Read.val_main_v25_eq _ _ _ _).trans ?_
      rw [e0, e1, e2, e3, Cert.StepOutIdeal.Body.final5]
      funext y
      idx_vars y
      exact Cert.StepOutRefIdeal.At.dlt_at _ _ _ _ _ _
    · refine (Cert.StepOutRefIdeal.Read.val_main_v6_eq _ _).trans ?_
      rw [e0, e2, Cert.StepOutIdeal.Body.final6]
      funext y
      idx_vars y
      exact Cert.StepOutRefIdeal.At.mom_at _ _ _ _
    · refine (Cert.StepOutRefIdeal.Read.val_main_v12_eq _ _).trans ?_
      rw [e0, e3, Cert.StepOutIdeal.Body.final7]
      funext y
      idx_vars y
      exact Cert.StepOutRefIdeal.At.vel_at _ _ _ _

end Cert.Proof

end
-- ==== Proof.StepSmallClaims.lean ====
/- The claims about the step of norm_g, b_merge and final_g. -/
module

public import proofs.«01_k».proof.Defs
public import proofs.«01_k».proof.Proof.Gen.StepSmall.Frame
public import proofs.«01_k».proof.Proof.Gen.StepSmallRefIdeal.Run
public import proofs.«01_k».proof.Proof.Gen.StepSmallRefIdeal.Read
public import proofs.«01_k».proof.Proof.StepSpec
public import proofs.«01_k».proof.Proof.Gen.StepSmallIdeal.Value
public import Idealize.ShloMosaic.Lib.Claim

@[expose] public section

set_option maxRecDepth 16384

noncomputable section

namespace Cert.StepSmallRefIdeal.At

open Idealize.ShloMosaic Idealize.ShloMosaic.TcCoe Cert.StepSpec Cert.StepSmallRefIdeal Cert.StepSmallRefIdeal.Gen Cert.StepSmallRefIdeal.Read

variable (g w m v : FVec Ideal S8x1024 .f32) (r : Fin 8) (l : Fin 1024)

theorem mom_at : val_main_v4 (F := Ideal) g m (ix2 r l) = mom (g (ix2 r l)) (m (ix2 r l)) := by
  pointwise [val_main_v0, val_main_v1, val_main_v2, val_main_v3, val_main_v4, val_main_cst, val_main_cst_0]
  rfl

theorem vel_at : val_main_v10 (F := Ideal) g v (ix2 r l) = vel (g (ix2 r l)) (v (ix2 r l)) := by
  pointwise [val_main_v5, val_main_v6, val_main_v7, val_main_v8, val_main_v9, val_main_v10, val_main_cst_1, val_main_cst_2]
  rfl

theorem dlt_at :
    val_main_v23 (F := Ideal) g w m v (ix2 r l) = dlt (g (ix2 r l)) (w (ix2 r l)) (m (ix2 r l)) (v (ix2 r l)) := by
  pointwise [val_main_v11, val_main_v12, val_main_v13, val_main_v14, val_main_v15, val_main_v16, val_main_v17, val_main_v18, val_main_v19, val_main_v20, val_main_v21, val_main_v22, val_main_v23, val_main_cst_3, val_main_cst_4, val_main_cst_5, val_main_cst_6, val_main_cst_7]
  simp only [mom_at, vel_at]
  rfl

end Cert.StepSmallRefIdeal.At

namespace Cert.Proof

open Idealize.ShloMosaic Idealize.ShloMosaic.TcCoe Idealize.SL.Sem

theorem quiescent_StepSmall : Cert.quiescent_StepSmall :=
  fun m ρ _ => Cert.StepSmall.Gen.frame m ρ

theorem quiescent_StepSmallIdeal : Cert.quiescent_StepSmallIdeal :=
  fun m ρ _ => Cert.StepSmallIdeal.Gen.frame m ρ

theorem quiescent_StepSmallRefIdeal : Cert.quiescent_StepSmallRefIdeal := by
  intro m ρ _
  refine (θ_run _ _ _).mono (fun r h => ⟨fun c => ?_, sem_eq_zero_of_no_sems rfl _⟩) (Cert.StepSmallRefIdeal.Value.run m ρ)
  exact (h c).2.2.2

theorem algebraic_StepSmallIdeal_StepSmallRefIdeal : Cert.algebraic_StepSmallIdeal_StepSmallRefIdeal := by
  pair_intro
  · run_from Cert.StepSmallIdeal.Value.run m g
  · run_from Cert.StepSmallRefIdeal.Value.run m' g'
    · rw [Cert.StepSmallRefIdeal.Read.val_main_v23_eq]
      funext y
      idx_vars y
      exact Cert.StepSmallRefIdeal.At.dlt_at _ _ _ _ _ _
    · rw [Cert.StepSmallRefIdeal.Read.val_main_v4_eq]
      funext y
      idx_vars y
      exact Cert.StepSmallRefIdeal.At.mom_at _ _ _ _
    · rw [Cert.StepSmallRefIdeal.Read.val_main_v10_eq]
      funext y
      idx_vars y
      exact Cert.StepSmallRefIdeal.At.vel_at _ _ _ _

end Cert.Proof

end
-- ==== Proof.StepConvClaims.lean ====
/- The claims about the step of the taps. -/
module

public import proofs.«01_k».proof.Defs
public import proofs.«01_k».proof.Proof.Gen.StepConv.Frame
public import proofs.«01_k».proof.Proof.Gen.StepConvRefIdeal.Run
public import proofs.«01_k».proof.Proof.Gen.StepConvRefIdeal.Read
public import proofs.«01_k».proof.Proof.StepSpec
public import proofs.«01_k».proof.Proof.Gen.StepConvIdeal.Value
public import Idealize.ShloMosaic.Lib.Claim

@[expose] public section

set_option maxRecDepth 16384

noncomputable section

namespace Cert.StepConvRefIdeal.At

open Idealize.ShloMosaic Idealize.ShloMosaic.TcCoe Cert.StepSpec Cert.StepConvRefIdeal Cert.StepConvRefIdeal.Gen Cert.StepConvRefIdeal.Read

variable (g w m v : FVec Ideal S3x128 .f32) (r : Fin 3) (l : Fin 128)

theorem mom_at : val_main_v4 (F := Ideal) g m (ix2 r l) = mom (g (ix2 r l)) (m (ix2 r l)) := by
  pointwise [val_main_v0, val_main_v1, val_main_v2, val_main_v3, val_main_v4, val_main_cst, val_main_cst_0]
  rfl

theorem vel_at : val_main_v10 (F := Ideal) g v (ix2 r l) = vel (g (ix2 r l)) (v (ix2 r l)) := by
  pointwise [val_main_v5, val_main_v6, val_main_v7, val_main_v8, val_main_v9, val_main_v10, val_main_cst_1, val_main_cst_2]
  rfl

theorem dlt_at :
    val_main_v23 (F := Ideal) g w m v (ix2 r l) = dlt (g (ix2 r l)) (w (ix2 r l)) (m (ix2 r l)) (v (ix2 r l)) := by
  pointwise [val_main_v11, val_main_v12, val_main_v13, val_main_v14, val_main_v15, val_main_v16, val_main_v17, val_main_v18, val_main_v19, val_main_v20, val_main_v21, val_main_v22, val_main_v23, val_main_cst_3, val_main_cst_4, val_main_cst_5, val_main_cst_6, val_main_cst_7]
  simp only [mom_at, vel_at]
  rfl

end Cert.StepConvRefIdeal.At

namespace Cert.Proof

open Idealize.ShloMosaic Idealize.ShloMosaic.TcCoe Idealize.SL.Sem

theorem quiescent_StepConv : Cert.quiescent_StepConv :=
  fun m ρ _ => Cert.StepConv.Gen.frame m ρ

theorem quiescent_StepConvIdeal : Cert.quiescent_StepConvIdeal :=
  fun m ρ _ => Cert.StepConvIdeal.Gen.frame m ρ

theorem quiescent_StepConvRefIdeal : Cert.quiescent_StepConvRefIdeal := by
  intro m ρ _
  refine (θ_run _ _ _).mono (fun r h => ⟨fun c => ?_, sem_eq_zero_of_no_sems rfl _⟩) (Cert.StepConvRefIdeal.Value.run m ρ)
  exact (h c).2.2.2

theorem algebraic_StepConvIdeal_StepConvRefIdeal : Cert.algebraic_StepConvIdeal_StepConvRefIdeal := by
  pair_intro
  · run_from Cert.StepConvIdeal.Value.run m g
  · run_from Cert.StepConvRefIdeal.Value.run m' g'
    · rw [Cert.StepConvRefIdeal.Read.val_main_v23_eq]
      funext y
      idx_vars y
      exact Cert.StepConvRefIdeal.At.dlt_at _ _ _ _ _ _
    · rw [Cert.StepConvRefIdeal.Read.val_main_v4_eq]
      funext y
      idx_vars y
      exact Cert.StepConvRefIdeal.At.mom_at _ _ _ _
    · rw [Cert.StepConvRefIdeal.Read.val_main_v10_eq]
      funext y
      idx_vars y
      exact Cert.StepConvRefIdeal.At.vel_at _ _ _ _

end Cert.Proof

end
-- ==== Proof.lean ====
/- The proof of the certificate: the claims of each program are proved in the `*Claims` modules and gathered here. -/
module

public import proofs.«01_k».proof.Defs
public import proofs.«01_k».proof.Proof.Gen.ConvBwd
public import proofs.«01_k».proof.Proof.Gen.ConvBwdIdeal
public import proofs.«01_k».proof.Proof.Gen.ConvBwdRefIdeal
public import proofs.«01_k».proof.Proof.Gen.NormBwd
public import proofs.«01_k».proof.Proof.Gen.NormBwdIdeal
public import proofs.«01_k».proof.Proof.Gen.NormBwdRefIdeal
public import proofs.«01_k».proof.Proof.Gen.Mid
public import proofs.«01_k».proof.Proof.Gen.MidIdeal
public import proofs.«01_k».proof.Proof.Gen.MidRefIdeal
public import proofs.«01_k».proof.Proof.Gen.WeightGrad
public import proofs.«01_k».proof.Proof.Gen.WeightGradIdeal
public import proofs.«01_k».proof.Proof.Gen.WeightGradRefIdeal
public import proofs.«01_k».proof.Proof.Gen.ProjConv
public import proofs.«01_k».proof.Proof.Gen.ProjConvIdeal
public import proofs.«01_k».proof.Proof.Gen.ProjConvRefIdeal
public import proofs.«01_k».proof.Proof.Gen.ProjMid
public import proofs.«01_k».proof.Proof.Gen.ProjMidIdeal
public import proofs.«01_k».proof.Proof.Gen.ProjMidRefIdeal
public import proofs.«01_k».proof.Proof.Gen.ConvFwd
public import proofs.«01_k».proof.Proof.Gen.ConvFwdIdeal
public import proofs.«01_k».proof.Proof.Gen.ConvFwdRefIdeal
public import proofs.«01_k».proof.Proof.Gen.StepIn
public import proofs.«01_k».proof.Proof.Gen.StepInIdeal
public import proofs.«01_k».proof.Proof.Gen.StepInRefIdeal
public import proofs.«01_k».proof.Proof.Gen.StepOut
public import proofs.«01_k».proof.Proof.Gen.StepOutIdeal
public import proofs.«01_k».proof.Proof.Gen.StepOutRefIdeal
public import proofs.«01_k».proof.Proof.Gen.StepSmall
public import proofs.«01_k».proof.Proof.Gen.StepSmallIdeal
public import proofs.«01_k».proof.Proof.Gen.StepSmallRefIdeal
public import proofs.«01_k».proof.Proof.Gen.StepConv
public import proofs.«01_k».proof.Proof.Gen.StepConvIdeal
public import proofs.«01_k».proof.Proof.Gen.StepConvRefIdeal
public import proofs.«01_k».proof.Proof.Gen.Pre_finite
public import proofs.«01_k».proof.Proof.Gen.Pre_finite_norm
public import proofs.«01_k».proof.Proof.Gen.Pre_finite_mid
public import proofs.«01_k».proof.Proof.Gen.ConvBwd.Frame
public import proofs.«01_k».proof.Proof.Gen.ConvBwdIdeal.Frame
public import proofs.«01_k».proof.Proof.Gen.ConvBwdIdeal.Value
public import proofs.«01_k».proof.Proof.Gen.ConvBwdRefIdeal.Run
public import proofs.«01_k».proof.Proof.Gen.ConvBwdRefIdeal.Read
public import proofs.«01_k».proof.Proof.Gen.NormBwd.Frame
public import proofs.«01_k».proof.Proof.Gen.NormBwdIdeal.Frame
public import proofs.«01_k».proof.Proof.Gen.NormBwdIdeal.Value
public import proofs.«01_k».proof.Proof.Gen.NormBwdRefIdeal.Run
public import proofs.«01_k».proof.Proof.Gen.NormBwdRefIdeal.Read
public import proofs.«01_k».proof.Proof.Gen.Mid.Frame
public import proofs.«01_k».proof.Proof.Gen.MidIdeal.Frame
public import proofs.«01_k».proof.Proof.Gen.MidIdeal.Value
public import proofs.«01_k».proof.Proof.Gen.MidRefIdeal.Run
public import proofs.«01_k».proof.Proof.Gen.MidRefIdeal.Read
public import proofs.«01_k».proof.Proof.Gen.WeightGrad.Frame
public import proofs.«01_k».proof.Proof.Gen.WeightGradIdeal.Frame
public import proofs.«01_k».proof.Proof.Gen.WeightGradRefIdeal.Run
public import proofs.«01_k».proof.Proof.Gen.WeightGradRefIdeal.Read
public import proofs.«01_k».proof.Proof.Gen.ProjConv.Frame
public import proofs.«01_k».proof.Proof.Gen.ProjConvIdeal.Frame
public import proofs.«01_k».proof.Proof.Gen.ProjConvIdeal.Value
public import proofs.«01_k».proof.Proof.Gen.ProjConvRefIdeal.Run
public import proofs.«01_k».proof.Proof.Gen.ProjConvRefIdeal.Read
public import proofs.«01_k».proof.Proof.Gen.ProjMid.Frame
public import proofs.«01_k».proof.Proof.Gen.ProjMidIdeal.Frame
public import proofs.«01_k».proof.Proof.Gen.ProjMidIdeal.Value
public import proofs.«01_k».proof.Proof.Gen.ProjMidRefIdeal.Run
public import proofs.«01_k».proof.Proof.Gen.ProjMidRefIdeal.Read
public import proofs.«01_k».proof.Proof.Gen.ConvFwd.Frame
public import proofs.«01_k».proof.Proof.Gen.ConvFwdIdeal.Frame
public import proofs.«01_k».proof.Proof.Gen.ConvFwdIdeal.Value
public import proofs.«01_k».proof.Proof.Gen.ConvFwdRefIdeal.Run
public import proofs.«01_k».proof.Proof.Gen.ConvFwdRefIdeal.Read
public import proofs.«01_k».proof.Proof.Gen.StepIn.Frame
public import proofs.«01_k».proof.Proof.Gen.StepInIdeal.Frame
public import proofs.«01_k».proof.Proof.Gen.StepInIdeal.Value
public import proofs.«01_k».proof.Proof.Gen.StepInRefIdeal.Run
public import proofs.«01_k».proof.Proof.Gen.StepInRefIdeal.Read
public import proofs.«01_k».proof.Proof.Gen.StepOut.Frame
public import proofs.«01_k».proof.Proof.Gen.StepOutIdeal.Frame
public import proofs.«01_k».proof.Proof.Gen.StepOutIdeal.Value
public import proofs.«01_k».proof.Proof.Gen.StepOutRefIdeal.Run
public import proofs.«01_k».proof.Proof.Gen.StepOutRefIdeal.Read
public import proofs.«01_k».proof.Proof.Gen.StepSmall.Frame
public import proofs.«01_k».proof.Proof.Gen.StepSmallIdeal.Frame
public import proofs.«01_k».proof.Proof.Gen.StepSmallIdeal.Value
public import proofs.«01_k».proof.Proof.Gen.StepSmallRefIdeal.Run
public import proofs.«01_k».proof.Proof.Gen.StepSmallRefIdeal.Read
public import proofs.«01_k».proof.Proof.Gen.StepConv.Frame
public import proofs.«01_k».proof.Proof.Gen.StepConvIdeal.Frame
public import proofs.«01_k».proof.Proof.Gen.StepConvIdeal.Value
public import proofs.«01_k».proof.Proof.Gen.StepConvRefIdeal.Run
public import proofs.«01_k».proof.Proof.Gen.StepConvRefIdeal.Read
public import proofs.«01_k».proof.Proof.ConvClaims
public import proofs.«01_k».proof.Proof.NormClaims
public import proofs.«01_k».proof.Proof.MidClaims
public import proofs.«01_k».proof.Proof.WgClaims
public import proofs.«01_k».proof.Proof.FwdClaims
public import proofs.«01_k».proof.Proof.StepInClaims
public import proofs.«01_k».proof.Proof.StepOutClaims
public import proofs.«01_k».proof.Proof.StepSmallClaims
public import proofs.«01_k».proof.Proof.StepConvClaims

@[expose] public section

noncomputable section

namespace Cert.Proof

open Idealize.ShloMosaic Idealize.SL.Sem

theorem claim : Cert.Claim := ⟨Cert.ConvBwd.Gen.facts,
  Cert.ConvBwdIdeal.Gen.facts,
  Cert.ConvBwdRefIdeal.Gen.facts,
  Cert.NormBwd.Gen.facts,
  Cert.NormBwdIdeal.Gen.facts,
  Cert.NormBwdRefIdeal.Gen.facts,
  Cert.Mid.Gen.facts,
  Cert.MidIdeal.Gen.facts,
  Cert.MidRefIdeal.Gen.facts,
  Cert.WeightGrad.Gen.facts,
  Cert.WeightGradIdeal.Gen.facts,
  Cert.WeightGradRefIdeal.Gen.facts,
  Cert.ProjConv.Gen.facts,
  Cert.ProjConvIdeal.Gen.facts,
  Cert.ProjConvRefIdeal.Gen.facts,
  Cert.ProjMid.Gen.facts,
  Cert.ProjMidIdeal.Gen.facts,
  Cert.ProjMidRefIdeal.Gen.facts,
  Cert.ConvFwd.Gen.facts,
  Cert.ConvFwdIdeal.Gen.facts,
  Cert.ConvFwdRefIdeal.Gen.facts,
  Cert.StepIn.Gen.facts,
  Cert.StepInIdeal.Gen.facts,
  Cert.StepInRefIdeal.Gen.facts,
  Cert.StepOut.Gen.facts,
  Cert.StepOutIdeal.Gen.facts,
  Cert.StepOutRefIdeal.Gen.facts,
  Cert.StepSmall.Gen.facts,
  Cert.StepSmallIdeal.Gen.facts,
  Cert.StepSmallRefIdeal.Gen.facts,
  Cert.StepConv.Gen.facts,
  Cert.StepConvIdeal.Gen.facts,
  Cert.StepConvRefIdeal.Gen.facts,
  Cert.Pre_finite.Gen.facts,
  Cert.Pre_finite_norm.Gen.facts,
  Cert.Pre_finite_mid.Gen.facts,
  quiescent_ConvBwd,
  quiescent_ConvBwdIdeal,
  quiescent_ConvBwdIdeal_pre_finite,
  quiescent_ConvBwdRefIdeal,
  quiescent_ConvBwdRefIdeal_pre_finite,
  quiescent_NormBwd,
  quiescent_NormBwdIdeal,
  quiescent_NormBwdIdeal_pre_finite_norm,
  quiescent_NormBwdRefIdeal,
  quiescent_NormBwdRefIdeal_pre_finite_norm,
  quiescent_Mid,
  quiescent_MidIdeal,
  quiescent_MidIdeal_pre_finite_mid,
  quiescent_MidRefIdeal,
  quiescent_MidRefIdeal_pre_finite_mid,
  quiescent_WeightGrad,
  quiescent_WeightGradIdeal,
  quiescent_WeightGradRefIdeal,
  quiescent_ProjConv,
  quiescent_ProjConvIdeal,
  quiescent_ProjConvRefIdeal,
  quiescent_ProjMid,
  quiescent_ProjMidIdeal,
  quiescent_ProjMidRefIdeal,
  quiescent_ConvFwd,
  quiescent_ConvFwdIdeal,
  quiescent_ConvFwdRefIdeal,
  quiescent_StepIn,
  quiescent_StepInIdeal,
  quiescent_StepInRefIdeal,
  quiescent_StepOut,
  quiescent_StepOutIdeal,
  quiescent_StepOutRefIdeal,
  quiescent_StepSmall,
  quiescent_StepSmallIdeal,
  quiescent_StepSmallRefIdeal,
  quiescent_StepConv,
  quiescent_StepConvIdeal,
  quiescent_StepConvRefIdeal,
  trivial,
  algebraic_ConvBwdIdeal_ConvBwdRefIdeal_pre_finite,
  trivial,
  algebraic_NormBwdIdeal_NormBwdRefIdeal_pre_finite_norm,
  trivial,
  algebraic_MidIdeal_MidRefIdeal_pre_finite_mid,
  trivial,
  algebraic_WeightGradIdeal_WeightGradRefIdeal,
  trivial,
  algebraic_ProjConvIdeal_ProjConvRefIdeal,
  trivial,
  algebraic_ProjMidIdeal_ProjMidRefIdeal,
  trivial,
  algebraic_ConvFwdIdeal_ConvFwdRefIdeal,
  trivial,
  algebraic_StepInIdeal_StepInRefIdeal,
  trivial,
  algebraic_StepOutIdeal_StepOutRefIdeal,
  trivial,
  algebraic_StepSmallIdeal_StepSmallRefIdeal,
  trivial,
  algebraic_StepConvIdeal_StepConvRefIdeal⟩

end Cert.Proof

end
